-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite2 [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite2 [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_finite5 [hPre_finite5 : Cert.Pre_finite5.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2))) = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_finite5 [hPre_finite5 : Cert.Pre_finite5.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Kernel2Ideal_pre_finite2 [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Reference2Ideal_pre_finite2 [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Kernel5Ideal_pre_finite5 [hKernel5Ideal : Cert.Kernel5Ideal.Facts] [hPre_finite5 : Cert.Pre_finite5.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_finite5 m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Reference5Ideal_pre_finite5 [hReference5Ideal : Cert.Reference5Ideal.Facts] [hPre_finite5 : Cert.Pre_finite5.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_finite5 m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v47_0)) (v1 : (c : Dev Cert.KernelIdeal.nD) → Buf (Elt Ideal) ((c.tc : Thread Cert.KernelIdeal.nD Cert.KernelIdeal.τ).loc Cert.KernelIdeal.main_v47_1)) (v2 : (c : Dev Cert.KernelIdeal.nD) → Buf (Elt Ideal) ((c.tc : Thread Cert.KernelIdeal.nD Cert.KernelIdeal.τ).loc Cert.KernelIdeal.main_v47_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v47_0) = v0 c
          ∧ r.2.mem ((c.tc : Thread Cert.KernelIdeal.nD Cert.KernelIdeal.τ).loc Cert.KernelIdeal.main_v47_1) = v1 c
          ∧ r.2.mem ((c.tc : Thread Cert.KernelIdeal.nD Cert.KernelIdeal.τ).loc Cert.KernelIdeal.main_v47_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v70) = v0 c
          ∧ r.2.mem ((c.tc : Thread Cert.ReferenceIdeal.nD Cert.ReferenceIdeal.τ).loc Cert.ReferenceIdeal.main_v71) = v1 c
          ∧ r.2.mem ((c.tc : Thread Cert.ReferenceIdeal.nD Cert.ReferenceIdeal.τ).loc Cert.ReferenceIdeal.main_v72) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal_pre_finite2 [hKernel2Ideal : Cert.Kernel2Ideal.Facts] [hReference2Ideal : Cert.Reference2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)) →
    ∃ (v0 : (c : Dev Cert.Kernel2Ideal.nD) → Buf (Elt Ideal) ((c.tc : Thread Cert.Kernel2Ideal.nD Cert.Kernel2Ideal.τ).loc Cert.Kernel2Ideal.main_v12)) (v1 : (c : Dev Cert.Kernel2Ideal.nD) → Buf (Elt Ideal) ((c.tc : Thread Cert.Kernel2Ideal.nD Cert.Kernel2Ideal.τ).loc Cert.Kernel2Ideal.main_v10)) (v2 : (c : Dev Cert.Kernel2Ideal.nD) → Buf (Elt Ideal) ((c.tc : Thread Cert.Kernel2Ideal.nD Cert.Kernel2Ideal.τ).loc Cert.Kernel2Ideal.main_v11)) (v3 : (c : Dev Cert.Kernel2Ideal.nD) → Buf (Elt Ideal) ((c.tc : Thread Cert.Kernel2Ideal.nD Cert.Kernel2Ideal.τ).loc Cert.Kernel2Ideal.main_v9)) (v4 : (c : Dev Cert.Kernel2Ideal.nD) → Buf (Elt Ideal) ((c.tc : Thread Cert.Kernel2Ideal.nD Cert.Kernel2Ideal.τ).loc Cert.Kernel2Ideal.main_v15_0)) (v5 : (c : Dev Cert.Kernel2Ideal.nD) → Buf (Elt Ideal) ((c.tc : Thread Cert.Kernel2Ideal.nD Cert.Kernel2Ideal.τ).loc Cert.Kernel2Ideal.main_v15_1)) (v6 : (c : Dev Cert.Kernel2Ideal.nD) → Buf (Elt Ideal) ((c.tc : Thread Cert.Kernel2Ideal.nD Cert.Kernel2Ideal.τ).loc Cert.Kernel2Ideal.main_v15_2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v12) = v0 c
          ∧ r.2.mem ((c.tc : Thread Cert.Kernel2Ideal.nD Cert.Kernel2Ideal.τ).loc Cert.Kernel2Ideal.main_v10) = v1 c
          ∧ r.2.mem ((c.tc : Thread Cert.Kernel2Ideal.nD Cert.Kernel2Ideal.τ).loc Cert.Kernel2Ideal.main_v11) = v2 c
          ∧ r.2.mem ((c.tc : Thread Cert.Kernel2Ideal.nD Cert.Kernel2Ideal.τ).loc Cert.Kernel2Ideal.main_v9) = v3 c
          ∧ r.2.mem ((c.tc : Thread Cert.Kernel2Ideal.nD Cert.Kernel2Ideal.τ).loc Cert.Kernel2Ideal.main_v15_0) = v4 c
          ∧ r.2.mem ((c.tc : Thread Cert.Kernel2Ideal.nD Cert.Kernel2Ideal.τ).loc Cert.Kernel2Ideal.main_v15_1) = v5 c
          ∧ r.2.mem ((c.tc : Thread Cert.Kernel2Ideal.nD Cert.Kernel2Ideal.τ).loc Cert.Kernel2Ideal.main_v15_2) = v6 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v17) = v0 c
          ∧ r.2.mem ((c.tc : Thread Cert.Reference2Ideal.nD Cert.Reference2Ideal.τ).loc Cert.Reference2Ideal.main_v45) = v1 c
          ∧ r.2.mem ((c.tc : Thread Cert.Reference2Ideal.nD Cert.Reference2Ideal.τ).loc Cert.Reference2Ideal.main_v46) = v2 c
          ∧ r.2.mem ((c.tc : Thread Cert.Reference2Ideal.nD Cert.Reference2Ideal.τ).loc Cert.Reference2Ideal.main_v6) = v3 c
          ∧ r.2.mem ((c.tc : Thread Cert.Reference2Ideal.nD Cert.Reference2Ideal.τ).loc Cert.Reference2Ideal.main_v20) = v4 c
          ∧ r.2.mem ((c.tc : Thread Cert.Reference2Ideal.nD Cert.Reference2Ideal.τ).loc Cert.Reference2Ideal.main_v44) = v5 c
          ∧ r.2.mem ((c.tc : Thread Cert.Reference2Ideal.nD Cert.Reference2Ideal.τ).loc Cert.Reference2Ideal.main_v47) = v6 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)) →
    ∃ (v0 : (c : Dev Cert.Kernel3Ideal.nD) → Buf (Elt Ideal) ((c.tc : Thread Cert.Kernel3Ideal.nD Cert.Kernel3Ideal.τ).loc Cert.Kernel3Ideal.main_v9)) (v1 : (c : Dev Cert.Kernel3Ideal.nD) → Buf (Elt Ideal) ((c.tc : Thread Cert.Kernel3Ideal.nD Cert.Kernel3Ideal.τ).loc Cert.Kernel3Ideal.main_v10_0)) (v2 : (c : Dev Cert.Kernel3Ideal.nD) → Buf (Elt Ideal) ((c.tc : Thread Cert.Kernel3Ideal.nD Cert.Kernel3Ideal.τ).loc Cert.Kernel3Ideal.main_v10_1)) (v3 : (c : Dev Cert.Kernel3Ideal.nD) → Buf (Elt Ideal) ((c.tc : Thread Cert.Kernel3Ideal.nD Cert.Kernel3Ideal.τ).loc Cert.Kernel3Ideal.main_v10_2)) (v4 : (c : Dev Cert.Kernel3Ideal.nD) → Buf (Elt Ideal) ((c.tc : Thread Cert.Kernel3Ideal.nD Cert.Kernel3Ideal.τ).loc Cert.Kernel3Ideal.main_v11)) (v5 : (c : Dev Cert.Kernel3Ideal.nD) → Buf (Elt Ideal) ((c.tc : Thread Cert.Kernel3Ideal.nD Cert.Kernel3Ideal.τ).loc Cert.Kernel3Ideal.main_v12)) (v6 : (c : Dev Cert.Kernel3Ideal.nD) → Buf (Elt Ideal) ((c.tc : Thread Cert.Kernel3Ideal.nD Cert.Kernel3Ideal.τ).loc Cert.Kernel3Ideal.main_v13)) (v7 : (c : Dev Cert.Kernel3Ideal.nD) → Buf (Elt Ideal) ((c.tc : Thread Cert.Kernel3Ideal.nD Cert.Kernel3Ideal.τ).loc Cert.Kernel3Ideal.main_v14)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v9) = v0 c
          ∧ r.2.mem ((c.tc : Thread Cert.Kernel3Ideal.nD Cert.Kernel3Ideal.τ).loc Cert.Kernel3Ideal.main_v10_0) = v1 c
          ∧ r.2.mem ((c.tc : Thread Cert.Kernel3Ideal.nD Cert.Kernel3Ideal.τ).loc Cert.Kernel3Ideal.main_v10_1) = v2 c
          ∧ r.2.mem ((c.tc : Thread Cert.Kernel3Ideal.nD Cert.Kernel3Ideal.τ).loc Cert.Kernel3Ideal.main_v10_2) = v3 c
          ∧ r.2.mem ((c.tc : Thread Cert.Kernel3Ideal.nD Cert.Kernel3Ideal.τ).loc Cert.Kernel3Ideal.main_v11) = v4 c
          ∧ r.2.mem ((c.tc : Thread Cert.Kernel3Ideal.nD Cert.Kernel3Ideal.τ).loc Cert.Kernel3Ideal.main_v12) = v5 c
          ∧ r.2.mem ((c.tc : Thread Cert.Kernel3Ideal.nD Cert.Kernel3Ideal.τ).loc Cert.Kernel3Ideal.main_v13) = v6 c
          ∧ r.2.mem ((c.tc : Thread Cert.Kernel3Ideal.nD Cert.Kernel3Ideal.τ).loc Cert.Kernel3Ideal.main_v14) = v7 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v0) = v0 c
          ∧ r.2.mem ((c.tc : Thread Cert.Reference3Ideal.nD Cert.Reference3Ideal.τ).loc Cert.Reference3Ideal.main_v10) = v1 c
          ∧ r.2.mem ((c.tc : Thread Cert.Reference3Ideal.nD Cert.Reference3Ideal.τ).loc Cert.Reference3Ideal.main_v34) = v2 c
          ∧ r.2.mem ((c.tc : Thread Cert.Reference3Ideal.nD Cert.Reference3Ideal.τ).loc Cert.Reference3Ideal.main_v35) = v3 c
          ∧ r.2.mem ((c.tc : Thread Cert.Reference3Ideal.nD Cert.Reference3Ideal.τ).loc Cert.Reference3Ideal.main_v36) = v4 c
          ∧ r.2.mem ((c.tc : Thread Cert.Reference3Ideal.nD Cert.Reference3Ideal.τ).loc Cert.Reference3Ideal.main_v6) = v5 c
          ∧ r.2.mem ((c.tc : Thread Cert.Reference3Ideal.nD Cert.Reference3Ideal.τ).loc Cert.Reference3Ideal.main_v37) = v6 c
          ∧ r.2.mem ((c.tc : Thread Cert.Reference3Ideal.nD Cert.Reference3Ideal.τ).loc Cert.Reference3Ideal.main_v3) = v7 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)) →
    ∃ (v0 : (c : Dev Cert.Kernel4Ideal.nD) → Buf (Elt Ideal) ((c.tc : Thread Cert.Kernel4Ideal.nD Cert.Kernel4Ideal.τ).loc Cert.Kernel4Ideal.main_v4_0)) (v1 : (c : Dev Cert.Kernel4Ideal.nD) → Buf (Elt Ideal) ((c.tc : Thread Cert.Kernel4Ideal.nD Cert.Kernel4Ideal.τ).loc Cert.Kernel4Ideal.main_v6)) (v2 : (c : Dev Cert.Kernel4Ideal.nD) → Buf (Elt Ideal) ((c.tc : Thread Cert.Kernel4Ideal.nD Cert.Kernel4Ideal.τ).loc Cert.Kernel4Ideal.main_v8)) (v3 : (c : Dev Cert.Kernel4Ideal.nD) → Buf (Elt Ideal) ((c.tc : Thread Cert.Kernel4Ideal.nD Cert.Kernel4Ideal.τ).loc Cert.Kernel4Ideal.main_v10)) (v4 : (c : Dev Cert.Kernel4Ideal.nD) → Buf (Elt Ideal) ((c.tc : Thread Cert.Kernel4Ideal.nD Cert.Kernel4Ideal.τ).loc Cert.Kernel4Ideal.main_v9_1)) (v5 : (c : Dev Cert.Kernel4Ideal.nD) → Buf (Elt Ideal) ((c.tc : Thread Cert.Kernel4Ideal.nD Cert.Kernel4Ideal.τ).loc Cert.Kernel4Ideal.main_v11)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v4_0) = v0 c
          ∧ r.2.mem ((c.tc : Thread Cert.Kernel4Ideal.nD Cert.Kernel4Ideal.τ).loc Cert.Kernel4Ideal.main_v6) = v1 c
          ∧ r.2.mem ((c.tc : Thread Cert.Kernel4Ideal.nD Cert.Kernel4Ideal.τ).loc Cert.Kernel4Ideal.main_v8) = v2 c
          ∧ r.2.mem ((c.tc : Thread Cert.Kernel4Ideal.nD Cert.Kernel4Ideal.τ).loc Cert.Kernel4Ideal.main_v10) = v3 c
          ∧ r.2.mem ((c.tc : Thread Cert.Kernel4Ideal.nD Cert.Kernel4Ideal.τ).loc Cert.Kernel4Ideal.main_v9_1) = v4 c
          ∧ r.2.mem ((c.tc : Thread Cert.Kernel4Ideal.nD Cert.Kernel4Ideal.τ).loc Cert.Kernel4Ideal.main_v11) = v5 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v3) = v0 c
          ∧ r.2.mem ((c.tc : Thread Cert.Reference4Ideal.nD Cert.Reference4Ideal.τ).loc Cert.Reference4Ideal.main_v32) = v1 c
          ∧ r.2.mem ((c.tc : Thread Cert.Reference4Ideal.nD Cert.Reference4Ideal.τ).loc Cert.Reference4Ideal.main_v24) = v2 c
          ∧ r.2.mem ((c.tc : Thread Cert.Reference4Ideal.nD Cert.Reference4Ideal.τ).loc Cert.Reference4Ideal.main_v30) = v3 c
          ∧ r.2.mem ((c.tc : Thread Cert.Reference4Ideal.nD Cert.Reference4Ideal.τ).loc Cert.Reference4Ideal.main_v27) = v4 c
          ∧ r.2.mem ((c.tc : Thread Cert.Reference4Ideal.nD Cert.Reference4Ideal.τ).loc Cert.Reference4Ideal.main_v31) = v5 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5))

def preserves_Kernel5_Kernel5Ideal : Prop :=
  IdealRules.named_const.Statement Cert.Kernel5Ideal.κ "mask" .f32 0xF149F2CA#32 ⊥

def algebraic_Kernel5Ideal_Reference5Ideal_pre_finite5 [hKernel5Ideal : Cert.Kernel5Ideal.Facts] [hReference5Ideal : Cert.Reference5Ideal.Facts] [hPre_finite5 : Cert.Pre_finite5.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_finite5 m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v15_0)) (v1 : (c : Dev Cert.Kernel5Ideal.nD) → Buf (Elt Ideal) ((c.tc : Thread Cert.Kernel5Ideal.nD Cert.Kernel5Ideal.τ).loc Cert.Kernel5Ideal.main_v15_1)) (v2 : (c : Dev Cert.Kernel5Ideal.nD) → Buf (Elt Ideal) ((c.tc : Thread Cert.Kernel5Ideal.nD Cert.Kernel5Ideal.τ).loc Cert.Kernel5Ideal.main_v15_2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v15_0) = v0 c
          ∧ r.2.mem ((c.tc : Thread Cert.Kernel5Ideal.nD Cert.Kernel5Ideal.τ).loc Cert.Kernel5Ideal.main_v15_1) = v1 c
          ∧ r.2.mem ((c.tc : Thread Cert.Kernel5Ideal.nD Cert.Kernel5Ideal.τ).loc Cert.Kernel5Ideal.main_v15_2) = v2 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v32) = v0 c
          ∧ r.2.mem ((c.tc : Thread Cert.Reference5Ideal.nD Cert.Reference5Ideal.τ).loc Cert.Reference5Ideal.main_v33) = v1 c
          ∧ r.2.mem ((c.tc : Thread Cert.Reference5Ideal.nD Cert.Reference5Ideal.τ).loc Cert.Reference5Ideal.main_v35) = v2 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hPre_finite : Cert.Pre_finite.Facts) (hPre_finite2 : Cert.Pre_finite2.Facts) (hPre_finite5 : Cert.Pre_finite5.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Kernel2Ideal_pre_finite2 (hKernel2Ideal := hKernel2Ideal) (hPre_finite2 := hPre_finite2)
    ∧ quiescent_Reference2Ideal (hReference2Ideal := hReference2Ideal)
    ∧ quiescent_Reference2Ideal_pre_finite2 (hReference2Ideal := hReference2Ideal) (hPre_finite2 := hPre_finite2)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Kernel5Ideal_pre_finite5 (hKernel5Ideal := hKernel5Ideal) (hPre_finite5 := hPre_finite5)
    ∧ quiescent_Reference5Ideal (hReference5Ideal := hReference5Ideal)
    ∧ quiescent_Reference5Ideal_pre_finite5 (hReference5Ideal := hReference5Ideal) (hPre_finite5 := hPre_finite5)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal_pre_finite2 (hKernel2Ideal := hKernel2Ideal) (hReference2Ideal := hReference2Ideal) (hPre_finite2 := hPre_finite2)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal_pre_finite5 (hKernel5Ideal := hKernel5Ideal) (hReference5Ideal := hReference5Ideal) (hPre_finite5 := hPre_finite5)
-- ==== Pre_finite.lean ====
abbrev S8448x4x4x64 : Shape := ⟨4, ![8448, 4, 4, 64]⟩
abbrev S8448x4x64 : Shape := ⟨3, ![8448, 4, 64]⟩
abbrev S8208x4x4x64 : Shape := ⟨4, ![8208, 4, 4, 64]⟩
abbrev S_ : Shape := ⟨0, ![]⟩

class Facts : Prop where
  bcast_S_S8448x4x4x64 : S_.BroadcastsInDim S8448x4x4x64 (![] : Fin 0 → Fin S8448x4x4x64.rank)
  reducesTo_S8448x4x4x64_S_d0_1_2_3 : S8448x4x4x64.ReducesTo [0, 1, 2, 3] S_
  h_S_ : 0 < S_.numel
  bcast_S_S8448x4x64 : S_.BroadcastsInDim S8448x4x64 (![] : Fin 0 → Fin S8448x4x64.rank)
  reducesTo_S8448x4x64_S_d0_1_2 : S8448x4x64.ReducesTo [0, 1, 2] S_
  bcast_S_S8208x4x4x64 : S_.BroadcastsInDim S8208x4x4x64 (![] : Fin 0 → Fin S8208x4x4x64.rank)
  reducesTo_S8208x4x4x64_S_d0_1_2_3 : S8208x4x4x64.ReducesTo [0, 1, 2, 3] S_

variable [Facts]

def fn_part1 {F : FTy → Type} [FloatOps F] (main_v13 : IVec S_ 1) (main_v16 : IVec S8208x4x4x64 1) : IVec S_ 1 :=
  let main_c_5 : IVec S_ 1 := constantI S_ 1 1#1
  let main_v17 : IVec S_ 1 := (fun x v => Host.reduce IntOp.andi x v reducesTo_S8208x4x4x64_S_d0_1_2_3 h_S_) main_v16 main_c_5
  let main_v18 : IVec S_ 1 := andi main_v13 main_v17
  main_v18

def fn {F : FTy → Type} [FloatOps F] (main_arg0 : FVec F S8448x4x4x64 .f32) (main_arg1 : FVec F S8448x4x64 .f32) (main_arg2 : FVec F S8448x4x64 .f32) (main_arg3 : FVec F S8208x4x4x64 .f32) : IVec S_ 1 :=
  let main_v0 : FVec F S8448x4x4x64 .f32 := Host.absf main_arg0
  let main_cst : FVec F S_ .f32 := constant S_ .f32 0x7F800000#32
  let main_v1 : FVec F S8448x4x4x64 .f32 := broadcastInDim S8448x4x4x64 ![] bcast_S_S8448x4x4x64 main_cst
  let main_v2 : IVec S8448x4x4x64 1 := cmpf .olt main_v0 main_v1
  let main_c : IVec S_ 1 := constantI S_ 1 1#1
  let main_v3 : IVec S_ 1 := (fun x v => Host.reduce IntOp.andi x v reducesTo_S8448x4x4x64_S_d0_1_2_3 h_S_) main_v2 main_c
  let main_v4 : FVec F S8448x4x64 .f32 := Host.absf main_arg1
  let main_cst_0 : FVec F S_ .f32 := constant S_ .f32 0x7F800000#32
  let main_v5 : FVec F S8448x4x64 .f32 := broadcastInDim S8448x4x64 ![] bcast_S_S8448x4x64 main_cst_0
  let main_v6 : IVec S8448x4x64 1 := cmpf .olt main_v4 main_v5
  let main_c_1 : IVec S_ 1 := constantI S_ 1 1#1
  let main_v7 : IVec S_ 1 := (fun x v => Host.reduce IntOp.andi x v reducesTo_S8448x4x64_S_d0_1_2 h_S_) main_v6 main_c_1
  let main_v8 : IVec S_ 1 := andi main_v3 main_v7
  let main_v9 : FVec F S8448x4x64 .f32 := Host.absf main_arg2
  let main_cst_2 : FVec F S_ .f32 := constant S_ .f32 0x7F800000#32
  let main_v10 : FVec F S8448x4x64 .f32 := broadcastInDim S8448x4x64 ![] bcast_S_S8448x4x64 main_cst_2
  let main_v11 : IVec S8448x4x64 1 := cmpf .olt main_v9 main_v10
  let main_c_3 : IVec S_ 1 := constantI S_ 1 1#1
  let main_v12 : IVec S_ 1 := (fun x v => Host.reduce IntOp.andi x v reducesTo_S8448x4x64_S_d0_1_2 h_S_) main_v11 main_c_3
  let main_v13 : IVec S_ 1 := andi main_v8 main_v12
  let main_v14 : FVec F S8208x4x4x64 .f32 := Host.absf main_arg3
  let main_cst_4 : FVec F S_ .f32 := constant S_ .f32 0x7F800000#32
  let main_v15 : FVec F S8208x4x4x64 .f32 := broadcastInDim S8208x4x4x64 ![] bcast_S_S8208x4x4x64 main_cst_4
  let main_v16 : IVec S8208x4x4x64 1 := cmpf .olt main_v14 main_v15
  fn_part1 (F := F) main_v13 main_v16
-- ==== Pre_finite2.lean ====
abbrev S8448x1024 : Shape := ⟨2, ![8448, 1024]⟩
abbrev S1024x2816 : Shape := ⟨2, ![1024, 2816]⟩
abbrev S2816x1024 : Shape := ⟨2, ![2816, 1024]⟩
abbrev S1024 : Shape := ⟨1, ![1024]⟩
abbrev S_ : Shape := ⟨0, ![]⟩

class Facts : Prop where
  bcast_S_S8448x1024 : S_.BroadcastsInDim S8448x1024 (![] : Fin 0 → Fin S8448x1024.rank)
  reducesTo_S8448x1024_S_d0_1 : S8448x1024.ReducesTo [0, 1] S_
  h_S_ : 0 < S_.numel
  bcast_S_S1024x2816 : S_.BroadcastsInDim S1024x2816 (![] : Fin 0 → Fin S1024x2816.rank)
  reducesTo_S1024x2816_S_d0_1 : S1024x2816.ReducesTo [0, 1] S_
  bcast_S_S2816x1024 : S_.BroadcastsInDim S2816x1024 (![] : Fin 0 → Fin S2816x1024.rank)
  reducesTo_S2816x1024_S_d0_1 : S2816x1024.ReducesTo [0, 1] S_

variable [Facts]

def fn_part1 {F : FTy → Type} [FloatOps F] (main_arg4 : FVec F S8448x1024 .f32) (main_v13 : IVec S_ 1) (main_v16 : IVec S2816x1024 1) : IVec S_ 1 :=
  let main_c_5 : IVec S_ 1 := constantI S_ 1 1#1
  let main_v17 : IVec S_ 1 := (fun x v => Host.reduce IntOp.andi x v reducesTo_S2816x1024_S_d0_1 h_S_) main_v16 main_c_5
  let main_v18 : IVec S_ 1 := andi main_v13 main_v17
  let main_v19 : FVec F S8448x1024 .f32 := Host.absf main_arg4
  let main_cst_6 : FVec F S_ .f32 := constant S_ .f32 0x7F800000#32
  let main_v20 : FVec F S8448x1024 .f32 := broadcastInDim S8448x1024 ![] bcast_S_S8448x1024 main_cst_6
  let main_v21 : IVec S8448x1024 1 := cmpf .olt main_v19 main_v20
  let main_c_7 : IVec S_ 1 := constantI S_ 1 1#1
  let main_v22 : IVec S_ 1 := (fun x v => Host.reduce IntOp.andi x v reducesTo_S8448x1024_S_d0_1 h_S_) main_v21 main_c_7
  let main_v23 : IVec S_ 1 := andi main_v18 main_v22
  main_v23

def fn {F : FTy → Type} [FloatOps F] (main_arg0 : FVec F S8448x1024 .f32) (main_arg1 : FVec F S1024x2816 .f32) (main_arg2 : FVec F S1024x2816 .f32) (main_arg3 : FVec F S2816x1024 .f32) (main_arg4 : FVec F S8448x1024 .f32) (main_arg5 : FVec F S1024 .f32) (main_arg6 : FVec F S1024 .f32) : IVec S_ 1 :=
  let main_v0 : FVec F S8448x1024 .f32 := Host.absf main_arg0
  let main_cst : FVec F S_ .f32 := constant S_ .f32 0x7F800000#32
  let main_v1 : FVec F S8448x1024 .f32 := broadcastInDim S8448x1024 ![] bcast_S_S8448x1024 main_cst
  let main_v2 : IVec S8448x1024 1 := cmpf .olt main_v0 main_v1
  let main_c : IVec S_ 1 := constantI S_ 1 1#1
  let main_v3 : IVec S_ 1 := (fun x v => Host.reduce IntOp.andi x v reducesTo_S8448x1024_S_d0_1 h_S_) main_v2 main_c
  let main_v4 : FVec F S1024x2816 .f32 := Host.absf main_arg1
  let main_cst_0 : FVec F S_ .f32 := constant S_ .f32 0x7F800000#32
  let main_v5 : FVec F S1024x2816 .f32 := broadcastInDim S1024x2816 ![] bcast_S_S1024x2816 main_cst_0
  let main_v6 : IVec S1024x2816 1 := cmpf .olt main_v4 main_v5
  let main_c_1 : IVec S_ 1 := constantI S_ 1 1#1
  let main_v7 : IVec S_ 1 := (fun x v => Host.reduce IntOp.andi x v reducesTo_S1024x2816_S_d0_1 h_S_) main_v6 main_c_1
  let main_v8 : IVec S_ 1 := andi main_v3 main_v7
  let main_v9 : FVec F S1024x2816 .f32 := Host.absf main_arg2
  let main_cst_2 : FVec F S_ .f32 := constant S_ .f32 0x7F800000#32
  let main_v10 : FVec F S1024x2816 .f32 := broadcastInDim S1024x2816 ![] bcast_S_S1024x2816 main_cst_2
  let main_v11 : IVec S1024x2816 1 := cmpf .olt main_v9 main_v10
  let main_c_3 : IVec S_ 1 := constantI S_ 1 1#1
  let main_v12 : IVec S_ 1 := (fun x v => Host.reduce IntOp.andi x v reducesTo_S1024x2816_S_d0_1 h_S_) main_v11 main_c_3
  let main_v13 : IVec S_ 1 := andi main_v8 main_v12
  let main_v14 : FVec F S2816x1024 .f32 := Host.absf main_arg3
  let main_cst_4 : FVec F S_ .f32 := constant S_ .f32 0x7F800000#32
  let main_v15 : FVec F S2816x1024 .f32 := broadcastInDim S2816x1024 ![] bcast_S_S2816x1024 main_cst_4
  let main_v16 : IVec S2816x1024 1 := cmpf .olt main_v14 main_v15
  fn_part1 (F := F) main_arg4 main_v13 main_v16
-- ==== Pre_finite5.lean ====
abbrev S8448x4x4x64 : Shape := ⟨4, ![8448, 4, 4, 64]⟩
abbrev S8448x4x64 : Shape := ⟨3, ![8448, 4, 64]⟩
abbrev S_ : Shape := ⟨0, ![]⟩

class Facts : Prop where
  bcast_S_S8448x4x4x64 : S_.BroadcastsInDim S8448x4x4x64 (![] : Fin 0 → Fin S8448x4x4x64.rank)
  reducesTo_S8448x4x4x64_S_d0_1_2_3 : S8448x4x4x64.ReducesTo [0, 1, 2, 3] S_
  h_S_ : 0 < S_.numel
  bcast_S_S8448x4x64 : S_.BroadcastsInDim S8448x4x64 (![] : Fin 0 → Fin S8448x4x64.rank)
  reducesTo_S8448x4x64_S_d0_1_2 : S8448x4x64.ReducesTo [0, 1, 2] S_

variable [Facts]

def fn {F : FTy → Type} [FloatOps F] (main_arg0 : FVec F S8448x4x4x64 .f32) (main_arg1 : FVec F S8448x4x64 .f32) (main_arg2 : FVec F S8448x4x64 .f32) : IVec S_ 1 :=
  let main_v0 : FVec F S8448x4x4x64 .f32 := Host.absf main_arg0
  let main_cst : FVec F S_ .f32 := constant S_ .f32 0x7F800000#32
  let main_v1 : FVec F S8448x4x4x64 .f32 := broadcastInDim S8448x4x4x64 ![] bcast_S_S8448x4x4x64 main_cst
  let main_v2 : IVec S8448x4x4x64 1 := cmpf .olt main_v0 main_v1
  let main_c : IVec S_ 1 := constantI S_ 1 1#1
  let main_v3 : IVec S_ 1 := (fun x v => Host.reduce IntOp.andi x v reducesTo_S8448x4x4x64_S_d0_1_2_3 h_S_) main_v2 main_c
  let main_v4 : FVec F S8448x4x64 .f32 := Host.absf main_arg1
  let main_cst_0 : FVec F S_ .f32 := constant S_ .f32 0x7F800000#32
  let main_v5 : FVec F S8448x4x64 .f32 := broadcastInDim S8448x4x64 ![] bcast_S_S8448x4x64 main_cst_0
  let main_v6 : IVec S8448x4x64 1 := cmpf .olt main_v4 main_v5
  let main_c_1 : IVec S_ 1 := constantI S_ 1 1#1
  let main_v7 : IVec S_ 1 := (fun x v => Host.reduce IntOp.andi x v reducesTo_S8448x4x64_S_d0_1_2 h_S_) main_v6 main_c_1
  let main_v8 : IVec S_ 1 := andi main_v3 main_v7
  let main_v9 : FVec F S8448x4x64 .f32 := Host.absf main_arg2
  let main_cst_2 : FVec F S_ .f32 := constant S_ .f32 0x7F800000#32
  let main_v10 : FVec F S8448x4x64 .f32 := broadcastInDim S8448x4x64 ![] bcast_S_S8448x4x64 main_cst_2
  let main_v11 : IVec S8448x4x64 1 := cmpf .olt main_v9 main_v10
  let main_c_3 : IVec S_ 1 := constantI S_ 1 1#1
  let main_v12 : IVec S_ 1 := (fun x v => Host.reduce IntOp.andi x v reducesTo_S8448x4x64_S_d0_1_2 h_S_) main_v11 main_c_3
  let main_v13 : IVec S_ 1 := andi main_v8 main_v12
  main_v13
-- ==== Kernel.lean ====
abbrev S8448x4x4x64 : Shape := ⟨4, ![8448, 4, 4, 64]⟩
abbrev S8448x4x64 : Shape := ⟨3, ![8448, 4, 64]⟩
abbrev S8208x4x4x64 : Shape := ⟨4, ![8208, 4, 4, 64]⟩
abbrev S_ : Shape := ⟨0, ![]⟩
abbrev S240x4x4x64 : Shape := ⟨4, ![240, 4, 4, 64]⟩
abbrev S8448x16x64 : Shape := ⟨3, ![8448, 16, 64]⟩
abbrev S16x8448x64 : Shape := ⟨3, ![16, 8448, 64]⟩
abbrev S4x8448x64 : Shape := ⟨3, ![4, 8448, 64]⟩
abbrev S8208x4x64 : Shape := ⟨3, ![8208, 4, 64]⟩
abbrev S4x8208x8448x4 : Shape := ⟨4, ![4, 8208, 8448, 4]⟩
abbrev S4x4x8448x8208 : Shape := ⟨4, ![4, 4, 8448, 8208]⟩
abbrev S4x4x8448 : Shape := ⟨3, ![4, 4, 8448]⟩
abbrev S4x4x8448x1 : Shape := ⟨4, ![4, 4, 8448, 1]⟩
abbrev S4x64x4x8448 : Shape := ⟨4, ![4, 64, 4, 8448]⟩
abbrev S8448x4x4 : Shape := ⟨3, ![8448, 4, 4]⟩
abbrev S4x64x8448 : Shape := ⟨3, ![4, 64, 8448]⟩
abbrev S16x1x8448 : Shape := ⟨3, ![16, 1, 8448]⟩
abbrev S8448x16 : Shape := ⟨2, ![8448, 16]⟩
abbrev S16x8448 : Shape := ⟨2, ![16, 8448]⟩
abbrev S16x64x8448 : Shape := ⟨3, ![16, 64, 8448]⟩
abbrev S2x8448x64 : Shape := ⟨3, ![2, 8448, 64]⟩
abbrev S2x1x8448 : Shape := ⟨3, ![2, 1, 8448]⟩
abbrev S1x768x64 : Shape := ⟨3, ![1, 768, 64]⟩
abbrev S1x64x768 : Shape := ⟨3, ![1, 64, 768]⟩
abbrev S768x64 : Shape := ⟨2, ![768, 64]⟩
abbrev S64x768 : Shape := ⟨2, ![64, 768]⟩
abbrev S768x1 : Shape := ⟨2, ![768, 1]⟩
abbrev S64x8448 : Shape := ⟨2, ![64, 8448]⟩
abbrev S1x64x8448 : Shape := ⟨3, ![1, 64, 8448]⟩
abbrev S1x256x64 : Shape := ⟨3, ![1, 256, 64]⟩
abbrev S256x64 : Shape := ⟨2, ![256, 64]⟩
abbrev S768x256 : Shape := ⟨2, ![768, 256]⟩
abbrev S1x1x256 : Shape := ⟨3, ![1, 1, 256]⟩
abbrev S1x256 : Shape := ⟨2, ![1, 256]⟩
abbrev S1x64x256 : Shape := ⟨3, ![1, 64, 256]⟩
abbrev S64x256 : Shape := ⟨2, ![64, 256]⟩

abbrev nBuf : Space → Nat
  | .hbm => 62
  | .vmem => 20
  | .smem => 0
  | _ => 0

abbrev bufTy : (tb : Table) → Fin (tcTables nBuf tb) → BufTy
  | .hbm, ⟨0, _⟩ => ⟨S8448x4x4x64, .f32⟩
  | .hbm, ⟨1, _⟩ => ⟨S8448x4x64, .f32⟩
  | .hbm, ⟨2, _⟩ => ⟨S8448x4x64, .f32⟩
  | .hbm, ⟨3, _⟩ => ⟨S8208x4x4x64, .f32⟩
  | .hbm, ⟨4, _⟩ => ⟨S_, .f32⟩
  | .hbm, ⟨5, _⟩ => ⟨S240x4x4x64, .f32⟩
  | .hbm, ⟨6, _⟩ => ⟨S8448x4x4x64, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S8448x4x4x64, .f32⟩
  | .hbm, ⟨13, _⟩ => ⟨S8448x4x4x64, .f32⟩
  | .hbm, ⟨14, _⟩ => ⟨S8448x4x4x64, .bf16⟩
  | .hbm, ⟨15, _⟩ => ⟨S8448x16x64, .bf16⟩
  | .hbm, ⟨16, _⟩ => ⟨S16x8448x64, .bf16⟩
  | .hbm, ⟨17, _⟩ => ⟨S8448x4x64, .bf16⟩
  | .hbm, ⟨18, _⟩ => ⟨S4x8448x64, .bf16⟩
  | .hbm, ⟨19, _⟩ => ⟨S8448x4x64, .bf16⟩
  | .hbm, ⟨20, _⟩ => ⟨S4x8448x64, .bf16⟩
  | .hbm, ⟨21, _⟩ => ⟨S8208x4x64, .f32⟩
  | .hbm, ⟨22, _⟩ => ⟨S4x8208x8448x4, .f32⟩
  | .hbm, ⟨23, _⟩ => ⟨S4x4x8448x8208, .f32⟩
  | .hbm, ⟨24, _⟩ => ⟨S_, .f32⟩
  | .hbm, ⟨25, _⟩ => ⟨S4x4x8448x8208, .f32⟩
  | .hbm, ⟨26, _⟩ => ⟨S4x4x8448x8208, .f32⟩
  | .hbm, ⟨27, _⟩ => ⟨S_, .f32⟩
  | .hbm, ⟨28, _⟩ => ⟨S4x4x8448, .f32⟩
  | .hbm, ⟨29, _⟩ => ⟨S4x4x8448x1, .f32⟩
  | .hbm, ⟨30, _⟩ => ⟨S4x4x8448x8208, .f32⟩
  | .hbm, ⟨31, _⟩ => ⟨S4x4x8448x8208, .f32⟩
  | .hbm, ⟨32, _⟩ => ⟨S4x4x8448x8208, .f32⟩
  | .hbm, ⟨33, _⟩ => ⟨S_, .f32⟩
  | .hbm, ⟨34, _⟩ => ⟨S4x4x8448, .f32⟩
  | .hbm, ⟨35, _⟩ => ⟨S4x4x8448x1, .f32⟩
  | .hbm, ⟨36, _⟩ => ⟨S4x4x8448x1, .f32⟩
  | .hbm, ⟨37, _⟩ => ⟨S4x4x8448x1, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S4x4x8448x1, .f32⟩
  | .hbm, ⟨42, _⟩ => ⟨S4x4x8448x1, .f32⟩
  | .hbm, ⟨43, _⟩ => ⟨S4x4x8448x8208, .f32⟩
  | .hbm, ⟨44, _⟩ => ⟨S4x4x8448x8208, .f32⟩
  | .hbm, ⟨45, _⟩ => ⟨S8208x4x64, .f32⟩
  | .hbm, ⟨46, _⟩ => ⟨S4x64x4x8448, .f32⟩
  | .hbm, ⟨47, _⟩ => ⟨S8448x4x4x64, .f32⟩
  | .hbm, ⟨48, _⟩ => ⟨S8448x4x4x64, .f32⟩
  | .hbm, ⟨49, _⟩ => ⟨S_, .f32⟩
  | .hbm, ⟨50, _⟩ => ⟨S8448x4x4, .f32⟩
  | .hbm, ⟨51, _⟩ => ⟨S4x64x8448, .bf16⟩
  | .hbm, ⟨52, _⟩ => ⟨S8448x4x4x64, .bf16⟩
  | .hbm, ⟨53, _⟩ => ⟨S8448x16x64, .bf16⟩
  | .hbm, ⟨54, _⟩ => ⟨S16x8448x64, .bf16⟩
  | .hbm, ⟨55, _⟩ => ⟨S16x1x8448, .f32⟩
  | .hbm, ⟨56, _⟩ => ⟨S8448x16, .f32⟩
  | .hbm, ⟨57, _⟩ => ⟨S16x8448, .f32⟩
  | .hbm, ⟨58, _⟩ => ⟨S16x1x8448, .f32⟩
  | .hbm, ⟨59, _⟩ => ⟨S16x64x8448, .f32⟩
  | .hbm, ⟨60, _⟩ => ⟨S4x8448x64, .f32⟩
  | .hbm, ⟨61, _⟩ => ⟨S4x8448x64, .f32⟩
  | .local _ .vmem, ⟨0, _⟩ => ⟨S2x8448x64, .bf16⟩
  | .local _ .vmem, ⟨1, _⟩ => ⟨S2x8448x64, .bf16⟩
  | .local _ .vmem, ⟨2, _⟩ => ⟨S2x8448x64, .bf16⟩
  | .local _ .vmem, ⟨3, _⟩ => ⟨S2x8448x64, .bf16⟩
  | .local _ .vmem, ⟨4, _⟩ => ⟨S2x1x8448, .f32⟩
  | .local _ .vmem, ⟨5, _⟩ => ⟨S2x1x8448, .f32⟩
  | .local _ .vmem, ⟨6, _⟩ => ⟨S2x1x8448, .f32⟩
  | .local _ .vmem, ⟨7, _⟩ => ⟨S2x1x8448, .f32⟩
  | .local _ .vmem, ⟨8, _⟩ => ⟨S1x768x64, .bf16⟩
  | .local _ .vmem, ⟨9, _⟩ => ⟨S1x768x64, .bf16⟩
  | .local _ .vmem, ⟨10, _⟩ => ⟨S1x64x768, .bf16⟩
  | .local _ .vmem, ⟨11, _⟩ => ⟨S1x64x768, .bf16⟩
  | .local _ .vmem, ⟨12, _⟩ => ⟨S1x768x64, .bf16⟩
  | .local _ .vmem, ⟨13, _⟩ => ⟨S1x768x64, .bf16⟩
  | .local _ .vmem, ⟨14, _⟩ => ⟨S4x64x8448, .f32⟩
  | .local _ .vmem, ⟨15, _⟩ => ⟨S4x64x8448, .f32⟩
  | .local _ .vmem, ⟨16, _⟩ => ⟨S1x768x64, .f32⟩
  | .local _ .vmem, ⟨17, _⟩ => ⟨S1x768x64, .f32⟩
  | .local _ .vmem, ⟨18, _⟩ => ⟨S1x768x64, .f32⟩
  | .local _ .vmem, ⟨19, _⟩ => ⟨S1x768x64, .f32⟩
  | _, _ => ⟨S8448x4x4x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_2 : Ref sig .tc := ⟨.hbm, 24, rfl⟩
abbrev main_v17 : Ref sig .tc := ⟨.hbm, 25, rfl⟩
abbrev main_v18 : Ref sig .tc := ⟨.hbm, 26, rfl⟩
abbrev main_cst_3 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_4 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_5 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_cst_6 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47_0 : Ref sig .tc := ⟨.hbm, 59, rfl⟩
abbrev main_v47_1 : Ref sig .tc := ⟨.hbm, 60, rfl⟩
abbrev main_v47_2 : Ref sig .tc := ⟨.hbm, 61, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨3, ![4, 11, 2], ![false, false, false]⟩

def k0_cond1 (i : grid0.Coords) : BitVec 1 :=
  let arg1 : BitVec 32 := BitVec.ofNat 32 (i 1).val
  let c0_i32 : BitVec 32 := 0#32
  let v12 : BitVec 1 := Scalar.cmpi .eq arg1 c0_i32
  let v13 : BitVec 32 := Scalar.extui v12
  let c0_i32_8 : BitVec 32 := 0#32
  let v14 : BitVec 1 := Scalar.cmpi .ne v13 c0_i32_8
  v14

def k0_off1 (i : grid0.Coords) (c0_i32_1961 : BitVec 32) : Fin 3 → Nat :=
  let c2_i32_1960 : BitVec 32 := 2#32
  let arg2 : BitVec 32 := BitVec.ofNat 32 (i 2).val
  let v2730 : BitVec 32 := Scalar.muli c2_i32_1960 arg2
  let v2731 : BitVec 32 := Scalar.addi v2730 c0_i32_1961
  let v2732 : Index := Scalar.indexCast v2731
  let c0_1962 : Index := 0#32
  let c0_1963 : Index := 0#32
  ![v2732.toNat, 0, 0]
def k0_off2 (i : grid0.Coords) (c0_i32_47 : BitVec 32) : Fin 3 → Nat :=
  let c2_i32 : BitVec 32 := 2#32
  let arg2 : BitVec 32 := BitVec.ofNat 32 (i 2).val
  let v59 : BitVec 32 := Scalar.muli c2_i32 arg2
  let v60 : BitVec 32 := Scalar.addi v59 c0_i32_47
  let v61 : Index := Scalar.indexCast v60
  let c0_48 : Index := 0#32
  let c0_49 : Index := 0#32
  ![v61.toNat, 0, 0]
def k0_off3 (i : grid0.Coords) (c0_i32_105 : BitVec 32) : Fin 3 → Nat :=
  let c2_i32_104 : BitVec 32 := 2#32
  let arg2 : BitVec 32 := BitVec.ofNat 32 (i 2).val
  let v141 : BitVec 32 := Scalar.muli c2_i32_104 arg2
  let v142 : BitVec 32 := Scalar.addi v141 c0_i32_105
  let v143 : Index := Scalar.indexCast v142
  let c0_106 : Index := 0#32
  let c256_107 : Index := 256#32
  ![v143.toNat, 0, 256]
def k0_off4 (i : grid0.Coords) (c0_i32_164 : BitVec 32) : Fin 3 → Nat :=
  let c2_i32_163 : BitVec 32 := 2#32
  let arg2 : BitVec 32 := BitVec.ofNat 32 (i 2).val
  let v223 : BitVec 32 := Scalar.muli c2_i32_163 arg2
  let v224 : BitVec 32 := Scalar.addi v223 c0_i32_164
  let v225 : Index := Scalar.indexCast v224
  let c0_165 : Index := 0#32
  let c512_166 : Index := 512#32
  ![v225.toNat, 0, 512]
def k0_off5 (i : grid0.Coords) (c0_i32_223 : BitVec 32) : Fin 3 → Nat :=
  let c2_i32_222 : BitVec 32 := 2#32
  let arg2 : BitVec 32 := BitVec.ofNat 32 (i 2).val
  let v305 : BitVec 32 := Scalar.muli c2_i32_222 arg2
  let v306 : BitVec 32 := Scalar.addi v305 c0_i32_223
  let v307 : Index := Scalar.indexCast v306
  let c0_224 : Index := 0#32
  let c768_225 : Index := 768#32
  ![v307.toNat, 0, 768]
def k0_off6 (i : grid0.Coords) (c0_i32_282 : BitVec 32) : Fin 3 → Nat :=
  let c2_i32_281 : BitVec 32 := 2#32
  let arg2 : BitVec 32 := BitVec.ofNat 32 (i 2).val
  let v387 : BitVec 32 := Scalar.muli c2_i32_281 arg2
  let v388 : BitVec 32 := Scalar.addi v387 c0_i32_282
  let v389 : Index := Scalar.indexCast v388
  let c0_283 : Index := 0#32
  let c1024_284 : Index := 1024#32
  ![v389.toNat, 0, 1024]
def k0_off7 (i : grid0.Coords) (c0_i32_341 : BitVec 32) : Fin 3 → Nat :=
  let c2_i32_340 : BitVec 32 := 2#32
  let arg2 : BitVec 32 := BitVec.ofNat 32 (i 2).val
  let v469 : BitVec 32 := Scalar.muli c2_i32_340 arg2
  let v470 : BitVec 32 := Scalar.addi v469 c0_i32_341
  let v471 : Index := Scalar.indexCast v470
  let c0_342 : Index := 0#32
  let c1280_343 : Index := 1280#32
  ![v471.toNat, 0, 1280]
def k0_off8 (i : grid0.Coords) (c0_i32_400 : BitVec 32) : Fin 3 → Nat :=
  let c2_i32_399 : BitVec 32 := 2#32
  let arg2 : BitVec 32 := BitVec.ofNat 32 (i 2).val
  let v551 : BitVec 32 := Scalar.muli c2_i32_399 arg2
  let v552 : BitVec 32 := Scalar.addi v551 c0_i32_400
  let v553 : Index := Scalar.indexCast v552
  let c0_401 : Index := 0#32
  let c1536_402 : Index := 1536#32
  ![v553.toNat, 0, 1536]
def k0_off9 (i : grid0.Coords) (c0_i32_459 : BitVec 32) : Fin 3 → Nat :=
  let c2_i32_458 : BitVec 32 := 2#32
  let arg2 : BitVec 32 := BitVec.ofNat 32 (i 2).val
  let v633 : BitVec 32 := Scalar.muli c2_i32_458 arg2
  let v634 : BitVec 32 := Scalar.addi v633 c0_i32_459
  let v635 : Index := Scalar.indexCast v634
  let c0_460 : Index := 0#32
  let c1792_461 : Index := 1792#32
  ![v635.toNat, 0, 1792]
def k0_off10 (i : grid0.Coords) (c0_i32_518 : BitVec 32) : Fin 3 → Nat :=
  let c2_i32_517 : BitVec 32 := 2#32
  let arg2 : BitVec 32 := BitVec.ofNat 32 (i 2).val
  let v715 : BitVec 32 := Scalar.muli c2_i32_517 arg2
  let v716 : BitVec 32 := Scalar.addi v715 c0_i32_518
  let v717 : Index := Scalar.indexCast v716
  let c0_519 : Index := 0#32
  let c2048_520 : Index := 2048#32
  ![v717.toNat, 0, 2048]
def k0_off11 (i : grid0.Coords) (c0_i32_577 : BitVec 32) : Fin 3 → Nat :=
  let c2_i32_576 : BitVec 32 := 2#32
  let arg2 : BitVec 32 := BitVec.ofNat 32 (i 2).val
  let v797 : BitVec 32 := Scalar.muli c2_i32_576 arg2
  let v798 : BitVec 32 := Scalar.addi v797 c0_i32_577
  let v799 : Index := Scalar.indexCast v798
  let c0_578 : Index := 0#32
  let c2304_579 : Index := 2304#32
  ![v799.toNat, 0, 2304]
def k0_off12 (i : grid0.Coords) (c0_i32_636 : BitVec 32) : Fin 3 → Nat :=
  let c2_i32_635 : BitVec 32 := 2#32
  let arg2 : BitVec 32 := BitVec.ofNat 32 (i 2).val
  let v879 : BitVec 32 := Scalar.muli c2_i32_635 arg2
  let v880 : BitVec 32 := Scalar.addi v879 c0_i32_636
  let v881 : Index := Scalar.indexCast v880
  let c0_637 : Index := 0#32
  let c2560_638 : Index := 2560#32
  ![v881.toNat, 0, 2560]
def k0_off13 (i : grid0.Coords) (c0_i32_695 : BitVec 32) : Fin 3 → Nat :=
  let c2_i32_694 : BitVec 32 := 2#32
  let arg2 : BitVec 32 := BitVec.ofNat 32 (i 2).val
  let v961 : BitVec 32 := Scalar.muli c2_i32_694 arg2
  let v962 : BitVec 32 := Scalar.addi v961 c0_i32_695
  let v963 : Index := Scalar.indexCast v962
  let c0_696 : Index := 0#32
  let c2816_697 : Index := 2816#32
  ![v963.toNat, 0, 2816]
def k0_off14 (i : grid0.Coords) (c0_i32_754 : BitVec 32) : Fin 3 → Nat :=
  let c2_i32_753 : BitVec 32 := 2#32
  let arg2 : BitVec 32 := BitVec.ofNat 32 (i 2).val
  let v1043 : BitVec 32 := Scalar.muli c2_i32_753 arg2
  let v1044 : BitVec 32 := Scalar.addi v1043 c0_i32_754
  let v1045 : Index := Scalar.indexCast v1044
  let c0_755 : Index := 0#32
  let c3072_756 : Index := 3072#32
  ![v1045.toNat, 0, 3072]
def k0_off15 (i : grid0.Coords) (c0_i32_813 : BitVec 32) : Fin 3 → Nat :=
  let c2_i32_812 : BitVec 32 := 2#32
  let arg2 : BitVec 32 := BitVec.ofNat 32 (i 2).val
  let v1125 : BitVec 32 := Scalar.muli c2_i32_812 arg2
  let v1126 : BitVec 32 := Scalar.addi v1125 c0_i32_813
  let v1127 : Index := Scalar.indexCast v1126
  let c0_814 : Index := 0#32
  let c3328_815 : Index := 3328#32
  ![v1127.toNat, 0, 3328]
def k0_off16 (i : grid0.Coords) (c0_i32_872 : BitVec 32) : Fin 3 → Nat :=
  let c2_i32_871 : BitVec 32 := 2#32
  let arg2 : BitVec 32 := BitVec.ofNat 32 (i 2).val
  let v1207 : BitVec 32 := Scalar.muli c2_i32_871 arg2
  let v1208 : BitVec 32 := Scalar.addi v1207 c0_i32_872
  let v1209 : Index := Scalar.indexCast v1208
  let c0_873 : Index := 0#32
  let c3584_874 : Index := 3584#32
  ![v1209.toNat, 0, 3584]
def k0_off17 (i : grid0.Coords) (c0_i32_931 : BitVec 32) : Fin 3 → Nat :=
  let c2_i32_930 : BitVec 32 := 2#32
  let arg2 : BitVec 32 := BitVec.ofNat 32 (i 2).val
  let v1289 : BitVec 32 := Scalar.muli c2_i32_930 arg2
  let v1290 : BitVec 32 := Scalar.addi v1289 c0_i32_931
  let v1291 : Index := Scalar.indexCast v1290
  let c0_932 : Index := 0#32
  let c3840_933 : Index := 3840#32
  ![v1291.toNat, 0, 3840]
def k0_off18 (i : grid0.Coords) (c0_i32_990 : BitVec 32) : Fin 3 → Nat :=
  let c2_i32_989 : BitVec 32 := 2#32
  let arg2 : BitVec 32 := BitVec.ofNat 32 (i 2).val
  let v1371 : BitVec 32 := Scalar.muli c2_i32_989 arg2
  let v1372 : BitVec 32 := Scalar.addi v1371 c0_i32_990
  let v1373 : Index := Scalar.indexCast v1372
  let c0_991 : Index := 0#32
  let c4096_992 : Index := 4096#32
  ![v1373.toNat, 0, 4096]
def k0_off19 (i : grid0.Coords) (c0_i32_1049 : BitVec 32) : Fin 3 → Nat :=
  let c2_i32_1048 : BitVec 32 := 2#32
  let arg2 : BitVec 32 := BitVec.ofNat 32 (i 2).val
  let v1453 : BitVec 32 := Scalar.muli c2_i32_1048 arg2
  let v1454 : BitVec 32 := Scalar.addi v1453 c0_i32_1049
  let v1455 : Index := Scalar.indexCast v1454
  let c0_1050 : Index := 0#32
  let c4352_1051 : Index := 4352#32
  ![v1455.toNat, 0, 4352]
def k0_off20 (i : grid0.Coords) (c0_i32_1108 : BitVec 32) : Fin 3 → Nat :=
  let c2_i32_1107 : BitVec 32 := 2#32
  let arg2 : BitVec 32 := BitVec.ofNat 32 (i 2).val
  let v1535 : BitVec 32 := Scalar.muli c2_i32_1107 arg2
  let v1536 : BitVec 32 := Scalar.addi v1535 c0_i32_1108
  let v1537 : Index := Scalar.indexCast v1536
  let c0_1109 : Index := 0#32
  let c4608_1110 : Index := 4608#32
  ![v1537.toNat, 0, 4608]
def k0_off21 (i : grid0.Coords) (c0_i32_1167 : BitVec 32) : Fin 3 → Nat :=
  let c2_i32_1166 : BitVec 32 := 2#32
  let arg2 : BitVec 32 := BitVec.ofNat 32 (i 2).val
  let v1617 : BitVec 32 := Scalar.muli c2_i32_1166 arg2
  let v1618 : BitVec 32 := Scalar.addi v1617 c0_i32_1167
  let v1619 : Index := Scalar.indexCast v1618
  let c0_1168 : Index := 0#32
  let c4864_1169 : Index := 4864#32
  ![v1619.toNat, 0, 4864]
def k0_off22 (i : grid0.Coords) (c0_i32_1226 : BitVec 32) : Fin 3 → Nat :=
  let c2_i32_1225 : BitVec 32 := 2#32
  let arg2 : BitVec 32 := BitVec.ofNat 32 (i 2).val
  let v1699 : BitVec 32 := Scalar.muli c2_i32_1225 arg2
  let v1700 : BitVec 32 := Scalar.addi v1699 c0_i32_1226
  let v1701 : Index := Scalar.indexCast v1700
  let c0_1227 : Index := 0#32
  let c5120_1228 : Index := 5120#32
  ![v1701.toNat, 0, 5120]
def k0_off23 (i : grid0.Coords) (c0_i32_1285 : BitVec 32) : Fin 3 → Nat :=
  let c2_i32_1284 : BitVec 32 := 2#32
  let arg2 : BitVec 32 := BitVec.ofNat 32 (i 2).val
  let v1781 : BitVec 32 := Scalar.muli c2_i32_1284 arg2
  let v1782 : BitVec 32 := Scalar.addi v1781 c0_i32_1285
  let v1783 : Index := Scalar.indexCast v1782
  let c0_1286 : Index := 0#32
  let c5376_1287 : Index := 5376#32
  ![v1783.toNat, 0, 5376]
def k0_off24 (i : grid0.Coords) (c0_i32_1344 : BitVec 32) : Fin 3 → Nat :=
  let c2_i32_1343 : BitVec 32 := 2#32
  let arg2 : BitVec 32 := BitVec.ofNat 32 (i 2).val
  let v1863 : BitVec 32 := Scalar.muli c2_i32_1343 arg2
  let v1864 : BitVec 32 := Scalar.addi v1863 c0_i32_1344
  let v1865 : Index := Scalar.indexCast v1864
  let c0_1345 : Index := 0#32
  let c5632_1346 : Index := 5632#32
  ![v1865.toNat, 0, 5632]
def k0_off25 (i : grid0.Coords) (c0_i32_1403 : BitVec 32) : Fin 3 → Nat :=
  let c2_i32_1402 : BitVec 32 := 2#32
  let arg2 : BitVec 32 := BitVec.ofNat 32 (i 2).val
  let v1945 : BitVec 32 := Scalar.muli c2_i32_1402 arg2
  let v1946 : BitVec 32 := Scalar.addi v1945 c0_i32_1403
  let v1947 : Index := Scalar.indexCast v1946
  let c0_1404 : Index := 0#32
  let c5888_1405 : Index := 5888#32
  ![v1947.toNat, 0, 5888]
def k0_off26 (i : grid0.Coords) (c0_i32_1462 : BitVec 32) : Fin 3 → Nat :=
  let c2_i32_1461 : BitVec 32 := 2#32
  let arg2 : BitVec 32 := BitVec.ofNat 32 (i 2).val
  let v2027 : BitVec 32 := Scalar.muli c2_i32_1461 arg2
  let v2028 : BitVec 32 := Scalar.addi v2027 c0_i32_1462
  let v2029 : Index := Scalar.indexCast v2028
  let c0_1463 : Index := 0#32
  let c6144_1464 : Index := 6144#32
  ![v2029.toNat, 0, 6144]
def k0_off27 (i : grid0.Coords) (c0_i32_1521 : BitVec 32) : Fin 3 → Nat :=
  let c2_i32_1520 : BitVec 32 := 2#32
  let arg2 : BitVec 32 := BitVec.ofNat 32 (i 2).val
  let v2109 : BitVec 32 := Scalar.muli c2_i32_1520 arg2
  let v2110 : BitVec 32 := Scalar.addi v2109 c0_i32_1521
  let v2111 : Index := Scalar.indexCast v2110
  let c0_1522 : Index := 0#32
  let c6400_1523 : Index := 6400#32
  ![v2111.toNat, 0, 6400]
def k0_off28 (i : grid0.Coords) (c0_i32_1580 : BitVec 32) : Fin 3 → Nat :=
  let c2_i32_1579 : BitVec 32 := 2#32
  let arg2 : BitVec 32 := BitVec.ofNat 32 (i 2).val
  let v2191 : BitVec 32 := Scalar.muli c2_i32_1579 arg2
  let v2192 : BitVec 32 := Scalar.addi v2191 c0_i32_1580
  let v2193 : Index := Scalar.indexCast v2192
  let c0_1581 : Index := 0#32
  let c6656_1582 : Index := 6656#32
  ![v2193.toNat, 0, 6656]
def k0_off29 (i : grid0.Coords) (c0_i32_1639 : BitVec 32) : Fin 3 → Nat :=
  let c2_i32_1638 : BitVec 32 := 2#32
  let arg2 : BitVec 32 := BitVec.ofNat 32 (i 2).val
  let v2273 : BitVec 32 := Scalar.muli c2_i32_1638 arg2
  let v2274 : BitVec 32 := Scalar.addi v2273 c0_i32_1639
  let v2275 : Index := Scalar.indexCast v2274
  let c0_1640 : Index := 0#32
  let c6912_1641 : Index := 6912#32
  ![v2275.toNat, 0, 6912]
def k0_off30 (i : grid0.Coords) (c0_i32_1698 : BitVec 32) : Fin 3 → Nat :=
  let c2_i32_1697 : BitVec 32 := 2#32
  let arg2 : BitVec 32 := BitVec.ofNat 32 (i 2).val
  let v2355 : BitVec 32 := Scalar.muli c2_i32_1697 arg2
  let v2356 : BitVec 32 := Scalar.addi v2355 c0_i32_1698
  let v2357 : Index := Scalar.indexCast v2356
  let c0_1699 : Index := 0#32
  let c7168_1700 : Index := 7168#32
  ![v2357.toNat, 0, 7168]
def k0_off31 (i : grid0.Coords) (c0_i32_1757 : BitVec 32) : Fin 3 → Nat :=
  let c2_i32_1756 : BitVec 32 := 2#32
  let arg2 : BitVec 32 := BitVec.ofNat 32 (i 2).val
  let v2437 : BitVec 32 := Scalar.muli c2_i32_1756 arg2
  let v2438 : BitVec 32 := Scalar.addi v2437 c0_i32_1757
  let v2439 : Index := Scalar.indexCast v2438
  let c0_1758 : Index := 0#32
  let c7424_1759 : Index := 7424#32
  ![v2439.toNat, 0, 7424]
def k0_off32 (i : grid0.Coords) (c0_i32_1816 : BitVec 32) : Fin 3 → Nat :=
  let c2_i32_1815 : BitVec 32 := 2#32
  let arg2 : BitVec 32 := BitVec.ofNat 32 (i 2).val
  let v2519 : BitVec 32 := Scalar.muli c2_i32_1815 arg2
  let v2520 : BitVec 32 := Scalar.addi v2519 c0_i32_1816
  let v2521 : Index := Scalar.indexCast v2520
  let c0_1817 : Index := 0#32
  let c7680_1818 : Index := 7680#32
  ![v2521.toNat, 0, 7680]
def k0_off33 (i : grid0.Coords) (c0_i32_1875 : BitVec 32) : Fin 3 → Nat :=
  let c2_i32_1874 : BitVec 32 := 2#32
  let arg2 : BitVec 32 := BitVec.ofNat 32 (i 2).val
  let v2601 : BitVec 32 := Scalar.muli c2_i32_1874 arg2
  let v2602 : BitVec 32 := Scalar.addi v2601 c0_i32_1875
  let v2603 : Index := Scalar.indexCast v2602
  let c0_1876 : Index := 0#32
  let c7936_1877 : Index := 7936#32
  ![v2603.toNat, 0, 7936]
def k0_off34 (i : grid0.Coords) (c0_i32_1927 : BitVec 32) : Fin 3 → Nat :=
  let c2_i32_1926 : BitVec 32 := 2#32
  let arg2 : BitVec 32 := BitVec.ofNat 32 (i 2).val
  let v2677 : BitVec 32 := Scalar.muli c2_i32_1926 arg2
  let v2678 : BitVec 32 := Scalar.addi v2677 c0_i32_1927
  let v2679 : Index := Scalar.indexCast v2678
  let c0_1928 : Index := 0#32
  let c8192_1929 : Index := 8192#32
  ![v2679.toNat, 0, 8192]
def k0_cond2 (i : grid0.Coords) : BitVec 1 :=
  let arg2 : BitVec 32 := BitVec.ofNat 32 (i 2).val
  let c0_i32_1955 : BitVec 32 := 0#32
  let v2723 : BitVec 1 := Scalar.cmpi .eq arg2 c0_i32_1955
  let v2724 : BitVec 32 := Scalar.extui v2723
  let c0_i32_1956 : BitVec 32 := 0#32
  let v2725 : BitVec 1 := Scalar.cmpi .ne v2724 c0_i32_1956
  v2725

def k0_cond3 (i : grid0.Coords) : BitVec 1 :=
  let arg2 : BitVec 32 := BitVec.ofNat 32 (i 2).val
  let c0_i32_1957 : BitVec 32 := 0#32
  let v2726 : BitVec 1 := Scalar.cmpi .sgt arg2 c0_i32_1957
  let v2727 : BitVec 32 := Scalar.extui v2726
  let c0_i32_1958 : BitVec 32 := 0#32
  let v2728 : BitVec 1 := Scalar.cmpi .ne v2727 c0_i32_1958
  v2728

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg2
  let c0_i32 : BitVec 32 := 0#32
  let c0_i32_0 : BitVec 32 := 0#32
  let c0_i32_1 : BitVec 32 := 0#32
  ![v1.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg2
  let c0_i32 : BitVec 32 := 0#32
  let c0_i32_0 : BitVec 32 := 0#32
  let c0_i32_1 : BitVec 32 := 0#32
  ![v1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg2
  let c0_i32 : BitVec 32 := 0#32
  let c0_i32_0 : BitVec 32 := 0#32
  let c0_i32_1 : BitVec 32 := 0#32
  ![v1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg2
  let c0_i32 : BitVec 32 := 0#32
  let c0_i32_0 : BitVec 32 := 0#32
  let c0_i32_1 : BitVec 32 := 0#32
  ![v1.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S2x8448x64 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2x8448x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S2x1x8448 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S2x1x8448 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, true]

abbrev stage0_4 : Fin 2 → Memref sig .tc .vmem S1x768x64 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1x64x768 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S1x768x64 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 2 → Memref sig .tc .vmem S4x64x8448 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false, false]

abbrev stage0_8 : Fin 2 → Memref sig .tc .vmem S1x768x64 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]

abbrev stage0_9 : Fin 2 → Memref sig .tc .vmem S1x768x64 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, false]
-- ==== KernelIdeal.lean ====
variable {F : FTy → Type} [FloatOps F] [Named F]
def κ : String → Option EReal := fun
  | "mask" => some ⊥
  | _ => none
-- ==== ReferenceIdeal.lean ====
abbrev S8448x4x4x64 : Shape := ⟨4, ![8448, 4, 4, 64]⟩
abbrev S8448x4x64 : Shape := ⟨3, ![8448, 4, 64]⟩
abbrev S8208x4x4x64 : Shape := ⟨4, ![8208, 4, 4, 64]⟩
abbrev S8208x4x64 : Shape := ⟨3, ![8208, 4, 64]⟩
abbrev S4x8208x8208x4 : Shape := ⟨4, ![4, 8208, 8208, 4]⟩
abbrev S4x4x8208x8208 : Shape := ⟨4, ![4, 4, 8208, 8208]⟩
abbrev S_ : Shape := ⟨0, ![]⟩
abbrev S4x4x8208 : Shape := ⟨3, ![4, 4, 8208]⟩
abbrev S4x4x8208x1 : Shape := ⟨4, ![4, 4, 8208, 1]⟩
abbrev S4x64x4x8208 : Shape := ⟨4, ![4, 64, 4, 8208]⟩
abbrev S4x64x8208 : Shape := ⟨3, ![4, 64, 8208]⟩
abbrev S4x8208x4x64 : Shape := ⟨4, ![4, 8208, 4, 64]⟩
abbrev S4x8208x64 : Shape := ⟨3, ![4, 8208, 64]⟩
abbrev S4x4x64x8448 : Shape := ⟨4, ![4, 4, 64, 8448]⟩
abbrev S16x64x8448 : Shape := ⟨3, ![16, 64, 8448]⟩
abbrev S4x8448x64 : Shape := ⟨3, ![4, 8448, 64]⟩

abbrev nBuf : Space → Nat
  | .hbm => 99
  | .vmem => 0
  | .smem => 0
  | _ => 0

abbrev bufTy : (tb : Table) → Fin (tcTables nBuf tb) → BufTy
  | .hbm, ⟨0, _⟩ => ⟨S8448x4x4x64, .f32⟩
  | .hbm, ⟨1, _⟩ => ⟨S8448x4x64, .f32⟩
  | .hbm, ⟨2, _⟩ => ⟨S8448x4x64, .f32⟩
  | .hbm, ⟨3, _⟩ => ⟨S8208x4x4x64, .f32⟩
  | .hbm, ⟨4, _⟩ => ⟨S8208x4x4x64, .f32⟩
  | .hbm, ⟨5, _⟩ => ⟨S8208x4x64, .f32⟩
  | .hbm, ⟨6, _⟩ => ⟨S8208x4x64, .f32⟩
  | .hbm, ⟨7, _⟩ => ⟨S4x8208x8208x4, .f32⟩
  | .hbm, ⟨8, _⟩ => ⟨S4x4x8208x8208, .f32⟩
  | .hbm, ⟨9, _⟩ => ⟨S_, .f32⟩
  | .hbm, ⟨10, _⟩ => ⟨S4x4x8208x8208, .f32⟩
  | .hbm, ⟨11, _⟩ => ⟨S4x4x8208x8208, .f32⟩
  | .hbm, ⟨12, _⟩ => ⟨S_, .f32⟩
  | .hbm, ⟨13, _⟩ => ⟨S4x4x8208, .f32⟩
  | .hbm, ⟨14, _⟩ => ⟨S4x4x8208x1, .f32⟩
  | .hbm, ⟨15, _⟩ => ⟨S4x4x8208x8208, .f32⟩
  | .hbm, ⟨16, _⟩ => ⟨S4x4x8208x8208, .i1⟩
  | .hbm, ⟨17, _⟩ => ⟨S4x4x8208x8208, .f32⟩
  | .hbm, ⟨18, _⟩ => ⟨S_, .f32⟩
  | .hbm, ⟨19, _⟩ => ⟨S4x4x8208, .f32⟩
  | .hbm, ⟨20, _⟩ => ⟨S_, .f32⟩
  | .hbm, ⟨21, _⟩ => ⟨S4x4x8208, .f32⟩
  | .hbm, ⟨22, _⟩ => ⟨S4x4x8208, .f32⟩
  | .hbm, ⟨23, _⟩ => ⟨S_, .f32⟩
  | .hbm, ⟨24, _⟩ => ⟨S4x4x8208, .f32⟩
  | .hbm, ⟨25, _⟩ => ⟨S4x4x8208, .i1⟩
  | .hbm, ⟨26, _⟩ => ⟨S_, .f32⟩
  | .hbm, ⟨27, _⟩ => ⟨S4x4x8208, .f32⟩
  | .hbm, ⟨28, _⟩ => ⟨S4x4x8208, .i1⟩
  | .hbm, ⟨29, _⟩ => ⟨S_, .f32⟩
  | .hbm, ⟨30, _⟩ => ⟨S4x4x8208, .f32⟩
  | .hbm, ⟨31, _⟩ => ⟨S_, .f32⟩
  | .hbm, ⟨32, _⟩ => ⟨S4x4x8208, .f32⟩
  | .hbm, ⟨33, _⟩ => ⟨S_, .f32⟩
  | .hbm, ⟨34, _⟩ => ⟨S4x4x8208, .f32⟩
  | .hbm, ⟨35, _⟩ => ⟨S4x4x8208, .f32⟩
  | .hbm, ⟨36, _⟩ => ⟨S4x4x8208, .f32⟩
  | .hbm, ⟨37, _⟩ => ⟨S4x4x8208x1, .f32⟩
  | .hbm, ⟨38, _⟩ => ⟨S4x4x8208x8208, .f32⟩
  | .hbm, ⟨39, _⟩ => ⟨S4x4x8208x8208, .f32⟩
  | .hbm, ⟨40, _⟩ => ⟨S4x4x8208x8208, .f32⟩
  | .hbm, ⟨41, _⟩ => ⟨S_, .f32⟩
  | .hbm, ⟨42, _⟩ => ⟨S4x4x8208, .f32⟩
  | .hbm, ⟨43, _⟩ => ⟨S4x4x8208x1, .f32⟩
  | .hbm, ⟨44, _⟩ => ⟨S4x4x8208x8208, .f32⟩
  | .hbm, ⟨45, _⟩ => ⟨S4x4x8208x8208, .f32⟩
  | .hbm, ⟨46, _⟩ => ⟨S4x4x8208x1, .f32⟩
  | .hbm, ⟨47, _⟩ => ⟨S_, .f32⟩
  | .hbm, ⟨48, _⟩ => ⟨S4x4x8208x1, .f32⟩
  | .hbm, ⟨49, _⟩ => ⟨S4x4x8208x1, .f32⟩
  | .hbm, ⟨50, _⟩ => ⟨S4x64x4x8208, .f32⟩
  | .hbm, ⟨51, _⟩ => ⟨S8208x4x4x64, .f32⟩
  | .hbm, ⟨52, _⟩ => ⟨S4x64x4x8208, .f32⟩
  | .hbm, ⟨53, _⟩ => ⟨S4x4x8208x8208, .f32⟩
  | .hbm, ⟨54, _⟩ => ⟨S4x64x8208, .f32⟩
  | .hbm, ⟨55, _⟩ => ⟨S8208x4x64, .f32⟩
  | .hbm, ⟨56, _⟩ => ⟨S4x4x8208x8208, .f32⟩
  | .hbm, ⟨57, _⟩ => ⟨S4x4x8208x8208, .f32⟩
  | .hbm, ⟨58, _⟩ => ⟨S4x4x8208x8208, .f32⟩
  | .hbm, ⟨59, _⟩ => ⟨S_, .f32⟩
  | .hbm, ⟨60, _⟩ => ⟨S4x4x8208, .f32⟩
  | .hbm, ⟨61, _⟩ => ⟨S4x4x8208x1, .f32⟩
  | .hbm, ⟨62, _⟩ => ⟨S4x4x8208x1, .f32⟩
  | .hbm, ⟨63, _⟩ => ⟨S4x4x8208x8208, .f32⟩
  | .hbm, ⟨64, _⟩ => ⟨S4x4x8208x8208, .f32⟩
  | .hbm, ⟨65, _⟩ => ⟨S_, .f32⟩
  | .hbm, ⟨66, _⟩ => ⟨S4x4x8208, .f32⟩
  | .hbm, ⟨67, _⟩ => ⟨S4x4x8208x8208, .f32⟩
  | .hbm, ⟨68, _⟩ => ⟨S4x4x8208x8208, .f32⟩
  | .hbm, ⟨69, _⟩ => ⟨S4x4x8208x8208, .f32⟩
  | .hbm, ⟨70, _⟩ => ⟨S_, .f32⟩
  | .hbm, ⟨71, _⟩ => ⟨S4x4x8208x8208, .f32⟩
  | .hbm, ⟨72, _⟩ => ⟨S4x4x8208x8208, .f32⟩
  | .hbm, ⟨73, _⟩ => ⟨S4x8208x8208x4, .f32⟩
  | .hbm, ⟨74, _⟩ => ⟨S4x8208x4x64, .f32⟩
  | .hbm, ⟨75, _⟩ => ⟨S8208x4x4x64, .f32⟩
  | .hbm, ⟨76, _⟩ => ⟨S4x8208x64, .f32⟩
  | .hbm, ⟨77, _⟩ => ⟨S8208x4x64, .f32⟩
  | .hbm, ⟨78, _⟩ => ⟨S_, .f32⟩
  | .hbm, ⟨79, _⟩ => ⟨S8208x4x4x64, .f32⟩
  | .hbm, ⟨80, _⟩ => ⟨S8208x4x4x64, .f32⟩
  | .hbm, ⟨81, _⟩ => ⟨S_, .i32⟩
  | .hbm, ⟨82, _⟩ => ⟨S_, .f32⟩
  | .hbm, ⟨83, _⟩ => ⟨S8448x4x4x64, .f32⟩
  | .hbm, ⟨84, _⟩ => ⟨S_, .f32⟩
  | .hbm, ⟨85, _⟩ => ⟨S_, .f32⟩
  | .hbm, ⟨86, _⟩ => ⟨S_, .f32⟩
  | .hbm, ⟨87, _⟩ => ⟨S8208x4x64, .f32⟩
  | .hbm, ⟨88, _⟩ => ⟨S8208x4x64, .f32⟩
  | .hbm, ⟨89, _⟩ => ⟨S_, .i32⟩
  | .hbm, ⟨90, _⟩ => ⟨S_, .f32⟩
  | .hbm, ⟨91, _⟩ => ⟨S8448x4x64, .f32⟩
  | .hbm, ⟨92, _⟩ => ⟨S_, .i32⟩
  | .hbm, ⟨93, _⟩ => ⟨S_, .f32⟩
  | .hbm, ⟨94, _⟩ => ⟨S8448x4x64, .f32⟩
  | .hbm, ⟨95, _⟩ => ⟨S4x4x64x8448, .f32⟩
  | .hbm, ⟨96, _⟩ => ⟨S16x64x8448, .f32⟩
  | .hbm, ⟨97, _⟩ => ⟨S4x8448x64, .f32⟩
  | .hbm, ⟨98, _⟩ => ⟨S4x8448x64, .f32⟩
  | _, _ => ⟨S8448x4x4x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩
abbrev main_cst_3 : Ref sig .tc := ⟨.hbm, 23, rfl⟩
abbrev main_v15 : Ref sig .tc := ⟨.hbm, 24, rfl⟩
abbrev main_v16 : Ref sig .tc := ⟨.hbm, 25, rfl⟩
abbrev main_cst_4 : Ref sig .tc := ⟨.hbm, 26, rfl⟩
abbrev main_v17 : Ref sig .tc := ⟨.hbm, 27, rfl⟩
abbrev main_v18 : Ref sig .tc := ⟨.hbm, 28, rfl⟩
abbrev main_cst_5 : Ref sig .tc := ⟨.hbm, 29, rfl⟩
abbrev main_v19 : Ref sig .tc := ⟨.hbm, 30, rfl⟩
abbrev main_cst_6 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_8 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_cst_9 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_cst_10 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_cst_11 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_cst_12 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_cst_13 : Ref sig .tc := ⟨.hbm, 78, rfl⟩
abbrev main_v60 : Ref sig .tc := ⟨.hbm, 79, rfl⟩
abbrev main_v61 : Ref sig .tc := ⟨.hbm, 80, rfl⟩
abbrev main_c : Ref sig .tc := ⟨.hbm, 81, rfl⟩
abbrev main_call0_v0 : Ref sig .tc := ⟨.hbm, 82, rfl⟩
abbrev main_v62 : Ref sig .tc := ⟨.hbm, 83, rfl⟩
abbrev main_cst_14 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_c_15 : Ref sig .tc := ⟨.hbm, 89, rfl⟩
abbrev main_call1_v0 : Ref sig .tc := ⟨.hbm, 90, rfl⟩
abbrev main_v67 : Ref sig .tc := ⟨.hbm, 91, rfl⟩
abbrev main_c_16 : Ref sig .tc := ⟨.hbm, 92, rfl⟩
abbrev main_call2_v0 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩

abbrev nD : Nat := 1
abbrev τ : Topo := Topo.v7x

variable {F : FTy → Type} [FloatOps F]
-- ==== Kernel2.lean ====
abbrev S8448x1024 : Shape := ⟨2, ![8448, 1024]⟩
abbrev S1024x2816 : Shape := ⟨2, ![1024, 2816]⟩
abbrev S2816x1024 : Shape := ⟨2, ![2816, 1024]⟩
abbrev S1024 : Shape := ⟨1, ![1024]⟩
abbrev S8448x2816 : Shape := ⟨2, ![8448, 2816]⟩
abbrev S256x1024 : Shape := ⟨2, ![256, 1024]⟩
abbrev S256x2816 : Shape := ⟨2, ![256, 2816]⟩
abbrev S768x1408 : Shape := ⟨2, ![768, 1408]⟩
abbrev S768x1024 : Shape := ⟨2, ![768, 1024]⟩
abbrev S1408x1024 : Shape := ⟨2, ![1408, 1024]⟩
abbrev S384x2816 : Shape := ⟨2, ![384, 2816]⟩
abbrev S384x1024 : Shape := ⟨2, ![384, 1024]⟩
abbrev S1x1024 : Shape := ⟨2, ![1, 1024]⟩
abbrev S768x2816 : Shape := ⟨2, ![768, 2816]⟩
abbrev S768 : Shape := ⟨1, ![768]⟩
abbrev S768x1 : Shape := ⟨2, ![768, 1]⟩

abbrev nBuf : Space → Nat
  | .hbm => 28
  | .vmem => 60
  | .smem => 0
  | _ => 0

abbrev bufTy : (tb : Table) → Fin (tcTables nBuf tb) → BufTy
  | .hbm, ⟨0, _⟩ => ⟨S8448x1024, .f32⟩
  | .hbm, ⟨1, _⟩ => ⟨S1024x2816, .f32⟩
  | .hbm, ⟨2, _⟩ => ⟨S1024x2816, .f32⟩
  | .hbm, ⟨3, _⟩ => ⟨S2816x1024, .f32⟩
  | .hbm, ⟨4, _⟩ => ⟨S8448x1024, .f32⟩
  | .hbm, ⟨5, _⟩ => ⟨S1024, .f32⟩
  | .hbm, ⟨6, _⟩ => ⟨S1024, .f32⟩
  | .hbm, ⟨7, _⟩ => ⟨S8448x1024, .bf16⟩
  | .hbm, ⟨8, _⟩ => ⟨S8448x1024, .bf16⟩
  | .hbm, ⟨9, _⟩ => ⟨S2816x1024, .f32⟩
  | .hbm, ⟨10, _⟩ => ⟨S2816x1024, .bf16⟩
  | .hbm, ⟨11, _⟩ => ⟨S2816x1024, .f32⟩
  | .hbm, ⟨12, _⟩ => ⟨S2816x1024, .bf16⟩
  | .hbm, ⟨13, _⟩ => ⟨S2816x1024, .bf16⟩
  | .hbm, ⟨14, _⟩ => ⟨S8448x2816, .bf16⟩
  | .hbm, ⟨15, _⟩ => ⟨S8448x2816, .bf16⟩
  | .hbm, ⟨16, _⟩ => ⟨S8448x2816, .bf16⟩
  | .hbm, ⟨17, _⟩ => ⟨S8448x2816, .bf16⟩
  | .hbm, ⟨18, _⟩ => ⟨S8448x2816, .bf16⟩
  | .hbm, ⟨19, _⟩ => ⟨S2816x1024, .f32⟩
  | .hbm, ⟨20, _⟩ => ⟨S2816x1024, .f32⟩
  | .hbm, ⟨21, _⟩ => ⟨S2816x1024, .f32⟩
  | .hbm, ⟨22, _⟩ => ⟨S8448x1024, .f32⟩
  | .hbm, ⟨23, _⟩ => ⟨S1x1024, .f32⟩
  | .hbm, ⟨24, _⟩ => ⟨S1x1024, .f32⟩
  | .hbm, ⟨25, _⟩ => ⟨S8448x1024, .f32⟩
  | .hbm, ⟨26, _⟩ => ⟨S8448x1024, .f32⟩
  | .hbm, ⟨27, _⟩ => ⟨S8448x1024, .bf16⟩
  | .local _ .vmem, ⟨0, _⟩ => ⟨S256x1024, .bf16⟩
  | .local _ .vmem, ⟨1, _⟩ => ⟨S256x1024, .bf16⟩
  | .local _ .vmem, ⟨2, _⟩ => ⟨S2816x1024, .bf16⟩
  | .local _ .vmem, ⟨3, _⟩ => ⟨S2816x1024, .bf16⟩
  | .local _ .vmem, ⟨4, _⟩ => ⟨S256x2816, .bf16⟩
  | .local _ .vmem, ⟨5, _⟩ => ⟨S256x2816, .bf16⟩
  | .local _ .vmem, ⟨6, _⟩ => ⟨S256x2816, .bf16⟩
  | .local _ .vmem, ⟨7, _⟩ => ⟨S256x2816, .bf16⟩
  | .local _ .vmem, ⟨8, _⟩ => ⟨S256x2816, .bf16⟩
  | .local _ .vmem, ⟨9, _⟩ => ⟨S256x2816, .bf16⟩
  | .local _ .vmem, ⟨10, _⟩ => ⟨S256x1024, .bf16⟩
  | .local _ .vmem, ⟨11, _⟩ => ⟨S256x1024, .bf16⟩
  | .local _ .vmem, ⟨12, _⟩ => ⟨S2816x1024, .bf16⟩
  | .local _ .vmem, ⟨13, _⟩ => ⟨S256x2816, .bf16⟩
  | .local _ .vmem, ⟨14, _⟩ => ⟨S256x2816, .bf16⟩
  | .local _ .vmem, ⟨15, _⟩ => ⟨S256x2816, .bf16⟩
  | .local _ .vmem, ⟨16, _⟩ => ⟨S256x2816, .bf16⟩
  | .local _ .vmem, ⟨17, _⟩ => ⟨S256x2816, .bf16⟩
  | .local _ .vmem, ⟨18, _⟩ => ⟨S256x2816, .bf16⟩
  | .local _ .vmem, ⟨19, _⟩ => ⟨S256x2816, .bf16⟩
  | .local _ .vmem, ⟨20, _⟩ => ⟨S256x2816, .bf16⟩
  | .local _ .vmem, ⟨21, _⟩ => ⟨S768x1408, .bf16⟩
  | .local _ .vmem, ⟨22, _⟩ => ⟨S768x1408, .bf16⟩
  | .local _ .vmem, ⟨23, _⟩ => ⟨S768x1024, .bf16⟩
  | .local _ .vmem, ⟨24, _⟩ => ⟨S768x1024, .bf16⟩
  | .local _ .vmem, ⟨25, _⟩ => ⟨S1408x1024, .f32⟩
  | .local _ .vmem, ⟨26, _⟩ => ⟨S1408x1024, .f32⟩
  | .local _ .vmem, ⟨27, _⟩ => ⟨S768x1408, .bf16⟩
  | .local _ .vmem, ⟨28, _⟩ => ⟨S768x1408, .bf16⟩
  | .local _ .vmem, ⟨29, _⟩ => ⟨S768x1024, .bf16⟩
  | .local _ .vmem, ⟨30, _⟩ => ⟨S768x1024, .bf16⟩
  | .local _ .vmem, ⟨31, _⟩ => ⟨S1408x1024, .f32⟩
  | .local _ .vmem, ⟨32, _⟩ => ⟨S1408x1024, .f32⟩
  | .local _ .vmem, ⟨33, _⟩ => ⟨S768x1408, .bf16⟩
  | .local _ .vmem, ⟨34, _⟩ => ⟨S768x1408, .bf16⟩
  | .local _ .vmem, ⟨35, _⟩ => ⟨S768x1024, .bf16⟩
  | .local _ .vmem, ⟨36, _⟩ => ⟨S768x1024, .bf16⟩
  | .local _ .vmem, ⟨37, _⟩ => ⟨S1408x1024, .f32⟩
  | .local _ .vmem, ⟨38, _⟩ => ⟨S1408x1024, .f32⟩
  | .local _ .vmem, ⟨39, _⟩ => ⟨S384x2816, .bf16⟩
  | .local _ .vmem, ⟨40, _⟩ => ⟨S384x2816, .bf16⟩
  | .local _ .vmem, ⟨41, _⟩ => ⟨S2816x1024, .bf16⟩
  | .local _ .vmem, ⟨42, _⟩ => ⟨S384x2816, .bf16⟩
  | .local _ .vmem, ⟨43, _⟩ => ⟨S384x2816, .bf16⟩
  | .local _ .vmem, ⟨44, _⟩ => ⟨S2816x1024, .bf16⟩
  | .local _ .vmem, ⟨45, _⟩ => ⟨S384x1024, .f32⟩
  | .local _ .vmem, ⟨46, _⟩ => ⟨S384x1024, .f32⟩
  | .local _ .vmem, ⟨47, _⟩ => ⟨S768x2816, .bf16⟩
  | .local _ .vmem, ⟨48, _⟩ => ⟨S768x2816, .bf16⟩
  | .local _ .vmem, ⟨49, _⟩ => ⟨S2816x1024, .bf16⟩
  | .local _ .vmem, ⟨50, _⟩ => ⟨S768x1024, .f32⟩
  | .local _ .vmem, ⟨51, _⟩ => ⟨S768x1024, .f32⟩
  | .local _ .vmem, ⟨52, _⟩ => ⟨S1x1024, .f32⟩
  | .local _ .vmem, ⟨53, _⟩ => ⟨S1x1024, .f32⟩
  | .local _ .vmem, ⟨54, _⟩ => ⟨S768x1024, .f32⟩
  | .local _ .vmem, ⟨55, _⟩ => ⟨S768x1024, .f32⟩
  | .local _ .vmem, ⟨56, _⟩ => ⟨S768x1024, .f32⟩
  | .local _ .vmem, ⟨57, _⟩ => ⟨S768x1024, .f32⟩
  | .local _ .vmem, ⟨58, _⟩ => ⟨S768x1024, .bf16⟩
  | .local _ .vmem, ⟨59, _⟩ => ⟨S768x1024, .bf16⟩
  | _, _ => ⟨S8448x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | _, _ => false

abbrev semScoped : Fin 0 → Bool
  | ⟨_, h⟩ => absurd h (Nat.not_lt_zero _)

abbrev dmaSemScoped : Fin 60 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | _ => false

abbrev sig : RefSig :=
  ofTc nBuf bufTy 0 60 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7_0 : Ref sig .tc := ⟨.hbm, 14, rfl⟩
abbrev main_v7_1 : Ref sig .tc := ⟨.hbm, 15, rfl⟩
abbrev main_v7_2 : Ref sig .tc := ⟨.hbm, 16, rfl⟩
abbrev main_v8_0 : Ref sig .tc := ⟨.hbm, 17, rfl⟩
abbrev main_v8_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15_0 : Ref sig .tc := ⟨.hbm, 25, rfl⟩
abbrev main_v15_1 : Ref sig .tc := ⟨.hbm, 26, rfl⟩
abbrev main_v15_2 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg3_1 : Ref sig .tc := ⟨.vmem, 16, rfl⟩
abbrev cc1_stg4_0 : Ref sig .tc := ⟨.vmem, 17, rfl⟩
abbrev cc1_stg4_1 : Ref sig .tc := ⟨.vmem, 18, rfl⟩
abbrev cc1_stg5_0 : Ref sig .tc := ⟨.vmem, 19, rfl⟩
abbrev cc1_stg5_1 : Ref sig .tc := ⟨.vmem, 20, rfl⟩
abbrev cc2_stg0_0 : Ref sig .tc := ⟨.vmem, 21, rfl⟩
abbrev cc2_stg0_1 : Ref sig .tc := ⟨.vmem, 22, rfl⟩
abbrev cc2_stg1_0 : Ref sig .tc := ⟨.vmem, 23, rfl⟩
abbrev cc2_stg1_1 : Ref sig .tc := ⟨.vmem, 24, rfl⟩
abbrev cc2_stg2_0 : Ref sig .tc := ⟨.vmem, 25, rfl⟩
abbrev cc2_stg2_1 : Ref sig .tc := ⟨.vmem, 26, rfl⟩
abbrev cc3_stg0_0 : Ref sig .tc := ⟨.vmem, 27, rfl⟩
abbrev cc3_stg0_1 : Ref sig .tc := ⟨.vmem, 28, rfl⟩
abbrev cc3_stg1_0 : Ref sig .tc := ⟨.vmem, 29, rfl⟩
abbrev cc3_stg1_1 : Ref sig .tc := ⟨.vmem, 30, rfl⟩
abbrev cc3_stg2_0 : Ref sig .tc := ⟨.vmem, 31, rfl⟩
abbrev cc3_stg2_1 : Ref sig .tc := ⟨.vmem, 32, rfl⟩
abbrev cc4_stg0_0 : Ref sig .tc := ⟨.vmem, 33, rfl⟩
abbrev cc4_stg0_1 : Ref sig .tc := ⟨.vmem, 34, rfl⟩
abbrev cc4_stg1_0 : Ref sig .tc := ⟨.vmem, 35, rfl⟩
abbrev cc4_stg1_1 : Ref sig .tc := ⟨.vmem, 36, rfl⟩
abbrev cc4_stg2_0 : Ref sig .tc := ⟨.vmem, 37, rfl⟩
abbrev cc4_stg2_1 : Ref sig .tc := ⟨.vmem, 38, rfl⟩
abbrev cc5_stg0_0 : Ref sig .tc := ⟨.vmem, 39, rfl⟩
abbrev cc5_stg0_1 : Ref sig .tc := ⟨.vmem, 40, rfl⟩
abbrev cc5_stg1_0 : Ref sig .tc := ⟨.vmem, 41, rfl⟩
abbrev cc5_stg2_0 : Ref sig .tc := ⟨.vmem, 42, rfl⟩
abbrev cc5_stg2_1 : Ref sig .tc := ⟨.vmem, 43, rfl⟩
abbrev cc5_stg3_0 : Ref sig .tc := ⟨.vmem, 44, rfl⟩
abbrev cc5_stg4_0 : Ref sig .tc := ⟨.vmem, 45, rfl⟩
abbrev cc5_stg4_1 : Ref sig .tc := ⟨.vmem, 46, rfl⟩
abbrev cc6_stg0_0 : Ref sig .tc := ⟨.vmem, 47, rfl⟩
abbrev cc6_stg0_1 : Ref sig .tc := ⟨.vmem, 48, rfl⟩
abbrev cc6_stg1_0 : Ref sig .tc := ⟨.vmem, 49, rfl⟩
abbrev cc6_stg2_0 : Ref sig .tc := ⟨.vmem, 50, rfl⟩
abbrev cc6_stg2_1 : Ref sig .tc := ⟨.vmem, 51, rfl⟩
abbrev cc6_stg3_0 : Ref sig .tc := ⟨.vmem, 52, rfl⟩
abbrev cc6_stg4_0 : Ref sig .tc := ⟨.vmem, 53, rfl⟩
abbrev cc6_stg5_0 : Ref sig .tc := ⟨.vmem, 54, rfl⟩
abbrev cc6_stg5_1 : Ref sig .tc := ⟨.vmem, 55, rfl⟩
abbrev cc6_stg6_0 : Ref sig .tc := ⟨.vmem, 56, rfl⟩
abbrev cc6_stg6_1 : Ref sig .tc := ⟨.vmem, 57, rfl⟩
abbrev cc6_stg7_0 : Ref sig .tc := ⟨.vmem, 58, rfl⟩
abbrev cc6_stg7_1 : Ref sig .tc := ⟨.vmem, 59, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem2_0 : DmaSem sig := 13
abbrev cc1_sem2_1 : DmaSem sig := 14
abbrev cc1_sem3_0 : DmaSem sig := 15
abbrev cc1_sem3_1 : DmaSem sig := 16
abbrev cc1_sem4_0 : DmaSem sig := 17
abbrev cc1_sem4_1 : DmaSem sig := 18
abbrev cc1_sem5_0 : DmaSem sig := 19
abbrev cc1_sem5_1 : DmaSem sig := 20
abbrev cc2_sem0_0 : DmaSem sig := 21
abbrev cc2_sem0_1 : DmaSem sig := 22
abbrev cc2_sem1_0 : DmaSem sig := 23
abbrev cc2_sem1_1 : DmaSem sig := 24
abbrev cc2_sem2_0 : DmaSem sig := 25
abbrev cc2_sem2_1 : DmaSem sig := 26
abbrev cc3_sem0_0 : DmaSem sig := 27
abbrev cc3_sem0_1 : DmaSem sig := 28
abbrev cc3_sem1_0 : DmaSem sig := 29
abbrev cc3_sem1_1 : DmaSem sig := 30
abbrev cc3_sem2_0 : DmaSem sig := 31
abbrev cc3_sem2_1 : DmaSem sig := 32
abbrev cc4_sem0_0 : DmaSem sig := 33
abbrev cc4_sem0_1 : DmaSem sig := 34
abbrev cc4_sem1_0 : DmaSem sig := 35
abbrev cc4_sem1_1 : DmaSem sig := 36
abbrev cc4_sem2_0 : DmaSem sig := 37
abbrev cc4_sem2_1 : DmaSem sig := 38
abbrev cc5_sem0_0 : DmaSem sig := 39
abbrev cc5_sem0_1 : DmaSem sig := 40
abbrev cc5_sem1_0 : DmaSem sig := 41
abbrev cc5_sem2_0 : DmaSem sig := 42
abbrev cc5_sem2_1 : DmaSem sig := 43
abbrev cc5_sem3_0 : DmaSem sig := 44
abbrev cc5_sem4_0 : DmaSem sig := 45
abbrev cc5_sem4_1 : DmaSem sig := 46
abbrev cc6_sem0_0 : DmaSem sig := 47
abbrev cc6_sem0_1 : DmaSem sig := 48
abbrev cc6_sem1_0 : DmaSem sig := 49
abbrev cc6_sem2_0 : DmaSem sig := 50
abbrev cc6_sem2_1 : DmaSem sig := 51
abbrev cc6_sem3_0 : DmaSem sig := 52
abbrev cc6_sem4_0 : DmaSem sig := 53
abbrev cc6_sem5_0 : DmaSem sig := 54
abbrev cc6_sem5_1 : DmaSem sig := 55
abbrev cc6_sem6_0 : DmaSem sig := 56
abbrev cc6_sem6_1 : DmaSem sig := 57
abbrev cc6_sem7_0 : DmaSem sig := 58
abbrev cc6_sem7_1 : DmaSem sig := 59

abbrev nD : Nat := 1
abbrev τ : Topo := Topo.v7x

variable {F : FTy → Type} [FloatOps F]

abbrev grid0 : Pipeline.Grid := ⟨1, ![33], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2816x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x2816 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2816 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2816 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![33], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S2816x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S256x2816 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S256x2816 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S256x2816 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S256x2816 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨2, ![2, 11], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage2_0 : Fin 2 → Memref sig .tc .vmem S768x1408 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S768x1024 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S1408x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false]

abbrev grid3 : Pipeline.Grid := ⟨2, ![2, 11], ![false, false]⟩

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage3_0 : Fin 2 → Memref sig .tc .vmem S768x1408 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true]

abbrev stage3_1 : Fin 2 → Memref sig .tc .vmem S768x1024 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true]

abbrev stage3_2 : Fin 2 → Memref sig .tc .vmem S1408x1024 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, false]

abbrev grid4 : Pipeline.Grid := ⟨2, ![2, 11], ![false, false]⟩

def cc4_transform_0 (i : grid4.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc4_transform_1 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc4_transform_2 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage4_0 : Fin 2 → Memref sig .tc .vmem S768x1408 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, true]

abbrev stage4_1 : Fin 2 → Memref sig .tc .vmem S768x1024 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![false, true]

abbrev stage4_2 : Fin 2 → Memref sig .tc .vmem S1408x1024 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, false]

abbrev grid5 : Pipeline.Grid := ⟨1, ![22], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S384x2816 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S2816x1024 .bf16 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S384x2816 .bf16 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 1 → Memref sig .tc .vmem S2816x1024 .bf16 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 2 → Memref sig .tc .vmem S384x1024 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

abbrev grid6 : Pipeline.Grid := ⟨1, ![11], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_6 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_7 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S768x2816 .bf16 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S2816x1024 .bf16 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 2 → Memref sig .tc .vmem S768x1024 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev stage6_3 : Fin 1 → Memref sig .tc .vmem S1x1024 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S1x1024 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 2 → Memref sig .tc .vmem S768x1024 .f32 := fun | 0 => Memref.whole cc6_stg5_0 | 1 => Memref.whole cc6_stg5_1 | ⟨_ + 2, h⟩ => absurd h (Nat.not_lt.2 (Nat.le_add_left _ _))
abbrev sem6_5 : Fin 2 → DmaSem sig := fun | 0 => cc6_sem5_0 | 1 => cc6_sem5_1 | ⟨_ + 2, h⟩ => absurd h (Nat.not_lt.2 (Nat.le_add_left _ _))
abbrev reads6_5 : Fin grid6.rank → Bool := ![true]

abbrev stage6_6 : Fin 2 → Memref sig .tc .vmem S768x1024 .f32 := fun | 0 => Memref.whole cc6_stg6_0 | 1 => Memref.whole cc6_stg6_1 | ⟨_ + 2, h⟩ => absurd h (Nat.not_lt.2 (Nat.le_add_left _ _))
abbrev sem6_6 : Fin 2 → DmaSem sig := fun | 0 => cc6_sem6_0 | 1 => cc6_sem6_1 | ⟨_ + 2, h⟩ => absurd h (Nat.not_lt.2 (Nat.le_add_left _ _))
abbrev reads6_6 : Fin grid6.rank → Bool := ![true]

abbrev stage6_7 : Fin 2 → Memref sig .tc .vmem S768x1024 .bf16 := fun | 0 => Memref.whole cc6_stg7_0 | 1 => Memref.whole cc6_stg7_1 | ⟨_ + 2, h⟩ => absurd h (Nat.not_lt.2 (Nat.le_add_left _ _))
abbrev sem6_7 : Fin 2 → DmaSem sig := fun | 0 => cc6_sem7_0 | 1 => cc6_sem7_1 | ⟨_ + 2, h⟩ => absurd h (Nat.not_lt.2 (Nat.le_add_left _ _))
abbrev reads6_7 : Fin grid6.rank → Bool := ![true]
-- ==== Reference2Ideal.lean ====
abbrev S8448x1024 : Shape := ⟨2, ![8448, 1024]⟩
abbrev S1024x2816 : Shape := ⟨2, ![1024, 2816]⟩
abbrev S2816x1024 : Shape := ⟨2, ![2816, 1024]⟩
abbrev S1024 : Shape := ⟨1, ![1024]⟩
abbrev S8448x2816 : Shape := ⟨2, ![8448, 2816]⟩
abbrev S_ : Shape := ⟨0, ![]⟩
abbrev S8448 : Shape := ⟨1, ![8448]⟩
abbrev S8448x1 : Shape := ⟨2, ![8448, 1]⟩
abbrev S1x1024 : Shape := ⟨2, ![1, 1024]⟩

abbrev nBuf : Space → Nat
  | .hbm => 76
  | .vmem => 0
  | .smem => 0
  | _ => 0

abbrev bufTy : (tb : Table) → Fin (tcTables nBuf tb) → BufTy
  | .hbm, ⟨0, _⟩ => ⟨S8448x1024, .f32⟩
  | .hbm, ⟨1, _⟩ => ⟨S1024x2816, .f32⟩
  | .hbm, ⟨2, _⟩ => ⟨S1024x2816, .f32⟩
  | .hbm, ⟨3, _⟩ => ⟨S2816x1024, .f32⟩
  | .hbm, ⟨4, _⟩ => ⟨S8448x1024, .f32⟩
  | .hbm, ⟨5, _⟩ => ⟨S1024, .f32⟩
  | .hbm, ⟨6, _⟩ => ⟨S1024, .f32⟩
  | .hbm, ⟨7, _⟩ => ⟨S8448x2816, .f32⟩
  | .hbm, ⟨8, _⟩ => ⟨S8448x2816, .f32⟩
  | .hbm, ⟨9, _⟩ => ⟨S8448x2816, .f32⟩
  | .hbm, ⟨10, _⟩ => ⟨S_, .f32⟩
  | .hbm, ⟨11, _⟩ => ⟨S8448x2816, .f32⟩
  | .hbm, ⟨12, _⟩ => ⟨S8448x2816, .f32⟩
  | .hbm, ⟨13, _⟩ => ⟨S_, .f32⟩
  | .hbm, ⟨14, _⟩ => ⟨S8448x2816, .f32⟩
  | .hbm, ⟨15, _⟩ => ⟨S8448x2816, .f32⟩
  | .hbm, ⟨16, _⟩ => ⟨S_, .f32⟩
  | .hbm, ⟨17, _⟩ => ⟨S8448x2816, .f32⟩
  | .hbm, ⟨18, _⟩ => ⟨S8448x2816, .f32⟩
  | .hbm, ⟨19, _⟩ => ⟨S8448x2816, .f32⟩
  | .hbm, ⟨20, _⟩ => ⟨S8448x2816, .f32⟩
  | .hbm, ⟨21, _⟩ => ⟨S8448x2816, .f32⟩
  | .hbm, ⟨22, _⟩ => ⟨S8448x2816, .f32⟩
  | .hbm, ⟨23, _⟩ => ⟨S8448x1024, .f32⟩
  | .hbm, ⟨24, _⟩ => ⟨S1024x2816, .f32⟩
  | .hbm, ⟨25, _⟩ => ⟨S2816x1024, .f32⟩
  | .hbm, ⟨26, _⟩ => ⟨S8448x2816, .f32⟩
  | .hbm, ⟨27, _⟩ => ⟨S8448x2816, .f32⟩
  | .hbm, ⟨28, _⟩ => ⟨S8448x2816, .f32⟩
  | .hbm, ⟨29, _⟩ => ⟨S2816x1024, .f32⟩
  | .hbm, ⟨30, _⟩ => ⟨S1024x2816, .f32⟩
  | .hbm, ⟨31, _⟩ => ⟨S8448x1024, .f32⟩
  | .hbm, ⟨32, _⟩ => ⟨S8448x2816, .f32⟩
  | .hbm, ⟨33, _⟩ => ⟨S8448x2816, .f32⟩
  | .hbm, ⟨34, _⟩ => ⟨S8448x2816, .f32⟩
  | .hbm, ⟨35, _⟩ => ⟨S8448x2816, .f32⟩
  | .hbm, ⟨36, _⟩ => ⟨S2816x1024, .f32⟩
  | .hbm, ⟨37, _⟩ => ⟨S1024x2816, .f32⟩
  | .hbm, ⟨38, _⟩ => ⟨S8448x1024, .f32⟩
  | .hbm, ⟨39, _⟩ => ⟨S8448x1024, .f32⟩
  | .hbm, ⟨40, _⟩ => ⟨S_, .f32⟩
  | .hbm, ⟨41, _⟩ => ⟨S8448x1024, .f32⟩
  | .hbm, ⟨42, _⟩ => ⟨S8448x1024, .f32⟩
  | .hbm, ⟨43, _⟩ => ⟨S8448x1024, .f32⟩
  | .hbm, ⟨44, _⟩ => ⟨S_, .f32⟩
  | .hbm, ⟨45, _⟩ => ⟨S8448, .f32⟩
  | .hbm, ⟨46, _⟩ => ⟨S8448x1, .f32⟩
  | .hbm, ⟨47, _⟩ => ⟨S_, .f32⟩
  | .hbm, ⟨48, _⟩ => ⟨S8448x1, .f32⟩
  | .hbm, ⟨49, _⟩ => ⟨S8448x1, .f32⟩
  | .hbm, ⟨50, _⟩ => ⟨S8448x1024, .f32⟩
  | .hbm, ⟨51, _⟩ => ⟨S8448x1024, .f32⟩
  | .hbm, ⟨52, _⟩ => ⟨S8448x1024, .f32⟩
  | .hbm, ⟨53, _⟩ => ⟨S_, .f32⟩
  | .hbm, ⟨54, _⟩ => ⟨S8448, .f32⟩
  | .hbm, ⟨55, _⟩ => ⟨S8448x1, .f32⟩
  | .hbm, ⟨56, _⟩ => ⟨S_, .f32⟩
  | .hbm, ⟨57, _⟩ => ⟨S8448x1, .f32⟩
  | .hbm, ⟨58, _⟩ => ⟨S8448x1, .f32⟩
  | .hbm, ⟨59, _⟩ => ⟨S8448x1024, .f32⟩
  | .hbm, ⟨60, _⟩ => ⟨S8448x1024, .f32⟩
  | .hbm, ⟨61, _⟩ => ⟨S_, .f32⟩
  | .hbm, ⟨62, _⟩ => ⟨S8448x1, .f32⟩
  | .hbm, ⟨63, _⟩ => ⟨S8448x1, .f32⟩
  | .hbm, ⟨64, _⟩ => ⟨S8448x1, .f32⟩
  | .hbm, ⟨65, _⟩ => ⟨S8448x1024, .f32⟩
  | .hbm, ⟨66, _⟩ => ⟨S8448x1024, .f32⟩
  | .hbm, ⟨67, _⟩ => ⟨S1x1024, .f32⟩
  | .hbm, ⟨68, _⟩ => ⟨S8448x1024, .f32⟩
  | .hbm, ⟨69, _⟩ => ⟨S8448x1024, .f32⟩
  | .hbm, ⟨70, _⟩ => ⟨S1x1024, .f32⟩
  | .hbm, ⟨71, _⟩ => ⟨S8448x1024, .f32⟩
  | .hbm, ⟨72, _⟩ => ⟨S8448x1024, .f32⟩
  | .hbm, ⟨73, _⟩ => ⟨S2816x1024, .f32⟩
  | .hbm, ⟨74, _⟩ => ⟨S2816x1024, .f32⟩
  | .hbm, ⟨75, _⟩ => ⟨S8448x1024, .bf16⟩
  | _, _ => ⟨S8448x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_v1_2 : Ref sig .tc := ⟨.hbm, 15, rfl⟩
abbrev main_call0_cst_1 : Ref sig .tc := ⟨.hbm, 16, rfl⟩
abbrev main_call0_v6 : Ref sig .tc := ⟨.hbm, 17, rfl⟩
abbrev main_call0_v7 : Ref sig .tc := ⟨.hbm, 18, rfl⟩
abbrev main_v1_1 : Ref sig .tc := ⟨.hbm, 19, rfl⟩
abbrev main_v1_0 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_call1_v0 : Ref sig .tc := ⟨.hbm, 32, rfl⟩
abbrev main_call1_v1 : Ref sig .tc := ⟨.hbm, 33, rfl⟩
abbrev main_call1_v2 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_cst : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_cst_0 : Ref sig .tc := ⟨.hbm, 44, rfl⟩
abbrev main_v21 : Ref sig .tc := ⟨.hbm, 45, rfl⟩
abbrev main_v22 : Ref sig .tc := ⟨.hbm, 46, rfl⟩
abbrev main_cst_1 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_cst_2 : Ref sig .tc := ⟨.hbm, 53, rfl⟩
abbrev main_v28 : Ref sig .tc := ⟨.hbm, 54, rfl⟩
abbrev main_v29 : Ref sig .tc := ⟨.hbm, 55, rfl⟩
abbrev main_cst_3 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_cst_4 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩

abbrev nD : Nat := 1
abbrev τ : Topo := Topo.v7x

variable {F : FTy → Type} [FloatOps F]
-- ==== Kernel3.lean ====
abbrev S8448x1024 : Shape := ⟨2, ![8448, 1024]⟩
abbrev S1024x1536 : Shape := ⟨2, ![1024, 1536]⟩
abbrev S1024x1024 : Shape := ⟨2, ![1024, 1024]⟩
abbrev S8448x1536 : Shape := ⟨2, ![8448, 1536]⟩
abbrev S1024 : Shape := ⟨1, ![1024]⟩
abbrev S1536x1024 : Shape := ⟨2, ![1536, 1024]⟩
abbrev S1x1024 : Shape := ⟨2, ![1, 1024]⟩
abbrev S768x1024 : Shape := ⟨2, ![768, 1024]⟩
abbrev S768x1536 : Shape := ⟨2, ![768, 1536]⟩
abbrev S768 : Shape := ⟨1, ![768]⟩
abbrev S768x1 : Shape := ⟨2, ![768, 1]⟩
abbrev S768x512 : Shape := ⟨2, ![768, 512]⟩
abbrev S512x1024 : Shape := ⟨2, ![512, 1024]⟩

abbrev nBuf : Space → Nat
  | .hbm => 25
  | .vmem => 40
  | .smem => 0
  | _ => 0

abbrev bufTy : (tb : Table) → Fin (tcTables nBuf tb) → BufTy
  | .hbm, ⟨0, _⟩ => ⟨S8448x1024, .f32⟩
  | .hbm, ⟨1, _⟩ => ⟨S1024x1536, .f32⟩
  | .hbm, ⟨2, _⟩ => ⟨S8448x1024, .f32⟩
  | .hbm, ⟨3, _⟩ => ⟨S1024x1024, .f32⟩
  | .hbm, ⟨4, _⟩ => ⟨S8448x1536, .f32⟩
  | .hbm, ⟨5, _⟩ => ⟨S8448x1024, .f32⟩
  | .hbm, ⟨6, _⟩ => ⟨S1024, .f32⟩
  | .hbm, ⟨7, _⟩ => ⟨S1024, .f32⟩
  | .hbm, ⟨8, _⟩ => ⟨S8448x1024, .bf16⟩
  | .hbm, ⟨9, _⟩ => ⟨S8448x1024, .bf16⟩
  | .hbm, ⟨10, _⟩ => ⟨S8448x1536, .bf16⟩
  | .hbm, ⟨11, _⟩ => ⟨S8448x1024, .bf16⟩
  | .hbm, ⟨12, _⟩ => ⟨S1536x1024, .f32⟩
  | .hbm, ⟨13, _⟩ => ⟨S1536x1024, .bf16⟩
  | .hbm, ⟨14, _⟩ => ⟨S1024x1024, .bf16⟩
  | .hbm, ⟨15, _⟩ => ⟨S1x1024, .f32⟩
  | .hbm, ⟨16, _⟩ => ⟨S1x1024, .f32⟩
  | .hbm, ⟨17, _⟩ => ⟨S8448x1536, .f32⟩
  | .hbm, ⟨18, _⟩ => ⟨S8448x1024, .f32⟩
  | .hbm, ⟨19, _⟩ => ⟨S8448x1024, .f32⟩
  | .hbm, ⟨20, _⟩ => ⟨S8448x1024, .bf16⟩
  | .hbm, ⟨21, _⟩ => ⟨S8448x1024, .bf16⟩
  | .hbm, ⟨22, _⟩ => ⟨S1024x1024, .f32⟩
  | .hbm, ⟨23, _⟩ => ⟨S1536x1024, .f32⟩
  | .hbm, ⟨24, _⟩ => ⟨S8448x1024, .f32⟩
  | .local _ .vmem, ⟨0, _⟩ => ⟨S768x1024, .bf16⟩
  | .local _ .vmem, ⟨1, _⟩ => ⟨S768x1024, .bf16⟩
  | .local _ .vmem, ⟨2, _⟩ => ⟨S1536x1024, .bf16⟩
  | .local _ .vmem, ⟨3, _⟩ => ⟨S768x1536, .f32⟩
  | .local _ .vmem, ⟨4, _⟩ => ⟨S768x1536, .f32⟩
  | .local _ .vmem, ⟨5, _⟩ => ⟨S768x1024, .bf16⟩
  | .local _ .vmem, ⟨6, _⟩ => ⟨S768x1024, .bf16⟩
  | .local _ .vmem, ⟨7, _⟩ => ⟨S1024x1024, .bf16⟩
  | .local _ .vmem, ⟨8, _⟩ => ⟨S768x1024, .f32⟩
  | .local _ .vmem, ⟨9, _⟩ => ⟨S768x1024, .f32⟩
  | .local _ .vmem, ⟨10, _⟩ => ⟨S1x1024, .f32⟩
  | .local _ .vmem, ⟨11, _⟩ => ⟨S1x1024, .f32⟩
  | .local _ .vmem, ⟨12, _⟩ => ⟨S768x1024, .f32⟩
  | .local _ .vmem, ⟨13, _⟩ => ⟨S768x1024, .f32⟩
  | .local _ .vmem, ⟨14, _⟩ => ⟨S768x1024, .f32⟩
  | .local _ .vmem, ⟨15, _⟩ => ⟨S768x1024, .f32⟩
  | .local _ .vmem, ⟨16, _⟩ => ⟨S768x1024, .bf16⟩
  | .local _ .vmem, ⟨17, _⟩ => ⟨S768x1024, .bf16⟩
  | .local _ .vmem, ⟨18, _⟩ => ⟨S768x1024, .bf16⟩
  | .local _ .vmem, ⟨19, _⟩ => ⟨S768x1024, .bf16⟩
  | .local _ .vmem, ⟨20, _⟩ => ⟨S1024x1024, .bf16⟩
  | .local _ .vmem, ⟨21, _⟩ => ⟨S768x1024, .bf16⟩
  | .local _ .vmem, ⟨22, _⟩ => ⟨S768x1024, .bf16⟩
  | .local _ .vmem, ⟨23, _⟩ => ⟨S768x512, .bf16⟩
  | .local _ .vmem, ⟨24, _⟩ => ⟨S768x512, .bf16⟩
  | .local _ .vmem, ⟨25, _⟩ => ⟨S768x1024, .bf16⟩
  | .local _ .vmem, ⟨26, _⟩ => ⟨S768x1024, .bf16⟩
  | .local _ .vmem, ⟨27, _⟩ => ⟨S512x1024, .f32⟩
  | .local _ .vmem, ⟨28, _⟩ => ⟨S512x1024, .f32⟩
  | .local _ .vmem, ⟨29, _⟩ => ⟨S768x512, .bf16⟩
  | .local _ .vmem, ⟨30, _⟩ => ⟨S768x512, .bf16⟩
  | .local _ .vmem, ⟨31, _⟩ => ⟨S768x1024, .bf16⟩
  | .local _ .vmem, ⟨32, _⟩ => ⟨S768x1024, .bf16⟩
  | .local _ .vmem, ⟨33, _⟩ => ⟨S512x1024, .f32⟩
  | .local _ .vmem, ⟨34, _⟩ => ⟨S512x1024, .f32⟩
  | .local _ .vmem, ⟨35, _⟩ => ⟨S768x1536, .bf16⟩
  | .local _ .vmem, ⟨36, _⟩ => ⟨S768x1536, .bf16⟩
  | .local _ .vmem, ⟨37, _⟩ => ⟨S1536x1024, .bf16⟩
  | .local _ .vmem, ⟨38, _⟩ => ⟨S768x1024, .f32⟩
  | .local _ .vmem, ⟨39, _⟩ => ⟨S768x1024, .f32⟩
  | _, _ => ⟨S8448x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | _, _ => false

abbrev semScoped : Fin 0 → Bool
  | ⟨_, h⟩ => absurd h (Nat.not_lt_zero _)

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  ofTc nBuf bufTy 0 40 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10_0 : Ref sig .tc := ⟨.hbm, 18, rfl⟩
abbrev main_v10_1 : Ref sig .tc := ⟨.hbm, 19, rfl⟩
abbrev main_v10_2 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg5_0 : Ref sig .tc := ⟨.vmem, 12, rfl⟩
abbrev cc1_stg5_1 : Ref sig .tc := ⟨.vmem, 13, rfl⟩
abbrev cc1_stg6_0 : Ref sig .tc := ⟨.vmem, 14, rfl⟩
abbrev cc1_stg6_1 : Ref sig .tc := ⟨.vmem, 15, rfl⟩
abbrev cc1_stg7_0 : Ref sig .tc := ⟨.vmem, 16, rfl⟩
abbrev cc1_stg7_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg2_0 : Ref sig .tc := ⟨.vmem, 21, rfl⟩
abbrev cc2_stg2_1 : Ref sig .tc := ⟨.vmem, 22, rfl⟩
abbrev cc3_stg0_0 : Ref sig .tc := ⟨.vmem, 23, rfl⟩
abbrev cc3_stg0_1 : Ref sig .tc := ⟨.vmem, 24, rfl⟩
abbrev cc3_stg1_0 : Ref sig .tc := ⟨.vmem, 25, rfl⟩
abbrev cc3_stg1_1 : Ref sig .tc := ⟨.vmem, 26, rfl⟩
abbrev cc3_stg2_0 : Ref sig .tc := ⟨.vmem, 27, rfl⟩
abbrev cc3_stg2_1 : Ref sig .tc := ⟨.vmem, 28, rfl⟩
abbrev cc4_stg0_0 : Ref sig .tc := ⟨.vmem, 29, rfl⟩
abbrev cc4_stg0_1 : Ref sig .tc := ⟨.vmem, 30, rfl⟩
abbrev cc4_stg1_0 : Ref sig .tc := ⟨.vmem, 31, rfl⟩
abbrev cc4_stg1_1 : Ref sig .tc := ⟨.vmem, 32, rfl⟩
abbrev cc4_stg2_0 : Ref sig .tc := ⟨.vmem, 33, rfl⟩
abbrev cc4_stg2_1 : Ref sig .tc := ⟨.vmem, 34, rfl⟩
abbrev cc5_stg0_0 : Ref sig .tc := ⟨.vmem, 35, rfl⟩
abbrev cc5_stg0_1 : Ref sig .tc := ⟨.vmem, 36, rfl⟩
abbrev cc5_stg1_0 : Ref sig .tc := ⟨.vmem, 37, rfl⟩
abbrev cc5_stg2_0 : Ref sig .tc := ⟨.vmem, 38, rfl⟩
abbrev cc5_stg2_1 : Ref sig .tc := ⟨.vmem, 39, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc1_sem3_0 : DmaSem sig := 10
abbrev cc1_sem4_0 : DmaSem sig := 11
abbrev cc1_sem5_0 : DmaSem sig := 12
abbrev cc1_sem5_1 : DmaSem sig := 13
abbrev cc1_sem6_0 : DmaSem sig := 14
abbrev cc1_sem6_1 : DmaSem sig := 15
abbrev cc1_sem7_0 : DmaSem sig := 16
abbrev cc1_sem7_1 : DmaSem sig := 17
abbrev cc2_sem0_0 : DmaSem sig := 18
abbrev cc2_sem0_1 : DmaSem sig := 19
abbrev cc2_sem1_0 : DmaSem sig := 20
abbrev cc2_sem2_0 : DmaSem sig := 21
abbrev cc2_sem2_1 : DmaSem sig := 22
abbrev cc3_sem0_0 : DmaSem sig := 23
abbrev cc3_sem0_1 : DmaSem sig := 24
abbrev cc3_sem1_0 : DmaSem sig := 25
abbrev cc3_sem1_1 : DmaSem sig := 26
abbrev cc3_sem2_0 : DmaSem sig := 27
abbrev cc3_sem2_1 : DmaSem sig := 28
abbrev cc4_sem0_0 : DmaSem sig := 29
abbrev cc4_sem0_1 : DmaSem sig := 30
abbrev cc4_sem1_0 : DmaSem sig := 31
abbrev cc4_sem1_1 : DmaSem sig := 32
abbrev cc4_sem2_0 : DmaSem sig := 33
abbrev cc4_sem2_1 : DmaSem sig := 34
abbrev cc5_sem0_0 : DmaSem sig := 35
abbrev cc5_sem0_1 : DmaSem sig := 36
abbrev cc5_sem1_0 : DmaSem sig := 37
abbrev cc5_sem2_0 : DmaSem sig := 38
abbrev cc5_sem2_1 : DmaSem sig := 39

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S768x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1536x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S768x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![11], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S768x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1024x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S768x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x1024 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x1024 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S768x1024 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S768x1024 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S768x1024 .bf16 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev grid2 : Pipeline.Grid := ⟨1, ![11], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S768x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1024x1024 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S768x1024 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨2, ![2, 11], ![false, false]⟩

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage3_0 : Fin 2 → Memref sig .tc .vmem S768x512 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true]

abbrev stage3_1 : Fin 2 → Memref sig .tc .vmem S768x1024 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true]

abbrev stage3_2 : Fin 2 → Memref sig .tc .vmem S512x1024 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, false]

abbrev grid4 : Pipeline.Grid := ⟨2, ![3, 11], ![false, false]⟩

def cc4_transform_0 (i : grid4.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc4_transform_1 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc4_transform_2 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage4_0 : Fin 2 → Memref sig .tc .vmem S768x512 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, true]

abbrev stage4_1 : Fin 2 → Memref sig .tc .vmem S768x1024 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![false, true]

abbrev stage4_2 : Fin 2 → Memref sig .tc .vmem S512x1024 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, false]

abbrev grid5 : Pipeline.Grid := ⟨1, ![11], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S768x1536 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1536x1024 .bf16 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S768x1024 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]
-- ==== Reference3Ideal.lean ====
abbrev S8448x1024 : Shape := ⟨2, ![8448, 1024]⟩
abbrev S1024x1536 : Shape := ⟨2, ![1024, 1536]⟩
abbrev S1024x1024 : Shape := ⟨2, ![1024, 1024]⟩
abbrev S8448x1536 : Shape := ⟨2, ![8448, 1536]⟩
abbrev S1024 : Shape := ⟨1, ![1024]⟩
abbrev S1536x1024 : Shape := ⟨2, ![1536, 1024]⟩
abbrev S_ : Shape := ⟨0, ![]⟩
abbrev S8448 : Shape := ⟨1, ![8448]⟩
abbrev S8448x1 : Shape := ⟨2, ![8448, 1]⟩
abbrev S1x1024 : Shape := ⟨2, ![1, 1024]⟩

abbrev nBuf : Space → Nat
  | .hbm => 52
  | .vmem => 0
  | .smem => 0
  | _ => 0

abbrev bufTy : (tb : Table) → Fin (tcTables nBuf tb) → BufTy
  | .hbm, ⟨0, _⟩ => ⟨S8448x1024, .f32⟩
  | .hbm, ⟨1, _⟩ => ⟨S1024x1536, .f32⟩
  | .hbm, ⟨2, _⟩ => ⟨S8448x1024, .f32⟩
  | .hbm, ⟨3, _⟩ => ⟨S1024x1024, .f32⟩
  | .hbm, ⟨4, _⟩ => ⟨S8448x1536, .f32⟩
  | .hbm, ⟨5, _⟩ => ⟨S8448x1024, .f32⟩
  | .hbm, ⟨6, _⟩ => ⟨S1024, .f32⟩
  | .hbm, ⟨7, _⟩ => ⟨S1024, .f32⟩
  | .hbm, ⟨8, _⟩ => ⟨S8448x1536, .f32⟩
  | .hbm, ⟨9, _⟩ => ⟨S1536x1024, .f32⟩
  | .hbm, ⟨10, _⟩ => ⟨S1024x1536, .f32⟩
  | .hbm, ⟨11, _⟩ => ⟨S8448x1024, .f32⟩
  | .hbm, ⟨12, _⟩ => ⟨S8448x1024, .f32⟩
  | .hbm, ⟨13, _⟩ => ⟨S1024x1024, .f32⟩
  | .hbm, ⟨14, _⟩ => ⟨S1024x1024, .f32⟩
  | .hbm, ⟨15, _⟩ => ⟨S8448x1024, .f32⟩
  | .hbm, ⟨16, _⟩ => ⟨S_, .f32⟩
  | .hbm, ⟨17, _⟩ => ⟨S8448x1024, .f32⟩
  | .hbm, ⟨18, _⟩ => ⟨S8448x1024, .f32⟩
  | .hbm, ⟨19, _⟩ => ⟨S8448x1024, .f32⟩
  | .hbm, ⟨20, _⟩ => ⟨S_, .f32⟩
  | .hbm, ⟨21, _⟩ => ⟨S8448, .f32⟩
  | .hbm, ⟨22, _⟩ => ⟨S8448x1, .f32⟩
  | .hbm, ⟨23, _⟩ => ⟨S_, .f32⟩
  | .hbm, ⟨24, _⟩ => ⟨S8448x1, .f32⟩
  | .hbm, ⟨25, _⟩ => ⟨S8448x1, .f32⟩
  | .hbm, ⟨26, _⟩ => ⟨S8448x1024, .f32⟩
  | .hbm, ⟨27, _⟩ => ⟨S8448x1024, .f32⟩
  | .hbm, ⟨28, _⟩ => ⟨S8448x1024, .f32⟩
  | .hbm, ⟨29, _⟩ => ⟨S_, .f32⟩
  | .hbm, ⟨30, _⟩ => ⟨S8448, .f32⟩
  | .hbm, ⟨31, _⟩ => ⟨S8448x1, .f32⟩
  | .hbm, ⟨32, _⟩ => ⟨S_, .f32⟩
  | .hbm, ⟨33, _⟩ => ⟨S8448x1, .f32⟩
  | .hbm, ⟨34, _⟩ => ⟨S8448x1, .f32⟩
  | .hbm, ⟨35, _⟩ => ⟨S8448x1024, .f32⟩
  | .hbm, ⟨36, _⟩ => ⟨S8448x1024, .f32⟩
  | .hbm, ⟨37, _⟩ => ⟨S_, .f32⟩
  | .hbm, ⟨38, _⟩ => ⟨S8448x1, .f32⟩
  | .hbm, ⟨39, _⟩ => ⟨S8448x1, .f32⟩
  | .hbm, ⟨40, _⟩ => ⟨S8448x1, .f32⟩
  | .hbm, ⟨41, _⟩ => ⟨S8448x1024, .f32⟩
  | .hbm, ⟨42, _⟩ => ⟨S8448x1024, .f32⟩
  | .hbm, ⟨43, _⟩ => ⟨S1x1024, .f32⟩
  | .hbm, ⟨44, _⟩ => ⟨S8448x1024, .f32⟩
  | .hbm, ⟨45, _⟩ => ⟨S8448x1024, .f32⟩
  | .hbm, ⟨46, _⟩ => ⟨S1x1024, .f32⟩
  | .hbm, ⟨47, _⟩ => ⟨S8448x1024, .f32⟩
  | .hbm, ⟨48, _⟩ => ⟨S8448x1024, .f32⟩
  | .hbm, ⟨49, _⟩ => ⟨S8448x1024, .bf16⟩
  | .hbm, ⟨50, _⟩ => ⟨S8448x1024, .bf16⟩
  | .hbm, ⟨51, _⟩ => ⟨S1536x1024, .f32⟩
  | _, _ => ⟨S8448x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_0 : Ref sig .tc := ⟨.hbm, 20, rfl⟩
abbrev main_v11 : Ref sig .tc := ⟨.hbm, 21, rfl⟩
abbrev main_v12 : Ref sig .tc := ⟨.hbm, 22, rfl⟩
abbrev main_cst_1 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_2 : Ref sig .tc := ⟨.hbm, 29, rfl⟩
abbrev main_v18 : Ref sig .tc := ⟨.hbm, 30, rfl⟩
abbrev main_v19 : Ref sig .tc := ⟨.hbm, 31, rfl⟩
abbrev main_cst_3 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_4 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩

abbrev nD : Nat := 1
abbrev τ : Topo := Topo.v7x

variable {F : FTy → Type} [FloatOps F]
-- ==== Kernel4.lean ====
abbrev S8448x1024 : Shape := ⟨2, ![8448, 1024]⟩
abbrev S1024 : Shape := ⟨1, ![1024]⟩
abbrev S1024x1024 : Shape := ⟨2, ![1024, 1024]⟩
abbrev S1x1024 : Shape := ⟨2, ![1, 1024]⟩
abbrev S768x1024 : Shape := ⟨2, ![768, 1024]⟩
abbrev S768x512 : Shape := ⟨2, ![768, 512]⟩
abbrev S512x1024 : Shape := ⟨2, ![512, 1024]⟩

abbrev nBuf : Space → Nat
  | .hbm => 20
  | .vmem => 52
  | .smem => 0
  | _ => 0

abbrev bufTy : (tb : Table) → Fin (tcTables nBuf tb) → BufTy
  | .hbm, ⟨0, _⟩ => ⟨S8448x1024, .f32⟩
  | .hbm, ⟨1, _⟩ => ⟨S8448x1024, .f32⟩
  | .hbm, ⟨2, _⟩ => ⟨S1024, .f32⟩
  | .hbm, ⟨3, _⟩ => ⟨S1024x1024, .f32⟩
  | .hbm, ⟨4, _⟩ => ⟨S1024x1024, .f32⟩
  | .hbm, ⟨5, _⟩ => ⟨S8448x1024, .f32⟩
  | .hbm, ⟨6, _⟩ => ⟨S1024x1024, .bf16⟩
  | .hbm, ⟨7, _⟩ => ⟨S1024x1024, .bf16⟩
  | .hbm, ⟨8, _⟩ => ⟨S8448x1024, .bf16⟩
  | .hbm, ⟨9, _⟩ => ⟨S1x1024, .f32⟩
  | .hbm, ⟨10, _⟩ => ⟨S8448x1024, .f32⟩
  | .hbm, ⟨11, _⟩ => ⟨S8448x1024, .bf16⟩
  | .hbm, ⟨12, _⟩ => ⟨S8448x1024, .f32⟩
  | .hbm, ⟨13, _⟩ => ⟨S8448x1024, .bf16⟩
  | .hbm, ⟨14, _⟩ => ⟨S8448x1024, .f32⟩
  | .hbm, ⟨15, _⟩ => ⟨S1024x1024, .f32⟩
  | .hbm, ⟨16, _⟩ => ⟨S8448x1024, .bf16⟩
  | .hbm, ⟨17, _⟩ => ⟨S8448x1024, .f32⟩
  | .hbm, ⟨18, _⟩ => ⟨S1024x1024, .f32⟩
  | .hbm, ⟨19, _⟩ => ⟨S8448x1024, .f32⟩
  | .local _ .vmem, ⟨0, _⟩ => ⟨S768x1024, .f32⟩
  | .local _ .vmem, ⟨1, _⟩ => ⟨S768x1024, .f32⟩
  | .local _ .vmem, ⟨2, _⟩ => ⟨S768x1024, .f32⟩
  | .local _ .vmem, ⟨3, _⟩ => ⟨S768x1024, .f32⟩
  | .local _ .vmem, ⟨4, _⟩ => ⟨S1x1024, .f32⟩
  | .local _ .vmem, ⟨5, _⟩ => ⟨S768x1024, .f32⟩
  | .local _ .vmem, ⟨6, _⟩ => ⟨S768x1024, .f32⟩
  | .local _ .vmem, ⟨7, _⟩ => ⟨S768x1024, .bf16⟩
  | .local _ .vmem, ⟨8, _⟩ => ⟨S768x1024, .bf16⟩
  | .local _ .vmem, ⟨9, _⟩ => ⟨S768x1024, .bf16⟩
  | .local _ .vmem, ⟨10, _⟩ => ⟨S768x1024, .bf16⟩
  | .local _ .vmem, ⟨11, _⟩ => ⟨S1024x1024, .bf16⟩
  | .local _ .vmem, ⟨12, _⟩ => ⟨S768x1024, .f32⟩
  | .local _ .vmem, ⟨13, _⟩ => ⟨S768x1024, .f32⟩
  | .local _ .vmem, ⟨14, _⟩ => ⟨S768x1024, .f32⟩
  | .local _ .vmem, ⟨15, _⟩ => ⟨S768x1024, .f32⟩
  | .local _ .vmem, ⟨16, _⟩ => ⟨S768x1024, .f32⟩
  | .local _ .vmem, ⟨17, _⟩ => ⟨S768x1024, .f32⟩
  | .local _ .vmem, ⟨18, _⟩ => ⟨S768x1024, .bf16⟩
  | .local _ .vmem, ⟨19, _⟩ => ⟨S768x1024, .bf16⟩
  | .local _ .vmem, ⟨20, _⟩ => ⟨S768x1024, .bf16⟩
  | .local _ .vmem, ⟨21, _⟩ => ⟨S768x1024, .bf16⟩
  | .local _ .vmem, ⟨22, _⟩ => ⟨S1024x1024, .bf16⟩
  | .local _ .vmem, ⟨23, _⟩ => ⟨S768x1024, .f32⟩
  | .local _ .vmem, ⟨24, _⟩ => ⟨S768x1024, .f32⟩
  | .local _ .vmem, ⟨25, _⟩ => ⟨S768x512, .bf16⟩
  | .local _ .vmem, ⟨26, _⟩ => ⟨S768x512, .bf16⟩
  | .local _ .vmem, ⟨27, _⟩ => ⟨S768x1024, .bf16⟩
  | .local _ .vmem, ⟨28, _⟩ => ⟨S768x1024, .bf16⟩
  | .local _ .vmem, ⟨29, _⟩ => ⟨S512x1024, .f32⟩
  | .local _ .vmem, ⟨30, _⟩ => ⟨S512x1024, .f32⟩
  | .local _ .vmem, ⟨31, _⟩ => ⟨S768x1024, .f32⟩
  | .local _ .vmem, ⟨32, _⟩ => ⟨S768x1024, .f32⟩
  | .local _ .vmem, ⟨33, _⟩ => ⟨S768x1024, .f32⟩
  | .local _ .vmem, ⟨34, _⟩ => ⟨S768x1024, .f32⟩
  | .local _ .vmem, ⟨35, _⟩ => ⟨S768x1024, .f32⟩
  | .local _ .vmem, ⟨36, _⟩ => ⟨S768x1024, .f32⟩
  | .local _ .vmem, ⟨37, _⟩ => ⟨S768x1024, .bf16⟩
  | .local _ .vmem, ⟨38, _⟩ => ⟨S768x1024, .bf16⟩
  | .local _ .vmem, ⟨39, _⟩ => ⟨S768x1024, .f32⟩
  | .local _ .vmem, ⟨40, _⟩ => ⟨S768x1024, .f32⟩
  | .local _ .vmem, ⟨41, _⟩ => ⟨S768x512, .bf16⟩
  | .local _ .vmem, ⟨42, _⟩ => ⟨S768x512, .bf16⟩
  | .local _ .vmem, ⟨43, _⟩ => ⟨S768x1024, .bf16⟩
  | .local _ .vmem, ⟨44, _⟩ => ⟨S768x1024, .bf16⟩
  | .local _ .vmem, ⟨45, _⟩ => ⟨S512x1024, .f32⟩
  | .local _ .vmem, ⟨46, _⟩ => ⟨S512x1024, .f32⟩
  | .local _ .vmem, ⟨47, _⟩ => ⟨S768x1024, .bf16⟩
  | .local _ .vmem, ⟨48, _⟩ => ⟨S768x1024, .bf16⟩
  | .local _ .vmem, ⟨49, _⟩ => ⟨S1024x1024, .bf16⟩
  | .local _ .vmem, ⟨50, _⟩ => ⟨S768x1024, .f32⟩
  | .local _ .vmem, ⟨51, _⟩ => ⟨S768x1024, .f32⟩
  | _, _ => ⟨S8448x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | _, _ => false

abbrev semScoped : Fin 0 → Bool
  | ⟨_, h⟩ => absurd h (Nat.not_lt_zero _)

abbrev dmaSemScoped : Fin 52 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | _ => false

abbrev sig : RefSig :=
  ofTc nBuf bufTy 0 52 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4_0 : Ref sig .tc := ⟨.hbm, 10, rfl⟩
abbrev main_v4_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9_0 : Ref sig .tc := ⟨.hbm, 16, rfl⟩
abbrev main_v9_1 : Ref sig .tc := ⟨.hbm, 17, rfl⟩
abbrev main_v10 : Ref sig .tc := ⟨.hbm, 18, rfl⟩
abbrev main_v11 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg2_0 : Ref sig .tc := ⟨.vmem, 12, rfl⟩
abbrev cc1_stg2_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg2_1 : Ref sig .tc := ⟨.vmem, 19, rfl⟩
abbrev cc3_stg0_0 : Ref sig .tc := ⟨.vmem, 20, rfl⟩
abbrev cc3_stg0_1 : Ref sig .tc := ⟨.vmem, 21, rfl⟩
abbrev cc3_stg1_0 : Ref sig .tc := ⟨.vmem, 22, rfl⟩
abbrev cc3_stg2_0 : Ref sig .tc := ⟨.vmem, 23, rfl⟩
abbrev cc3_stg2_1 : Ref sig .tc := ⟨.vmem, 24, rfl⟩
abbrev cc4_stg0_0 : Ref sig .tc := ⟨.vmem, 25, rfl⟩
abbrev cc4_stg0_1 : Ref sig .tc := ⟨.vmem, 26, rfl⟩
abbrev cc4_stg1_0 : Ref sig .tc := ⟨.vmem, 27, rfl⟩
abbrev cc4_stg1_1 : Ref sig .tc := ⟨.vmem, 28, rfl⟩
abbrev cc4_stg2_0 : Ref sig .tc := ⟨.vmem, 29, rfl⟩
abbrev cc4_stg2_1 : Ref sig .tc := ⟨.vmem, 30, rfl⟩
abbrev cc5_stg0_0 : Ref sig .tc := ⟨.vmem, 31, rfl⟩
abbrev cc5_stg0_1 : Ref sig .tc := ⟨.vmem, 32, rfl⟩
abbrev cc5_stg1_0 : Ref sig .tc := ⟨.vmem, 33, rfl⟩
abbrev cc5_stg1_1 : Ref sig .tc := ⟨.vmem, 34, rfl⟩
abbrev cc5_stg2_0 : Ref sig .tc := ⟨.vmem, 35, rfl⟩
abbrev cc5_stg2_1 : Ref sig .tc := ⟨.vmem, 36, rfl⟩
abbrev cc5_stg3_0 : Ref sig .tc := ⟨.vmem, 37, rfl⟩
abbrev cc5_stg3_1 : Ref sig .tc := ⟨.vmem, 38, rfl⟩
abbrev cc5_stg4_0 : Ref sig .tc := ⟨.vmem, 39, rfl⟩
abbrev cc5_stg4_1 : Ref sig .tc := ⟨.vmem, 40, rfl⟩
abbrev cc6_stg0_0 : Ref sig .tc := ⟨.vmem, 41, rfl⟩
abbrev cc6_stg0_1 : Ref sig .tc := ⟨.vmem, 42, rfl⟩
abbrev cc6_stg1_0 : Ref sig .tc := ⟨.vmem, 43, rfl⟩
abbrev cc6_stg1_1 : Ref sig .tc := ⟨.vmem, 44, rfl⟩
abbrev cc6_stg2_0 : Ref sig .tc := ⟨.vmem, 45, rfl⟩
abbrev cc6_stg2_1 : Ref sig .tc := ⟨.vmem, 46, rfl⟩
abbrev cc7_stg0_0 : Ref sig .tc := ⟨.vmem, 47, rfl⟩
abbrev cc7_stg0_1 : Ref sig .tc := ⟨.vmem, 48, rfl⟩
abbrev cc7_stg1_0 : Ref sig .tc := ⟨.vmem, 49, rfl⟩
abbrev cc7_stg2_0 : Ref sig .tc := ⟨.vmem, 50, rfl⟩
abbrev cc7_stg2_1 : Ref sig .tc := ⟨.vmem, 51, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc1_sem0_0 : DmaSem sig := 9
abbrev cc1_sem0_1 : DmaSem sig := 10
abbrev cc1_sem1_0 : DmaSem sig := 11
abbrev cc1_sem2_0 : DmaSem sig := 12
abbrev cc1_sem2_1 : DmaSem sig := 13
abbrev cc2_sem0_0 : DmaSem sig := 14
abbrev cc2_sem0_1 : DmaSem sig := 15
abbrev cc2_sem1_0 : DmaSem sig := 16
abbrev cc2_sem1_1 : DmaSem sig := 17
abbrev cc2_sem2_0 : DmaSem sig := 18
abbrev cc2_sem2_1 : DmaSem sig := 19
abbrev cc3_sem0_0 : DmaSem sig := 20
abbrev cc3_sem0_1 : DmaSem sig := 21
abbrev cc3_sem1_0 : DmaSem sig := 22
abbrev cc3_sem2_0 : DmaSem sig := 23
abbrev cc3_sem2_1 : DmaSem sig := 24
abbrev cc4_sem0_0 : DmaSem sig := 25
abbrev cc4_sem0_1 : DmaSem sig := 26
abbrev cc4_sem1_0 : DmaSem sig := 27
abbrev cc4_sem1_1 : DmaSem sig := 28
abbrev cc4_sem2_0 : DmaSem sig := 29
abbrev cc4_sem2_1 : DmaSem sig := 30
abbrev cc5_sem0_0 : DmaSem sig := 31
abbrev cc5_sem0_1 : DmaSem sig := 32
abbrev cc5_sem1_0 : DmaSem sig := 33
abbrev cc5_sem1_1 : DmaSem sig := 34
abbrev cc5_sem2_0 : DmaSem sig := 35
abbrev cc5_sem2_1 : DmaSem sig := 36
abbrev cc5_sem3_0 : DmaSem sig := 37
abbrev cc5_sem3_1 : DmaSem sig := 38
abbrev cc5_sem4_0 : DmaSem sig := 39
abbrev cc5_sem4_1 : DmaSem sig := 40
abbrev cc6_sem0_0 : DmaSem sig := 41
abbrev cc6_sem0_1 : DmaSem sig := 42
abbrev cc6_sem1_0 : DmaSem sig := 43
abbrev cc6_sem1_1 : DmaSem sig := 44
abbrev cc6_sem2_0 : DmaSem sig := 45
abbrev cc6_sem2_1 : DmaSem sig := 46
abbrev cc7_sem0_0 : DmaSem sig := 47
abbrev cc7_sem0_1 : DmaSem sig := 48
abbrev cc7_sem1_0 : DmaSem sig := 49
abbrev cc7_sem2_0 : DmaSem sig := 50
abbrev cc7_sem2_1 : DmaSem sig := 51

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S768x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S768x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S768x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S768x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![11], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S768x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1024x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S768x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![11], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S768x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S768x1024 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S768x1024 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![11], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S768x1024 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1024x1024 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S768x1024 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨2, ![2, 11], ![false, false]⟩

def cc4_transform_0 (i : grid4.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc4_transform_1 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc4_transform_2 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage4_0 : Fin 2 → Memref sig .tc .vmem S768x512 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, true]

abbrev stage4_1 : Fin 2 → Memref sig .tc .vmem S768x1024 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![false, true]

abbrev stage4_2 : Fin 2 → Memref sig .tc .vmem S512x1024 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, false]

abbrev grid5 : Pipeline.Grid := ⟨1, ![11], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_4 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S768x1024 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S768x1024 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S768x1024 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 2 → Memref sig .tc .vmem S768x1024 .bf16 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev stage5_4 : Fin 2 → Memref sig .tc .vmem S768x1024 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

abbrev grid6 : Pipeline.Grid := ⟨2, ![2, 11], ![false, false]⟩

def cc6_transform_0 (i : grid6.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc6_transform_1 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc6_transform_2 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage6_0 : Fin 2 → Memref sig .tc .vmem S768x512 .bf16 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true, true]

abbrev stage6_1 : Fin 2 → Memref sig .tc .vmem S768x1024 .bf16 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![false, true]

abbrev stage6_2 : Fin 2 → Memref sig .tc .vmem S512x1024 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true, false]

abbrev grid7 : Pipeline.Grid := ⟨1, ![11], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S768x1024 .bf16 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S1024x1024 .bf16 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 2 → Memref sig .tc .vmem S768x1024 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]
-- ==== Reference4Ideal.lean ====
abbrev S8448x1024 : Shape := ⟨2, ![8448, 1024]⟩
abbrev S1024 : Shape := ⟨1, ![1024]⟩
abbrev S1024x1024 : Shape := ⟨2, ![1024, 1024]⟩
abbrev S1x1024 : Shape := ⟨2, ![1, 1024]⟩
abbrev S_ : Shape := ⟨0, ![]⟩

abbrev nBuf : Space → Nat
  | .hbm => 44
  | .vmem => 0
  | .smem => 0
  | _ => 0

abbrev bufTy : (tb : Table) → Fin (tcTables nBuf tb) → BufTy
  | .hbm, ⟨0, _⟩ => ⟨S8448x1024, .f32⟩
  | .hbm, ⟨1, _⟩ => ⟨S8448x1024, .f32⟩
  | .hbm, ⟨2, _⟩ => ⟨S1024, .f32⟩
  | .hbm, ⟨3, _⟩ => ⟨S1024x1024, .f32⟩
  | .hbm, ⟨4, _⟩ => ⟨S1024x1024, .f32⟩
  | .hbm, ⟨5, _⟩ => ⟨S8448x1024, .f32⟩
  | .hbm, ⟨6, _⟩ => ⟨S1x1024, .f32⟩
  | .hbm, ⟨7, _⟩ => ⟨S8448x1024, .f32⟩
  | .hbm, ⟨8, _⟩ => ⟨S8448x1024, .f32⟩
  | .hbm, ⟨9, _⟩ => ⟨S8448x1024, .f32⟩
  | .hbm, ⟨10, _⟩ => ⟨S_, .f32⟩
  | .hbm, ⟨11, _⟩ => ⟨S8448x1024, .f32⟩
  | .hbm, ⟨12, _⟩ => ⟨S8448x1024, .f32⟩
  | .hbm, ⟨13, _⟩ => ⟨S8448x1024, .f32⟩
  | .hbm, ⟨14, _⟩ => ⟨S_, .f32⟩
  | .hbm, ⟨15, _⟩ => ⟨S8448x1024, .f32⟩
  | .hbm, ⟨16, _⟩ => ⟨S8448x1024, .f32⟩
  | .hbm, ⟨17, _⟩ => ⟨S8448x1024, .f32⟩
  | .hbm, ⟨18, _⟩ => ⟨S8448x1024, .f32⟩
  | .hbm, ⟨19, _⟩ => ⟨S8448x1024, .f32⟩
  | .hbm, ⟨20, _⟩ => ⟨S8448x1024, .f32⟩
  | .hbm, ⟨21, _⟩ => ⟨S8448x1024, .f32⟩
  | .hbm, ⟨22, _⟩ => ⟨S_, .f32⟩
  | .hbm, ⟨23, _⟩ => ⟨S8448x1024, .f32⟩
  | .hbm, ⟨24, _⟩ => ⟨S8448x1024, .f32⟩
  | .hbm, ⟨25, _⟩ => ⟨S_, .f32⟩
  | .hbm, ⟨26, _⟩ => ⟨S8448x1024, .f32⟩
  | .hbm, ⟨27, _⟩ => ⟨S8448x1024, .f32⟩
  | .hbm, ⟨28, _⟩ => ⟨S_, .f32⟩
  | .hbm, ⟨29, _⟩ => ⟨S8448x1024, .f32⟩
  | .hbm, ⟨30, _⟩ => ⟨S8448x1024, .f32⟩
  | .hbm, ⟨31, _⟩ => ⟨S8448x1024, .f32⟩
  | .hbm, ⟨32, _⟩ => ⟨S8448x1024, .f32⟩
  | .hbm, ⟨33, _⟩ => ⟨S8448x1024, .f32⟩
  | .hbm, ⟨34, _⟩ => ⟨S1024x1024, .f32⟩
  | .hbm, ⟨35, _⟩ => ⟨S1024x1024, .f32⟩
  | .hbm, ⟨36, _⟩ => ⟨S8448x1024, .f32⟩
  | .hbm, ⟨37, _⟩ => ⟨S8448x1024, .f32⟩
  | .hbm, ⟨38, _⟩ => ⟨S8448x1024, .f32⟩
  | .hbm, ⟨39, _⟩ => ⟨S8448x1024, .f32⟩
  | .hbm, ⟨40, _⟩ => ⟨S1024x1024, .f32⟩
  | .hbm, ⟨41, _⟩ => ⟨S1024x1024, .f32⟩
  | .hbm, ⟨42, _⟩ => ⟨S8448x1024, .f32⟩
  | .hbm, ⟨43, _⟩ => ⟨S8448x1024, .bf16⟩
  | _, _ => ⟨S8448x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_1 : Ref sig .tc := ⟨.hbm, 22, rfl⟩
abbrev main_v14 : Ref sig .tc := ⟨.hbm, 23, rfl⟩
abbrev main_v15 : Ref sig .tc := ⟨.hbm, 24, rfl⟩
abbrev main_cst_2 : Ref sig .tc := ⟨.hbm, 25, rfl⟩
abbrev main_v16 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩

abbrev nD : Nat := 1
abbrev τ : Topo := Topo.v7x

variable {F : FTy → Type} [FloatOps F]
-- ==== Kernel5.lean ====
abbrev S8448x4x4x64 : Shape := ⟨4, ![8448, 4, 4, 64]⟩
abbrev S8448x4x64 : Shape := ⟨3, ![8448, 4, 64]⟩
abbrev S_ : Shape := ⟨0, ![]⟩
abbrev S8448x16x64 : Shape := ⟨3, ![8448, 16, 64]⟩
abbrev S16x8448x64 : Shape := ⟨3, ![16, 8448, 64]⟩
abbrev S4x8448x64 : Shape := ⟨3, ![4, 8448, 64]⟩
abbrev S4x8448x1 : Shape := ⟨3, ![4, 8448, 1]⟩
abbrev S4x8448x63 : Shape := ⟨3, ![4, 8448, 63]⟩
abbrev S4x8448x128 : Shape := ⟨3, ![4, 8448, 128]⟩
abbrev S8448x1024 : Shape := ⟨2, ![8448, 1024]⟩
abbrev S8x8448x2 : Shape := ⟨3, ![8, 8448, 2]⟩
abbrev S2x768x64 : Shape := ⟨3, ![2, 768, 64]⟩
abbrev S1x8448x64 : Shape := ⟨3, ![1, 8448, 64]⟩
abbrev S1x8448x128 : Shape := ⟨3, ![1, 8448, 128]⟩
abbrev S768x128 : Shape := ⟨2, ![768, 128]⟩
abbrev S1x768x2 : Shape := ⟨3, ![1, 768, 2]⟩
abbrev S768x1 : Shape := ⟨2, ![768, 1]⟩
abbrev S1x256x64 : Shape := ⟨3, ![1, 256, 64]⟩
abbrev S256x64 : Shape := ⟨2, ![256, 64]⟩
abbrev S1x768x64 : Shape := ⟨3, ![1, 768, 64]⟩
abbrev S768x64 : Shape := ⟨2, ![768, 64]⟩
abbrev S768x256 : Shape := ⟨2, ![768, 256]⟩
abbrev S1x256 : Shape := ⟨2, ![1, 256]⟩
abbrev S768 : Shape := ⟨1, ![768]⟩
abbrev S1x256x128 : Shape := ⟨3, ![1, 256, 128]⟩
abbrev S256x128 : Shape := ⟨2, ![256, 128]⟩
abbrev S768x2 : Shape := ⟨2, ![768, 2]⟩

abbrev nBuf : Space → Nat
  | .hbm => 25
  | .vmem => 12
  | .smem => 0
  | _ => 0

abbrev bufTy : (tb : Table) → Fin (tcTables nBuf tb) → BufTy
  | .hbm, ⟨0, _⟩ => ⟨S8448x4x4x64, .f32⟩
  | .hbm, ⟨1, _⟩ => ⟨S8448x4x64, .f32⟩
  | .hbm, ⟨2, _⟩ => ⟨S8448x4x64, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S8448x4x4x64, .f32⟩
  | .hbm, ⟨9, _⟩ => ⟨S8448x4x4x64, .f32⟩
  | .hbm, ⟨10, _⟩ => ⟨S8448x4x4x64, .bf16⟩
  | .hbm, ⟨11, _⟩ => ⟨S8448x16x64, .bf16⟩
  | .hbm, ⟨12, _⟩ => ⟨S16x8448x64, .bf16⟩
  | .hbm, ⟨13, _⟩ => ⟨S8448x4x64, .bf16⟩
  | .hbm, ⟨14, _⟩ => ⟨S4x8448x64, .bf16⟩
  | .hbm, ⟨15, _⟩ => ⟨S8448x4x64, .bf16⟩
  | .hbm, ⟨16, _⟩ => ⟨S4x8448x64, .bf16⟩
  | .hbm, ⟨17, _⟩ => ⟨S_, .bf16⟩
  | .hbm, ⟨18, _⟩ => ⟨S4x8448x1, .bf16⟩
  | .hbm, ⟨19, _⟩ => ⟨S_, .bf16⟩
  | .hbm, ⟨20, _⟩ => ⟨S4x8448x63, .bf16⟩
  | .hbm, ⟨21, _⟩ => ⟨S4x8448x128, .bf16⟩
  | .hbm, ⟨22, _⟩ => ⟨S8448x1024, .f32⟩
  | .hbm, ⟨23, _⟩ => ⟨S8448x1024, .bf16⟩
  | .hbm, ⟨24, _⟩ => ⟨S8x8448x2, .f32⟩
  | .local _ .vmem, ⟨0, _⟩ => ⟨S2x768x64, .bf16⟩
  | .local _ .vmem, ⟨1, _⟩ => ⟨S2x768x64, .bf16⟩
  | .local _ .vmem, ⟨2, _⟩ => ⟨S1x8448x64, .bf16⟩
  | .local _ .vmem, ⟨3, _⟩ => ⟨S1x8448x64, .bf16⟩
  | .local _ .vmem, ⟨4, _⟩ => ⟨S1x8448x128, .bf16⟩
  | .local _ .vmem, ⟨5, _⟩ => ⟨S1x8448x128, .bf16⟩
  | .local _ .vmem, ⟨6, _⟩ => ⟨S768x128, .f32⟩
  | .local _ .vmem, ⟨7, _⟩ => ⟨S768x128, .f32⟩
  | .local _ .vmem, ⟨8, _⟩ => ⟨S768x128, .bf16⟩
  | .local _ .vmem, ⟨9, _⟩ => ⟨S768x128, .bf16⟩
  | .local _ .vmem, ⟨10, _⟩ => ⟨S1x768x2, .f32⟩
  | .local _ .vmem, ⟨11, _⟩ => ⟨S1x768x2, .f32⟩
  | _, _ => ⟨S8448x4x4x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_1 : Ref sig .tc := ⟨.hbm, 17, rfl⟩
abbrev main_v12 : Ref sig .tc := ⟨.hbm, 18, rfl⟩
abbrev main_cst_2 : Ref sig .tc := ⟨.hbm, 19, rfl⟩
abbrev main_v13 : Ref sig .tc := ⟨.hbm, 20, rfl⟩
abbrev main_v14 : Ref sig .tc := ⟨.hbm, 21, rfl⟩
abbrev main_v15_0 : Ref sig .tc := ⟨.hbm, 22, rfl⟩
abbrev main_v15_1 : Ref sig .tc := ⟨.hbm, 23, rfl⟩
abbrev main_v15_2 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![8, 11], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S2x768x64 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8448x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x8448x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S768x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S768x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x768x2 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Kernel5Ideal.lean ====
variable {F : FTy → Type} [FloatOps F] [Named F]
def κ : String → Option EReal := fun
  | "mask" => some ⊥
  | _ => none
-- ==== Reference5Ideal.lean ====
abbrev S8448x4x4x64 : Shape := ⟨4, ![8448, 4, 4, 64]⟩
abbrev S8448x4x64 : Shape := ⟨3, ![8448, 4, 64]⟩
abbrev S8208x4x64 : Shape := ⟨3, ![8208, 4, 64]⟩
abbrev S4x8208x8448x4 : Shape := ⟨4, ![4, 8208, 8448, 4]⟩
abbrev S4x4x8448x8208 : Shape := ⟨4, ![4, 4, 8448, 8208]⟩
abbrev S_ : Shape := ⟨0, ![]⟩
abbrev S4x4x8448 : Shape := ⟨3, ![4, 4, 8448]⟩
abbrev S4x4x8448x1 : Shape := ⟨4, ![4, 4, 8448, 1]⟩
abbrev S4x64x4x8448 : Shape := ⟨4, ![4, 64, 4, 8448]⟩
abbrev S8448x1024 : Shape := ⟨2, ![8448, 1024]⟩
abbrev S8x2x8448 : Shape := ⟨3, ![8, 2, 8448]⟩
abbrev S8x8448x2 : Shape := ⟨3, ![8, 8448, 2]⟩

abbrev nBuf : Space → Nat
  | .hbm => 46
  | .vmem => 0
  | .smem => 0
  | _ => 0

abbrev bufTy : (tb : Table) → Fin (tcTables nBuf tb) → BufTy
  | .hbm, ⟨0, _⟩ => ⟨S8448x4x4x64, .f32⟩
  | .hbm, ⟨1, _⟩ => ⟨S8448x4x64, .f32⟩
  | .hbm, ⟨2, _⟩ => ⟨S8448x4x64, .f32⟩
  | .hbm, ⟨3, _⟩ => ⟨S8208x4x64, .f32⟩
  | .hbm, ⟨4, _⟩ => ⟨S4x8208x8448x4, .f32⟩
  | .hbm, ⟨5, _⟩ => ⟨S4x4x8448x8208, .f32⟩
  | .hbm, ⟨6, _⟩ => ⟨S_, .f32⟩
  | .hbm, ⟨7, _⟩ => ⟨S4x4x8448x8208, .f32⟩
  | .hbm, ⟨8, _⟩ => ⟨S4x4x8448x8208, .f32⟩
  | .hbm, ⟨9, _⟩ => ⟨S_, .f32⟩
  | .hbm, ⟨10, _⟩ => ⟨S4x4x8448, .f32⟩
  | .hbm, ⟨11, _⟩ => ⟨S4x4x8448x1, .f32⟩
  | .hbm, ⟨12, _⟩ => ⟨S4x4x8448x8208, .f32⟩
  | .hbm, ⟨13, _⟩ => ⟨S4x4x8448x8208, .f32⟩
  | .hbm, ⟨14, _⟩ => ⟨S4x4x8448x8208, .f32⟩
  | .hbm, ⟨15, _⟩ => ⟨S_, .f32⟩
  | .hbm, ⟨16, _⟩ => ⟨S4x4x8448, .f32⟩
  | .hbm, ⟨17, _⟩ => ⟨S4x4x8448x1, .f32⟩
  | .hbm, ⟨18, _⟩ => ⟨S4x4x8448x1, .f32⟩
  | .hbm, ⟨19, _⟩ => ⟨S4x4x8448x1, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S4x4x8448x1, .f32⟩
  | .hbm, ⟨24, _⟩ => ⟨S4x4x8448x1, .f32⟩
  | .hbm, ⟨25, _⟩ => ⟨S_, .f32⟩
  | .hbm, ⟨26, _⟩ => ⟨S4x4x8448, .f32⟩
  | .hbm, ⟨27, _⟩ => ⟨S_, .f32⟩
  | .hbm, ⟨28, _⟩ => ⟨S4x4x8448, .f32⟩
  | .hbm, ⟨29, _⟩ => ⟨S4x4x8448, .f32⟩
  | .hbm, ⟨30, _⟩ => ⟨S4x4x8448x1, .f32⟩
  | .hbm, ⟨31, _⟩ => ⟨S4x4x8448x8208, .f32⟩
  | .hbm, ⟨32, _⟩ => ⟨S4x4x8448x8208, .f32⟩
  | .hbm, ⟨33, _⟩ => ⟨S4x4x8448x8208, .f32⟩
  | .hbm, ⟨34, _⟩ => ⟨S_, .f32⟩
  | .hbm, ⟨35, _⟩ => ⟨S4x4x8448, .f32⟩
  | .hbm, ⟨36, _⟩ => ⟨S4x4x8448x1, .f32⟩
  | .hbm, ⟨37, _⟩ => ⟨S4x4x8448x8208, .f32⟩
  | .hbm, ⟨38, _⟩ => ⟨S4x4x8448x8208, .f32⟩
  | .hbm, ⟨39, _⟩ => ⟨S8208x4x64, .f32⟩
  | .hbm, ⟨40, _⟩ => ⟨S4x64x4x8448, .f32⟩
  | .hbm, ⟨41, _⟩ => ⟨S8448x4x4x64, .f32⟩
  | .hbm, ⟨42, _⟩ => ⟨S8448x1024, .f32⟩
  | .hbm, ⟨43, _⟩ => ⟨S8448x1024, .bf16⟩
  | .hbm, ⟨44, _⟩ => ⟨S8x2x8448, .f32⟩
  | .hbm, ⟨45, _⟩ => ⟨S8x8448x2, .f32⟩
  | _, _ => ⟨S8448x4x4x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_2 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_cst_4 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst_5 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩

abbrev nD : Nat := 1
abbrev τ : Topo := Topo.v7x

variable {F : FTy → Type} [FloatOps F]
-- ==== Proof.SameText.lean ====
/-
  The kernel and its idealized program have the same text, but for the mask, which the idealized program names. Where
  the name is read as the word that the kernel has there, the two programs are equal.
-/
module

public import proofs.«01_k».proof.Kernel
public import proofs.«01_k».proof.KernelIdeal
public import proofs.«01_k».proof.Proof.Gen.Kernel
public import proofs.«01_k».proof.Proof.Gen.KernelIdeal

@[expose] public section

noncomputable section

namespace Cert.SameText

open Idealize.ShloMosaic Idealize.SL.Sem

variable {F : FTy → Type} [FloatOps F]

/-- The reading of a named constant as the word that the kernel has there. -/
@[instance_reducible] def literal : Named F where
  named _ _ {φ} w := FloatOps.ofBits (F := F) φ w

attribute [local instance] literal

set_option maxRecDepth 100000 in
set_option maxHeartbeats 0 in
/-- The two programs have the same bodies. -/
theorem table_same : Cert.Kernel.defs₀ (F := F) = Cert.KernelIdeal.defs₀ (F := F) := by
  unfold Cert.Kernel.defs₀ Cert.KernelIdeal.defs₀
  refine congrArg Defs.onTc ?_
  funext l a
  match l, a with
  | ⟨0, _⟩, (t, s) => exact rfl

set_option maxRecDepth 100000 in
set_option maxHeartbeats 0 in
/-- So they have the same tables. -/
theorem defs_same : Cert.Kernel.defs (F := F) = Cert.KernelIdeal.defs (F := F) :=
  congrArg (Idealize.ShloMosaic.Pipeline.defs (Cert.KernelIdeal.pcfgs (F := F))) table_same

set_option maxRecDepth 100000 in
set_option maxHeartbeats 0 in
/-- And the same main program. -/
theorem main_same : Cert.Kernel.main (F := F) = Cert.KernelIdeal.main (F := F) := rfl

end Cert.SameText
-- ==== Proof.Steps.lean ====
/-
  The arithmetic of the kernel's body, tile by tile, and the body as a loop.

  The body handles, for one block of 768 keys, the 33 tiles of 256 queries of two heads. Each tile does the same
  computation at another place. Here the computation of a tile is written once, over variables, the loop over the
  tiles as a recursion; SameBody.lean says that the printed body is that loop.
-/
module

public import proofs.«01_k».proof.Proof.Gen.KernelIdeal.Skeleton

@[expose] public section

noncomputable section

namespace Cert.KernelIdeal.Flash

open Idealize.ShloMosaic Idealize.SL.Sem Cert.KernelIdeal.Gen

variable {F : FTy → Type} [FloatOps F] [Named F]

/-! ## One tile -/

/-- The scores of a tile (keys × queries): every key of the block times every query of the tile. -/
def scores (kb : FVec F S768x64 .bf16) (q : Vec F S1x256x64 .bf16) : FVec F S768x256 .f32 :=
  matmul dot_S768x64_S256x64_S768x256_1_1_0_0_n_n none kb (shapeCast S256x64 q shapeCasts_S1x256x64_S256x64)
    (constant S768x256 .f32 0x00000000#32)

/-- The softmax weights of a tile: two to the score less the query's log-sum-exp, the padding keys masked. -/
def weights (valid : IVec S768x1 1) (st : FVec F S768x256 .f32) (l : Vec F S1x1x256 .f32) : FVec F S768x256 .f32 :=
  exp2 (subf
    (select (broadcastTo S768x256 (shapeCast S768x1 valid shapeCasts_S768x1_S768x1) broadcasts_S768x1_S768x256) st
      (broadcast S768x256 (Named.named κ "mask" 0xF149F2CA#32)))
    (broadcastTo S768x256 (shapeCast S1x256 l shapeCasts_S1x1x256_S1x256) broadcasts_S1x256_S768x256))

/-- The gradient of a tile's scores: the weight times the gradient of the weight less the query's `delta`. -/
def scoreGrad (pt dpt : FVec F S768x256 .f32) (e : Vec F S1x1x256 .f32) : FVec F S768x256 .bf16 :=
  truncf .bf16 (mulf pt (subf dpt
    (broadcastTo S768x256 (shapeCast S1x256 e shapeCasts_S1x1x256_S1x256) broadcasts_S1x256_S768x256))) bitsLt_bf16_f32

/-- A sum over the queries of a tile, added to what the earlier tiles gave: for the gradient of the values `w` are
    the weights and `x` the output's gradient, for that of the keys `w` is the scores' gradient and `x` the queries. -/
def addRows (acc : FVec F S768x64 .f32) (w : FVec F S768x256 .bf16) (x : Vec F S1x256x64 .bf16) : FVec F S768x64 .f32 :=
  addf acc (matmul dot_S768x256_S256x64_S768x64_1_0_0_1_n_n none w (shapeCast S256x64 x shapeCasts_S1x256x64_S256x64)
    (constant S768x64 .f32 0x00000000#32))

/-- The tile's contribution to the gradient of the queries, added to what the array holds there. -/
def addCols (ktb : FVec F S64x768 .bf16) (ds : FVec F S768x256 .bf16) (old : Vec F S1x64x256 .f32) : FVec F S1x64x256 .f32 :=
  shapeCast S1x64x256 (addf (shapeCast S64x256 old shapeCasts_S1x64x256_S64x256)
    (matmul dot_S64x768_S768x256_S64x256_1_0_0_1_n_n none ktb ds (constant S64x256 .f32 0x00000000#32)))
    shapeCasts_S64x256_S1x64x256

/-! ## Where a tile lies -/

/-- Rows `256 c` to `256 c + 255` of head `h` of the queries or of the output's gradient. -/
def rowRect (h : Fin 2) (c : ℕ) (hc : c ≤ 32) : Rect S2x8448x64 :=
  Rect.unit (s := S2x8448x64) ![h.val, 256 * c, 0] S1x256x64.size (by
    intro a
    have := h.isLt
    fin_cases a <;> simp [Shape.size] <;> omega)

/-- The same rows of head `h` of the log-sum-exps or of `delta`. -/
def lseRect (h : Fin 2) (c : ℕ) (hc : c ≤ 32) : Rect S2x1x8448 :=
  Rect.unit (s := S2x1x8448) ![h.val, 0, 256 * c] S1x1x256.size (by
    intro a
    have := h.isLt
    fin_cases a <;> simp [Shape.size] <;> omega)

/-- The offset of a tile in the gradient of the queries, as the kernel computes it: row `2 g + h` of four heads. -/
def colOff (i : grid0.Coords) (h : Fin 2) (c : ℕ) : Fin 3 → ℕ :=
  ![(Scalar.indexCast (Scalar.addi (Scalar.muli 2#32 (BitVec.ofNat 32 (i 2).val)) (BitVec.ofNat 32 h.val))).toNat, 0, 256 * c]

theorem colOff_eq (i : grid0.Coords) (h : Fin 2) (c : ℕ) : colOff i h c = ![2 * (i 2).val + h.val, 0, 256 * c] := by
  have h2 : (i 2).val < 2 := (i 2).isLt
  have hh := h.isLt
  unfold colOff
  congr 1
  rcases h with ⟨h, _⟩
  generalize (i 2).val = g at *
  interval_cases g <;> interval_cases h <;> rfl

theorem colOff_inb (i : grid0.Coords) (h : Fin 2) (c : ℕ) (hc : c ≤ 32) :
    ∀ a, colOff i h c a + S1x64x256.size a ≤ S4x64x8448.size a := by
  have h2 : (i 2).val < 2 := (i 2).isLt
  have hh := h.isLt
  rw [colOff_eq]
  intro a
  fin_cases a <;> simp [Shape.size] <;> omega

/-- Columns `256 c` to `256 c + 255` of head `2 g + h` of the gradient of the queries. -/
def colRect (i : grid0.Coords) (h : Fin 2) (c : ℕ) (hc : c ≤ 32) : Rect S4x64x8448 :=
  Rect.unit (s := S4x64x8448) (colOff i h c) S1x64x256.size (colOff_inb i h c hc)

/-! ## The loop -/

section Loop

variable (F) in
/-- A program of the kernel's body. -/
abbrev Body (α : Type) := Prog (TpuEff nD τ sig (Elt F) Λ₀ .tc) α

variable (i : grid0.Coords) (arg3 arg4 : Memref sig .tc .vmem S2x8448x64 .bf16) (arg5 arg6 : Memref sig .tc .vmem S2x1x8448 .f32)
  (arg10 : Memref sig .tc .vmem S4x64x8448 .f32) (arg11 arg12 : Memref sig .tc .vmem S1x768x64 .f32)

/-- The tile's rows of the queries, loaded. -/
def loadRows (h : Fin 2) (c : ℕ) (hc : c ≤ 32) : Body F (Vec F S1x256x64 .bf16) :=
  Prog.lift (.load arg3 (rowRect h c hc).toLoadRect (View.loadsAt_vmem h_S1x256x64))

/-- The tile's log-sum-exps, loaded. -/
def loadLse (h : Fin 2) (c : ℕ) (hc : c ≤ 32) : Body F (Vec F S1x1x256 .f32) :=
  Prog.lift (.load arg5 (lseRect h c hc).toLoadRect (View.loadsAt_vmem h_S1x1x256))

/-- The tile's place in the gradient of the queries, loaded. -/
def loadCols (h : Fin 2) (c : ℕ) (hc : c ≤ 32) : Body F (Vec F S1x64x256 .f32) :=
  Prog.lift (.load arg10 (colRect i h c hc).toLoadRect (View.loadsAt_vmem h_S1x64x256))

/-- The tile's place in the gradient of the queries, stored. -/
def storeCols (h : Fin 2) (c : ℕ) (hc : c ≤ 32) (x : FVec F S1x64x256 .f32) : Body F PUnit :=
  Prog.lift (.store arg10 (colRect i h c hc) x Finset.univ (View.stores_vmem_bits_univ h_S1x64x256 rfl) (.inl rfl))

/-- One tile: the sums of the gradients of the values and of the keys go on, the gradient of the queries is updated. -/
def tile (ktb : FVec F S64x768 .bf16) (valid : IVec S768x1 1) (h : Fin 2) (c : ℕ) (hc : c ≤ 32)
    (st dpt : FVec F S768x256 .f32) (dk dv : FVec F S768x64 .f32) : Body F (FVec F S768x64 .f32 × FVec F S768x64 .f32) := do
  let l ← loadLse arg5 h c hc
  let d ← loadRows arg4 h c hc
  let e ← loadLse arg6 h c hc
  let x ← loadRows arg3 h c hc
  let o ← loadCols i arg10 h c hc
  let _ ← loadCols i arg10 h c hc
  storeCols i arg10 h c hc (addCols ktb (scoreGrad (weights valid st l) dpt e) o)
  pure (addRows dk (scoreGrad (weights valid st l) dpt e) x, addRows dv (truncf .bf16 (weights valid st l) bitsLt_bf16_f32) d)

/-- The two products of a tile that the weights need: the scores, and the gradient of the weights. -/
def products (kb vb : FVec F S768x64 .bf16) (h : Fin 2) (c : ℕ) (hc : c ≤ 32) :
    Body F (FVec F S768x256 .f32 × FVec F S768x256 .f32) := do
  let q ← loadRows arg3 h c hc
  let d ← loadRows arg4 h c hc
  pure (scores kb q, scores vb d)

/-- A block of an array, loaded whole. -/
def loadBlock (m : Memref sig .tc .vmem S1x768x64 .f32) : Body F (Vec F S1x768x64 .f32) :=
  Prog.lift (.load m (Rect.unit (s := S1x768x64) ![0, 0, 0] S1x768x64.size inb_S1x768x64_S1x768x64_0_0_0).toLoadRect
    (View.loadsAt_vmem h_S1x768x64))

/-- A block of an array, stored whole. -/
def storeBlock (m : Memref sig .tc .vmem S1x768x64 .f32) (x : FVec F S1x768x64 .f32) : Body F PUnit :=
  Prog.lift (.store m (Rect.unit (s := S1x768x64) ![0, 0, 0] S1x768x64.size inb_S1x768x64_S1x768x64_0_0_0) x Finset.univ
    (View.stores_vmem_bits_univ h_S1x768x64 rfl) (.inl rfl))

/-- What is stored of a gradient of the keys or of the values at the first pair of heads. -/
def first (x : FVec F S768x64 .f32) : FVec F S1x768x64 .f32 := shapeCast S1x768x64 x shapeCasts_S768x64_S1x768x64

/-- What is stored of it at a later pair of heads: the block's old contents are added. -/
def later (old : Vec F S1x768x64 .f32) (x : FVec F S768x64 .f32) : FVec F S1x768x64 .f32 :=
  shapeCast S1x768x64 (addf (shapeCast S768x64 old shapeCasts_S1x768x64_S768x64) x) shapeCasts_S768x64_S1x768x64

/-- The end of the body: the block's gradients of the keys and of the values are stored, or added to the old ones. -/
def finish (dk dv : FVec F S768x64 .f32) : Body F PUnit := do
  if k0_cond2 i = 1#1 then do
    let _ ← loadBlock arg11
    storeBlock arg11 (first dk)
    let _ ← loadBlock arg12
    storeBlock arg12 (first dv)
    pure ⟨⟩
  else do
    pure ⟨⟩
  if k0_cond3 i = 1#1 then do
    let o ← loadBlock arg11
    let _ ← loadBlock arg11
    storeBlock arg11 (later o dk)
    let o ← loadBlock arg12
    let _ ← loadBlock arg12
    storeBlock arg12 (later o dv)
    pure ⟨⟩
  else do
    pure ⟨⟩
  pure ⟨⟩

/-- The loop over the tiles, `r` tiles of each head after tile `c` remaining: the products of the next tile of a head
    are made before the tile's own computation. -/
def loop (kb vb : FVec F S768x64 .bf16) (ktb : FVec F S64x768 .bf16) (valid : IVec S768x1 1) :
    (r c : ℕ) → c + r = 32 → (st0 dpt0 st1 dpt1 : FVec F S768x256 .f32) → (dk dv : FVec F S768x64 .f32) → Body F PUnit
  | 0, c, h, st0, dpt0, st1, dpt1, dk, dv => do
    let s ← tile i arg3 arg4 arg5 arg6 arg10 ktb valid 0 c (by omega) st0 dpt0 dk dv
    let s ← tile i arg3 arg4 arg5 arg6 arg10 ktb valid 1 c (by omega) st1 dpt1 s.1 s.2
    finish i arg11 arg12 s.1 s.2
    pure ⟨⟩
  | r + 1, c, h, st0, dpt0, st1, dpt1, dk, dv => do
    let p0 ← products arg3 arg4 kb vb 0 (c + 1) (by omega)
    let s ← tile i arg3 arg4 arg5 arg6 arg10 ktb valid 0 c (by omega) st0 dpt0 dk dv
    let p1 ← products arg3 arg4 kb vb 1 (c + 1) (by omega)
    let s ← tile i arg3 arg4 arg5 arg6 arg10 ktb valid 1 c (by omega) st1 dpt1 s.1 s.2
    loop kb vb ktb valid r (c + 1) (by omega) p0.1 p0.2 p1.1 p1.2 s.1 s.2

end Loop

end Cert.KernelIdeal.Flash
-- ==== Proof.SameBody.lean ====
/-
  The printed body of the kernel is the loop of Steps.lean: the two are the same sequence of loads, stores and
  conditionals at the same values.
-/
module

public import proofs.«01_k».proof.Proof.Steps

@[expose] public section

noncomputable section

namespace Cert.KernelIdeal.Flash

open Idealize.ShloMosaic Idealize.SL.Sem Cert.KernelIdeal.Gen

variable {F : FTy → Type} [FloatOps F] [Named F]

set_option maxRecDepth 100000 in
set_option maxHeartbeats 0 in
/-- The printed body: what comes before the loop, and the loop. -/
theorem body_eq_loop (i : grid0.Coords) (arg3 : Memref sig .tc .vmem S2x8448x64 .bf16) (harg3 : arg3.IsWhole) (arg4 : Memref sig .tc .vmem S2x8448x64 .bf16) (harg4 : arg4.IsWhole) (arg5 : Memref sig .tc .vmem S2x1x8448 .f32) (harg5 : arg5.IsWhole) (arg6 : Memref sig .tc .vmem S2x1x8448 .f32) (harg6 : arg6.IsWhole) (arg7 : Memref sig .tc .vmem S1x768x64 .bf16) (harg7 : arg7.IsWhole) (arg8 : Memref sig .tc .vmem S1x64x768 .bf16) (harg8 : arg8.IsWhole) (arg9 : Memref sig .tc .vmem S1x768x64 .bf16) (harg9 : arg9.IsWhole) (arg10 : Memref sig .tc .vmem S4x64x8448 .f32) (harg10 : arg10.IsWhole) (arg11 : Memref sig .tc .vmem S1x768x64 .f32) (harg11 : arg11.IsWhole) (arg12 : Memref sig .tc .vmem S1x768x64 .f32) (harg12 : arg12.IsWhole) :
    cc0_flash_bwd (F := F) i arg3 harg3 arg4 harg4 arg5 harg5 arg6 harg6 arg7 harg7 arg8 harg8 arg9 harg9 arg10 harg10 arg11 harg11 arg12 harg12
      = k0_part1_skel i arg3 harg3 arg4 harg4 arg5 harg5 arg6 harg6 arg7 harg7 arg8 harg8 arg9 harg9 arg10 harg10 arg11 harg11 arg12 harg12
          >>= fun s => (do
            let d ← loadRows arg4 1 0 (by omega)
            loop i arg3 arg4 arg5 arg6 arg10 arg11 arg12 s.2.1 s.2.2.1 s.2.2.2.1 s.2.2.2.2.1 32 0 rfl
              s.2.2.2.2.2.2.2.1 s.2.2.2.2.2.2.2.2.1 s.2.2.2.2.2.2.2.2.2 (scores s.2.2.1 d) s.2.2.2.2.2.1 s.2.2.2.2.2.2.1) := by
  rw [cc0_flash_bwd_eq_skeleton]
  unfold cc0_flash_bwd_skel
  rw [k0_part81_eq_skeleton]
  unfold k0_part81_skel
  rw [k0_part1_eq_skeleton]
  rw [bind_assoc]
  refine congrArg _ (funext fun s => ?_)
  obtain ⟨arg2, v1, v3, v5, v11, v15, v16, v19, v22, v25⟩ := s
  exact rfl

end Cert.KernelIdeal.Flash
-- ==== Proof.Owns.lean ====
/-
  Loads and stores of a memref that is owned at named contents.

  A load through a rectangle gives the contents at the rectangle's places and changes nothing; a store leaves the
  contents with the rectangle's places replaced (`Rect.overlay`).
-/
module

public import Idealize.ShloMosaic.Lib.Pipeline.Frame
public import Idealize.ShloMosaic.Lib.Writes

@[expose] public section

noncomputable section

namespace Cert.KernelIdeal.Flash

open Idealize.ShloMosaic
open Idealize.SL Idealize.SL.RA Idealize.SL.Sem Idealize.SL.ProofMode
open Idealize.SL.BI (sProp)
open scoped Idealize.SL.BI
open Idealize.SL.BI.BIBase Idealize.SL.BI.Laws

variable {nD : Nat} {τ : Topo} {sig : RefSig} {Val : EltTy → Type}
variable {Ix : Type} [DecidableEq Ix] {Name : Type} [DecidableEq Name] {U : Type} [URA U] {Lvl : Type}
variable [Preorder Lvl] {Λ : Labels} {defs : Defs nD τ sig Val Λ} (𝒱 : Variants) (c : Thread nD τ) (bd : Option 𝒱.V) (E : Set Name)
variable {s : Shape} {e : EltTy} {α : Type} {Q : α → sProp (MT nD τ sig Ix Val Name U Lvl)}

/-- A load: the program goes on at the contents of the rectangle, and the memref is owned as before. -/
theorem load_owns {cs : CoreSpace} {m : Memref sig c.2.kind cs s e} {r : Rect s} {hl : m.view.LoadsAt r}
    {k : (r.shape.Idx → Val e) → Prog (TpuEff nD τ sig Val Λ c.2) α} (q : PosShare TreeShare) (X : s.Idx → Val e) :
    owns c m q X ⊢ iprop((owns c m q X -∗ wp frame (wpE defs 𝒱 c bd) E (k fun x => X (r.emb x)) Q)
      -∗ wp frame (wpE defs 𝒱 c bd) E (.op (.load m r hl) k) Q) := by
  unfold owns
  iintro ⟨%f, %hf, H⟩ K
  subst hf
  iapply (wp_load_rect 𝒱 c bd E (hl := hl) (k := k) (Q := Q) (S := m.view.set) (q := q) (f := f) (m.view.set_slice_subset r)) $$ H
  iintro H
  iapply K
  iexists f
  isplitr
  · ipureintro; rfl
  · iexact H

/-- A store of every element: the memref is owned with the rectangle's places replaced. -/
theorem store_owns {cs : CoreSpace} {m : Memref sig c.2.kind cs s e} {r : Rect s} {w : r.shape.Idx → Val e}
    {hx : (m.access r).Stores Finset.univ} {hm : Finset.univ = Finset.univ ∨ ∀ a, r.stride a = 1}
    {k : PUnit → Prog (TpuEff nD τ sig Val Λ c.2) α} (X : s.Idx → Val e) :
    owns c m fullShare X ⊢ iprop((owns c m fullShare (r.overlay X w) -∗ wp frame (wpE defs 𝒱 c bd) E (k ⟨⟩) Q)
      -∗ wp frame (wpE defs 𝒱 c bd) E (.op (.store m r w Finset.univ hx hm) k) Q) := by
  unfold owns
  iintro ⟨%f, %hf, H⟩ K
  subst hf
  iapply (wp_store 𝒱 c bd E (w := w) (Mk := Finset.univ) (hx := hx) (hm := hm) (k := k) (Q := Q) (S := m.view.set) (f := f) (m.view.set_slice_subset r)) $$ H
  iintro H
  iapply K
  iexists _
  isplitr
  · ipureintro
    funext y
    by_cases hy : y ∈ r.set
    · obtain ⟨x, -, rfl⟩ := Finset.mem_map.mp (r.map_emb_univ ▸ hy)
      rw [Rect.overlay_emb]
      exact m.view.read_writes_cons_emb f r w [] x
    · rw [Rect.overlay_of_not_mem r _ _ hy]
      exact m.view.read_writes_cons_miss f ⟨r, w⟩ [] y hy
  · iexact H

end Cert.KernelIdeal.Flash
-- ==== Proof.LoopRun.lean ====
/-
  What the loop over the tiles computes: `Acc` is its state (the sums for the gradients of the keys and of the values,
  and the array of the gradient of the queries), `upTo n` the state after the first `n` tiles of both heads, and
  `loop_run` the statement that the loop goes from one to the last.
-/
module

public import proofs.«01_k».proof.Proof.Steps
public import proofs.«01_k».proof.Proof.Owns

@[expose] public section

noncomputable section

namespace Cert.KernelIdeal.Flash

open Idealize.ShloMosaic Idealize.ShloMosaic.TcCoe Cert.KernelIdeal.Gen
open Idealize.SL Idealize.SL.RA Idealize.SL.Sem Idealize.SL.ProofMode
open Idealize.SL.BI (sProp)
open scoped Idealize.SL.BI
open Idealize.SL.BI.BIBase Idealize.SL.BI.Laws

variable {F : FTy → Type} [FloatOps F] [Named F]

local notation "𝕄" => MT nD τ sig Unit (Elt F) ℕ (UR sig nD τ) ℕ

variable (F) in
/-- What the body reads: the queries, the output's gradient, the log-sum-exps and `delta` of a pair of heads, the
    block of keys (and transposed) and of values, and which of the block's keys are no padding. -/
structure Reads where
  q : Vec F S2x8448x64 .bf16
  ct : Vec F S2x8448x64 .bf16
  lse : Vec F S2x1x8448 .f32
  delta : Vec F S2x1x8448 .f32
  kb : FVec F S768x64 .bf16
  vb : FVec F S768x64 .bf16
  kt : FVec F S64x768 .bf16
  valid : IVec S768x1 1

variable (F) in
/-- The loop's state. -/
structure Acc where
  dk : FVec F S768x64 .f32
  dv : FVec F S768x64 .f32
  dq : Vec F S4x64x8448 .f32

/-- A tile's rows of an array of rows. -/
def rows (X : Vec F S2x8448x64 .bf16) (h : Fin 2) (c : ℕ) (hc : c ≤ 32) : Vec F S1x256x64 .bf16 := fun x => X ((rowRect h c hc).emb x)

/-- A tile's part of an array of one number per query. -/
def part (X : Vec F S2x1x8448 .f32) (h : Fin 2) (c : ℕ) (hc : c ≤ 32) : Vec F S1x1x256 .f32 := fun x => X ((lseRect h c hc).emb x)

variable (i : grid0.Coords) (R : Reads F)

/-- A tile's weights. -/
def tileWeights (h : Fin 2) (c : ℕ) (hc : c ≤ 32) : FVec F S768x256 .f32 :=
  weights R.valid (scores R.kb (rows R.q h c hc)) (part R.lse h c hc)

/-- The gradient of a tile's scores. -/
def tileGrad (h : Fin 2) (c : ℕ) (hc : c ≤ 32) : FVec F S768x256 .bf16 :=
  scoreGrad (tileWeights R h c hc) (scores R.vb (rows R.ct h c hc)) (part R.delta h c hc)

/-- The state after a tile. -/
def tileAcc (h : Fin 2) (c : ℕ) (hc : c ≤ 32) (s : Acc F) : Acc F where
  dk := addRows s.dk (tileGrad R h c hc) (rows R.q h c hc)
  dv := addRows s.dv (truncf .bf16 (tileWeights R h c hc) bitsLt_bf16_f32) (rows R.ct h c hc)
  dq := (colRect i h c hc).overlay s.dq (addCols R.kt (tileGrad R h c hc) fun x => s.dq ((colRect i h c hc).emb x))

/-- The state after the first `n` tiles of both heads. -/
def upTo (s : Acc F) : (n : ℕ) → n ≤ 33 → Acc F
  | 0, _ => s
  | n + 1, h => tileAcc i R 1 n (by omega) (tileAcc i R 0 n (by omega) (upTo s n (by omega)))

/-- The rectangle of a whole block. -/
abbrev blockRect : Rect S1x768x64 := Rect.unit (s := S1x768x64) ![0, 0, 0] S1x768x64.size inb_S1x768x64_S1x768x64_0_0_0

/-- What the end of the body leaves in a block of a gradient of the keys or values: `Y` was there, `x` is the sum. -/
def leaveBlock (Y : Vec F S1x768x64 .f32) (x : FVec F S768x64 .f32) : Vec F S1x768x64 .f32 :=
  let Y' := if k0_cond2 i = 1#1 then blockRect.overlay Y (first x) else Y
  if k0_cond3 i = 1#1 then blockRect.overlay Y' (later (fun y => Y' (blockRect.emb y)) x) else Y'

section Run

variable (c : Dev nD) (arg3 arg4 : Memref sig .tc .vmem S2x8448x64 .bf16) (arg5 arg6 : Memref sig .tc .vmem S2x1x8448 .f32)
  (arg10 : Memref sig .tc .vmem S4x64x8448 .f32) (arg11 arg12 : Memref sig .tc .vmem S1x768x64 .f32)

/-- The arrays that the loop reads and does not change, owned. -/
def readsOwned : sProp 𝕄 :=
  iprop(owns (c : Thread nD τ) arg3 fullShare R.q ∗ owns (c : Thread nD τ) arg4 fullShare R.ct
    ∗ owns (c : Thread nD τ) arg5 fullShare R.lse ∗ owns (c : Thread nD τ) arg6 fullShare R.delta)

variable (E : Set ℕ)

local notation "run" => wp frame (wpE (defs₀ (F := F)) Variants.none (c : Thread nD τ) none) E

/-- A tile runs from a state to `tileAcc` of it. -/
theorem tile_run {α : Type} (Q : α → sProp 𝕄) (h : Fin 2) (n : ℕ) (hn : n ≤ 32) (s : Acc F) (k : FVec F S768x64 .f32 × FVec F S768x64 .f32 → Body F α) :
    iprop(readsOwned R c arg3 arg4 arg5 arg6 ∗ owns (c : Thread nD τ) arg10 fullShare s.dq
      ∗ (iprop(readsOwned R c arg3 arg4 arg5 arg6 ∗ owns (c : Thread nD τ) arg10 fullShare (tileAcc i R h n hn s).dq)
          -∗ run (k ((tileAcc i R h n hn s).dk, (tileAcc i R h n hn s).dv)) Q))
      ⊢ run (tile i arg3 arg4 arg5 arg6 arg10 R.kt R.valid h n hn (scores R.kb (rows R.q h n hn)) (scores R.vb (rows R.ct h n hn))
          s.dk s.dv >>= k) Q := by
  unfold readsOwned
  dsimp only [tileAcc, tileGrad, tileWeights, rows, part]
  simp only [tile, loadLse, loadRows, loadCols, storeCols, Prog.bind_lift, Prog.bind_op, Prog.pure_eq_ret, Prog.bind_ret]
  iintro ⟨⟨H3, H4, H5, H6⟩, H10, K⟩
  iapply (load_owns (Q := Q) Variants.none (c : Thread nD τ) none E fullShare R.lse) $$ H5; iintro H5
  iapply (load_owns (Q := Q) Variants.none (c : Thread nD τ) none E fullShare R.ct) $$ H4; iintro H4
  iapply (load_owns (Q := Q) Variants.none (c : Thread nD τ) none E fullShare R.delta) $$ H6; iintro H6
  iapply (load_owns (Q := Q) Variants.none (c : Thread nD τ) none E fullShare R.q) $$ H3; iintro H3
  iapply (load_owns (Q := Q) Variants.none (c : Thread nD τ) none E fullShare s.dq) $$ H10; iintro H10
  iapply (load_owns (Q := Q) Variants.none (c : Thread nD τ) none E fullShare s.dq) $$ H10; iintro H10
  iapply (store_owns (Q := Q) Variants.none (c : Thread nD τ) none E s.dq) $$ H10; iintro H10
  iapply K
  isplitr [H10]
  · isplitl [H3]; · iexact H3
    isplitl [H4]; · iexact H4
    isplitl [H5]; · iexact H5
    iexact H6
  · iexact H10

/-- The two products of a tile. -/
theorem products_run {α : Type} (Q : α → sProp 𝕄) (h : Fin 2) (n : ℕ) (hn : n ≤ 32) (k : FVec F S768x256 .f32 × FVec F S768x256 .f32 → Body F α) :
    iprop(readsOwned R c arg3 arg4 arg5 arg6
      ∗ (readsOwned R c arg3 arg4 arg5 arg6
          -∗ run (k (scores R.kb (rows R.q h n hn), scores R.vb (rows R.ct h n hn))) Q))
      ⊢ run (products arg3 arg4 R.kb R.vb h n hn >>= k) Q := by
  unfold readsOwned
  simp only [products, loadRows, Prog.bind_lift, Prog.bind_op, Prog.pure_eq_ret, Prog.bind_ret]
  iintro ⟨⟨H3, H4, H5, H6⟩, K⟩
  iapply (load_owns (Q := Q) Variants.none (c : Thread nD τ) none E fullShare R.q) $$ H3; iintro H3
  iapply (load_owns (Q := Q) Variants.none (c : Thread nD τ) none E fullShare R.ct) $$ H4; iintro H4
  iapply K
  isplitl [H3]; · iexact H3
  isplitl [H4]; · iexact H4
  isplitl [H5]; · iexact H5
  iexact H6

/-- The end of the body. -/
theorem finish_run {α : Type} (Q : α → sProp 𝕄) (dk dv : FVec F S768x64 .f32) (Y Z : Vec F S1x768x64 .f32) (k : PUnit → Body F α) :
    iprop(owns (c : Thread nD τ) arg11 fullShare Y ∗ owns (c : Thread nD τ) arg12 fullShare Z
      ∗ (iprop(owns (c : Thread nD τ) arg11 fullShare (leaveBlock i Y dk) ∗ owns (c : Thread nD τ) arg12 fullShare (leaveBlock i Z dv))
          -∗ run (k ⟨⟩) Q))
      ⊢ run (finish i arg11 arg12 dk dv >>= k) Q := by
  unfold finish leaveBlock
  by_cases h2 : k0_cond2 i = 1#1 <;> by_cases h3 : k0_cond3 i = 1#1
  all_goals
    simp only [h2, h3, if_true, if_false, ↓reduceIte, loadBlock, storeBlock, Prog.bind_lift, Prog.bind_op, Prog.pure_eq_ret, Prog.bind_ret]
    iintro ⟨H11, H12, K⟩
  · iapply (load_owns (Q := Q) Variants.none (c : Thread nD τ) none E fullShare _) $$ H11; iintro H11
    iapply (store_owns (Q := Q) Variants.none (c : Thread nD τ) none E _) $$ H11; iintro H11
    iapply (load_owns (Q := Q) Variants.none (c : Thread nD τ) none E fullShare _) $$ H12; iintro H12
    iapply (store_owns (Q := Q) Variants.none (c : Thread nD τ) none E _) $$ H12; iintro H12
    iapply (load_owns (Q := Q) Variants.none (c : Thread nD τ) none E fullShare _) $$ H11; iintro H11
    iapply (load_owns (Q := Q) Variants.none (c : Thread nD τ) none E fullShare _) $$ H11; iintro H11
    iapply (store_owns (Q := Q) Variants.none (c : Thread nD τ) none E _) $$ H11; iintro H11
    iapply (load_owns (Q := Q) Variants.none (c : Thread nD τ) none E fullShare _) $$ H12; iintro H12
    iapply (load_owns (Q := Q) Variants.none (c : Thread nD τ) none E fullShare _) $$ H12; iintro H12
    iapply (store_owns (Q := Q) Variants.none (c : Thread nD τ) none E _) $$ H12; iintro H12
    iapply K
    isplitl [H11]; · iexact H11
    iexact H12
  · iapply (load_owns (Q := Q) Variants.none (c : Thread nD τ) none E fullShare _) $$ H11; iintro H11
    iapply (store_owns (Q := Q) Variants.none (c : Thread nD τ) none E _) $$ H11; iintro H11
    iapply (load_owns (Q := Q) Variants.none (c : Thread nD τ) none E fullShare _) $$ H12; iintro H12
    iapply (store_owns (Q := Q) Variants.none (c : Thread nD τ) none E _) $$ H12; iintro H12
    iapply K
    isplitl [H11]; · iexact H11
    iexact H12
  · iapply (load_owns (Q := Q) Variants.none (c : Thread nD τ) none E fullShare _) $$ H11; iintro H11
    iapply (load_owns (Q := Q) Variants.none (c : Thread nD τ) none E fullShare _) $$ H11; iintro H11
    iapply (store_owns (Q := Q) Variants.none (c : Thread nD τ) none E _) $$ H11; iintro H11
    iapply (load_owns (Q := Q) Variants.none (c : Thread nD τ) none E fullShare _) $$ H12; iintro H12
    iapply (load_owns (Q := Q) Variants.none (c : Thread nD τ) none E fullShare _) $$ H12; iintro H12
    iapply (store_owns (Q := Q) Variants.none (c : Thread nD τ) none E _) $$ H12; iintro H12
    iapply K
    isplitl [H11]; · iexact H11
    iexact H12
  · iapply K
    isplitl [H11]; · iexact H11
    iexact H12

/-- The loop, from tile `n` on, runs to the state after the last tile, and then the blocks of the gradients of the
    keys and values are left. -/
theorem loop_run (s : Acc F) (Y Z : Vec F S1x768x64 .f32) (Q : PUnit → sProp 𝕄) :
    ∀ (r n : ℕ) (h : n + r = 32),
    iprop(readsOwned R c arg3 arg4 arg5 arg6 ∗ owns (c : Thread nD τ) arg10 fullShare (upTo i R s n (by omega)).dq
      ∗ owns (c : Thread nD τ) arg11 fullShare Y ∗ owns (c : Thread nD τ) arg12 fullShare Z
      ∗ (iprop(readsOwned R c arg3 arg4 arg5 arg6 ∗ owns (c : Thread nD τ) arg10 fullShare (upTo i R s 33 le_rfl).dq
          ∗ owns (c : Thread nD τ) arg11 fullShare (leaveBlock i Y (upTo i R s 33 le_rfl).dk)
          ∗ owns (c : Thread nD τ) arg12 fullShare (leaveBlock i Z (upTo i R s 33 le_rfl).dv)) -∗ Q ⟨⟩))
      ⊢ run (loop i arg3 arg4 arg5 arg6 arg10 arg11 arg12 R.kb R.vb R.kt R.valid r n h
          (scores R.kb (rows R.q 0 n (by omega))) (scores R.vb (rows R.ct 0 n (by omega)))
          (scores R.kb (rows R.q 1 n (by omega))) (scores R.vb (rows R.ct 1 n (by omega)))
          (upTo i R s n (by omega)).dk (upTo i R s n (by omega)).dv) Q := by
  intro r
  induction r with
  | zero =>
    intro n h
    obtain rfl : n = 32 := by omega
    unfold loop
    iintro ⟨HR, H10, H11, H12, K⟩
    iapply (tile_run i R c arg3 arg4 arg5 arg6 arg10 E Q 0 32 _ (upTo i R s 32 _))
    isplitl [HR]; · iexact HR
    isplitl [H10]; · iexact H10
    iintro ⟨HR, H10⟩
    iapply (tile_run i R c arg3 arg4 arg5 arg6 arg10 E Q 1 32 _ (tileAcc i R 0 32 _ (upTo i R s 32 _)))
    isplitl [HR]; · iexact HR
    isplitl [H10]; · iexact H10
    iintro ⟨HR, H10⟩
    iapply (finish_run i c arg11 arg12 E Q _ _ Y Z)
    isplitl [H11]; · iexact H11
    isplitl [H12]; · iexact H12
    iintro ⟨H11, H12⟩
    rw [Prog.pure_eq_ret, wp_ret]
    imodintro
    iapply K
    isplitl [HR]; · iexact HR
    isplitl [H10]; · iexact H10
    isplitl [H11]; · iexact H11
    iexact H12
  | succ r ih =>
    intro n h
    unfold loop
    iintro ⟨HR, H10, H11, H12, K⟩
    iapply (products_run R c arg3 arg4 arg5 arg6 E Q 0 (n + 1) _)
    isplitl [HR]; · iexact HR
    iintro HR
    iapply (tile_run i R c arg3 arg4 arg5 arg6 arg10 E Q 0 n _ (upTo i R s n _))
    isplitl [HR]; · iexact HR
    isplitl [H10]; · iexact H10
    iintro ⟨HR, H10⟩
    iapply (products_run R c arg3 arg4 arg5 arg6 E Q 1 (n + 1) _)
    isplitl [HR]; · iexact HR
    iintro HR
    iapply (tile_run i R c arg3 arg4 arg5 arg6 arg10 E Q 1 n _ (tileAcc i R 0 n _ (upTo i R s n _)))
    isplitl [HR]; · iexact HR
    isplitl [H10]; · iexact H10
    iintro ⟨HR, H10⟩
    iapply (ih (n + 1) _)
    isplitl [HR]; · iexact HR
    isplitl [H10]; · iexact H10
    isplitl [H11]; · iexact H11
    isplitl [H12]; · iexact H12
    iexact K

end Run

end Cert.KernelIdeal.Flash
-- ==== Proof.Body.lean ====
/-
  One run of the kernel's body: from the blocks of its inputs, and whatever the blocks of its results hold, to the
  result blocks that the loop of LoopRun.lean leaves.
-/
module

public import proofs.«01_k».proof.Proof.SameBody
public import proofs.«01_k».proof.Proof.LoopRun

@[expose] public section

noncomputable section

namespace Cert.KernelIdeal.Flash

open Idealize.ShloMosaic Idealize.ShloMosaic.TcCoe Cert.KernelIdeal.Gen
open Idealize.SL Idealize.SL.RA Idealize.SL.Sem Idealize.SL.ProofMode
open Idealize.SL.BI (sProp)
open scoped Idealize.SL.BI
open Idealize.SL.BI.BIBase Idealize.SL.BI.Laws

variable {F : FTy → Type} [FloatOps F] [Named F]

local notation "𝕄" => MT nD τ sig Unit (Elt F) ℕ (UR sig nD τ) ℕ

/-- The rectangle of a whole block of transposed keys. -/
abbrev keyRect : Rect S1x64x768 := Rect.unit (s := S1x64x768) ![0, 0, 0] S1x64x768.size inb_S1x64x768_S1x64x768_0_0_0

/-- What the body reads, from the blocks of its inputs. -/
def readsOf (i : grid0.Coords) (x0 x1 : Vec F S2x8448x64 .bf16) (x2 x3 : Vec F S2x1x8448 .f32) (x4 : Vec F S1x768x64 .bf16)
    (x5 : Vec F S1x64x768 .bf16) (x6 : Vec F S1x768x64 .bf16) : Reads F where
  q := x0
  ct := x1
  lse := x2
  delta := x3
  kb := k0_pay1 (F := F) fun x => x4 (blockRect.emb x)
  vb := k0_pay2 (F := F) fun x => x6 (blockRect.emb x)
  kt := k0_pay3 (F := F) fun x => x5 (keyRect.emb x)
  valid := k0_pay4 i

/-- One head of the gradient of the queries, of the pair that the body works on at the first block of keys. -/
def headRect (i : grid0.Coords) (h1 : k0_cond1 i = 1#1) (h : Fin 2) : Rect S4x64x8448 :=
  Rect.unit (s := S4x64x8448) (k0_off1 i (BitVec.ofNat 32 h.val)) S1x64x8448.size (k0_off1_inb i h1 h)

/-- The gradient of the queries when the loop begins: at the first block of keys the pair's heads are cleared. -/
def zeroed (i : grid0.Coords) (Y : Vec F S4x64x8448 .f32) : Vec F S4x64x8448 .f32 :=
  if h1 : k0_cond1 i = 1#1 then (headRect i h1 1).overlay ((headRect i h1 0).overlay Y (k0_pay5 (F := F))) (k0_pay6 (F := F)) else Y

/-- The loop's state when it begins. -/
def start (i : grid0.Coords) (Y : Vec F S4x64x8448 .f32) : Acc F where
  dk := k0_pay7 (F := F)
  dv := k0_pay8 (F := F)
  dq := zeroed i Y

/-- The loop's state when it ends. -/
def final (i : grid0.Coords) (R : Reads F) (Y : Vec F S4x64x8448 .f32) : Acc F := upTo i R (start i Y) 33 le_rfl

theorem pay9_eq (v : Vec F S1x768x64 .bf16) (x : Vec F S1x256x64 .bf16) : k0_pay9 v x = scores (k0_pay1 v) x := rfl

theorem pay10_eq (v : Vec F S1x768x64 .bf16) (x : Vec F S1x256x64 .bf16) : k0_pay10 v x = scores (k0_pay2 v) x := rfl

theorem pay11_eq (v : Vec F S1x768x64 .bf16) (x : Vec F S1x256x64 .bf16) : k0_pay11 v x = scores (k0_pay1 v) x := rfl

theorem row0_eq : Rect.unit (s := S2x8448x64) ![0, 0, 0] S1x256x64.size inb_S2x8448x64_S1x256x64_0_0_0 = rowRect 0 0 (Nat.zero_le _) := rfl

theorem row1_eq : Rect.unit (s := S2x8448x64) ![1, 0, 0] S1x256x64.size inb_S2x8448x64_S1x256x64_1_0_0 = rowRect 1 0 (Nat.zero_le _) := rfl

attribute [local irreducible] loop

section Run

variable (c : Dev nD) (E : Set ℕ)

local notation "run" => wp frame (wpE (defs₀ (F := F)) Variants.none (c : Thread nD τ) none) E

theorem body_run (i : grid0.Coords) (arg3 : Memref sig .tc .vmem S2x8448x64 .bf16) (harg3 : arg3.IsWhole) (arg4 : Memref sig .tc .vmem S2x8448x64 .bf16) (harg4 : arg4.IsWhole) (arg5 : Memref sig .tc .vmem S2x1x8448 .f32) (harg5 : arg5.IsWhole) (arg6 : Memref sig .tc .vmem S2x1x8448 .f32) (harg6 : arg6.IsWhole) (arg7 : Memref sig .tc .vmem S1x768x64 .bf16) (harg7 : arg7.IsWhole) (arg8 : Memref sig .tc .vmem S1x64x768 .bf16) (harg8 : arg8.IsWhole) (arg9 : Memref sig .tc .vmem S1x768x64 .bf16) (harg9 : arg9.IsWhole) (arg10 : Memref sig .tc .vmem S4x64x8448 .f32) (harg10 : arg10.IsWhole) (arg11 : Memref sig .tc .vmem S1x768x64 .f32) (harg11 : arg11.IsWhole) (arg12 : Memref sig .tc .vmem S1x768x64 .f32) (harg12 : arg12.IsWhole)
    (x0 x1 : Vec F S2x8448x64 .bf16) (x2 x3 : Vec F S2x1x8448 .f32) (x4 : Vec F S1x768x64 .bf16)
    (x5 : Vec F S1x64x768 .bf16) (x6 : Vec F S1x768x64 .bf16) (Y : Vec F S4x64x8448 .f32) (Z W : Vec F S1x768x64 .f32) (Q : PUnit → sProp 𝕄) :
    iprop((owns (c : Thread nD τ) arg3 fullShare x0 ∗ owns (c : Thread nD τ) arg4 fullShare x1
        ∗ owns (c : Thread nD τ) arg5 fullShare x2 ∗ owns (c : Thread nD τ) arg6 fullShare x3
        ∗ owns (c : Thread nD τ) arg7 fullShare x4 ∗ owns (c : Thread nD τ) arg8 fullShare x5
        ∗ owns (c : Thread nD τ) arg9 fullShare x6 ∗ owns (c : Thread nD τ) arg10 fullShare Y
        ∗ owns (c : Thread nD τ) arg11 fullShare Z ∗ owns (c : Thread nD τ) arg12 fullShare W)
      ∗ (iprop(owns (c : Thread nD τ) arg3 fullShare x0 ∗ owns (c : Thread nD τ) arg4 fullShare x1
        ∗ owns (c : Thread nD τ) arg5 fullShare x2 ∗ owns (c : Thread nD τ) arg6 fullShare x3
        ∗ owns (c : Thread nD τ) arg7 fullShare x4 ∗ owns (c : Thread nD τ) arg8 fullShare x5
        ∗ owns (c : Thread nD τ) arg9 fullShare x6
        ∗ owns (c : Thread nD τ) arg10 fullShare (final i (readsOf i x0 x1 x2 x3 x4 x5 x6) Y).dq
        ∗ owns (c : Thread nD τ) arg11 fullShare (leaveBlock i Z (final i (readsOf i x0 x1 x2 x3 x4 x5 x6) Y).dk)
        ∗ owns (c : Thread nD τ) arg12 fullShare (leaveBlock i W (final i (readsOf i x0 x1 x2 x3 x4 x5 x6) Y).dv)) -∗ Q ⟨⟩))
      ⊢ run (cc0_flash_bwd i arg3 harg3 arg4 harg4 arg5 harg5 arg6 harg6 arg7 harg7 arg8 harg8 arg9 harg9 arg10 harg10 arg11 harg11 arg12 harg12) Q := by
  rw [body_eq_loop]
  unfold k0_part1_skel
  by_cases h1 : k0_cond1 i = 1#1
  · have hz : zeroed i Y = (headRect i h1 1).overlay ((headRect i h1 0).overlay Y (k0_pay5 (F := F))) (k0_pay6 (F := F)) := dif_pos h1
    simp only [dif_pos h1, loadRows, pay9_eq, pay10_eq, pay11_eq, row0_eq, row1_eq, Prog.bind_lift, Prog.bind_op, Prog.pure_eq_ret, Prog.bind_ret]
    iintro ⟨⟨H3, H4, H5, H6, H7, H8, H9, H10, H11, H12⟩, K⟩
    iapply (load_owns (Q := Q) Variants.none (c : Thread nD τ) none E fullShare x4) $$ H7; iintro H7
    iapply (load_owns (Q := Q) Variants.none (c : Thread nD τ) none E fullShare x6) $$ H9; iintro H9
    iapply (load_owns (Q := Q) Variants.none (c : Thread nD τ) none E fullShare x5) $$ H8; iintro H8
    iapply (load_owns (Q := Q) Variants.none (c : Thread nD τ) none E fullShare _) $$ H10; iintro H10
    iapply (store_owns (Q := Q) Variants.none (c : Thread nD τ) none E _) $$ H10; iintro H10
    iapply (load_owns (Q := Q) Variants.none (c : Thread nD τ) none E fullShare _) $$ H10; iintro H10
    iapply (store_owns (Q := Q) Variants.none (c : Thread nD τ) none E _) $$ H10; iintro H10
    iapply (load_owns (Q := Q) Variants.none (c : Thread nD τ) none E fullShare x0) $$ H3; iintro H3
    iapply (load_owns (Q := Q) Variants.none (c : Thread nD τ) none E fullShare x1) $$ H4; iintro H4
    iapply (load_owns (Q := Q) Variants.none (c : Thread nD τ) none E fullShare x0) $$ H3; iintro H3
    iapply (load_owns (Q := Q) Variants.none (c : Thread nD τ) none E fullShare x1) $$ H4; iintro H4
    have L := loop_run i (readsOf i x0 x1 x2 x3 x4 x5 x6) c arg3 arg4 arg5 arg6 arg10 arg11 arg12 E (start i Y) Z W Q 32 0 rfl
    dsimp only [rows, upTo, readsOf, start] at L
    iapply L
    isplitl [H3 H4 H5 H6]
    · unfold readsOwned
      isplitl [H3]; · iexact H3
      isplitl [H4]; · iexact H4
      isplitl [H5]; · iexact H5
      iexact H6
    isplitl [H10]
    · rw [hz]
      iexact H10
    isplitl [H11]; · iexact H11
    isplitl [H12]; · iexact H12
    unfold readsOwned
    iintro ⟨⟨H3, H4, H5, H6⟩, H10, H11, H12⟩
    iapply K
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    iexact H12
  · have hz : zeroed i Y = Y := dif_neg h1
    simp only [dif_neg h1, loadRows, pay9_eq, pay10_eq, pay11_eq, row0_eq, row1_eq, Prog.bind_lift, Prog.bind_op, Prog.pure_eq_ret, Prog.bind_ret]
    iintro ⟨⟨H3, H4, H5, H6, H7, H8, H9, H10, H11, H12⟩, K⟩
    iapply (load_owns (Q := Q) Variants.none (c : Thread nD τ) none E fullShare x4) $$ H7; iintro H7
    iapply (load_owns (Q := Q) Variants.none (c : Thread nD τ) none E fullShare x6) $$ H9; iintro H9
    iapply (load_owns (Q := Q) Variants.none (c : Thread nD τ) none E fullShare x5) $$ H8; iintro H8
    iapply (load_owns (Q := Q) Variants.none (c : Thread nD τ) none E fullShare x0) $$ H3; iintro H3
    iapply (load_owns (Q := Q) Variants.none (c : Thread nD τ) none E fullShare x1) $$ H4; iintro H4
    iapply (load_owns (Q := Q) Variants.none (c : Thread nD τ) none E fullShare x0) $$ H3; iintro H3
    iapply (load_owns (Q := Q) Variants.none (c : Thread nD τ) none E fullShare x1) $$ H4; iintro H4
    have L := loop_run i (readsOf i x0 x1 x2 x3 x4 x5 x6) c arg3 arg4 arg5 arg6 arg10 arg11 arg12 E (start i Y) Z W Q 32 0 rfl
    dsimp only [rows, upTo, readsOf, start] at L
    iapply L
    isplitl [H3 H4 H5 H6]
    · unfold readsOwned
      isplitl [H3]; · iexact H3
      isplitl [H4]; · iexact H4
      isplitl [H5]; · iexact H5
      iexact H6
    isplitl [H10]
    · rw [hz]
      iexact H10
    isplitl [H11]; · iexact H11
    isplitl [H12]; · iexact H12
    unfold readsOwned
    iintro ⟨⟨H3, H4, H5, H6⟩, H10, H11, H12⟩
    iapply K
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    iexact H12

end Run

end Cert.KernelIdeal.Flash
-- ==== Proof.Run.lean ====
/-
  The run of the whole kernel: at every grid point the body leaves the result blocks as Body.lean says, of the blocks of
  its inputs; so the arguments end unchanged and the result arrays hold what the blocks' write-backs put there.
-/
module

public import proofs.«01_k».proof.Proof.Body
public import proofs.«01_k».proof.Proof.Gen.KernelIdeal.Frame

@[expose] public section

noncomputable section

namespace Cert.KernelIdeal.Flash

open Idealize.ShloMosaic Idealize.ShloMosaic.TcCoe Cert.KernelIdeal.Gen
open Idealize.SL Idealize.SL.RA Idealize.SL.Sem Idealize.SL.ProofMode
open Idealize.SL.BI (sProp)
open scoped Idealize.SL.BI
open Idealize.SL.BI.BIBase Idealize.SL.BI.Laws
open Idealize.ShloMosaic.Rounds
open Idealize.ShloMosaic.Pipeline (Dat RDat Cfg Window)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg) (c : Dev nD)

/-- What the body reads at a grid point: the blocks of the inputs. -/
def readsAt (t : Fin cfg0.N) : Reads F :=
  readsOf (grid0.coords t) (iblk m c 0 t) (iblk m c 1 t) (iblk m c 2 t) (iblk m c 3 t) (iblk m c 4 t) (iblk m c 5 t) (iblk m c 6 t)

/-- The inputs' blocks at a grid point, the results' blocks left unnamed. -/
def inputs : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, h⟩ => Dat.unnamed (cfg := cfg0) ⟨7, h⟩ t
    | ⟨8, h⟩ => Dat.unnamed (cfg := cfg0) ⟨8, h⟩ t
    | ⟨9, h⟩ => Dat.unnamed (cfg := cfg0) ⟨9, h⟩ t
  Φ _ := Pipeline.ΦA spec0 c
  q _ := fullShare
  owed _ := 0

theorem inputs_A (w : Fin cfg0.W) : (inputs m c).A w = V m c (Pipeline.arrRef spec0 w) := by dsimp only [inputs]

/-- What the gradient of the queries may be left at, of what was found. -/
def leaves7 (t : Fin cfg0.N) (Y X : Vec F S4x64x8448 .f32) : Prop := X = (final (grid0.coords t) (readsAt m c t) Y).dq

/-- What the gradient of the keys may be left at: the loop does not look at the gradient of the queries for it. -/
def leaves8 (t : Fin cfg0.N) (Y X : Vec F S1x768x64 .f32) : Prop :=
  ∃ Z, X = leaveBlock (grid0.coords t) Y (final (grid0.coords t) (readsAt m c t) Z).dk

/-- And the gradient of the values. -/
def leaves9 (t : Fin cfg0.N) (Y X : Vec F S1x768x64 .f32) : Prop :=
  ∃ Z, X = leaveBlock (grid0.coords t) Y (final (grid0.coords t) (readsAt m c t) Z).dv

/-- The relations of the three results. -/
def results : (w : Fin cfg0.W) → Option (Fin cfg0.N → (Y X : (cfg0.win w).block.Idx → Elt F (cfg0.win w).elt) → Prop)
  | ⟨0, _⟩ => none
  | ⟨1, _⟩ => none
  | ⟨2, _⟩ => none
  | ⟨3, _⟩ => none
  | ⟨4, _⟩ => none
  | ⟨5, _⟩ => none
  | ⟨6, _⟩ => none
  | ⟨7, _⟩ => some (leaves7 m c)
  | ⟨8, _⟩ => some (leaves8 m c)
  | ⟨9, _⟩ => some (leaves9 m c)

/-- What holds of every window at every grid point. -/
def blocks : RDat τ (Elt F) Unit ℕ (UR sig nD τ) ℕ cfg0 c := (inputs m c).toR.override (results m c)

theorem after_in {w : Fin cfg0.W} (t : Fin cfg0.N) (h : results m c w = none) (hi : cfg0.idle w (cfg0.grid.coords t) = false)
    (hl : cfg0.loose w = false) (Y : (cfg0.win w).block.Idx → Elt F (cfg0.win w).elt) :
    (blocks m c).after w t Y ((inputs m c).after w t) := by
  unfold blocks
  rw [RDat.override_after_of_eq_none _ h]
  show (inputs m c).Leaves w t _
  rw [Dat.Leaves.live_iff _ (.inl hi), hl]

theorem finds_in {w : Fin cfg0.W} (h : results m c w = none) (t : Fin cfg0.N) (X : (cfg0.win w).block.Idx → Elt F (cfg0.win w).elt)
    (hX : (blocks m c).Finds w t X) : ∃ d, X = (inputs m c).before w t d :=
  (inputs m c).toR_finds w t X ((RDat.override_finds _ h t X).mp hX)

theorem defs₀_row (t : Fin cfg0.N) : defs₀ (F := F) .tc cfg0.body (cfg0.bodyArgs t (cfg0.slots t)) = bodyAt0 t := by
  unfold defs₀; rw [Defs.onTc_tc]

set_option maxHeartbeats 2000000 in
/-- At every grid point the body runs, from the inputs' blocks to the results' blocks in their relations. -/
theorem body_obligation : RDat.BodyObligation (blocks m c) (defs₀ (F := F)) Variants.none () Set.univ := by
  intro t Y hY
  have h0 : Y 0 = iblk m c 0 t := by
    obtain ⟨d, hd⟩ := finds_in m c (w := 0) rfl t _ (hY 0)
    exact hd.trans (before0_0_of m (inputs m c) (inputs_A m c 0) (fun t => by dsimp only [inputs]) t d)
  have h1 : Y 1 = iblk m c 1 t := by
    obtain ⟨d, hd⟩ := finds_in m c (w := 1) rfl t _ (hY 1)
    exact hd.trans (before0_1_of m (inputs m c) (inputs_A m c 1) (fun t => by dsimp only [inputs]) t d)
  have h2 : Y 2 = iblk m c 2 t := by
    obtain ⟨d, hd⟩ := finds_in m c (w := 2) rfl t _ (hY 2)
    exact hd.trans (before0_2_of m (inputs m c) (inputs_A m c 2) (fun t => by dsimp only [inputs]) t d)
  have h3 : Y 3 = iblk m c 3 t := by
    obtain ⟨d, hd⟩ := finds_in m c (w := 3) rfl t _ (hY 3)
    exact hd.trans (before0_3_of m (inputs m c) (inputs_A m c 3) (fun t => by dsimp only [inputs]) t d)
  have h4 : Y 4 = iblk m c 4 t := by
    obtain ⟨d, hd⟩ := finds_in m c (w := 4) rfl t _ (hY 4)
    exact hd.trans (before0_4_of m (inputs m c) (inputs_A m c 4) (fun t => by dsimp only [inputs]) t d)
  have h5 : Y 5 = iblk m c 5 t := by
    obtain ⟨d, hd⟩ := finds_in m c (w := 5) rfl t _ (hY 5)
    exact hd.trans (before0_5_of m (inputs m c) (inputs_A m c 5) (fun t => by dsimp only [inputs]) t d)
  have h6 : Y 6 = iblk m c 6 t := by
    obtain ⟨d, hd⟩ := finds_in m c (w := 6) rfl t _ (hY 6)
    exact hd.trans (before0_6_of m (inputs m c) (inputs_A m c 6) (fun t => by dsimp only [inputs]) t d)
  rw [show (blocks m c).Φ t.succ = (blocks m c).Φ t.castSucc from rfl,
    show (blocks m c).owesAt () t.succ = (blocks m c).owesAt () t.castSucc from rfl, bigSep_W0, bigSep_W0, defs₀_row, h0, h1, h2, h3, h4, h5, h6]
  iintro ⟨HΦ, HO, H⟩
  iapply (body_run c Set.univ (grid0.coords t) (win0_0.stage (cfg0.slots t 0)) _ (win0_1.stage (cfg0.slots t 1)) _ (win0_2.stage (cfg0.slots t 2)) _ (win0_3.stage (cfg0.slots t 3)) _ (win0_4.stage (cfg0.slots t 4)) _ (win0_5.stage (cfg0.slots t 5)) _ (win0_6.stage (cfg0.slots t 6)) _ (win0_7.stage (cfg0.slots t 7)) _ (win0_8.stage (cfg0.slots t 8)) _ (win0_9.stage (cfg0.slots t 9)) _ (iblk m c 0 t) (iblk m c 1 t) (iblk m c 2 t) (iblk m c 3 t) (iblk m c 4 t) (iblk m c 5 t) (iblk m c 6 t) (Y 7) (Y 8) (Y 9))
  isplitl [H]; · iexact H
  iintro ⟨H0, H1, H2, H3, H4, H5, H6, H7, H8, H9⟩
  isplitl [HΦ]; · iexact HΦ
  isplitl [HO]; · iexact HO
  isplitl [H0]
  · iexists _; isplitr
    · ipureintro; exact after_in m c t rfl rfl rfl _
    · iexact H0
  isplitl [H1]
  · iexists _; isplitr
    · ipureintro; exact after_in m c t rfl rfl rfl _
    · iexact H1
  isplitl [H2]
  · iexists _; isplitr
    · ipureintro; exact after_in m c t rfl rfl rfl _
    · iexact H2
  isplitl [H3]
  · iexists _; isplitr
    · ipureintro; exact after_in m c t rfl rfl rfl _
    · iexact H3
  isplitl [H4]
  · iexists _; isplitr
    · ipureintro; exact after_in m c t rfl rfl rfl _
    · iexact H4
  isplitl [H5]
  · iexists _; isplitr
    · ipureintro; exact after_in m c t rfl rfl rfl _
    · iexact H5
  isplitl [H6]
  · iexists _; isplitr
    · ipureintro; exact after_in m c t rfl rfl rfl _
    · iexact H6
  isplitl [H7]
  · iexists (final (grid0.coords t) (readsAt m c t) (Y 7)).dq; isplitr
    · ipureintro; exact rfl
    · iexact H7
  isplitl [H8]
  · iexists (leaveBlock (grid0.coords t) (Y 8) (final (grid0.coords t) (readsAt m c t) (Y 7)).dk); isplitr
    · ipureintro; exact ⟨Y 7, rfl⟩
    · iexact H8
  · iexists (leaveBlock (grid0.coords t) (Y 9) (final (grid0.coords t) (readsAt m c t) (Y 7)).dv); isplitr
    · ipureintro; exact ⟨Y 7, rfl⟩
    · iexact H9

/-! ## The run and the frame -/

-- the launch theorem's implicit arguments are found by unifying its conclusion with this one, which takes unfolding
-- plain definitions in a metavariable's type
set_option backward.isDefEq.respectTransparency.types false in
/-- Every run ends with the arrays as the write-backs leave them, all counters at zero. -/
theorem run_main : θ_run defs (onTc (τ := τ) (main (F := F))) (s₀ m ρ)
    (fun r => RDat.FramePost (cfgs 0) (fun c => blocks m c) (V m) r ∧ r.2.sem = fun _ => 0) :=
  Pipeline.RDat.θ_run_frame (Q' := _) cfgs (0 : Fin 1) launch0 defs₀ Variants.none (fun c => blocks m c) m ρ main
    (hbody := fun c => body_obligation m c) (hshare := fun c => (inputs m c).share_full fun _ => rfl)
    (howed := fun _ _ => rfl) (V := V m) (hmain := hmain m Variants.none) (hA := fun c w => inputs_A m c w) (hΦ := fun _ _ => rfl)
    (hQ' := fun _ h => h)

/-- The frame: every run ends, with the arguments unchanged and all counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c =>
    ⟨((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c)⟩, h.2⟩)
    (run_main m ρ)

end Cert.KernelIdeal.Flash
-- ==== Proof.FrameKernel.lean ====
/-
  The frame of the kernel as printed, from the run of the idealized program.
-/
module

public import proofs.«01_k».proof.Defs
public import proofs.«01_k».proof.Proof.SameText
public import proofs.«01_k».proof.Proof.Run
public import proofs.«01_k».proof.Proof.Gen.Kernel

@[expose] public section

noncomputable section

namespace Cert.SameText

open Idealize.ShloMosaic Idealize.SL.Sem

attribute [local instance] literal

/-- A run of one program is a run of an equal one. -/
theorem run_of_eq {nD : ℕ} {τ : Topo} {sig : RefSig} {Val : EltTy → Type} {Λ : Labels} {D D' : Defs nD τ sig Val Λ}
    {M M' : Dev nD → Prog (TpuEff nD τ sig Val Λ .tc) PUnit} (hD : D = D') (hM : M = M') (s : MemSt nD τ sig Val)
    (P : PUnit × MemSt nD τ sig Val → Prop) : θ_run D' (onTc M') s P → θ_run D (onTc M) s P := by
  subst hD hM; exact id

/-- The kernel ends, with its arguments unchanged and all counters at zero. -/
theorem frame_kernel [hKernel : Cert.Kernel.Facts] : Cert.quiescent_Kernel := fun m ρ _ =>
  run_of_eq (defs_same (F := Bits)) (main_same (F := Bits)) _ _ (Cert.KernelIdeal.Flash.frame (F := Bits) m ρ)

end Cert.SameText
-- ==== Proof.FrameReference.lean ====
/-
  The frame of the reference.
-/
module

public import proofs.«01_k».proof.Defs
public import proofs.«01_k».proof.Proof.Gen.ReferenceIdeal
public import proofs.«01_k».proof.Proof.Gen.ReferenceIdeal.Run
public import Idealize.ShloMosaic.Adequacy
public import Idealize.ShloMosaic.Init
public import Idealize.ShloMosaic.Lib.Quiescent

@[expose] public section

noncomputable section

namespace Cert.ReferenceIdeal.Value

open Idealize.ShloMosaic Idealize.SL.Sem

/-- The reference ends with its arguments unchanged; it declares no semaphore, so no counter is left above zero. -/
theorem frame_reference : Cert.quiescent_ReferenceIdeal := fun m ρ _ =>
  (θ_run Cert.ReferenceIdeal.defs _ _).mono
    (fun r h => ⟨fun c => (h c).2.2.2, Idealize.ShloMosaic.sem_eq_zero_of_no_sems (by decide) r.2⟩)
    (run (F := Ideal) m ρ)

end Cert.ReferenceIdeal.Value

end
-- ==== Proof.Finite.lean ====
/-
  The precondition read back: every entry of the four arguments is a real number.
-/
module

public import proofs.«01_k».proof.Proof.Gen.Pre_finite
public import Idealize.ShloMosaic.Lib.ReduceAll
public import Idealize.ShloMosaic.PureOps.Ideal

@[expose] public section

noncomputable section

namespace Cert.Pre_finite

open Idealize.ShloMosaic Cert.Pre_finite.Gen

theorem bits_top : Ideal.ofBits .f32 0x7F800000#32 = ⊤ := by
  simp [Ideal.ofBits, Ideal.ieee]

/-- An extended real whose absolute value is below the top is real. -/
theorem real_of_abs_lt (x : EReal) (h : Ideal.cmp .olt (max x (-x)) (Ideal.ofBits .f32 0x7F800000#32) = 1#1) : x = ((x.toReal : ℝ) : EReal) := by
  have hl : max x (-x) < ⊤ := by
    rw [bits_top] at h
    by_contra hn
    have hd : Ideal.cmp .olt (max x (-x)) ⊤ = BitVec.ofBool (decide (max x (-x) < (⊤ : EReal))) := rfl
    rw [hd, decide_eq_false hn] at h
    exact absurd h (by decide)
  have h1 : x ≠ ⊤ := fun e => by rw [e] at hl; simp at hl
  have h2 : x ≠ ⊥ := fun e => by rw [e] at hl; simp at hl
  exact (EReal.coe_toReal h1 h2).symm

instance : Subsingleton S_.Idx := ⟨fun a b => funext fun i => i.elim0⟩

variable (x0 : FVec Ideal S8448x4x4x64 .f32) (x1 x2 : FVec Ideal S8448x4x64 .f32) (x3 : FVec Ideal S8208x4x4x64 .f32)

/-- The precondition says that every entry of every argument is real. -/
theorem real_of_fn (h : fn (F := Ideal) x0 x1 x2 x3 = fun _ => 1#1) :
    (∀ i, x0 i = (((x0 i : EReal).toReal : ℝ) : EReal)) ∧ (∀ i, x1 i = (((x1 i : EReal).toReal : ℝ) : EReal))
      ∧ (∀ i, x2 i = (((x2 i : EReal).toReal : ℝ) : EReal)) ∧ ∀ i, x3 i = (((x3 i : EReal).toReal : ℝ) : EReal) := by
  have e := congrFun h (fun i : Fin 0 => i.elim0)
  unfold fn at e
  dsimp only at e
  unfold fn_part1 at e
  dsimp only at e
  obtain ⟨e, e3⟩ := IntOp.andi_eq_one.1 e
  obtain ⟨e, e2⟩ := IntOp.andi_eq_one.1 e
  obtain ⟨e0, e1⟩ := IntOp.andi_eq_one.1 e
  exact ⟨fun i => real_of_abs_lt _ (Host.reduce_andi_all _ _ _ _ _ e0 i), fun i => real_of_abs_lt _ (Host.reduce_andi_all _ _ _ _ _ e1 i),
    fun i => real_of_abs_lt _ (Host.reduce_andi_all _ _ _ _ _ e2 i), fun i => real_of_abs_lt _ (Host.reduce_andi_all _ _ _ _ _ e3 i)⟩

end Cert.Pre_finite
-- ==== Proof.TileValue.lean ====
/-
  The numbers of one tile, over the extended reals.
-/
module

public import proofs.«01_k».proof.Proof.Body
public import Idealize.ShloMosaic.Lib.Pointwise

@[expose] public section

noncomputable section

namespace Cert.KernelIdeal.Flash

open Idealize.ShloMosaic Idealize.ShloMosaic.Pointwise Cert.KernelIdeal.Gen

/-- The mask stands for the lowest extended real. -/
theorem mask_bot : (Named.named κ "mask" 0xF149F2CA#32 : Ideal .f32) = (⊥ : EReal) := rfl

/-- A score is the product of a key and a query. -/
theorem scores_at (kb : FVec Ideal S768x64 .bf16) (q : Vec Ideal S1x256x64 .bf16) (x : Fin 768) (y : Fin 256) :
    scores kb q (ix2 x y) = ∑ d : Fin 64, kb (ix2 x d) * q (ix3 0 y d) := by
  pointwise [scores]

theorem weights_at (valid : IVec S768x1 1) (st : FVec Ideal S768x256 .f32) (l : Vec Ideal S1x1x256 .f32) (x : Fin 768) (y : Fin 256) :
    weights valid st l (ix2 x y) = Ideal.exp2 ((if valid (ix2 x 0) = 1#1 then st (ix2 x y) else ⊥) - l (ix3 0 0 y)) := by
  pointwise [weights]
  rw [mask_bot]
  rfl

theorem scoreGrad_at (pt dpt : FVec Ideal S768x256 .f32) (e : Vec Ideal S1x1x256 .f32) (x : Fin 768) (y : Fin 256) :
    scoreGrad pt dpt e (ix2 x y) = pt (ix2 x y) * (dpt (ix2 x y) - e (ix3 0 0 y)) := by
  pointwise [scoreGrad]

theorem addRows_at (acc : FVec Ideal S768x64 .f32) (w : FVec Ideal S768x256 .bf16) (x : Vec Ideal S1x256x64 .bf16) (r : Fin 768) (d : Fin 64) :
    addRows acc w x (ix2 r d) = acc (ix2 r d) + ∑ y : Fin 256, w (ix2 r y) * x (ix3 0 y d) := by
  pointwise [addRows]

theorem addCols_at (ktb : FVec Ideal S64x768 .bf16) (ds : FVec Ideal S768x256 .bf16) (old : Vec Ideal S1x64x256 .f32) (d : Fin 64) (y : Fin 256) :
    addCols ktb ds old (ix3 0 d y) = old (ix3 0 d y) + ∑ x : Fin 768, ktb (ix2 d x) * ds (ix2 x y) := by
  pointwise [addCols]

theorem first_at (x : FVec Ideal S768x64 .f32) (r : Fin 768) (d : Fin 64) : first x (ix3 0 r d) = x (ix2 r d) := by
  pointwise [first]

theorem later_at (old : Vec Ideal S1x768x64 .f32) (x : FVec Ideal S768x64 .f32) (r : Fin 768) (d : Fin 64) :
    later old x (ix3 0 r d) = old (ix3 0 r d) + x (ix2 r d) := by
  pointwise [later]

/-! ## Reading a tile's part of an array -/

/-- Query `y` of tile `c`. -/
def col (c : ℕ) (hc : c ≤ 32) (y : Fin 256) : Fin 8448 := ⟨256 * c + y.val, by have := y.isLt; omega⟩

theorem rows_at (X : Vec Ideal S2x8448x64 .bf16) (h : Fin 2) (c : ℕ) (hc : c ≤ 32) (y : Fin 256) (d : Fin 64) :
    rows X h c hc (ix3 0 y d) = X (ix3 h (col c hc y) d) :=
  congrArg X (Rect.emb_eq_of_coords _ _ _ fun a => match a with
    | ⟨0, _⟩ => by show h.val = h.val + 1 * 0; omega
    | ⟨1, _⟩ => by show 256 * c + y.val = 256 * c + 1 * y.val; omega
    | ⟨2, _⟩ => by show d.val = 0 + 1 * d.val; omega)

theorem part_at (X : Vec Ideal S2x1x8448 .f32) (h : Fin 2) (c : ℕ) (hc : c ≤ 32) (y : Fin 256) :
    part X h c hc (ix3 0 0 y) = X (ix3 h 0 (col c hc y)) :=
  congrArg X (Rect.emb_eq_of_coords _ _ _ fun a => match a with
    | ⟨0, _⟩ => by show h.val = h.val + 1 * 0; omega
    | ⟨1, _⟩ => by show 0 = 0 + 1 * 0; omega
    | ⟨2, _⟩ => by show 256 * c + y.val = 256 * c + 1 * y.val; omega)

theorem colRect_emb (i : grid0.Coords) (h : Fin 2) (c : ℕ) (hc : c ≤ 32) (a : Fin 4) (d : Fin 64) (s : Fin 8448) (y : Fin 256)
    (ha : a.val = 2 * (i 2).val + h.val) (hs : s.val = 256 * c + y.val) : (colRect i h c hc).emb (ix3 0 d y) = ix3 a d s :=
  Rect.emb_eq_of_coords _ _ _ fun e => match e with
    | ⟨0, _⟩ => by show a.val = colOff i h c 0 + 1 * 0; rw [colOff_eq, ha]; rfl
    | ⟨1, _⟩ => by show d.val = colOff i h c 1 + 1 * d.val; rw [colOff_eq]; show d.val = 0 + 1 * d.val; omega
    | ⟨2, _⟩ => by show s.val = colOff i h c 2 + 1 * y.val; rw [colOff_eq, hs]; show _ = 256 * c + 1 * y.val; omega

theorem colRect_miss (i : grid0.Coords) (h : Fin 2) (c : ℕ) (hc : c ≤ 32) (a : Fin 4) (d : Fin 64) (s : Fin 8448)
    (hm : ¬(a.val = 2 * (i 2).val + h.val ∧ s.val / 256 = c)) : (ix3 a d s : S4x64x8448.Idx) ∉ (colRect i h c hc).set := by
  by_cases ha : a.val = 2 * (i 2).val + h.val
  · exact Rect.not_mem_set_of_axis _ _ 2 (256 * c) 256 (by show colOff i h c 2 = _; rw [colOff_eq]; rfl) rfl rfl
      (by show s.val < _ ∨ _ ≤ s.val; omega)
  · exact Rect.not_mem_set_of_axis _ _ 0 (2 * (i 2).val + h.val) 1 (by show colOff i h c 0 = _; rw [colOff_eq]; rfl) rfl rfl
      (by show a.val < _ ∨ _ ≤ a.val; omega)

/-! ## A tile's weights and gradients, by the query's place in the whole row -/

variable (i : grid0.Coords) (R : Reads Ideal)

/-- The weight of key `x` of the block for query `s` of head `h` of the pair. -/
def wAt (h : Fin 2) (x : Fin 768) (s : Fin 8448) : EReal :=
  Ideal.exp2 ((if R.valid (ix2 x 0) = 1#1 then ∑ d : Fin 64, R.kb (ix2 x d) * R.q (ix3 h s d) else ⊥) - R.lse (ix3 h 0 s))

/-- The gradient of the score of key `x` of the block and query `s`. -/
def gAt (h : Fin 2) (x : Fin 768) (s : Fin 8448) : EReal :=
  wAt R h x s * ((∑ d : Fin 64, R.vb (ix2 x d) * R.ct (ix3 h s d)) - R.delta (ix3 h 0 s))

theorem tileWeights_at (h : Fin 2) (c : ℕ) (hc : c ≤ 32) (x : Fin 768) (y : Fin 256) :
    tileWeights R h c hc (ix2 x y) = wAt R h x (col c hc y) := by
  unfold tileWeights wAt
  rw [weights_at, scores_at, part_at]
  simp only [rows_at]

theorem tileGrad_at (h : Fin 2) (c : ℕ) (hc : c ≤ 32) (x : Fin 768) (y : Fin 256) :
    tileGrad R h c hc (ix2 x y) = gAt R h x (col c hc y) := by
  unfold tileGrad gAt
  rw [scoreGrad_at, tileWeights_at, scores_at, part_at]
  simp only [rows_at]

theorem tileAcc_dk (h : Fin 2) (c : ℕ) (hc : c ≤ 32) (s : Acc Ideal) (x : Fin 768) (d : Fin 64) :
    (tileAcc i R h c hc s).dk (ix2 x d) = s.dk (ix2 x d) + ∑ y : Fin 256, gAt R h x (col c hc y) * R.q (ix3 h (col c hc y) d) := by
  dsimp only [tileAcc]
  rw [addRows_at]
  simp only [rows_at, tileGrad_at]

theorem tileAcc_dv (h : Fin 2) (c : ℕ) (hc : c ≤ 32) (s : Acc Ideal) (x : Fin 768) (d : Fin 64) :
    (tileAcc i R h c hc s).dv (ix2 x d) = s.dv (ix2 x d) + ∑ y : Fin 256, wAt R h x (col c hc y) * R.ct (ix3 h (col c hc y) d) := by
  dsimp only [tileAcc]
  rw [addRows_at]
  simp only [rows_at]
  exact congrArg (s.dv (ix2 x d) + ·) (Finset.sum_congr rfl fun y _ =>
    congrArg (· * R.ct (ix3 h (col c hc y) d)) (tileWeights_at R h c hc x y))

theorem tileAcc_dq (h : Fin 2) (c : ℕ) (hc : c ≤ 32) (s : Acc Ideal) (a : Fin 4) (d : Fin 64) (e : Fin 8448) :
    (tileAcc i R h c hc s).dq (ix3 a d e) = if a.val = 2 * (i 2).val + h.val ∧ e.val / 256 = c
      then s.dq (ix3 a d e) + ∑ x : Fin 768, R.kt (ix2 d x) * gAt R h x e else s.dq (ix3 a d e) := by
  dsimp only [tileAcc]
  split
  · rename_i hm
    have hy : e.val % 256 < 256 := Nat.mod_lt _ (by omega)
    have he : col c hc ⟨e.val % 256, hy⟩ = e := Fin.ext (by show 256 * c + e.val % 256 = e.val; omega)
    have hr := colRect_emb i h c hc a d e ⟨e.val % 256, hy⟩ hm.1 (by show e.val = 256 * c + e.val % 256; omega)
    refine (congrArg _ hr.symm).trans ?_
    refine (Rect.overlay_emb _ _ _ _).trans ?_
    refine (addCols_at _ _ _ d _).trans ?_
    simp only [tileGrad_at, he, hr]
  · rename_i hm
    exact Rect.overlay_of_not_mem _ _ _ (colRect_miss i h c hc a d e hm)

end Cert.KernelIdeal.Flash
-- ==== Proof.LoopValue.lean ====
/-
  The loop's sums: what the state holds after the last tile.
-/
module

public import proofs.«01_k».proof.Proof.TileValue

@[expose] public section

noncomputable section

namespace Cert.KernelIdeal.Flash

open Idealize.ShloMosaic Idealize.ShloMosaic.Pointwise Cert.KernelIdeal.Gen

/-- A function of the queries, continued by zero to all numbers. -/
def ext {n : ℕ} (f : Fin n → EReal) (s : ℕ) : EReal := if h : s < n then f ⟨s, h⟩ else 0

theorem ext_of_lt {n : ℕ} (f : Fin n → EReal) (s : Fin n) : ext f s.val = f s := dif_pos s.isLt

theorem sum_ext {n : ℕ} (f : Fin n → EReal) : ∑ s ∈ Finset.range n, ext f s = ∑ s : Fin n, f s := by
  rw [Finset.sum_range]
  exact Finset.sum_congr rfl fun s _ => ext_of_lt f s

/-- The sum over the queries before tile `c + 1` is that before tile `c` and that of tile `c`. -/
theorem sum_tile (f : Fin 8448 → EReal) (c : ℕ) (hc : c ≤ 32) :
    ∑ s ∈ Finset.range (256 * (c + 1)), ext f s = ∑ s ∈ Finset.range (256 * c), ext f s + ∑ y : Fin 256, f (col c hc y) := by
  rw [Nat.mul_add, Nat.mul_one, Finset.sum_range_add, Finset.sum_range (n := 256)]
  exact congrArg _ (Finset.sum_congr rfl fun y _ => ext_of_lt f (col c hc y))

variable (i : grid0.Coords) (R : Reads Ideal) (s : Acc Ideal)

theorem upTo_dk (x : Fin 768) (d : Fin 64) : ∀ (n : ℕ) (hn : n ≤ 33), (upTo i R s n hn).dk (ix2 x d) = s.dk (ix2 x d)
    + (∑ e ∈ Finset.range (256 * n), ext (fun e => gAt R 0 x e * R.q (ix3 0 e d)) e
      + ∑ e ∈ Finset.range (256 * n), ext (fun e => gAt R 1 x e * R.q (ix3 1 e d)) e)
  | 0, _ => by simp [upTo]
  | n + 1, h => by
    unfold upTo
    rw [tileAcc_dk, tileAcc_dk, upTo_dk x d n (by omega), sum_tile _ n (by omega), sum_tile _ n (by omega)]
    abel

theorem upTo_dv (x : Fin 768) (d : Fin 64) : ∀ (n : ℕ) (hn : n ≤ 33), (upTo i R s n hn).dv (ix2 x d) = s.dv (ix2 x d)
    + (∑ e ∈ Finset.range (256 * n), ext (fun e => wAt R 0 x e * R.ct (ix3 0 e d)) e
      + ∑ e ∈ Finset.range (256 * n), ext (fun e => wAt R 1 x e * R.ct (ix3 1 e d)) e)
  | 0, _ => by simp [upTo]
  | n + 1, h => by
    unfold upTo
    rw [tileAcc_dv, tileAcc_dv, upTo_dv x d n (by omega), sum_tile _ n (by omega), sum_tile _ n (by omega)]
    abel

/-- Of the gradient of the queries the loop changes the pair's two heads, each query once. -/
theorem upTo_dq (a : Fin 4) (d : Fin 64) (e : Fin 8448) (h : Fin 2) (ha : a.val = 2 * (i 2).val + h.val) :
    ∀ (n : ℕ) (hn : n ≤ 33), (upTo i R s n hn).dq (ix3 a d e) = if e.val / 256 < n
      then s.dq (ix3 a d e) + ∑ x : Fin 768, R.kt (ix2 d x) * gAt R h x e else s.dq (ix3 a d e)
  | 0, _ => by simp [upTo]
  | n + 1, hn => by
    unfold upTo
    rw [tileAcc_dq, tileAcc_dq, upTo_dq a d e h ha n (by omega)]
    have h2 := h.isLt
    have h0 : (0 : Fin 2).val = 0 := rfl
    have h1 : (1 : Fin 2).val = 1 := rfl
    obtain rfl | rfl : h = 0 ∨ h = 1 := by omega
    · rw [if_neg (show ¬(a.val = 2 * (i 2).val + (1 : Fin 2).val ∧ e.val / 256 = n) by omega)]
      split_ifs <;> first | rfl | omega
    · rw [if_neg (show ¬(a.val = 2 * (i 2).val + (0 : Fin 2).val ∧ e.val / 256 = n) by omega)]
      split_ifs <;> first | rfl | omega

theorem upTo_dq_other (a : Fin 4) (d : Fin 64) (e : Fin 8448) (ha : a.val / 2 ≠ (i 2).val) :
    ∀ (n : ℕ) (hn : n ≤ 33), (upTo i R s n hn).dq (ix3 a d e) = s.dq (ix3 a d e)
  | 0, _ => rfl
  | n + 1, hn => by
    unfold upTo
    have h0 : (0 : Fin 2).val = 0 := rfl
    have h1 : (1 : Fin 2).val = 1 := rfl
    rw [tileAcc_dq, tileAcc_dq, upTo_dq_other a d e ha n (by omega), if_neg (by omega), if_neg (by omega)]

/-! ## Where the loop starts -/

theorem start_dk (Y : Vec Ideal S4x64x8448 .f32) (j : S768x64.Idx) : (start i Y).dk j = 0 := by
  show (k0_pay7 (F := Ideal)) j = 0
  pointwise [k0_pay7]

theorem start_dv (Y : Vec Ideal S4x64x8448 .f32) (j : S768x64.Idx) : (start i Y).dv j = 0 := by
  show (k0_pay8 (F := Ideal)) j = 0
  pointwise [k0_pay8]

theorem pay5_at (j : S1x64x8448.Idx) : k0_pay5 (F := Ideal) j = 0 := by
  pointwise [k0_pay5]

theorem pay6_at (j : S1x64x8448.Idx) : k0_pay6 (F := Ideal) j = 0 := by
  pointwise [k0_pay6]

theorem cond1_iff : k0_cond1 i = 1#1 ↔ (i 1).val = 0 := by
  have h : (i 1).val < 11 := (i 1).isLt
  unfold k0_cond1
  generalize (i 1).val = n at h
  interval_cases n <;> decide

theorem cond2_iff : k0_cond2 i = 1#1 ↔ (i 2).val = 0 := by
  have h : (i 2).val < 2 := (i 2).isLt
  unfold k0_cond2
  generalize (i 2).val = n at h
  interval_cases n <;> decide

theorem cond3_iff : k0_cond3 i = 1#1 ↔ (i 2).val = 1 := by
  have h : (i 2).val < 2 := (i 2).isLt
  unfold k0_cond3
  generalize (i 2).val = n at h
  interval_cases n <;> decide

theorem headOff_eq (h : Fin 2) : k0_off1 i (BitVec.ofNat 32 h.val) = ![2 * (i 2).val + h.val, 0, 0] := colOff_eq i h 0

/-- Clearing a head. -/
theorem head_overlay (h1 : k0_cond1 i = 1#1) (h : Fin 2) (Y : Vec Ideal S4x64x8448 .f32) (Z : Vec Ideal S1x64x8448 .f32) (hZ : ∀ j, Z j = 0)
    (a : Fin 4) (d : Fin 64) (e : Fin 8448) :
    (headRect i h1 h).overlay Y Z (ix3 a d e) = if a.val = 2 * (i 2).val + h.val then 0 else Y (ix3 a d e) := by
  split
  · rename_i ha
    have hr : (headRect i h1 h).emb (ix3 0 d e) = ix3 a d e := Rect.emb_eq_of_coords _ _ _ fun b => match b with
      | ⟨0, _⟩ => by show a.val = k0_off1 i (BitVec.ofNat 32 h.val) 0 + 1 * 0; rw [headOff_eq, ha]; rfl
      | ⟨1, _⟩ => by show d.val = k0_off1 i (BitVec.ofNat 32 h.val) 1 + 1 * d.val; rw [headOff_eq]; show d.val = 0 + 1 * d.val; omega
      | ⟨2, _⟩ => by show e.val = k0_off1 i (BitVec.ofNat 32 h.val) 2 + 1 * e.val; rw [headOff_eq]; show e.val = 0 + 1 * e.val; omega
    refine (congrArg _ hr.symm).trans ?_
    exact (Rect.overlay_emb _ _ _ _).trans (hZ _)
  · rename_i ha
    exact Rect.overlay_of_not_mem _ _ _ (Rect.not_mem_set_of_axis _ _ 0 (2 * (i 2).val + h.val) 1
      (by show k0_off1 i (BitVec.ofNat 32 h.val) 0 = _; rw [headOff_eq]; rfl) rfl rfl (by show a.val < _ ∨ _ ≤ a.val; omega))

theorem start_dq (Y : Vec Ideal S4x64x8448 .f32) (a : Fin 4) (d : Fin 64) (e : Fin 8448) (ha : a.val / 2 = (i 2).val) :
    (start i Y).dq (ix3 a d e) = if (i 1).val = 0 then 0 else Y (ix3 a d e) := by
  show zeroed i Y (ix3 a d e) = _
  unfold zeroed
  have h0 : (0 : Fin 2).val = 0 := rfl
  have h1 : (1 : Fin 2).val = 1 := rfl
  by_cases hc : k0_cond1 i = 1#1
  · rw [dif_pos hc, if_pos ((cond1_iff i).mp hc), head_overlay i hc 1 _ _ pay6_at, head_overlay i hc 0 _ _ pay5_at]
    split_ifs <;> first | rfl | omega
  · rw [dif_neg hc, if_neg (mt (cond1_iff i).mpr hc)]

theorem start_dq_other (Y : Vec Ideal S4x64x8448 .f32) (a : Fin 4) (d : Fin 64) (e : Fin 8448) (ha : a.val / 2 ≠ (i 2).val) :
    (start i Y).dq (ix3 a d e) = Y (ix3 a d e) := by
  show zeroed i Y (ix3 a d e) = _
  unfold zeroed
  have h0 : (0 : Fin 2).val = 0 := rfl
  have h1 : (1 : Fin 2).val = 1 := rfl
  by_cases hc : k0_cond1 i = 1#1
  · rw [dif_pos hc, head_overlay i hc 1 _ _ pay6_at, head_overlay i hc 0 _ _ pay5_at, if_neg (by omega), if_neg (by omega)]
  · rw [dif_neg hc]

/-! ## Where it ends -/

variable (Y : Vec Ideal S4x64x8448 .f32)

/-- A point's part of the gradient of the keys: a sum over the pair's heads and all the queries. -/
theorem final_dk (x : Fin 768) (d : Fin 64) :
    (final i R Y).dk (ix2 x d) = ∑ h : Fin 2, ∑ e : Fin 8448, gAt R h x e * R.q (ix3 h e d) := by
  unfold final
  rw [upTo_dk, start_dk, zero_add, sum_ext, sum_ext, Fin.sum_univ_two]

theorem final_dv (x : Fin 768) (d : Fin 64) :
    (final i R Y).dv (ix2 x d) = ∑ h : Fin 2, ∑ e : Fin 8448, wAt R h x e * R.ct (ix3 h e d) := by
  unfold final
  rw [upTo_dv, start_dv, zero_add, sum_ext, sum_ext, Fin.sum_univ_two]

/-- A point's change of the gradient of the queries: the block's keys are summed over. -/
theorem final_dq (a : Fin 4) (d : Fin 64) (e : Fin 8448) (h : Fin 2) (ha : a.val = 2 * (i 2).val + h.val) :
    (final i R Y).dq (ix3 a d e) = (if (i 1).val = 0 then 0 else Y (ix3 a d e)) + ∑ x : Fin 768, R.kt (ix2 d x) * gAt R h x e := by
  have hh := h.isLt
  have he := e.isLt
  unfold final
  rw [upTo_dq i R _ a d e h ha, if_pos (by omega), start_dq i Y a d e (by omega)]

theorem final_dq_other (a : Fin 4) (d : Fin 64) (e : Fin 8448) (ha : a.val / 2 ≠ (i 2).val) :
    (final i R Y).dq (ix3 a d e) = Y (ix3 a d e) := by
  unfold final
  rw [upTo_dq_other i R _ a d e ha, start_dq_other i Y a d e ha]

/-- What a block of a gradient of the keys or values is left at. -/
theorem leaveBlock_at (X : Vec Ideal S1x768x64 .f32) (z : FVec Ideal S768x64 .f32) (x : Fin 768) (d : Fin 64) :
    leaveBlock i X z (ix3 0 x d) = if (i 2).val = 0 then z (ix2 x d) else X (ix3 0 x d) + z (ix2 x d) := by
  have h2 : (i 2).val < 2 := (i 2).isLt
  have hr : blockRect.emb (ix3 0 x d) = (ix3 0 x d : S1x768x64.Idx) := Rect.emb_eq_of_coords _ _ _ fun b => match b with
    | ⟨0, _⟩ => by show 0 = 0 + 1 * 0; omega
    | ⟨1, _⟩ => by show x.val = 0 + 1 * x.val; omega
    | ⟨2, _⟩ => by show d.val = 0 + 1 * d.val; omega
  have ho : ∀ (A : Vec Ideal S1x768x64 .f32) (B : Vec Ideal S1x768x64 .f32), blockRect.overlay A B (ix3 0 x d) = B (ix3 0 x d) :=
    fun A B => (congrArg _ hr.symm).trans (Rect.overlay_emb _ _ _ _)
  unfold leaveBlock
  dsimp only
  by_cases hz : (i 2).val = 0
  · rw [if_pos ((cond2_iff i).mpr hz), if_neg (mt (cond3_iff i).mp (by omega)), if_pos hz, ho, first_at]
  · rw [if_neg (mt (cond2_iff i).mp hz), if_pos ((cond3_iff i).mpr (by omega)), if_neg hz, ho, later_at]
    exact congrArg (· + z (ix2 x d)) (congrArg X hr)

end Cert.KernelIdeal.Flash
-- ==== Proof.PointValue.lean ====
/-
  What a grid point reads, by the places in the whole arrays, and what it computes of them.
-/
module

public import proofs.«01_k».proof.Proof.LoopValue
public import proofs.«01_k».proof.Proof.Run
public import Idealize.ShloMosaic.Lib.Pipeline.Value

@[expose] public section

noncomputable section

namespace Cert.KernelIdeal.Flash

open Idealize.ShloMosaic Idealize.ShloMosaic.TcCoe Idealize.ShloMosaic.Pointwise Cert.KernelIdeal.Gen
open Idealize.SL Idealize.SL.Sem

/-! ## A point's coordinates -/

theorem coord0 : ∀ t : Fin cfg0.N, (grid0.coords t 0).val = t.val / 22 :=
  (by decide +kernel : ∀ t : Fin grid0.N, (grid0.coords t 0).val = t.val / 22)

theorem coord1 : ∀ t : Fin cfg0.N, (grid0.coords t 1).val = t.val / 2 % 11 :=
  (by decide +kernel : ∀ t : Fin grid0.N, (grid0.coords t 1).val = t.val / 2 % 11)

theorem coord2 : ∀ t : Fin cfg0.N, (grid0.coords t 2).val = t.val % 2 :=
  (by decide +kernel : ∀ t : Fin grid0.N, (grid0.coords t 2).val = t.val % 2)

theorem point_lt (t : Fin cfg0.N) : t.val < 88 := t.isLt

/-- The group of heads of a point. -/
def gr (t : Fin cfg0.N) : Fin 4 := ⟨t.val / 22, by have := point_lt t; omega⟩

/-- Head `p` of a point's pair. -/
def hd (t : Fin cfg0.N) (p : Fin 2) : Fin 16 := ⟨4 * (t.val / 22) + 2 * (t.val % 2) + p.val, by have := point_lt t; have := p.isLt; omega⟩

/-- Key `x` of a point's block. -/
def ky (t : Fin cfg0.N) (x : Fin 768) : Fin 8448 := ⟨768 * (t.val / 2 % 11) + x.val, by have := x.isLt; omega⟩

/-- The group of a head. -/
def grp (H : Fin 16) : Fin 4 := ⟨H.val / 4, by have := H.isLt; omega⟩

theorem grp_hd (t : Fin cfg0.N) (p : Fin 2) : grp (hd t p) = gr t :=
  Fin.ext (by show (4 * (t.val / 22) + 2 * (t.val % 2) + p.val) / 4 = t.val / 22; have := p.isLt; omega)

/-! ## The blocks -/

theorem index0 : ∀ t : Fin cfg0.N, cc0_transform_0 (grid0.coords t) = ![2 * (t.val / 22) + t.val % 2, 0, 0] :=
  (by decide +kernel : ∀ t : Fin grid0.N, cc0_transform_0 (grid0.coords t) = ![2 * (t.val / 22) + t.val % 2, 0, 0])

theorem index4 : ∀ t : Fin cfg0.N, cc0_transform_4 (grid0.coords t) = ![t.val / 22, t.val / 2 % 11, 0] :=
  (by decide +kernel : ∀ t : Fin grid0.N, cc0_transform_4 (grid0.coords t) = ![t.val / 22, t.val / 2 % 11, 0])

theorem index5 : ∀ t : Fin cfg0.N, cc0_transform_5 (grid0.coords t) = ![t.val / 22, 0, t.val / 2 % 11] :=
  (by decide +kernel : ∀ t : Fin grid0.N, cc0_transform_5 (grid0.coords t) = ![t.val / 22, 0, t.val / 2 % 11])

theorem index7 : ∀ t : Fin cfg0.N, cc0_transform_7 (grid0.coords t) = ![t.val / 22, 0, 0] :=
  (by decide +kernel : ∀ t : Fin grid0.N, cc0_transform_7 (grid0.coords t) = ![t.val / 22, 0, 0])

variable (m : (ℓ : Loc nD τ sig) → Buf (Elt Ideal) ℓ) (c : Dev nD)

/-- The arrays that the call takes: queries, output's gradient, log-sum-exps, `delta`, keys, transposed keys, values. -/
def arrQ : FVec Ideal S16x8448x64 .bf16 := V m c main_v9
def arrO : FVec Ideal S16x8448x64 .bf16 := V m c main_v42
def arrL : FVec Ideal S16x1x8448 .f32 := V m c main_v43
def arrD : FVec Ideal S16x1x8448 .f32 := V m c main_v46
def arrK : FVec Ideal S4x8448x64 .bf16 := V m c main_v11
def arrT : FVec Ideal S4x64x8448 .bf16 := V m c main_v39
def arrV : FVec Ideal S4x8448x64 .bf16 := V m c main_v13

theorem read_q (t : Fin cfg0.N) (p : Fin 2) (s : Fin 8448) (d : Fin 64) : (readsAt m c t).q (ix3 p s d) = arrQ m c (ix3 (hd t p) s d) :=
  congrArg (V m c main_v9) (Rect.emb_eq_of_coords (win0_0.rect t) _ _ fun a => match a with
    | ⟨0, _⟩ => by show _ = cc0_transform_0 (grid0.coords t) 0 * 2 + 1 * p.val; rw [index0]; show 4 * (t.val / 22) + 2 * (t.val % 2) + p.val = (2 * (t.val / 22) + t.val % 2) * 2 + 1 * p.val; omega
    | ⟨1, _⟩ => by show _ = cc0_transform_0 (grid0.coords t) 1 * 8448 + 1 * s.val; rw [index0]; show s.val = 0 * 8448 + 1 * s.val; omega
    | ⟨2, _⟩ => by show _ = cc0_transform_0 (grid0.coords t) 2 * 64 + 1 * d.val; rw [index0]; show d.val = 0 * 64 + 1 * d.val; omega)

theorem read_ct (t : Fin cfg0.N) (p : Fin 2) (s : Fin 8448) (d : Fin 64) : (readsAt m c t).ct (ix3 p s d) = arrO m c (ix3 (hd t p) s d) :=
  congrArg (V m c main_v42) (Rect.emb_eq_of_coords (win0_1.rect t) _ _ fun a => match a with
    | ⟨0, _⟩ => by show _ = cc0_transform_0 (grid0.coords t) 0 * 2 + 1 * p.val; rw [index0]; show 4 * (t.val / 22) + 2 * (t.val % 2) + p.val = (2 * (t.val / 22) + t.val % 2) * 2 + 1 * p.val; omega
    | ⟨1, _⟩ => by show _ = cc0_transform_0 (grid0.coords t) 1 * 8448 + 1 * s.val; rw [index0]; show s.val = 0 * 8448 + 1 * s.val; omega
    | ⟨2, _⟩ => by show _ = cc0_transform_0 (grid0.coords t) 2 * 64 + 1 * d.val; rw [index0]; show d.val = 0 * 64 + 1 * d.val; omega)

theorem read_lse (t : Fin cfg0.N) (p : Fin 2) (s : Fin 8448) : (readsAt m c t).lse (ix3 p 0 s) = arrL m c (ix3 (hd t p) 0 s) :=
  congrArg (V m c main_v43) (Rect.emb_eq_of_coords (win0_2.rect t) _ _ fun a => match a with
    | ⟨0, _⟩ => by show _ = cc0_transform_0 (grid0.coords t) 0 * 2 + 1 * p.val; rw [index0]; show 4 * (t.val / 22) + 2 * (t.val % 2) + p.val = (2 * (t.val / 22) + t.val % 2) * 2 + 1 * p.val; omega
    | ⟨1, _⟩ => by show _ = cc0_transform_0 (grid0.coords t) 1 * 1 + 1 * 0; rw [index0]; rfl
    | ⟨2, _⟩ => by show _ = cc0_transform_0 (grid0.coords t) 2 * 8448 + 1 * s.val; rw [index0]; show s.val = 0 * 8448 + 1 * s.val; omega)

theorem read_delta (t : Fin cfg0.N) (p : Fin 2) (s : Fin 8448) : (readsAt m c t).delta (ix3 p 0 s) = arrD m c (ix3 (hd t p) 0 s) :=
  congrArg (V m c main_v46) (Rect.emb_eq_of_coords (win0_3.rect t) _ _ fun a => match a with
    | ⟨0, _⟩ => by show _ = cc0_transform_0 (grid0.coords t) 0 * 2 + 1 * p.val; rw [index0]; show 4 * (t.val / 22) + 2 * (t.val % 2) + p.val = (2 * (t.val / 22) + t.val % 2) * 2 + 1 * p.val; omega
    | ⟨1, _⟩ => by show _ = cc0_transform_0 (grid0.coords t) 1 * 1 + 1 * 0; rw [index0]; rfl
    | ⟨2, _⟩ => by show _ = cc0_transform_0 (grid0.coords t) 2 * 8448 + 1 * s.val; rw [index0]; show s.val = 0 * 8448 + 1 * s.val; omega)

/-- A block of keys or values, loaded whole. -/
theorem block_emb (x : Fin 768) (d : Fin 64) : blockRect.emb (ix3 0 x d) = (ix3 0 x d : S1x768x64.Idx) :=
  Rect.emb_eq_of_coords _ _ _ fun b => match b with
    | ⟨0, _⟩ => by show 0 = 0 + 1 * 0; omega
    | ⟨1, _⟩ => by show x.val = 0 + 1 * x.val; omega
    | ⟨2, _⟩ => by show d.val = 0 + 1 * d.val; omega

theorem key_emb (d : Fin 64) (x : Fin 768) : keyRect.emb (ix3 0 d x) = (ix3 0 d x : S1x64x768.Idx) :=
  Rect.emb_eq_of_coords _ _ _ fun b => match b with
    | ⟨0, _⟩ => by show 0 = 0 + 1 * 0; omega
    | ⟨1, _⟩ => by show d.val = 0 + 1 * d.val; omega
    | ⟨2, _⟩ => by show x.val = 0 + 1 * x.val; omega

theorem pay1_at (v : Vec Ideal S1x768x64 .bf16) (x : Fin 768) (d : Fin 64) : k0_pay1 v (ix2 x d) = v (ix3 0 x d) := by
  pointwise [k0_pay1]

theorem pay2_at (v : Vec Ideal S1x768x64 .bf16) (x : Fin 768) (d : Fin 64) : k0_pay2 v (ix2 x d) = v (ix3 0 x d) := by
  pointwise [k0_pay2]

theorem pay3_at (v : Vec Ideal S1x64x768 .bf16) (d : Fin 64) (x : Fin 768) : k0_pay3 v (ix2 d x) = v (ix3 0 d x) := by
  pointwise [k0_pay3]

theorem read_kb (t : Fin cfg0.N) (x : Fin 768) (d : Fin 64) : (readsAt m c t).kb (ix2 x d) = arrK m c (ix3 (gr t) (ky t x) d) := by
  have e : (iblk m c 4 t : Vec Ideal S1x768x64 .bf16) (ix3 0 x d) = arrK m c (ix3 (gr t) (ky t x) d) := congrArg (V m c main_v11) (Rect.emb_eq_of_coords (win0_4.rect t) _ _ fun a => match a with
    | ⟨0, _⟩ => by show _ = cc0_transform_4 (grid0.coords t) 0 * 1 + 1 * 0; rw [index4]; show t.val / 22 = (t.val / 22) * 1 + 1 * 0; omega
    | ⟨1, _⟩ => by show _ = cc0_transform_4 (grid0.coords t) 1 * 768 + 1 * x.val; rw [index4]; show 768 * (t.val / 2 % 11) + x.val = (t.val / 2 % 11) * 768 + 1 * x.val; omega
    | ⟨2, _⟩ => by show _ = cc0_transform_4 (grid0.coords t) 2 * 64 + 1 * d.val; rw [index4]; show d.val = 0 * 64 + 1 * d.val; omega)
  have e1 : (readsAt m c t).kb (ix2 x d) = k0_pay1 (fun j => (iblk m c 4 t : Vec Ideal S1x768x64 .bf16) (blockRect.emb j)) (ix2 x d) := rfl
  rw [e1, pay1_at, block_emb, e]

theorem read_vb (t : Fin cfg0.N) (x : Fin 768) (d : Fin 64) : (readsAt m c t).vb (ix2 x d) = arrV m c (ix3 (gr t) (ky t x) d) := by
  have e : (iblk m c 6 t : Vec Ideal S1x768x64 .bf16) (ix3 0 x d) = arrV m c (ix3 (gr t) (ky t x) d) := congrArg (V m c main_v13) (Rect.emb_eq_of_coords (win0_6.rect t) _ _ fun a => match a with
    | ⟨0, _⟩ => by show _ = cc0_transform_4 (grid0.coords t) 0 * 1 + 1 * 0; rw [index4]; show t.val / 22 = (t.val / 22) * 1 + 1 * 0; omega
    | ⟨1, _⟩ => by show _ = cc0_transform_4 (grid0.coords t) 1 * 768 + 1 * x.val; rw [index4]; show 768 * (t.val / 2 % 11) + x.val = (t.val / 2 % 11) * 768 + 1 * x.val; omega
    | ⟨2, _⟩ => by show _ = cc0_transform_4 (grid0.coords t) 2 * 64 + 1 * d.val; rw [index4]; show d.val = 0 * 64 + 1 * d.val; omega)
  have e1 : (readsAt m c t).vb (ix2 x d) = k0_pay2 (fun j => (iblk m c 6 t : Vec Ideal S1x768x64 .bf16) (blockRect.emb j)) (ix2 x d) := rfl
  rw [e1, pay2_at, block_emb, e]

theorem read_kt (t : Fin cfg0.N) (d : Fin 64) (x : Fin 768) : (readsAt m c t).kt (ix2 d x) = arrT m c (ix3 (gr t) d (ky t x)) := by
  have e : (iblk m c 5 t : Vec Ideal S1x64x768 .bf16) (ix3 0 d x) = arrT m c (ix3 (gr t) d (ky t x)) := congrArg (V m c main_v39) (Rect.emb_eq_of_coords (win0_5.rect t) _ _ fun a => match a with
    | ⟨0, _⟩ => by show _ = cc0_transform_5 (grid0.coords t) 0 * 1 + 1 * 0; rw [index5]; show t.val / 22 = (t.val / 22) * 1 + 1 * 0; omega
    | ⟨1, _⟩ => by show _ = cc0_transform_5 (grid0.coords t) 1 * 64 + 1 * d.val; rw [index5]; show d.val = 0 * 64 + 1 * d.val; omega
    | ⟨2, _⟩ => by show _ = cc0_transform_5 (grid0.coords t) 2 * 768 + 1 * x.val; rw [index5]; show 768 * (t.val / 2 % 11) + x.val = (t.val / 2 % 11) * 768 + 1 * x.val; omega)
  have e1 : (readsAt m c t).kt (ix2 d x) = k0_pay3 (fun j => (iblk m c 5 t : Vec Ideal S1x64x768 .bf16) (keyRect.emb j)) (ix2 d x) := rfl
  rw [e1, pay3_at, key_emb, e]

/-- The keys before 240 are padding. -/
theorem valid_at (i : grid0.Coords) (x : Fin 768) : (k0_pay4 i (ix2 x 0) = 1#1) ↔ 240 ≤ 768 * (i 1).val + x.val := by
  have h1 : (i 1).val < 11 := (i 1).isLt
  have hx := x.isLt
  pointwise [k0_pay4]
  have hs : BitVec.ofNat 32 x.val + BitVec.ofNat 32 (i 1).val * 768#32 = BitVec.ofNat 32 (768 * (i 1).val + x.val) := by
    apply BitVec.eq_of_toNat_eq
    simp only [BitVec.toNat_add, BitVec.toNat_mul, BitVec.toNat_ofNat]
    omega
  show BitVec.ofBool ((240#32).sle (BitVec.ofNat 32 x.val + BitVec.ofNat 32 (i 1).val * 768#32)) = 1#1 ↔ _
  rw [hs]
  have hn : 768 * (i 1).val + x.val < 8448 := by omega
  generalize 768 * (i 1).val + x.val = n at hn
  have hi : (BitVec.ofNat 32 n).toInt = n := by
    rw [BitVec.toInt_eq_toNat_of_lt (by rw [BitVec.toNat_ofNat]; omega), BitVec.toNat_ofNat]
    omega
  have h2 : (240#32).toInt = 240 := by decide
  have hb : ((240#32).sle (BitVec.ofNat 32 n)) = true ↔ 240 ≤ n := by
    rw [BitVec.sle_iff_toInt_le, hi, h2]
    omega
  rw [← hb]
  cases (240#32).sle (BitVec.ofNat 32 n) <;> decide

/-! ## Weights and gradients of scores, of the whole arrays -/

/-- The weight of a key for a query of head `H`. -/
def wG (H : Fin 16) (k s : Fin 8448) : EReal :=
  Ideal.exp2 ((if 240 ≤ k.val then ∑ d : Fin 64, arrK m c (ix3 (grp H) k d) * arrQ m c (ix3 H s d) else ⊥) - arrL m c (ix3 H 0 s))

/-- The gradient of the score of a key and a query of head `H`. -/
def gG (H : Fin 16) (k s : Fin 8448) : EReal :=
  wG m c H k s * ((∑ d : Fin 64, arrV m c (ix3 (grp H) k d) * arrO m c (ix3 H s d)) - arrD m c (ix3 H 0 s))

theorem wAt_eq (t : Fin cfg0.N) (p : Fin 2) (x : Fin 768) (s : Fin 8448) : wAt (readsAt m c t) p x s = wG m c (hd t p) (ky t x) s := by
  unfold wAt wG
  rw [read_lse, grp_hd]
  have hv : ((readsAt m c t).valid (ix2 x 0) = 1#1) ↔ 240 ≤ (ky t x).val := by
    refine (valid_at (grid0.coords t) x).trans ?_
    rw [coord1]
    rfl
  simp only [hv, read_kb, read_q]

theorem gAt_eq (t : Fin cfg0.N) (p : Fin 2) (x : Fin 768) (s : Fin 8448) : gAt (readsAt m c t) p x s = gG m c (hd t p) (ky t x) s := by
  unfold gAt gG
  rw [wAt_eq, read_delta, grp_hd]
  simp only [read_vb, read_ct]

end Cert.KernelIdeal.Flash
-- ==== Proof.ChainValue.lean ====
/-
  What the results' buffers hold after each grid point.
-/
module

public import proofs.«01_k».proof.Proof.PointValue

@[expose] public section

noncomputable section

namespace Cert.KernelIdeal.Flash

open Idealize.ShloMosaic Idealize.ShloMosaic.TcCoe Idealize.ShloMosaic.Pointwise Cert.KernelIdeal.Gen
open Idealize.SL Idealize.SL.Sem
open Pipeline (RDat Dat)

variable (m : (ℓ : Loc nD τ sig) → Buf (Elt Ideal) ℓ) (c : Dev nD)

/-- Head `a` of a point's group. -/
def gh (t : Fin cfg0.N) (a : Fin 4) : Fin 16 := ⟨4 * (t.val / 22) + a.val, by have := point_lt t; have := a.isLt; omega⟩

theorem grp_gh (t : Fin cfg0.N) (a : Fin 4) : grp (gh t a) = gr t :=
  Fin.ext (by show (4 * (t.val / 22) + a.val) / 4 = t.val / 22; have := a.isLt; omega)

/-- The gradient of a query, of the first `n` blocks of keys. -/
def dqPart (H : Fin 16) (d : Fin 64) (s : Fin 8448) (n : ℕ) : EReal :=
  ∑ k ∈ Finset.range (768 * n), ext (fun k => arrT m c (ix3 (grp H) d k) * gG m c H k s) k

theorem dqPart_zero (H : Fin 16) (d : Fin 64) (s : Fin 8448) : dqPart m c H d s 0 = 0 := rfl

theorem dqPart_succ (t : Fin cfg0.N) (H : Fin 16) (d : Fin 64) (s : Fin 8448) : dqPart m c H d s (t.val / 2 % 11 + 1)
    = dqPart m c H d s (t.val / 2 % 11) + ∑ x : Fin 768, arrT m c (ix3 (grp H) d (ky t x)) * gG m c H (ky t x) s := by
  unfold dqPart
  rw [Nat.mul_add, Nat.mul_one, Finset.sum_range_add, Finset.sum_range (n := 768)]
  exact congrArg _ (Finset.sum_congr rfl fun x _ => ext_of_lt _ (ky t x))

theorem fetch7 (t : Fin cfg0.N) : (cfg0.win 7).fetch t = false := (cfg0.win 7).fetch_out rfl t
theorem fetch8 (t : Fin cfg0.N) : (cfg0.win 8).fetch t = false := (cfg0.win 8).fetch_out rfl t
theorem fetch9 (t : Fin cfg0.N) : (cfg0.win 9).fetch t = false := (cfg0.win 9).fetch_out rfl t

theorem after7 : (blocks m c).after 7 = leaves7 m c := RDat.override_after_of_eq_some _ rfl
theorem after8 : (blocks m c).after 8 = leaves8 m c := RDat.override_after_of_eq_some _ rfl
theorem after9 : (blocks m c).after 9 = leaves9 m c := RDat.override_after_of_eq_some _ rfl

/-- The point before. -/
def prev (t : Fin cfg0.N) : Fin cfg0.N := ⟨t.val - 1, Nat.lt_of_le_of_lt (Nat.sub_le _ _) t.isLt⟩

theorem finds_prev7 (t : Fin cfg0.N) (ht : t.val % 22 ≠ 0) (X : Vec Ideal S4x64x8448 .f32) (h : (blocks m c).Finds 7 t X) : (blocks m c).Leaves 7 (prev t) X :=
  (((blocks m c).finds_of_pos (fetch7 t) (by omega) X).mp h).resolve_left fun hf => by
    have := (flush0_7 _).mp hf
    have e : (t.val - 1) % 22 = 21 := this
    omega

theorem finds_prev8 (t : Fin cfg0.N) (ht : t.val % 2 ≠ 0) (X : Vec Ideal S1x768x64 .f32) (h : (blocks m c).Finds 8 t X) : (blocks m c).Leaves 8 (prev t) X :=
  (((blocks m c).finds_of_pos (fetch8 t) (by omega) X).mp h).resolve_left fun hf => by
    have := (flush0_8 _).mp hf
    have e : (t.val - 1) % 2 = 1 := this
    omega

theorem finds_prev9 (t : Fin cfg0.N) (ht : t.val % 2 ≠ 0) (X : Vec Ideal S1x768x64 .f32) (h : (blocks m c).Finds 9 t X) : (blocks m c).Leaves 9 (prev t) X :=
  (((blocks m c).finds_of_pos (fetch9 t) (by omega) X).mp h).resolve_left fun hf => by
    have := (flush0_9 _).mp hf
    have e : (t.val - 1) % 2 = 1 := this
    omega

/-- The gradient of the queries after a point: a head of the pairs done has this block of keys too. -/
theorem dq_chain : ∀ (n : ℕ) (t : Fin cfg0.N) (ht : t.val = n) (X : Vec Ideal S4x64x8448 .f32), (blocks m c).Leaves 7 t X →
    ∀ (a : Fin 4) (d : Fin 64) (s : Fin 8448),
      (a.val / 2 ≤ t.val % 2 → X (ix3 a d s) = dqPart m c (gh t a) d s (t.val / 2 % 11 + 1))
        ∧ (t.val % 2 < a.val / 2 → t.val / 2 % 11 ≠ 0 → X (ix3 a d s) = dqPart m c (gh t a) d s (t.val / 2 % 11)) := by
  intro n
  induction n using Nat.strong_induction_on with
  | _ n ih =>
    intro t ht X hX a d s
    obtain ⟨Y, hY, hA⟩ := hX
    rw [after7] at hA
    have hX : X = (final (grid0.coords t) (readsAt m c t) Y).dq := hA
    have h1 := coord1 t
    have h2 := coord2 t
    have hlt := point_lt t
    have ha4 := a.isLt
    have hp : t.val % 22 ≠ 0 → ((prev t).val / 22 = t.val / 22) → gh (prev t) a = gh t a := fun _ e =>
      Fin.ext (by show 4 * ((prev t).val / 22) + a.val = 4 * (t.val / 22) + a.val; rw [e])
    have hv : (prev t).val = t.val - 1 := rfl
    by_cases hc : a.val / 2 = t.val % 2
    · refine ⟨fun _ => ?_, fun h => by omega⟩
      have hh : hd t ⟨a.val % 2, by omega⟩ = gh t a := Fin.ext (by
        show 4 * (t.val / 22) + 2 * (t.val % 2) + a.val % 2 = 4 * (t.val / 22) + a.val; omega)
      rw [hX, final_dq (grid0.coords t) (readsAt m c t) Y a d s ⟨a.val % 2, by omega⟩ (by rw [h2]; show a.val = 2 * (t.val % 2) + a.val % 2; omega),
        dqPart_succ, h1]
      simp only [gAt_eq, read_kt, hh, grp_gh]
      refine congrArg (· + _) ?_
      by_cases hj : t.val / 2 % 11 = 0
      · rw [if_pos hj, hj, dqPart_zero]
      · rw [if_neg hj]
        have ht22 : t.val % 22 ≠ 0 := by omega
        have hl := ih (t.val - 1) (by omega) (prev t) rfl Y (finds_prev7 m c t ht22 Y hY) a d s
        have hg := hp ht22 (by rw [hv]; omega)
        rw [hg, hv] at hl
        by_cases h0 : t.val % 2 = 0
        · rw [hl.1 (by omega)]
          exact congrArg _ (by omega)
        · rw [hl.2 (by omega) (by omega)]
          exact congrArg _ (by omega)
    · have hq := final_dq_other (grid0.coords t) (readsAt m c t) Y a d s (by rw [h2]; exact hc)
      rw [← hX] at hq
      rw [hq]
      refine ⟨fun h => ?_, fun h hj => ?_⟩
      · have ht22 : t.val % 22 ≠ 0 := by omega
        have hl := ih (t.val - 1) (by omega) (prev t) rfl Y (finds_prev7 m c t ht22 Y hY) a d s
        have hg := hp ht22 (by rw [hv]; omega)
        rw [hg, hv] at hl
        rw [hl.1 (by omega)]
        exact congrArg _ (by omega)
      · have ht22 : t.val % 22 ≠ 0 := by omega
        have hl := ih (t.val - 1) (by omega) (prev t) rfl Y (finds_prev7 m c t ht22 Y hY) a d s
        have hg := hp ht22 (by rw [hv]; omega)
        rw [hg, hv] at hl
        rw [hl.1 (by omega)]
        exact congrArg _ (by omega)

/-- The gradient of a key, of one head. -/
def dkHead (H : Fin 16) (k : Fin 8448) (d : Fin 64) : EReal := ∑ e : Fin 8448, gG m c H k e * arrQ m c (ix3 H e d)

/-- The gradient of a value, of one head. -/
def dvHead (H : Fin 16) (k : Fin 8448) (d : Fin 64) : EReal := ∑ e : Fin 8448, wG m c H k e * arrO m c (ix3 H e d)

theorem leave8 (t : Fin cfg0.N) (Y X : Vec Ideal S1x768x64 .f32) (h : leaves8 m c t Y X) (x : Fin 768) (d : Fin 64) :
    X (ix3 0 x d) = if t.val % 2 = 0 then ∑ p : Fin 2, dkHead m c (hd t p) (ky t x) d
      else Y (ix3 0 x d) + ∑ p : Fin 2, dkHead m c (hd t p) (ky t x) d := by
  obtain ⟨Z, rfl⟩ := h
  rw [leaveBlock_at, coord2, final_dk]
  unfold dkHead
  simp only [gAt_eq, read_q]

theorem leave9 (t : Fin cfg0.N) (Y X : Vec Ideal S1x768x64 .f32) (h : leaves9 m c t Y X) (x : Fin 768) (d : Fin 64) :
    X (ix3 0 x d) = if t.val % 2 = 0 then ∑ p : Fin 2, dvHead m c (hd t p) (ky t x) d
      else Y (ix3 0 x d) + ∑ p : Fin 2, dvHead m c (hd t p) (ky t x) d := by
  obtain ⟨Z, rfl⟩ := h
  rw [leaveBlock_at, coord2, final_dv]
  unfold dvHead
  simp only [wAt_eq, read_ct]

/-- A sum over the group's heads is that over its two pairs. -/
theorem sum_pairs (t : Fin cfg0.N) (ht : t.val % 2 = 1) (f : Fin 16 → EReal) :
    ∑ p : Fin 2, f (hd (prev t) p) + ∑ p : Fin 2, f (hd t p) = ∑ a : Fin 4, f (gh t a) := by
  have hv : (prev t).val = t.val - 1 := rfl
  have e0 : hd (prev t) 0 = gh t 0 := Fin.ext (by show 4 * ((prev t).val / 22) + 2 * ((prev t).val % 2) + 0 = 4 * (t.val / 22) + 0; omega)
  have e1 : hd (prev t) 1 = gh t 1 := Fin.ext (by show 4 * ((prev t).val / 22) + 2 * ((prev t).val % 2) + 1 = 4 * (t.val / 22) + 1; omega)
  have e2 : hd t 0 = gh t 2 := Fin.ext (by show 4 * (t.val / 22) + 2 * (t.val % 2) + 0 = 4 * (t.val / 22) + 2; omega)
  have e3 : hd t 1 = gh t 3 := Fin.ext (by show 4 * (t.val / 22) + 2 * (t.val % 2) + 1 = 4 * (t.val / 22) + 3; omega)
  rw [Fin.sum_univ_two, Fin.sum_univ_two, Fin.sum_univ_four, e0, e1, e2, e3]
  abel

theorem ky_prev (t : Fin cfg0.N) (ht : t.val % 2 = 1) (x : Fin 768) : ky (prev t) x = ky t x := by
  have hv : (prev t).val = t.val - 1 := rfl
  exact Fin.ext (by show 768 * ((prev t).val / 2 % 11) + x.val = 768 * (t.val / 2 % 11) + x.val; omega)

/-- The gradient of a block of keys when it is written back: of all four heads of the group. -/
theorem dk_chain (t : Fin cfg0.N) (ht : t.val % 2 = 1) (X : Vec Ideal S1x768x64 .f32) (h : (blocks m c).Leaves 8 t X) (x : Fin 768) (d : Fin 64) :
    X (ix3 0 x d) = ∑ a : Fin 4, dkHead m c (gh t a) (ky t x) d := by
  obtain ⟨Y, hY, hA⟩ := h
  rw [after8] at hA
  obtain ⟨Y', -, hA'⟩ := finds_prev8 m c t (by omega) Y hY
  rw [after8] at hA'
  have hv : (prev t).val = t.val - 1 := rfl
  rw [leave8 m c t Y X hA, if_neg (by omega), leave8 m c (prev t) Y' Y hA', if_pos (by omega), ky_prev t ht]
  exact sum_pairs t ht fun H => dkHead m c H (ky t x) d

theorem dv_chain (t : Fin cfg0.N) (ht : t.val % 2 = 1) (X : Vec Ideal S1x768x64 .f32) (h : (blocks m c).Leaves 9 t X) (x : Fin 768) (d : Fin 64) :
    X (ix3 0 x d) = ∑ a : Fin 4, dvHead m c (gh t a) (ky t x) d := by
  obtain ⟨Y, hY, hA⟩ := h
  rw [after9] at hA
  obtain ⟨Y', -, hA'⟩ := finds_prev9 m c t (by omega) Y hY
  rw [after9] at hA'
  have hv : (prev t).val = t.val - 1 := rfl
  rw [leave9 m c t Y X hA, if_neg (by omega), leave9 m c (prev t) Y' Y hA', if_pos (by omega), ky_prev t ht]
  exact sum_pairs t ht fun H => dvHead m c H (ky t x) d

end Cert.KernelIdeal.Flash
-- ==== Proof.ArrayValue.lean ====
/-
  The three result arrays after the run.
-/
module

public import proofs.«01_k».proof.Proof.ChainValue
public import Idealize.ShloMosaic.Lib.Pipeline.ArrRel
public import Idealize.ShloMosaic.Lib.Pipeline.ValueKit.Geometry

@[expose] public section

noncomputable section

namespace Cert.KernelIdeal.Flash

open Idealize.ShloMosaic Idealize.ShloMosaic.TcCoe Idealize.ShloMosaic.Pointwise Cert.KernelIdeal.Gen
open Idealize.SL Idealize.SL.Sem
open Pipeline (RDat Dat)

variable (m : (ℓ : Loc nD τ sig) → Buf (Elt Ideal) ℓ) (ρ : Dev nD → PrngReg) (c : Dev nD)

/-- The gradient of the queries, by head. -/
def dqAll : Vec Ideal S16x64x8448 .f32 := fun i => dqPart m c (i 0) (i 1) (i 2) 11

/-- Head `a` of a group. -/
def ghd (g a : Fin 4) : Fin 16 := ⟨4 * g.val + a.val, by have := g.isLt; have := a.isLt; omega⟩

/-- The gradient of the keys, by group. -/
def dkAll : Vec Ideal S4x8448x64 .f32 := fun i => ∑ a : Fin 4, dkHead m c (ghd (i 0) a) (i 1) (i 2)

/-- The gradient of the values, by group. -/
def dvAll : Vec Ideal S4x8448x64 .f32 := fun i => ∑ a : Fin 4, dvHead m c (ghd (i 0) a) (i 1) (i 2)

theorem emb7 (t : Fin cfg0.N) (a : Fin 4) (d : Fin 64) (s : Fin 8448) : (win0_7.rect t).emb (ix3 a d s) = (ix3 (gh t a) d s : S16x64x8448.Idx) :=
  Rect.emb_eq_of_coords _ _ _ fun b => match b with
    | ⟨0, _⟩ => by show _ = cc0_transform_7 (grid0.coords t) 0 * 4 + 1 * a.val; rw [index7]; show 4 * (t.val / 22) + a.val = (t.val / 22) * 4 + 1 * a.val; omega
    | ⟨1, _⟩ => by show _ = cc0_transform_7 (grid0.coords t) 1 * 64 + 1 * d.val; rw [index7]; show d.val = 0 * 64 + 1 * d.val; omega
    | ⟨2, _⟩ => by show _ = cc0_transform_7 (grid0.coords t) 2 * 8448 + 1 * s.val; rw [index7]; show s.val = 0 * 8448 + 1 * s.val; omega

theorem emb8 (t : Fin cfg0.N) (x : Fin 768) (d : Fin 64) : (win0_8.rect t).emb (ix3 0 x d) = (ix3 (gr t) (ky t x) d : S4x8448x64.Idx) :=
  Rect.emb_eq_of_coords _ _ _ fun b => match b with
    | ⟨0, _⟩ => by show _ = cc0_transform_4 (grid0.coords t) 0 * 1 + 1 * 0; rw [index4]; show t.val / 22 = (t.val / 22) * 1 + 1 * 0; omega
    | ⟨1, _⟩ => by show _ = cc0_transform_4 (grid0.coords t) 1 * 768 + 1 * x.val; rw [index4]; show 768 * (t.val / 2 % 11) + x.val = (t.val / 2 % 11) * 768 + 1 * x.val; omega
    | ⟨2, _⟩ => by show _ = cc0_transform_4 (grid0.coords t) 2 * 64 + 1 * d.val; rw [index4]; show d.val = 0 * 64 + 1 * d.val; omega

theorem emb9 (t : Fin cfg0.N) (x : Fin 768) (d : Fin 64) : (win0_9.rect t).emb (ix3 0 x d) = (ix3 (gr t) (ky t x) d : S4x8448x64.Idx) :=
  Rect.emb_eq_of_coords _ _ _ fun b => match b with
    | ⟨0, _⟩ => by show _ = cc0_transform_4 (grid0.coords t) 0 * 1 + 1 * 0; rw [index4]; show t.val / 22 = (t.val / 22) * 1 + 1 * 0; omega
    | ⟨1, _⟩ => by show _ = cc0_transform_4 (grid0.coords t) 1 * 768 + 1 * x.val; rw [index4]; show 768 * (t.val / 2 % 11) + x.val = (t.val / 2 % 11) * 768 + 1 * x.val; omega
    | ⟨2, _⟩ => by show _ = cc0_transform_4 (grid0.coords t) 2 * 64 + 1 * d.val; rw [index4]; show d.val = 0 * 64 + 1 * d.val; omega

variable (after : (w : Fin cfg0.W) → Fin cfg0.N → (cfg0.win w).block.Idx → Elt Ideal (cfg0.win w).elt)
  (hL : ∀ (w : Fin cfg0.W) (u : Fin cfg0.N), (cfg0.win w).flush u = true → (blocks m c).Leaves w u (after w u))
include hL

theorem array7 : ((blocks m c).withAfter after).arrAt 7 cfg0.N = dqAll m c :=
  Dat.arrAt_eq_of_covers ((blocks m c).withAfter after) 7 (dqAll m c) (show (cfg0.win 7).Covers by decide +kernel) fun t hf y => by
    have ht : t.val % 22 = 21 := (flush0_7 t).mp hf
    have key : ∀ (a : Fin 4) (d : Fin 64) (s : Fin 8448), (after 7 t : Vec Ideal S4x64x8448 .f32) (ix3 a d s) = dqAll m c ((win0_7.rect t).emb (ix3 a d s)) := fun a d s => by
      have h4 := a.isLt
      refine ((dq_chain m c t.val t rfl _ (hL 7 t hf) a d s).1 (by omega)).trans ?_
      rw [show t.val / 2 % 11 + 1 = 11 by omega]
      exact (congrArg (dqAll m c) (emb7 t a d s)).symm
    have key' : ∀ y' : S4x64x8448.Idx, (after 7 t : Vec Ideal S4x64x8448 .f32) y' = dqAll m c ((win0_7.rect t).emb y') := fun y' => by
      rw [eq_ix3 y']
      exact key _ _ _
    exact key' y

theorem array8 : ((blocks m c).withAfter after).arrAt 8 cfg0.N = dkAll m c :=
  Dat.arrAt_eq_of_covers ((blocks m c).withAfter after) 8 (dkAll m c) (show (cfg0.win 8).Covers by decide +kernel) fun t hf y => by
    have ht : t.val % 2 = 1 := (flush0_8 t).mp hf
    have key : ∀ (z : Fin 1) (x : Fin 768) (d : Fin 64), (after 8 t : Vec Ideal S1x768x64 .f32) (ix3 z x d) = dkAll m c ((win0_8.rect t).emb (ix3 z x d)) := fun z x d => by
      obtain rfl : z = 0 := Subsingleton.elim _ _
      exact (dk_chain m c t ht _ (hL 8 t hf) x d).trans (congrArg (dkAll m c) (emb8 t x d)).symm
    have key' : ∀ y' : S1x768x64.Idx, (after 8 t : Vec Ideal S1x768x64 .f32) y' = dkAll m c ((win0_8.rect t).emb y') := fun y' => by
      rw [eq_ix3 y']
      exact key _ _ _
    exact key' y

theorem array9 : ((blocks m c).withAfter after).arrAt 9 cfg0.N = dvAll m c :=
  Dat.arrAt_eq_of_covers ((blocks m c).withAfter after) 9 (dvAll m c) (show (cfg0.win 9).Covers by decide +kernel) fun t hf y => by
    have ht : t.val % 2 = 1 := (flush0_9 t).mp hf
    have key : ∀ (z : Fin 1) (x : Fin 768) (d : Fin 64), (after 9 t : Vec Ideal S1x768x64 .f32) (ix3 z x d) = dvAll m c ((win0_9.rect t).emb (ix3 z x d)) := fun z x d => by
      obtain rfl : z = 0 := Subsingleton.elim _ _
      exact (dv_chain m c t ht _ (hL 9 t hf) x d).trans (congrArg (dvAll m c) (emb9 t x d)).symm
    have key' : ∀ y' : S1x768x64.Idx, (after 9 t : Vec Ideal S1x768x64 .f32) y' = dvAll m c ((win0_9.rect t).emb y') := fun y' => by
      rw [eq_ix3 y']
      exact key _ _ _
    exact key' y

omit hL

/-- Every run ends with the three results at these values and the arguments unchanged. -/
theorem run_values : θ_run defs (onTc (τ := τ) (main (F := Ideal))) ⟨m, fun _ => 0, ρ⟩ (fun r => ∀ c : Dev nD,
      r.2.mem ((c.tc : Thread nD τ).loc main_v47_0) = dqAll m c
      ∧ r.2.mem ((c.tc : Thread nD τ).loc main_v47_1) = dkAll m c
      ∧ r.2.mem ((c.tc : Thread nD τ).loc main_v47_2) = dvAll m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => by
    obtain ⟨after, hL, hA⟩ := h.1.exists_exact c
    exact ⟨(hA 7).trans (array7 m c after hL), (hA 8).trans (array8 m c after hL), (hA 9).trans (array9 m c after hL),
      ((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c)⟩)
    (run_main m ρ)

end Cert.KernelIdeal.Flash
-- ==== Proof.HostTerms.lean ====
/-
  What the host's lines before the call compute of the arguments: the arrays that the call takes.
-/
module

public import proofs.«01_k».proof.Proof.PointValue
public import Idealize.ShloMosaic.Lib.StableHlo.RunRead

@[expose] public section

noncomputable section

namespace Cert.KernelIdeal.Flash

open Idealize.ShloMosaic Idealize.ShloMosaic.TcCoe Idealize.ShloMosaic.Pointwise Cert.KernelIdeal Cert.KernelIdeal.Gen
open Idealize.SL Idealize.SL.Sem

variable (x0 : FVec Ideal S8448x4x4x64 .f32) (x1 x2 : FVec Ideal S8448x4x64 .f32) (x3 : FVec Ideal S8208x4x4x64 .f32)

/-- The output's gradient, with zero rows for the padding. -/
def hostCt : FVec Ideal S8448x4x4x64 .f32 :=
  concatenate S8448x4x4x64 0 [⟨S240x4x4x64, broadcastInDim S240x4x4x64 ![] bcast_S_S240x4x4x64 (constant S_ .f32 0x00000000#32)⟩, ⟨S8208x4x4x64, x3⟩] concatenates_S240x4x4x64_S8208x4x4x64_S8448x4x4x64_d0

/-- The scale of the queries. -/
def hostScale : FVec Ideal S_ .f32 := Host.divf (F := Ideal) (constant S_ .f32 0x3E000000#32) (Host.log (constant S_ .f32 0x40000000#32))

def hostQ : FVec Ideal S16x8448x64 .bf16 :=
  transpose S16x8448x64 [1, 0, 2] (shapeCast S8448x16x64 (truncf .bf16 (mulf x0 (broadcastInDim S8448x4x4x64 ![] bcast_S_S8448x4x4x64 hostScale)) bitsLt_bf16_f32)
    shapeCasts_S8448x4x4x64_S8448x16x64) transposes_S8448x16x64_S16x8448x64_1_0_2

def hostK : FVec Ideal S4x8448x64 .bf16 := transpose S4x8448x64 [1, 0, 2] (truncf .bf16 x1 bitsLt_bf16_f32) transposes_S8448x4x64_S4x8448x64_1_0_2

def hostT : FVec Ideal S4x64x8448 .bf16 := transpose S4x64x8448 [0, 2, 1] (hostK x1) transposes_S4x8448x64_S4x64x8448_0_2_1

def hostO : FVec Ideal S16x8448x64 .bf16 :=
  transpose S16x8448x64 [1, 0, 2] (shapeCast S8448x16x64 (truncf .bf16 (hostCt x3) bitsLt_bf16_f32) shapeCasts_S8448x4x4x64_S8448x16x64) transposes_S8448x16x64_S16x8448x64_1_0_2

/-- The scores. -/
def hostScores : FVec Ideal S4x4x8448x8208 .f32 :=
  mulf (transpose S4x4x8448x8208 [0, 3, 2, 1] (Host.dotGeneral dot_S8208x4x64_S8448x4x4x64_S4x8208x8448x4_2_3_0_02_1_1 none
      (extractStridedSlice S8208x4x64 ![240, 0, 0] x1 slices_S8448x4x64_S8208x4x64_240_0_0) x0 : FVec Ideal S4x8208x8448x4 .f32) transposes_S4x8208x8448x4_S4x4x8448x8208_0_3_2_1)
    (broadcastInDim S4x4x8448x8208 ![] bcast_S_S4x4x8448x8208 (constant S_ .f32 0x3E000000#32))

/-- Their maxima. -/
def hostMax : FVec Ideal S4x4x8448 .f32 :=
  Host.reduce FloatOps.maximumf (hostScores x0 x1) (constant (F := Ideal) S_ .f32 0xFF800000#32) reducesTo_S4x4x8448x8208_S4x4x8448_d3 h_S_

def hostMax1 : FVec Ideal S4x4x8448x1 .f32 := broadcastInDim S4x4x8448x1 ![0, 1, 2] bcast_S4x4x8448_S4x4x8448x1_0_1_2 (hostMax x0 x1)

/-- The exponentials of the scores less their maxima. -/
def hostExp : FVec Ideal S4x4x8448x8208 .f32 :=
  Host.exp (subf (hostScores x0 x1) (broadcastInDim S4x4x8448x8208 ![0, 1, 2, 3] bcast_S4x4x8448x1_S4x4x8448x8208_0_1_2_3 (hostMax1 x0 x1)))

/-- Their sums. -/
def hostSum : FVec Ideal S4x4x8448x1 .f32 :=
  broadcastInDim S4x4x8448x1 ![0, 1, 2] bcast_S4x4x8448_S4x4x8448x1_0_1_2
    (Host.reduceAdd (hostExp x0 x1) (constant (F := Ideal) S_ .f32 0x00000000#32) reducesTo_S4x4x8448x8208_S4x4x8448_d3 h_S_ : FVec Ideal S4x4x8448 .f32)

/-- The log-sum-exps, of base two. -/
def hostLse : FVec Ideal S4x4x8448x1 .f32 :=
  Host.divf (addf (hostMax1 x0 x1) (Host.log (hostSum x0 x1))) (broadcastInDim S4x4x8448x1 ![] bcast_S_S4x4x8448x1 (Host.log (F := Ideal) (constant S_ .f32 0x40000000#32)))

def hostL : FVec Ideal S16x1x8448 .f32 := shapeCast S16x1x8448 (hostLse x0 x1) shapeCasts_S4x4x8448x1_S16x1x8448

/-- The attention's weights. -/
def hostP : FVec Ideal S4x4x8448x8208 .f32 :=
  Host.divf (hostExp x0 x1) (broadcastInDim S4x4x8448x8208 ![0, 1, 2, 3] bcast_S4x4x8448x1_S4x4x8448x8208_0_1_2_3 (hostSum x0 x1))

/-- The attention's output. -/
def hostOut : FVec Ideal S8448x4x4x64 .f32 :=
  transpose S8448x4x4x64 [3, 0, 2, 1] (Host.dotGeneral dot_S8208x4x64_S4x4x8448x8208_S4x64x4x8448_0_3_2_12_1_0 none
    (extractStridedSlice S8208x4x64 ![240, 0, 0] x2 slices_S8448x4x64_S8208x4x64_240_0_0) (hostP x0 x1) : FVec Ideal S4x64x4x8448 .f32) transposes_S4x64x4x8448_S8448x4x4x64_3_0_2_1

/-- The sums of the output times its gradient. -/
def hostDelta : FVec Ideal S8448x4x4 .f32 :=
  Host.reduceAdd (mulf (hostCt x3) (hostOut x0 x1 x2)) (constant (F := Ideal) S_ .f32 0x00000000#32) reducesTo_S8448x4x4x64_S8448x4x4_d3 h_S_

def hostD : FVec Ideal S16x1x8448 .f32 :=
  shapeCast S16x1x8448 (transpose S16x8448 [1, 0] (shapeCast S8448x16 (hostDelta x0 x1 x2 x3) shapeCasts_S8448x4x4_S8448x16) transposes_S8448x16_S16x8448_1_0) shapeCasts_S16x8448_S16x1x8448

variable (m : (ℓ : Loc nD τ sig) → Buf (Elt Ideal) ℓ) (c : Dev nD)

def mem0 : FVec Ideal S8448x4x4x64 .f32 := m ((c.tc : Thread nD τ).loc main_arg0)
def mem1 : FVec Ideal S8448x4x64 .f32 := m ((c.tc : Thread nD τ).loc main_arg1)
def mem2 : FVec Ideal S8448x4x64 .f32 := m ((c.tc : Thread nD τ).loc main_arg2)
def mem3 : FVec Ideal S8208x4x4x64 .f32 := m ((c.tc : Thread nD τ).loc main_arg3)

theorem arrK_eq : arrK m c = hostK (mem1 m c) := by
  unfold arrK
  show StableHlo.after hostOps0 (fun b => m (c, b)) _ = _
  dsimp only [hostOps0]
  after_reads_simp
  rfl

theorem arrQ_eq : arrQ m c = hostQ (mem0 m c) := by
  unfold arrQ
  show StableHlo.after hostOps0 (fun b => m (c, b)) _ = _
  dsimp only [hostOps0]
  after_reads_simp
  rfl

theorem arrV_eq : arrV m c = hostK (mem2 m c) := by
  unfold arrV
  show StableHlo.after hostOps0 (fun b => m (c, b)) _ = _
  dsimp only [hostOps0]
  after_reads_simp
  rfl

theorem arrT_eq : arrT m c = hostT (mem1 m c) := by
  unfold arrT
  show StableHlo.after hostOps0 (fun b => m (c, b)) _ = _
  dsimp only [hostOps0]
  after_reads_simp
  rfl

theorem arrO_eq : arrO m c = hostO (mem3 m c) := by
  unfold arrO
  show StableHlo.after hostOps0 (fun b => m (c, b)) _ = _
  dsimp only [hostOps0]
  after_reads_simp
  rfl

theorem arrL_eq : arrL m c = hostL (mem0 m c) (mem1 m c) := by
  unfold arrL
  show StableHlo.after hostOps0 (fun b => m (c, b)) _ = _
  dsimp only [hostOps0]
  after_reads_simp
  rfl

theorem arrD_eq : arrD m c = hostD (mem0 m c) (mem1 m c) (mem2 m c) (mem3 m c) := by
  unfold arrD
  show StableHlo.after hostOps0 (fun b => m (c, b)) _ = _
  dsimp only [hostOps0]
  after_reads_simp
  rfl

end Cert.KernelIdeal.Flash
-- ==== Proof.SoftReal.lean ====
/-
  The softmax and its gradient over the reals, and the extended reals' operations on real values.
-/
module

public import Idealize.ShloMosaic.Lib.Pointwise
public import Idealize.ShloMosaic.Lib.IdealHost

@[expose] public section

noncomputable section

namespace Cert.Soft

open Idealize.ShloMosaic

/-! ## Real values among the extended reals -/

theorem coe_sum {ι : Type} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- The maximum of finitely many real values is real. -/
theorem fold_max {ι : Type} (s : Finset ι) (f : ι → ℝ) : (s = ∅ ∧ Finset.fold max (⊥ : EReal) (fun i => (f i : EReal)) s = ⊥)
    ∨ ∃ M : ℝ, Finset.fold max (⊥ : EReal) (fun i => (f i : EReal)) s = M := by
  classical
  induction s using Finset.induction_on with
  | empty => exact .inl ⟨rfl, Finset.fold_empty⟩
  | insert a s ha ih =>
    right
    rw [Finset.fold_insert ha]
    rcases ih with ⟨-, h⟩ | ⟨M, h⟩
    · exact ⟨f a, by rw [h]; exact max_eq_left bot_le⟩
    · exact ⟨max (f a) M, by rw [h]; exact (EReal.coe_strictMono.monotone.map_max).symm⟩

theorem fold_max_univ {n : ℕ} (f : Fin (n + 1) → ℝ) : ∃ M : ℝ, Finset.fold max (⊥ : EReal) (fun i => (f i : EReal)) Finset.univ = M :=
  (fold_max Finset.univ f).resolve_left fun h => Finset.univ_nonempty.ne_empty h.1

theorem bits_eighth : Ideal.ofBits .f32 0x3E000000#32 = ((1 / 8 : ℝ) : EReal) := by
  simp [Ideal.ofBits, Ideal.ieee, -EReal.coe_mul]
  norm_num

theorem bits_two : Ideal.ofBits .f32 0x40000000#32 = ((2 : ℝ) : EReal) := by
  simp [Ideal.ofBits, Ideal.ieee, -EReal.coe_mul]
  norm_num

theorem bits_eight : Ideal.ofBits .f32 0x41000000#32 = ((8 : ℝ) : EReal) := by
  simp [Ideal.ofBits, Ideal.ieee, -EReal.coe_mul]
  norm_num

theorem bits_one : Ideal.ofBits .f32 0x3F800000#32 = ((1 : ℝ) : EReal) := by
  rw [Ideal.ofBits_one_f32, EReal.coe_one]

theorem bits_bot : Ideal.ofBits .f32 0xFF800000#32 = ⊥ := by
  simp [Ideal.ofBits, Ideal.ieee]

theorem ln2_ne : Real.log 2 ≠ 0 := (Real.log_pos (by norm_num)).ne'

theorem log_pos_coe {r : ℝ} (h : 0 < r) : Ideal.log (r : EReal) = ((Real.log r : ℝ) : EReal) := by
  rw [Ideal.log_coe, if_neg (not_le.mpr h)]

theorem log_two : Ideal.log (Ideal.ofBits .f32 0x40000000#32) = ((Real.log 2 : ℝ) : EReal) := by
  rw [bits_two, log_pos_coe (by norm_num)]

theorem div_real {x y : ℝ} (h : y ≠ 0) : Ideal.div (x : EReal) (y : EReal) = ((x / y : ℝ) : EReal) := by
  rw [Ideal.div_coe h, ← EReal.coe_mul, mul_one_div]

theorem neg_real (x : ℝ) : -(x : EReal) = ((-x : ℝ) : EReal) := (EReal.coe_neg x).symm

theorem sub_real (x y : ℝ) : (x : EReal) - (y : EReal) = ((x - y : ℝ) : EReal) := (EReal.coe_sub x y).symm

/-! ## The softmax -/

variable {n : ℕ} (z : Fin (n + 1) → ℝ) (a : Fin (n + 1) → ℝ)

/-- The weights. -/
def soft (t : Fin (n + 1)) : ℝ := Real.exp (z t) / ∑ u, Real.exp (z u)

/-- The gradient of the scores, from that of the weights. -/
def grad (t : Fin (n + 1)) : ℝ := soft z t * (a t - ∑ u, soft z u * a u)

theorem sum_pos (M : ℝ) : 0 < ∑ u, Real.exp (z u - M) := Finset.sum_pos (fun _ _ => Real.exp_pos _) Finset.univ_nonempty

theorem soft_eq (M : ℝ) (t : Fin (n + 1)) : Real.exp (z t - M) / ∑ u, Real.exp (z u - M) = soft z t := by
  unfold soft
  simp only [Real.exp_sub]
  rw [← Finset.sum_div, div_div_div_cancel_right₀ (Real.exp_pos M).ne']

/-- The weights from the log-sum-exp of base two. -/
theorem soft_pow (M : ℝ) (t : Fin (n + 1)) :
    Real.rpow 2 (z t / Real.log 2 - (M + Real.log (∑ u, Real.exp (z u - M))) / Real.log 2) = soft z t := by
  show (2 : ℝ) ^ (z t / Real.log 2 - (M + Real.log (∑ u, Real.exp (z u - M))) / Real.log 2) = soft z t
  rw [← soft_eq z M, Real.rpow_def_of_pos (by norm_num)]
  rw [show Real.log 2 * (z t / Real.log 2 - (M + Real.log (∑ u, Real.exp (z u - M))) / Real.log 2) = (z t - M) - Real.log (∑ u, Real.exp (z u - M)) by
    have := ln2_ne
    field_simp
    ring]
  rw [Real.exp_sub, Real.exp_log (sum_pos z M)]

/-- The gradient as the derivative of the quotient gives it. -/
theorem grad_eq (M : ℝ) (t : Fin (n + 1)) :
    (a t / (∑ u, Real.exp (z u - M)) + -∑ u, a u * (1 / ((∑ u, Real.exp (z u - M)) * ∑ u, Real.exp (z u - M))) * Real.exp (z u - M)) * Real.exp (z t - M) = grad z a t := by
  unfold grad
  simp only [← soft_eq z M]
  have hp := (sum_pos z M).ne'
  generalize (∑ u, Real.exp (z u - M)) = Z at hp
  have e : ∑ u, a u * (1 / (Z * Z)) * Real.exp (z u - M) = (∑ u, Real.exp (z u - M) / Z * a u) / Z := by
    rw [Finset.sum_div]
    exact Finset.sum_congr rfl fun u _ => by field_simp
  rw [e]
  field_simp
  ring

theorem grad_zero (t : Fin (n + 1)) : grad z (fun _ => 0) t = 0 := by simp [grad]

/-! ## The attention's gradients -/

/-- Row `t` of those after the padding. -/
def up (t : Fin 8208) : Fin 8448 := ⟨240 + t.val, by have := t.isLt; omega⟩

theorem up_sub (k : Fin 8448) (h : ¬ k.val < 240) : k = up ⟨k.val - 240, by omega⟩ :=
  Fin.ext (by show k.val = 240 + (k.val - 240); omega)

/-- A sum over all rows of terms that vanish at the padding. -/
theorem sum_up {M : Type} [AddCommMonoid M] (f : Fin 8448 → M) (h : ∀ k : Fin 8448, k.val < 240 → f k = 0) : ∑ k, f k = ∑ t, f (up t) := by
  refine (Fin.sum_univ_add (a := 240) (b := 8208) f).trans ?_
  rw [Finset.sum_eq_zero fun i _ => h _ i.isLt, zero_add]
  rfl

variable (q : Fin 8448 → Fin 4 → Fin 4 → Fin 64 → ℝ) (k v : Fin 8448 → Fin 4 → Fin 64 → ℝ) (o : Fin 8208 → Fin 4 → Fin 4 → Fin 64 → ℝ)

/-- The output's gradient, zero at the padding. -/
def oAll (s : Fin 8448) (g j : Fin 4) (d : Fin 64) : ℝ := if h : s.val < 240 then 0 else o ⟨s.val - 240, by omega⟩ g j d

theorem oAll_up (s : Fin 8208) (g j : Fin 4) (d : Fin 64) : oAll o (up s) g j d = o s g j d := by
  unfold oAll
  rw [dif_neg (show ¬ (up s).val < 240 by show ¬ 240 + s.val < 240; omega)]
  exact congrArg (fun s' => o s' g j d) (Fin.ext (by show 240 + s.val - 240 = s.val; omega))

/-- The scores. -/
def score (g j : Fin 4) (s : Fin 8448) (t : Fin 8208) : ℝ := (∑ d, k (up t) g d * q s g j d) * (1 / 8)

/-- The weights. -/
def prob (g j : Fin 4) (s : Fin 8448) (t : Fin 8208) : ℝ := soft (n := 8207) (score q k g j s) t

/-- The gradient of the weights. -/
def dProb (g j : Fin 4) (s : Fin 8448) (t : Fin 8208) : ℝ := ∑ d, v (up t) g d * oAll o s g j d

/-- The gradient of the scores. -/
def dScore (g j : Fin 4) (s : Fin 8448) (t : Fin 8208) : ℝ := grad (n := 8207) (score q k g j s) (dProb v o g j s) t

theorem dScore_pad (g j : Fin 4) (s : Fin 8448) (t : Fin 8208) (h : s.val < 240) : dScore q k v o g j s t = 0 := by
  unfold dScore
  rw [show dProb v o g j s = fun _ => 0 from funext fun t => Finset.sum_eq_zero fun d _ => by unfold oAll; rw [dif_pos h, mul_zero]]
  exact grad_zero _ _

/-- The gradients of the queries, keys and values, of the scaled queries and keys that the call's results are of. -/
def dQ (g j : Fin 4) (s : Fin 8448) (d : Fin 64) : ℝ := ∑ t, k (up t) g d * dScore q k v o g j s t
def dK (g : Fin 4) (t : Fin 8208) (d : Fin 64) : ℝ := ∑ j, ∑ s, dScore q k v o g j s t * (q s g j d * (1 / 8 / Real.log 2))
def dV (g : Fin 4) (t : Fin 8208) (d : Fin 64) : ℝ := ∑ j, ∑ s, prob q k g j s t * oAll o s g j d

theorem dQ_pad (g j : Fin 4) (s : Fin 8448) (d : Fin 64) (h : s.val < 240) : dQ q k v o g j s d = 0 :=
  Finset.sum_eq_zero fun t _ => by rw [dScore_pad q k v o g j s t h, mul_zero]

/-- The weights from the scaled queries and the log-sum-exps of base two. -/
theorem prob_pow (M : ℝ) (g j : Fin 4) (s : Fin 8448) (t : Fin 8208) :
    Real.rpow 2 ((∑ d, k (up t) g d * (q s g j d * (1 / 8 / Real.log 2))) - (M + Real.log (∑ u, Real.exp (score q k g j s u - M))) / Real.log 2) = prob q k g j s t := by
  rw [show (∑ d, k (up t) g d * (q s g j d * (1 / 8 / Real.log 2))) = score q k g j s t / Real.log 2 by
    unfold score
    rw [Finset.sum_mul, Finset.sum_div]
    exact Finset.sum_congr rfl fun d _ => by ring]
  exact soft_pow (n := 8207) (score q k g j s) M t

/-- The gradient of the scores from `delta`, the sum of the output times its gradient. -/
theorem dScore_delta (g j : Fin 4) (s : Fin 8448) (t : Fin 8208) :
    prob q k g j s t * (dProb v o g j s t - ∑ d, oAll o s g j d * ∑ u, v (up u) g d * prob q k g j s u) = dScore q k v o g j s t := by
  unfold dScore grad
  refine congrArg (prob q k g j s t * ·) (congrArg (dProb v o g j s t - ·) ?_)
  simp only [Finset.mul_sum]
  rw [Finset.sum_comm]
  refine Finset.sum_congr rfl fun u _ => ?_
  unfold dProb
  rw [Finset.mul_sum]
  exact Finset.sum_congr rfl fun d _ => by unfold prob; ring

theorem dQ_ref (g j : Fin 4) (s : Fin 8448) (d : Fin 64) : (∑ t, dScore q k v o g j s t * (1 / 8) * k (up t) g d) * 8 = dQ q k v o g j s d := by
  unfold dQ
  rw [Finset.sum_mul]
  exact Finset.sum_congr rfl fun t _ => by ring

theorem dK_ref (g : Fin 4) (t : Fin 8208) (d : Fin 64) :
    (∑ s, ∑ j, dScore q k v o g j (up s) t * (1 / 8) * q (up s) g j d) / Real.log 2 = dK q k v o g t d := by
  unfold dK
  rw [Finset.sum_comm, Finset.sum_div]
  refine Finset.sum_congr rfl fun j _ => ?_
  rw [sum_up _ fun s h => by rw [dScore_pad q k v o g j s t h, zero_mul], Finset.sum_div]
  exact Finset.sum_congr rfl fun s _ => by ring

theorem dV_ref (g : Fin 4) (t : Fin 8208) (d : Fin 64) : (∑ j, ∑ s, o s g j d * prob q k g j (up s) t) = dV q k o g t d := by
  unfold dV
  refine Finset.sum_congr rfl fun j _ => ?_
  rw [sum_up _ fun s h => by unfold oAll; rw [dif_pos h, mul_zero]]
  exact Finset.sum_congr rfl fun s _ => by rw [oAll_up, mul_comm]

end Cert.Soft
-- ==== Proof.HostReads.lean ====
/-
  The host's arrays, entry by entry.
-/
module

public import proofs.«01_k».proof.Proof.HostTerms
public import proofs.«01_k».proof.Proof.SoftReal

@[expose] public section

noncomputable section

namespace Cert.KernelIdeal.Flash

open Idealize.ShloMosaic Idealize.ShloMosaic.Pointwise Cert.KernelIdeal Cert.KernelIdeal.Gen
open Cert.Soft (up)

variable (x0 : FVec Ideal S8448x4x4x64 .f32) (x1 x2 : FVec Ideal S8448x4x64 .f32) (x3 : FVec Ideal S8208x4x4x64 .f32)

theorem hostScale_at : hostScale ix0 = Ideal.div (Ideal.ofBits .f32 0x3E000000#32) (Ideal.log (Ideal.ofBits .f32 0x40000000#32)) := by
  pointwise [hostScale]

theorem hostK_at (g : Fin 4) (k : Fin 8448) (d : Fin 64) : hostK x1 (ix3 g k d) = x1 (ix3 k g d) := by
  pointwise [hostK]

theorem hostT_at (g : Fin 4) (k : Fin 8448) (d : Fin 64) : hostT x1 (ix3 g d k) = x1 (ix3 k g d) := by
  pointwise [hostT, hostK]

theorem hostQ_at (g j : Fin 4) (s : Fin 8448) (d : Fin 64) : hostQ x0 (ix3 (⟨4 * g.val + j.val, by omega⟩ : Fin 16) s d) = x0 (ix4 s g j d) * hostScale ix0 := by
  pointwise [hostQ]

theorem hostCt_at (g j : Fin 4) (s : Fin 8448) (d : Fin 64) : hostCt x3 (ix4 s g j d) = if h : s.val < 240 then 0 else x3 (ix4 ⟨s.val - 240, by omega⟩ g j d) := by
  pointwise [hostCt]

theorem hostScores_at (g j : Fin 4) (s : Fin 8448) (t : Fin 8208) : hostScores x0 x1 (ix4 g j s t) = (∑ d : Fin 64, x1 (ix3 (up t) g d) * x0 (ix4 s g j d)) * Ideal.ofBits .f32 0x3E000000#32 := by
  pointwise [hostScores, up]

theorem hostMax_at (g j : Fin 4) (s : Fin 8448) : hostMax x0 x1 (ix3 g j s) = Finset.fold max (Ideal.ofBits .f32 0xFF800000#32) (fun t => hostScores x0 x1 (ix4 g j s t)) Finset.univ := by
  pointwise [hostMax]

theorem hostExp_at (g j : Fin 4) (s : Fin 8448) (t : Fin 8208) : hostExp x0 x1 (ix4 g j s t) = Ideal.exp (hostScores x0 x1 (ix4 g j s t) - hostMax x0 x1 (ix3 g j s)) := by
  pointwise [hostExp, hostMax1]

theorem hostSum_at (g j : Fin 4) (s : Fin 8448) : hostSum x0 x1 (ix4 g j s 0) = ∑ t : Fin 8208, hostExp x0 x1 (ix4 g j s t) := by
  pointwise [hostSum]

theorem hostMax1_at (g j : Fin 4) (s : Fin 8448) : hostMax1 x0 x1 (ix4 g j s 0) = hostMax x0 x1 (ix3 g j s) := by
  pointwise [hostMax1]

theorem hostLn2_at (g j : Fin 4) (s : Fin 8448) :
    broadcastInDim S4x4x8448x1 ![] bcast_S_S4x4x8448x1 (Host.log (F := Ideal) (constant S_ .f32 0x40000000#32)) (ix4 g j s 0) = Ideal.log (Ideal.ofBits .f32 0x40000000#32) := by
  pointwise

theorem lse_apply (a b e : FVec Ideal S4x4x8448x1 .f32) (i : S4x4x8448x1.Idx) : Host.divf (addf a (Host.log b)) e i = Ideal.div (a i + Ideal.log (b i)) (e i) := rfl

theorem hostLse_apply (i : S4x4x8448x1.Idx) : hostLse x0 x1 i = Ideal.div (hostMax1 x0 x1 i + Ideal.log (hostSum x0 x1 i))
    (broadcastInDim S4x4x8448x1 ![] bcast_S_S4x4x8448x1 (Host.log (F := Ideal) (constant S_ .f32 0x40000000#32)) i) := by
  unfold hostLse
  exact lse_apply _ _ _ _

theorem hostLse_at (g j : Fin 4) (s : Fin 8448) : hostLse x0 x1 (ix4 g j s 0)
    = Ideal.div (hostMax x0 x1 (ix3 g j s) + Ideal.log (hostSum x0 x1 (ix4 g j s 0))) (Ideal.log (Ideal.ofBits .f32 0x40000000#32)) :=
  (hostLse_apply x0 x1 _).trans (congrArg₂ Ideal.div (congrArg (· + Ideal.log (hostSum x0 x1 (ix4 g j s 0))) (hostMax1_at x0 x1 g j s)) (hostLn2_at g j s))

theorem hostP_at (g j : Fin 4) (s : Fin 8448) (t : Fin 8208) : hostP x0 x1 (ix4 g j s t) = Ideal.div (hostExp x0 x1 (ix4 g j s t)) (hostSum x0 x1 (ix4 g j s 0)) := by
  pointwise [hostP]

theorem hostOut_at (g j : Fin 4) (s : Fin 8448) (d : Fin 64) : hostOut x0 x1 x2 (ix4 s g j d) = ∑ t : Fin 8208, x2 (ix3 (up t) g d) * hostP x0 x1 (ix4 g j s t) := by
  pointwise [hostOut, up]

theorem hostDelta_at (g j : Fin 4) (s : Fin 8448) : hostDelta x0 x1 x2 x3 (ix3 s g j) = ∑ d : Fin 64, hostCt x3 (ix4 s g j d) * hostOut x0 x1 x2 (ix4 s g j d) := by
  pointwise [hostDelta]

theorem hostD_at (g j : Fin 4) (s : Fin 8448) : hostD x0 x1 x2 x3 (ix3 (⟨4 * g.val + j.val, by omega⟩ : Fin 16) 0 s) = hostDelta x0 x1 x2 x3 (ix3 s g j) := by
  pointwise [hostD]

theorem hostL_at (g j : Fin 4) (s : Fin 8448) : hostL x0 x1 (ix3 (⟨4 * g.val + j.val, by omega⟩ : Fin 16) 0 s) = hostLse x0 x1 (ix4 g j s 0) := by
  pointwise [hostL]

theorem hostO_at (g j : Fin 4) (s : Fin 8448) (d : Fin 64) : hostO x3 (ix3 (⟨4 * g.val + j.val, by omega⟩ : Fin 16) s d) = hostCt x3 (ix4 s g j d) := by
  pointwise [hostO]

end Cert.KernelIdeal.Flash
-- ==== Proof.KernelValue.lean ====
/-
  The kernel's results over real arguments: the attention's gradients.
-/
module

public import proofs.«01_k».proof.Proof.ArrayValue
public import proofs.«01_k».proof.Proof.HostReads
public import proofs.«01_k».proof.Proof.SoftReal

@[expose] public section

noncomputable section

namespace Cert.KernelIdeal.Flash

open Idealize.ShloMosaic Idealize.ShloMosaic.TcCoe Idealize.ShloMosaic.Pointwise Cert.KernelIdeal Cert.KernelIdeal.Gen
open Idealize.SL Idealize.SL.Sem
open Cert.Soft

variable (x0 : FVec Ideal S8448x4x4x64 .f32) (x1 x2 : FVec Ideal S8448x4x64 .f32) (x3 : FVec Ideal S8208x4x4x64 .f32)
variable (q : Fin 8448 → Fin 4 → Fin 4 → Fin 64 → ℝ) (k v : Fin 8448 → Fin 4 → Fin 64 → ℝ) (o : Fin 8208 → Fin 4 → Fin 4 → Fin 64 → ℝ)

/-! ## The host's arrays -/

section host

variable (h0 : ∀ s g j d, x0 (ix4 s g j d) = ((q s g j d : ℝ) : EReal)) (h1 : ∀ s g d, x1 (ix3 s g d) = ((k s g d : ℝ) : EReal))
  (h2 : ∀ s g d, x2 (ix3 s g d) = ((v s g d : ℝ) : EReal)) (h3 : ∀ s g j d, x3 (ix4 s g j d) = ((o s g j d : ℝ) : EReal))

include h3 in
theorem ct_real (g j : Fin 4) (s : Fin 8448) (d : Fin 64) : hostCt x3 (ix4 s g j d) = ((oAll o s g j d : ℝ) : EReal) := by
  rw [hostCt_at]
  unfold oAll
  split_ifs
  · exact EReal.coe_zero.symm
  · exact h3 _ _ _ _

include h0 h1 in
theorem scores_real (g j : Fin 4) (s : Fin 8448) (t : Fin 8208) : hostScores x0 x1 (ix4 g j s t) = ((score q k g j s t : ℝ) : EReal) := by
  rw [hostScores_at, bits_eighth]
  simp only [h0, h1, ← EReal.coe_mul, coe_sum]
  rfl

include h0 h1 in
theorem max_real (g j : Fin 4) (s : Fin 8448) : ∃ M : ℝ, hostMax x0 x1 (ix3 g j s) = (M : EReal) := by
  rw [hostMax_at, bits_bot]
  simp only [scores_real x0 x1 q k h0 h1]
  exact fold_max_univ (n := 8207) fun t => score q k g j s t

variable (M : Fin 4 → Fin 4 → Fin 8448 → ℝ) (hM : ∀ g j s, hostMax x0 x1 (ix3 g j s) = (M g j s : EReal))

include h0 h1 hM

theorem exp_real (g j : Fin 4) (s : Fin 8448) (t : Fin 8208) :
    hostExp x0 x1 (ix4 g j s t) = ((Real.exp (score q k g j s t - M g j s) : ℝ) : EReal) := by
  rw [hostExp_at, scores_real x0 x1 q k h0 h1, hM, sub_real, Ideal.exp_coe]

theorem sum_real (g j : Fin 4) (s : Fin 8448) :
    hostSum x0 x1 (ix4 g j s 0) = ((∑ t, Real.exp (score q k g j s t - M g j s) : ℝ) : EReal) := by
  rw [hostSum_at]
  simp only [exp_real x0 x1 q k h0 h1 M hM, coe_sum]

theorem lse_real (g j : Fin 4) (s : Fin 8448) : hostLse x0 x1 (ix4 g j s 0)
    = (((M g j s + Real.log (∑ t, Real.exp (score q k g j s t - M g j s))) / Real.log 2 : ℝ) : EReal) := by
  have e := sum_real x0 x1 q k h0 h1 M hM g j s
  have hp : 0 < ∑ t, Real.exp (score q k g j s t - M g j s) := sum_pos (n := 8207) (score q k g j s) (M g j s)
  rw [hostLse_at, hM, e, log_pos_coe hp, log_two, ← EReal.coe_add, div_real ln2_ne]

theorem prob_real (g j : Fin 4) (s : Fin 8448) (t : Fin 8208) : hostP x0 x1 (ix4 g j s t) = ((prob q k g j s t : ℝ) : EReal) := by
  have e := sum_real x0 x1 q k h0 h1 M hM g j s
  have hp : 0 < ∑ t, Real.exp (score q k g j s t - M g j s) := sum_pos (n := 8207) (score q k g j s) (M g j s)
  rw [hostP_at, e, exp_real x0 x1 q k h0 h1 M hM, div_real hp.ne']
  exact congrArg _ (soft_eq (n := 8207) (score q k g j s) (M g j s) t)

include h2 in
theorem out_real (g j : Fin 4) (s : Fin 8448) (d : Fin 64) :
    hostOut x0 x1 x2 (ix4 s g j d) = ((∑ t, v (up t) g d * prob q k g j s t : ℝ) : EReal) := by
  rw [hostOut_at]
  simp only [h2, prob_real x0 x1 q k h0 h1 M hM, ← EReal.coe_mul, coe_sum]

include h2 h3 in
theorem delta_real (g j : Fin 4) (s : Fin 8448) : hostDelta x0 x1 x2 x3 (ix3 s g j)
    = ((∑ d, oAll o s g j d * ∑ t, v (up t) g d * prob q k g j s t : ℝ) : EReal) := by
  rw [hostDelta_at]
  simp only [ct_real x3 o h3, out_real x0 x1 x2 q k v h0 h1 h2 M hM, ← EReal.coe_mul, coe_sum]

end host

/-! ## The call -/

variable (m : (ℓ : Loc nD τ sig) → Buf (Elt Ideal) ℓ) (c : Dev nD)

theorem grp_ghd (g j : Fin 4) : grp (ghd g j) = g :=
  Fin.ext (by show (4 * g.val + j.val) / 4 = g.val; have := j.isLt; omega)

variable (h0 : ∀ s g j d, mem0 m c (ix4 s g j d) = ((q s g j d : ℝ) : EReal)) (h1 : ∀ s g d, mem1 m c (ix3 s g d) = ((k s g d : ℝ) : EReal))
  (h2 : ∀ s g d, mem2 m c (ix3 s g d) = ((v s g d : ℝ) : EReal)) (h3 : ∀ s g j d, mem3 m c (ix4 s g j d) = ((o s g j d : ℝ) : EReal))

include h1 in
theorem arrK_real (g : Fin 4) (s : Fin 8448) (d : Fin 64) : arrK m c (ix3 g s d) = ((k s g d : ℝ) : EReal) := by
  rw [arrK_eq, hostK_at, h1]

include h1 in
theorem arrT_real (g : Fin 4) (s : Fin 8448) (d : Fin 64) : arrT m c (ix3 g d s) = ((k s g d : ℝ) : EReal) := by
  rw [arrT_eq, hostT_at, h1]

include h2 in
theorem arrV_real (g : Fin 4) (s : Fin 8448) (d : Fin 64) : arrV m c (ix3 g s d) = ((v s g d : ℝ) : EReal) := by
  rw [arrV_eq, hostK_at, h2]

include h0 in
theorem arrQ_real (g j : Fin 4) (s : Fin 8448) (d : Fin 64) : arrQ m c (ix3 (ghd g j) s d) = ((q s g j d * (1 / 8 / Real.log 2) : ℝ) : EReal) := by
  rw [arrQ_eq]
  refine (hostQ_at (mem0 m c) g j s d).trans ?_
  rw [h0, hostScale_at, bits_eighth, log_two, div_real ln2_ne, ← EReal.coe_mul]

include h3 in
theorem arrO_real (g j : Fin 4) (s : Fin 8448) (d : Fin 64) : arrO m c (ix3 (ghd g j) s d) = ((oAll o s g j d : ℝ) : EReal) := by
  rw [arrO_eq]
  exact (hostO_at (mem3 m c) g j s d).trans (ct_real (mem3 m c) o h3 g j s d)

variable (M : Fin 4 → Fin 4 → Fin 8448 → ℝ) (hM : ∀ g j s, hostMax (mem0 m c) (mem1 m c) (ix3 g j s) = (M g j s : EReal))

include h0 h1 hM in
theorem arrL_real (g j : Fin 4) (s : Fin 8448) : arrL m c (ix3 (ghd g j) 0 s)
    = (((M g j s + Real.log (∑ t, Real.exp (score q k g j s t - M g j s))) / Real.log 2 : ℝ) : EReal) := by
  rw [arrL_eq]
  exact (hostL_at (mem0 m c) (mem1 m c) g j s).trans (lse_real (mem0 m c) (mem1 m c) q k h0 h1 M hM g j s)

include h0 h1 h2 h3 hM in
theorem arrD_real (g j : Fin 4) (s : Fin 8448) : arrD m c (ix3 (ghd g j) 0 s)
    = ((∑ d, oAll o s g j d * ∑ t, v (up t) g d * prob q k g j s t : ℝ) : EReal) := by
  rw [arrD_eq]
  exact (hostD_at (mem0 m c) (mem1 m c) (mem2 m c) (mem3 m c) g j s).trans
    (delta_real (mem0 m c) (mem1 m c) (mem2 m c) (mem3 m c) q k v o h0 h1 h2 h3 M hM g j s)

include h0 h1 hM in
theorem wG_pad (g j : Fin 4) (x s : Fin 8448) (hx : x.val < 240) : wG m c (ghd g j) x s = 0 := by
  unfold wG
  rw [if_neg (by omega), arrL_real q k m c h0 h1 M hM, EReal.bot_sub, Ideal.exp2_bot]

include h0 h1 hM in
theorem wG_real (g j : Fin 4) (t : Fin 8208) (s : Fin 8448) : wG m c (ghd g j) (up t) s = ((prob q k g j s t : ℝ) : EReal) := by
  unfold wG
  rw [if_pos (show 240 ≤ (up t).val by show 240 ≤ 240 + t.val; omega), arrL_real q k m c h0 h1 M hM, grp_ghd]
  simp only [arrK_real k m c h1, arrQ_real q m c h0, ← EReal.coe_mul, coe_sum]
  rw [sub_real, Ideal.exp2_coe]
  exact congrArg _ (prob_pow q k (M g j s) g j s t)

include h0 h1 hM in
theorem gG_pad (g j : Fin 4) (x s : Fin 8448) (hx : x.val < 240) : gG m c (ghd g j) x s = 0 := by
  unfold gG
  rw [wG_pad q k m c h0 h1 M hM g j x s hx, zero_mul]

include h0 h1 h2 h3 hM in
theorem gG_real (g j : Fin 4) (t : Fin 8208) (s : Fin 8448) : gG m c (ghd g j) (up t) s = ((dScore q k v o g j s t : ℝ) : EReal) := by
  unfold gG
  rw [wG_real q k m c h0 h1 M hM, arrD_real q k v o m c h0 h1 h2 h3 M hM, grp_ghd]
  simp only [arrV_real v m c h2, arrO_real o m c h3, ← EReal.coe_mul, coe_sum]
  rw [sub_real, ← EReal.coe_mul]
  exact congrArg _ (dScore_delta q k v o g j s t)

include h0 h1 h2 h3 hM in
theorem dq_real (g j : Fin 4) (s : Fin 8448) (d : Fin 64) : dqAll m c (ix3 (ghd g j) d s) = ((dQ q k v o g j s d : ℝ) : EReal) := by
  show dqPart m c (ghd g j) d s 11 = _
  unfold dqPart
  rw [grp_ghd]
  refine (sum_ext (n := 8448) (fun k => arrT m c (ix3 g d k) * gG m c (ghd g j) k s)).trans ?_
  rw [sum_up _ fun x hx => by rw [gG_pad q k m c h0 h1 M hM g j x s hx, mul_zero]]
  simp only [arrT_real k m c h1, gG_real q k v o m c h0 h1 h2 h3 M hM, ← EReal.coe_mul, coe_sum]
  rfl

include h0 h1 hM in
theorem dk_pad (g : Fin 4) (x : Fin 8448) (d : Fin 64) (hx : x.val < 240) : dkAll m c (ix3 g x d) = 0 :=
  Finset.sum_eq_zero fun j _ => Finset.sum_eq_zero fun s _ => by
    show gG m c (ghd g j) x s * _ = 0
    rw [gG_pad q k m c h0 h1 M hM g j x s hx, zero_mul]

include h0 h1 h2 h3 hM in
theorem dk_real (g : Fin 4) (t : Fin 8208) (d : Fin 64) : dkAll m c (ix3 g (up t) d) = ((dK q k v o g t d : ℝ) : EReal) := by
  show ∑ j : Fin 4, ∑ s : Fin 8448, gG m c (ghd g j) (up t) s * arrQ m c (ix3 (ghd g j) s d) = _
  simp only [arrQ_real q m c h0, gG_real q k v o m c h0 h1 h2 h3 M hM, ← EReal.coe_mul, coe_sum]
  rfl

include h0 h1 hM in
theorem dv_pad (g : Fin 4) (x : Fin 8448) (d : Fin 64) (hx : x.val < 240) : dvAll m c (ix3 g x d) = 0 :=
  Finset.sum_eq_zero fun j _ => Finset.sum_eq_zero fun s _ => by
    show wG m c (ghd g j) x s * _ = 0
    rw [wG_pad q k m c h0 h1 M hM g j x s hx, zero_mul]

include h0 h1 h3 hM in
theorem dv_real (g : Fin 4) (t : Fin 8208) (d : Fin 64) : dvAll m c (ix3 g (up t) d) = ((dV q k o g t d : ℝ) : EReal) := by
  show ∑ j : Fin 4, ∑ s : Fin 8448, wG m c (ghd g j) (up t) s * arrO m c (ix3 (ghd g j) s d) = _
  simp only [arrO_real o m c h3, wG_real q k m c h0 h1 M hM, ← EReal.coe_mul, coe_sum]
  rfl

end Cert.KernelIdeal.Flash
-- ==== Proof.RefReads.lean ====
/-
  The reference's values, entry by entry.
-/
module

public import proofs.«01_k».proof.Proof.Gen.ReferenceIdeal.Read
public import Idealize.ShloMosaic.Lib.Pointwise
public import proofs.«01_k».proof.Proof.SoftReal

@[expose] public section

noncomputable section

namespace Cert.ReferenceIdeal.Value

open Idealize.ShloMosaic Idealize.ShloMosaic.Pointwise Cert.ReferenceIdeal Cert.ReferenceIdeal.Gen Cert.ReferenceIdeal.Read
open Cert.Soft (up)

variable (x0 : FVec Ideal S8448x4x4x64 .f32) (x1 x2 : FVec Ideal S8448x4x64 .f32) (x3 : FVec Ideal S8208x4x4x64 .f32)

theorem v6_at (g j : Fin 4) (s t : Fin 8208) : val_main_v6 (F := Ideal) x0 x1 (ix4 g j s t)
    = (∑ d : Fin 64, x1 (ix3 (up t) g d) * x0 (ix4 (up s) g j d)) * Ideal.ofBits .f32 0x3E000000#32 := by
  pointwise [val_main_v6, val_main_v5, val_main_cst, val_main_v4, val_main_v3, val_main_v1, val_main_v0, up]

theorem v7_at (g j : Fin 4) (s : Fin 8208) : val_main_v7 (F := Ideal) x0 x1 (ix3 g j s)
    = Finset.fold max (Ideal.ofBits .f32 0xFF800000#32) (fun t => val_main_v6 (F := Ideal) x0 x1 (ix4 g j s t)) Finset.univ := by
  pointwise [val_main_v7, val_main_cst_0]

theorem v13_at (g j : Fin 4) (s : Fin 8208) : val_main_v13 (F := Ideal) (ix3 g j s) = Ideal.ofBits .f32 0xFF800000#32 := by
  pointwise [val_main_v13, val_main_cst_2]

theorem max_apply (a b : FVec Ideal S4x4x8208 .f32) (i : S4x4x8208.Idx) : maximumf a b i = max (a i) (b i) := rfl

theorem v14_at (g j : Fin 4) (s : Fin 8208) : val_main_v14 (F := Ideal) x0 x1 (ix3 g j s)
    = max (val_main_v13 (F := Ideal) (ix3 g j s)) (val_main_v7 (F := Ideal) x0 x1 (ix3 g j s)) := by
  unfold val_main_v14
  exact max_apply _ _ _

theorem v27_at (g j : Fin 4) (s t : Fin 8208) : val_main_v27 (F := Ideal) x0 x1 (ix4 g j s t)
    = Ideal.exp (val_main_v6 (F := Ideal) x0 x1 (ix4 g j s t) - val_main_v14 (F := Ideal) x0 x1 (ix3 g j s)) := by
  pointwise [val_main_v27, val_main_v26, val_main_v25, val_main_v24]

theorem v28_at (g j : Fin 4) (s : Fin 8208) : val_main_v28 (F := Ideal) x0 x1 (ix3 g j s) = ∑ t : Fin 8208, val_main_v27 (F := Ideal) x0 x1 (ix4 g j s t) := by
  pointwise [val_main_v28, val_main_cst_8]

theorem v31_at (g j : Fin 4) (s t : Fin 8208) : val_main_v31 (F := Ideal) x0 x1 (ix4 g j s t)
    = Ideal.div (val_main_v27 (F := Ideal) x0 x1 (ix4 g j s t)) (val_main_v28 (F := Ideal) x0 x1 (ix3 g j s)) := by
  pointwise [val_main_v31, val_main_v30, val_main_v29]

theorem v38_at (g j : Fin 4) (s t : Fin 8208) : val_main_v38 (F := Ideal) x2 x3 (ix4 g j s t) = ∑ d : Fin 64, x3 (ix4 s g j d) * x2 (ix3 (up t) g d) := by
  pointwise [val_main_v38, val_main_v37, val_main_v2, up]

theorem v41_at (g j : Fin 4) (s t : Fin 8208) : val_main_v41 (F := Ideal) x0 x1 (ix4 g j s t)
    = Ideal.div (Ideal.ofBits .f32 0x3F800000#32) (val_main_v28 (F := Ideal) x0 x1 (ix3 g j s) * val_main_v28 (F := Ideal) x0 x1 (ix3 g j s)) := by
  pointwise [val_main_v41, val_main_v34, val_main_v33, val_main_cst_9, val_main_v32, val_main_v29]

theorem v44_at (g j : Fin 4) (s : Fin 8208) : val_main_v44 (F := Ideal) x0 x1 x2 x3 (ix3 g j s)
    = ∑ t : Fin 8208, val_main_v38 (F := Ideal) x2 x3 (ix4 g j s t) * val_main_v41 (F := Ideal) x0 x1 (ix4 g j s t) * val_main_v27 (F := Ideal) x0 x1 (ix4 g j s t) := by
  pointwise [val_main_v44, val_main_cst_10, val_main_v43, val_main_v42]

theorem v50_at (g j : Fin 4) (s t : Fin 8208) : val_main_v50 (F := Ideal) x0 x1 x2 x3 (ix4 g j s t) = - val_main_v44 (F := Ideal) x0 x1 x2 x3 (ix3 g j s) := by
  pointwise [val_main_v50, val_main_v49, val_main_cst_11, val_main_v46, val_main_v45]
  simp

theorem v48_at (g j : Fin 4) (s t : Fin 8208) : val_main_v48 (F := Ideal) x0 x1 x2 x3 (ix4 g j s t)
    = Ideal.div (val_main_v38 (F := Ideal) x2 x3 (ix4 g j s t)) (val_main_v28 (F := Ideal) x0 x1 (ix3 g j s)) := by
  pointwise [val_main_v48, val_main_v47, val_main_v29]

theorem v54_at (g j : Fin 4) (s t : Fin 8208) : val_main_v54 (F := Ideal) x0 x1 x2 x3 (ix4 g j s t)
    = ((val_main_v48 (F := Ideal) x0 x1 x2 x3 (ix4 g j s t) + val_main_v50 (F := Ideal) x0 x1 x2 x3 (ix4 g j s t)) * val_main_v27 (F := Ideal) x0 x1 (ix4 g j s t))
      * Ideal.ofBits .f32 0x3E000000#32 := by
  pointwise [val_main_v54, val_main_v53, val_main_cst_12, val_main_v52, val_main_v51]

theorem v61_at (g j : Fin 4) (s : Fin 8208) (d : Fin 64) : val_main_v61 (F := Ideal) x0 x1 x2 x3 (ix4 s g j d)
    = (∑ t : Fin 8208, val_main_v54 (F := Ideal) x0 x1 x2 x3 (ix4 g j s t) * x1 (ix3 (up t) g d)) * Ideal.ofBits .f32 0x41000000#32 := by
  pointwise [val_main_v61, val_main_v60, val_main_cst_13, val_main_v57, val_main_v56, val_main_v55, val_main_v1, up]

theorem v66_at (g : Fin 4) (t : Fin 8208) (d : Fin 64) : val_main_v66 (F := Ideal) x0 x1 x2 x3 (ix3 t g d)
    = Ideal.div (∑ s : Fin 8208, ∑ j : Fin 4, val_main_v54 (F := Ideal) x0 x1 x2 x3 (ix4 g j s t) * x0 (ix4 (up s) g j d)) (Ideal.log (Ideal.ofBits .f32 0x40000000#32)) := by
  pointwise [val_main_v66, val_main_v65, val_main_v64, val_main_v63, val_main_cst_14, val_main_v59, val_main_v58, val_main_v55, val_main_v0, up]
  exact congrArg (Ideal.div _) rfl

theorem v40_at (g : Fin 4) (t : Fin 8208) (d : Fin 64) : val_main_v40 (F := Ideal) x0 x1 x3 (ix3 t g d)
    = ∑ j : Fin 4, ∑ s : Fin 8208, x3 (ix4 s g j d) * val_main_v31 (F := Ideal) x0 x1 (ix4 g j s t) := by
  pointwise [val_main_v40, val_main_v39, val_main_v37]

theorem zero_of_int : FloatOps.sitofp (F := Ideal) .f32 0#32 = 0 := by
  show (((0#32).toInt : ℝ) : EReal) = 0
  simp

theorem v70_at (g j : Fin 4) (s : Fin 8448) (d : Fin 64) : val_main_v70 (F := Ideal) x0 x1 x2 x3 (ix3 (⟨4 * g.val + j.val, by omega⟩ : Fin 16) d s)
    = if h : s.val < 240 then 0 else val_main_v61 (F := Ideal) x0 x1 x2 x3 (ix4 ⟨s.val - 240, by omega⟩ g j d) := by
  pointwise [val_main_v70, val_main_v69, val_main_v62, val_main_call0_v0, val_main_c]
  by_cases h : s.val < 240
  · rw [dif_neg (by omega), dif_pos h, zero_of_int]
  · rw [dif_pos ⟨by omega, by omega⟩, dif_neg h]

theorem v71_at (g : Fin 4) (k : Fin 8448) (d : Fin 64) : val_main_v71 (F := Ideal) x0 x1 x2 x3 (ix3 g k d)
    = if h : k.val < 240 then 0 else val_main_v66 (F := Ideal) x0 x1 x2 x3 (ix3 ⟨k.val - 240, by omega⟩ g d) := by
  pointwise [val_main_v71, val_main_v67, val_main_call1_v0, val_main_c_15]
  by_cases h : k.val < 240
  · rw [dif_neg (by omega), dif_pos h, zero_of_int]
  · rw [dif_pos ⟨by omega, by omega⟩, dif_neg h]

theorem v72_at (g : Fin 4) (k : Fin 8448) (d : Fin 64) : val_main_v72 (F := Ideal) x0 x1 x3 (ix3 g k d)
    = if h : k.val < 240 then 0 else val_main_v40 (F := Ideal) x0 x1 x3 (ix3 ⟨k.val - 240, by omega⟩ g d) := by
  pointwise [val_main_v72, val_main_v68, val_main_call2_v0, val_main_c_16]
  by_cases h : k.val < 240
  · rw [dif_neg (by omega), dif_pos h, zero_of_int]
  · rw [dif_pos ⟨by omega, by omega⟩, dif_neg h]

end Cert.ReferenceIdeal.Value
-- ==== Proof.RefValue.lean ====
/-
  The reference's results over real arguments: the attention's gradients.
-/
module

public import proofs.«01_k».proof.Proof.RefReads
public import proofs.«01_k».proof.Proof.SoftReal

@[expose] public section

noncomputable section

namespace Cert.ReferenceIdeal.Value

open Idealize.ShloMosaic Idealize.ShloMosaic.Pointwise Cert.ReferenceIdeal Cert.ReferenceIdeal.Gen Cert.ReferenceIdeal.Read
open Cert.Soft

variable (x0 : FVec Ideal S8448x4x4x64 .f32) (x1 x2 : FVec Ideal S8448x4x64 .f32) (x3 : FVec Ideal S8208x4x4x64 .f32)
variable (q : Fin 8448 → Fin 4 → Fin 4 → Fin 64 → ℝ) (k v : Fin 8448 → Fin 4 → Fin 64 → ℝ) (o : Fin 8208 → Fin 4 → Fin 4 → Fin 64 → ℝ)
variable (h0 : ∀ s g j d, x0 (ix4 s g j d) = ((q s g j d : ℝ) : EReal)) (h1 : ∀ s g d, x1 (ix3 s g d) = ((k s g d : ℝ) : EReal))
  (h2 : ∀ s g d, x2 (ix3 s g d) = ((v s g d : ℝ) : EReal)) (h3 : ∀ s g j d, x3 (ix4 s g j d) = ((o s g j d : ℝ) : EReal))

include h0 h1 in
theorem v6_real (g j : Fin 4) (s t : Fin 8208) : val_main_v6 (F := Ideal) x0 x1 (ix4 g j s t) = ((score q k g j (up s) t : ℝ) : EReal) := by
  rw [v6_at, bits_eighth]
  simp only [h0, h1, ← EReal.coe_mul, coe_sum]
  rfl

include h0 h1 in
theorem v14_real (g j : Fin 4) (s : Fin 8208) : ∃ M : ℝ, val_main_v14 (F := Ideal) x0 x1 (ix3 g j s) = (M : EReal) := by
  rw [v14_at, v13_at, v7_at, bits_bot]
  simp only [v6_real x0 x1 q k h0 h1]
  obtain ⟨M, hM⟩ := fold_max_univ (n := 8207) fun t => score q k g j (up s) t
  exact ⟨M, (congrArg (max ⊥) hM).trans (max_eq_right bot_le)⟩

include h2 h3 in
theorem v38_real (g j : Fin 4) (s t : Fin 8208) : val_main_v38 (F := Ideal) x2 x3 (ix4 g j s t) = ((dProb v o g j (up s) t : ℝ) : EReal) := by
  rw [v38_at]
  simp only [h2, h3, ← EReal.coe_mul, coe_sum]
  exact congrArg _ (Finset.sum_congr rfl fun d _ => by rw [oAll_up, mul_comm])

variable (M : Fin 4 → Fin 4 → Fin 8208 → ℝ) (hM : ∀ g j s, val_main_v14 (F := Ideal) x0 x1 (ix3 g j s) = (M g j s : EReal))

include h0 h1 hM

theorem v27_real (g j : Fin 4) (s t : Fin 8208) : val_main_v27 (F := Ideal) x0 x1 (ix4 g j s t) = ((Real.exp (score q k g j (up s) t - M g j s) : ℝ) : EReal) := by
  rw [v27_at, v6_real x0 x1 q k h0 h1, hM, sub_real, Ideal.exp_coe]

theorem v28_real (g j : Fin 4) (s : Fin 8208) : val_main_v28 (F := Ideal) x0 x1 (ix3 g j s) = ((∑ t, Real.exp (score q k g j (up s) t - M g j s) : ℝ) : EReal) := by
  rw [v28_at]
  simp only [v27_real x0 x1 q k h0 h1 M hM, coe_sum]

theorem v31_real (g j : Fin 4) (s t : Fin 8208) : val_main_v31 (F := Ideal) x0 x1 (ix4 g j s t) = ((prob q k g j (up s) t : ℝ) : EReal) := by
  have hp : 0 < ∑ t, Real.exp (score q k g j (up s) t - M g j s) := sum_pos (n := 8207) (score q k g j (up s)) (M g j s)
  rw [v31_at, v27_real x0 x1 q k h0 h1 M hM, v28_real x0 x1 q k h0 h1 M hM, div_real hp.ne']
  exact congrArg _ (soft_eq (n := 8207) (score q k g j (up s)) (M g j s) t)

include h2 h3 in
theorem v54_real (g j : Fin 4) (s t : Fin 8208) : val_main_v54 (F := Ideal) x0 x1 x2 x3 (ix4 g j s t) = ((dScore q k v o g j (up s) t * (1 / 8) : ℝ) : EReal) := by
  have hp : 0 < ∑ t, Real.exp (score q k g j (up s) t - M g j s) := sum_pos (n := 8207) (score q k g j (up s)) (M g j s)
  rw [v54_at, v48_at, v50_at, v44_at]
  simp only [v41_at, v38_real x2 x3 v o h2 h3, v27_real x0 x1 q k h0 h1 M hM, v28_real x0 x1 q k h0 h1 M hM, bits_one, bits_eighth]
  rw [div_real hp.ne', ← EReal.coe_mul, div_real (mul_pos hp hp).ne']
  simp only [← EReal.coe_mul, coe_sum, neg_real, ← EReal.coe_add]
  exact congrArg (fun r : ℝ => ((r * (1 / 8) : ℝ) : EReal)) (grad_eq (n := 8207) (score q k g j (up s)) (dProb v o g j (up s)) (M g j s) t)

include h2 h3 in
theorem v61_real (g j : Fin 4) (s : Fin 8208) (d : Fin 64) : val_main_v61 (F := Ideal) x0 x1 x2 x3 (ix4 s g j d) = ((dQ q k v o g j (up s) d : ℝ) : EReal) := by
  rw [v61_at, bits_eight]
  simp only [v54_real x0 x1 x2 x3 q k v o h0 h1 h2 h3 M hM, h1, ← EReal.coe_mul, coe_sum]
  exact congrArg _ (dQ_ref q k v o g j (up s) d)

include h2 h3 in
theorem v66_real (g : Fin 4) (t : Fin 8208) (d : Fin 64) : val_main_v66 (F := Ideal) x0 x1 x2 x3 (ix3 t g d) = ((dK q k v o g t d : ℝ) : EReal) := by
  rw [v66_at, log_two]
  simp only [v54_real x0 x1 x2 x3 q k v o h0 h1 h2 h3 M hM, h0, ← EReal.coe_mul, coe_sum]
  rw [div_real ln2_ne]
  exact congrArg _ (dK_ref q k v o g t d)

include h3 in
theorem v40_real (g : Fin 4) (t : Fin 8208) (d : Fin 64) : val_main_v40 (F := Ideal) x0 x1 x3 (ix3 t g d) = ((dV q k o g t d : ℝ) : EReal) := by
  rw [v40_at]
  simp only [v31_real x0 x1 q k h0 h1 M hM, h3, ← EReal.coe_mul, coe_sum]
  exact congrArg _ (dV_ref q k o g t d)

end Cert.ReferenceIdeal.Value
-- ==== Proof.Equation.lean ====
/-
  The kernel's three results are the reference's, entry by entry, for arguments that are real numbers.
-/
module

public import proofs.«01_k».proof.Proof.KernelValue
public import proofs.«01_k».proof.Proof.RefValue

@[expose] public section

noncomputable section

namespace Cert.Equation

open Idealize.ShloMosaic Idealize.ShloMosaic.TcCoe Idealize.ShloMosaic.Pointwise
open Cert.Soft Cert.KernelIdeal.Flash Cert.ReferenceIdeal.Value Cert.ReferenceIdeal.Read

variable (m : (ℓ : Loc Cert.KernelIdeal.nD Cert.KernelIdeal.τ Cert.KernelIdeal.sig) → Buf (Elt Ideal) ℓ) (c : Dev Cert.KernelIdeal.nD)
variable (f0 : ∀ i, mem0 m c i = (((mem0 m c i : EReal).toReal : ℝ) : EReal)) (f1 : ∀ i, mem1 m c i = (((mem1 m c i : EReal).toReal : ℝ) : EReal))
  (f2 : ∀ i, mem2 m c i = (((mem2 m c i : EReal).toReal : ℝ) : EReal)) (f3 : ∀ i, mem3 m c i = (((mem3 m c i : EReal).toReal : ℝ) : EReal))

/-- The arguments as real arrays. -/
def realQ (s : Fin 8448) (g j : Fin 4) (d : Fin 64) : ℝ := (mem0 m c (ix4 s g j d) : EReal).toReal
def realK (s : Fin 8448) (g : Fin 4) (d : Fin 64) : ℝ := (mem1 m c (ix3 s g d) : EReal).toReal
def realV (s : Fin 8448) (g : Fin 4) (d : Fin 64) : ℝ := (mem2 m c (ix3 s g d) : EReal).toReal
def realO (s : Fin 8208) (g j : Fin 4) (d : Fin 64) : ℝ := (mem3 m c (ix4 s g j d) : EReal).toReal

include f0 f1 in
/-- The kernel's row maxima are real. -/
theorem max_kernel : ∃ M : Fin 4 → Fin 4 → Fin 8448 → ℝ, ∀ g j s, hostMax (mem0 m c) (mem1 m c) (ix3 g j s) = (M g j s : EReal) := by
  choose M hM using max_real (mem0 m c) (mem1 m c) (realQ m c) (realK m c) (fun _ _ _ _ => f0 _) (fun _ _ _ => f1 _)
  exact ⟨M, hM⟩

include f0 f1 in
/-- The reference's row maxima are real. -/
theorem max_reference : ∃ M : Fin 4 → Fin 4 → Fin 8208 → ℝ, ∀ g j s, val_main_v14 (F := Ideal) (mem0 m c) (mem1 m c) (ix3 g j s) = (M g j s : EReal) := by
  choose M hM using v14_real (mem0 m c) (mem1 m c) (realQ m c) (realK m c) (fun _ _ _ _ => f0 _) (fun _ _ _ => f1 _)
  exact ⟨M, hM⟩

/-- A head is a group and one of its four queries. -/
theorem head_split (a : Fin 16) : ∃ g j : Fin 4, a = ghd g j :=
  ⟨⟨a.val / 4, by omega⟩, ⟨a.val % 4, by omega⟩, Fin.ext (by show a.val = 4 * (a.val / 4) + a.val % 4; omega)⟩

include f0 f1 f2 f3

/-- The gradient of the queries. -/
theorem dq_eq : dqAll m c = val_main_v70 (F := Ideal) (mem0 m c) (mem1 m c) (mem2 m c) (mem3 m c) := by
  obtain ⟨M, hM⟩ := max_kernel m c f0 f1
  obtain ⟨N, hN⟩ := max_reference m c f0 f1
  have key (a : Fin 16) (d : Fin 64) (s : Fin 8448) : dqAll m c (ix3 a d s) = val_main_v70 (F := Ideal) (mem0 m c) (mem1 m c) (mem2 m c) (mem3 m c) (ix3 a d s) := by
    obtain ⟨g, j, rfl⟩ := head_split a
    refine (dq_real (realQ m c) (realK m c) (realV m c) (realO m c) m c (fun _ _ _ _ => f0 _) (fun _ _ _ => f1 _) (fun _ _ _ => f2 _) (fun _ _ _ _ => f3 _) M hM g j s d).trans ?_
    refine Eq.trans ?_ (v70_at (mem0 m c) (mem1 m c) (mem2 m c) (mem3 m c) g j s d).symm
    by_cases h : s.val < 240
    · rw [dif_pos h, dQ_pad _ _ _ _ g j s d h, EReal.coe_zero]
    · rw [dif_neg h, v61_real (mem0 m c) (mem1 m c) (mem2 m c) (mem3 m c) (realQ m c) (realK m c) (realV m c) (realO m c)
        (fun _ _ _ _ => f0 _) (fun _ _ _ => f1 _) (fun _ _ _ => f2 _) (fun _ _ _ _ => f3 _) N hN, ← up_sub s h]
  funext i
  rw [eq_ix3 i]
  exact key _ _ _

/-- The gradient of the keys. -/
theorem dk_eq : dkAll m c = val_main_v71 (F := Ideal) (mem0 m c) (mem1 m c) (mem2 m c) (mem3 m c) := by
  obtain ⟨M, hM⟩ := max_kernel m c f0 f1
  obtain ⟨N, hN⟩ := max_reference m c f0 f1
  have key (g : Fin 4) (x : Fin 8448) (d : Fin 64) : dkAll m c (ix3 g x d) = val_main_v71 (F := Ideal) (mem0 m c) (mem1 m c) (mem2 m c) (mem3 m c) (ix3 g x d) := by
    refine Eq.trans ?_ (v71_at (mem0 m c) (mem1 m c) (mem2 m c) (mem3 m c) g x d).symm
    by_cases h : x.val < 240
    · rw [dif_pos h]
      exact dk_pad (realQ m c) (realK m c) m c (fun _ _ _ _ => f0 _) (fun _ _ _ => f1 _) M hM g x d h
    · rw [dif_neg h, v66_real (mem0 m c) (mem1 m c) (mem2 m c) (mem3 m c) (realQ m c) (realK m c) (realV m c) (realO m c)
        (fun _ _ _ _ => f0 _) (fun _ _ _ => f1 _) (fun _ _ _ => f2 _) (fun _ _ _ _ => f3 _) N hN]
      refine Eq.trans (congrArg (fun y => dkAll m c (ix3 g y d)) (up_sub x h)) ?_
      exact dk_real (realQ m c) (realK m c) (realV m c) (realO m c) m c (fun _ _ _ _ => f0 _) (fun _ _ _ => f1 _) (fun _ _ _ => f2 _) (fun _ _ _ _ => f3 _) M hM g _ d
  funext i
  rw [eq_ix3 i]
  exact key _ _ _

omit f2 in
/-- The gradient of the values. -/
theorem dv_eq : dvAll m c = val_main_v72 (F := Ideal) (mem0 m c) (mem1 m c) (mem3 m c) := by
  obtain ⟨M, hM⟩ := max_kernel m c f0 f1
  obtain ⟨N, hN⟩ := max_reference m c f0 f1
  have key (g : Fin 4) (x : Fin 8448) (d : Fin 64) : dvAll m c (ix3 g x d) = val_main_v72 (F := Ideal) (mem0 m c) (mem1 m c) (mem3 m c) (ix3 g x d) := by
    refine Eq.trans ?_ (v72_at (mem0 m c) (mem1 m c) (mem3 m c) g x d).symm
    by_cases h : x.val < 240
    · rw [dif_pos h]
      exact dv_pad (realQ m c) (realK m c) m c (fun _ _ _ _ => f0 _) (fun _ _ _ => f1 _) M hM g x d h
    · rw [dif_neg h, v40_real (mem0 m c) (mem1 m c) (mem3 m c) (realQ m c) (realK m c) (realO m c)
        (fun _ _ _ _ => f0 _) (fun _ _ _ => f1 _) (fun _ _ _ _ => f3 _) N hN]
      refine Eq.trans (congrArg (fun y => dvAll m c (ix3 g y d)) (up_sub x h)) ?_
      exact dv_real (realQ m c) (realK m c) (realO m c) m c (fun _ _ _ _ => f0 _) (fun _ _ _ => f1 _) (fun _ _ _ _ => f3 _) M hM g _ d
  funext i
  rw [eq_ix3 i]
  exact key _ _ _

end Cert.Equation
-- ==== Proof.FfnFrames.lean ====
/-
  The frames of the SwiGLU's kernel as printed and of its reference.
-/
module

public import proofs.«01_k».proof.Defs
public import proofs.«01_k».proof.Proof.FrameKernel
public import proofs.«01_k».proof.Proof.Gen.Kernel2
public import proofs.«01_k».proof.Proof.Gen.Kernel2Ideal.Frame
public import proofs.«01_k».proof.Proof.Gen.Reference2Ideal.Run
public import Idealize.ShloMosaic.Lib.Quiescent

@[expose] public section

noncomputable section

namespace Cert.SameText

open Idealize.ShloMosaic Idealize.SL.Sem

section

variable {F : FTy → Type} [FloatOps F]

set_option maxRecDepth 100000 in
set_option maxHeartbeats 0 in
/-- The two SwiGLU programs have the same bodies. -/
theorem table2_same : Cert.Kernel2.defs₀ (F := F) = Cert.Kernel2Ideal.defs₀ (F := F) := by
  unfold Cert.Kernel2.defs₀ Cert.Kernel2Ideal.defs₀
  refine congrArg Defs.onTc ?_
  funext l a
  match l, a with
  | ⟨0, _⟩, (t, s) => exact rfl
  | ⟨1, _⟩, (t, s) => exact rfl
  | ⟨2, _⟩, (t, s) => exact rfl
  | ⟨3, _⟩, (t, s) => exact rfl
  | ⟨4, _⟩, (t, s) => exact rfl
  | ⟨5, _⟩, (t, s) => exact rfl
  | ⟨6, _⟩, (t, s) => exact rfl

set_option maxRecDepth 100000 in
set_option maxHeartbeats 0 in
/-- So they have the same tables. -/
theorem defs2_same : Cert.Kernel2.defs (F := F) = Cert.Kernel2Ideal.defs (F := F) :=
  congrArg (Idealize.ShloMosaic.Pipeline.defs (Cert.Kernel2Ideal.pcfgs (F := F))) table2_same

set_option maxRecDepth 100000 in
set_option maxHeartbeats 0 in
/-- And the same main program. -/
theorem main2_same : Cert.Kernel2.main (F := F) = Cert.Kernel2Ideal.main (F := F) := rfl

end

/-- The SwiGLU's kernel ends, with its arguments unchanged and all counters at zero. -/
theorem frame_kernel2 [hKernel2 : Cert.Kernel2.Facts] : Cert.quiescent_Kernel2 := fun m ρ _ =>
  run_of_eq (defs2_same (F := Bits)) (main2_same (F := Bits)) _ _ (Cert.Kernel2Ideal.Gen.frame (F := Bits) m ρ)

/-- So does its reference. -/
theorem frame_reference2 : Cert.quiescent_Reference2Ideal := fun m ρ _ =>
  (θ_run Cert.Reference2Ideal.defs _ _).mono
    (fun r h => ⟨fun c => (h c).2.2.2.2.2.2.2, Idealize.ShloMosaic.sem_eq_zero_of_no_sems (by decide) r.2⟩)
    (Cert.Reference2Ideal.Value.run (F := Ideal) m ρ)

end Cert.SameText

end
-- ==== Proof.FfnFinite.lean ====
/-
  The SwiGLU's precondition read back: every entry of the first five arguments is a real number.
-/
module

public import proofs.«01_k».proof.Proof.Gen.Pre_finite2
public import proofs.«01_k».proof.Proof.Finite

@[expose] public section

noncomputable section

namespace Cert.Pre_finite2

open Idealize.ShloMosaic Cert.Pre_finite2.Gen
open Cert.Pre_finite (real_of_abs_lt)

instance : Subsingleton S_.Idx := ⟨fun a b => funext fun i => i.elim0⟩

variable (x0 : FVec Ideal S8448x1024 .f32) (x1 x2 : FVec Ideal S1024x2816 .f32) (x3 : FVec Ideal S2816x1024 .f32) (x4 : FVec Ideal S8448x1024 .f32)
  (x5 x6 : FVec Ideal S1024 .f32)

/-- The precondition says that every entry of the first five arguments is real. -/
theorem real_of_fn (h : fn (F := Ideal) x0 x1 x2 x3 x4 x5 x6 = fun _ => 1#1) :
    (∀ i, x0 i = (((x0 i : EReal).toReal : ℝ) : EReal)) ∧ (∀ i, x1 i = (((x1 i : EReal).toReal : ℝ) : EReal))
      ∧ (∀ i, x2 i = (((x2 i : EReal).toReal : ℝ) : EReal)) ∧ (∀ i, x3 i = (((x3 i : EReal).toReal : ℝ) : EReal))
      ∧ ∀ i, x4 i = (((x4 i : EReal).toReal : ℝ) : EReal) := by
  have e := congrFun h (fun i : Fin 0 => i.elim0)
  unfold fn at e
  dsimp only at e
  unfold fn_part1 at e
  dsimp only at e
  obtain ⟨e, e4⟩ := IntOp.andi_eq_one.1 e
  obtain ⟨e, e3⟩ := IntOp.andi_eq_one.1 e
  obtain ⟨e, e2⟩ := IntOp.andi_eq_one.1 e
  obtain ⟨e0, e1⟩ := IntOp.andi_eq_one.1 e
  exact ⟨fun i => real_of_abs_lt _ (Host.reduce_andi_all _ _ _ _ _ e0 i), fun i => real_of_abs_lt _ (Host.reduce_andi_all _ _ _ _ _ e1 i),
    fun i => real_of_abs_lt _ (Host.reduce_andi_all _ _ _ _ _ e2 i), fun i => real_of_abs_lt _ (Host.reduce_andi_all _ _ _ _ _ e3 i),
    fun i => real_of_abs_lt _ (Host.reduce_andi_all _ _ _ _ _ e4 i)⟩

end Cert.Pre_finite2
-- ==== Proof.FfnBlocks.lean ====
/-
  Where the blocks of the SwiGLU's calls lie in their arrays.
-/
module

public import proofs.«01_k».proof.Proof.Gen.Kernel2Ideal.Frame
public import Idealize.ShloMosaic.Lib.Pointwise

@[expose] public section

noncomputable section

namespace Cert.Kernel2Ideal.Ffn

open Idealize.ShloMosaic Idealize.ShloMosaic.TcCoe Idealize.ShloMosaic.Pointwise Cert.Kernel2Ideal Cert.Kernel2Ideal.Gen
open Idealize.SL Idealize.SL.Sem

/-- A rectangle's entry is where its two coordinates say. -/
theorem emb_two {A B : ℕ} (R : Rect ⟨2, ![A, B]⟩) (x : R.shape.Idx) (y : (⟨2, ![A, B]⟩ : Shape).Idx)
    (h0 : (y 0).val = R.off 0 + R.stride 0 * (x 0).val) (h1 : (y 1).val = R.off 1 + R.stride 1 * (x 1).val) : R.emb x = y :=
  R.emb_eq_of_coords x y fun b => match b with
    | ⟨0, _⟩ => h0
    | ⟨1, _⟩ => h1

theorem point33 (t : Fin cfg0.N) : t.val < 33 := t.isLt
theorem point22 (t : Fin cfg2.N) : t.val < 22 := t.isLt

/-- Row `r` of the point's 256 rows. -/
def row (t : Fin cfg0.N) (r : Fin 256) : Fin 8448 := ⟨256 * t.val + r.val, by have := point33 t; have := r.isLt; omega⟩

/-- Row `r` of the point's 384 rows. -/
def row5 (t : Fin cfg5.N) (r : Fin 384) : Fin 8448 := ⟨384 * t.val + r.val, by have : t.val < 22 := t.isLt; have := r.isLt; omega⟩

/-- Row `r` of the point's 768 rows. -/
def row6 (t : Fin cfg6.N) (r : Fin 768) : Fin 8448 := ⟨768 * t.val + r.val, by have : t.val < 11 := t.isLt; have := r.isLt; omega⟩

/-- Row `k` of the point's 768 rows, the grid's inner axis. -/
def tok (t : Fin cfg2.N) (k : Fin 768) : Fin 8448 := ⟨768 * (t.val % 11) + k.val, by have := k.isLt; omega⟩

/-- Column `x` of the point's half of the hidden features, the grid's outer axis. -/
def feat (t : Fin cfg2.N) (x : Fin 1408) : Fin 2816 := ⟨1408 * (t.val / 11) + x.val, by have := point22 t; have := x.isLt; omega⟩

theorem index0 : ∀ t : Fin cfg0.N, cc0_transform_0 (grid0.coords t) = ![t.val, 0] :=
  (by decide +kernel : ∀ t : Fin grid0.N, cc0_transform_0 (grid0.coords t) = ![t.val, 0])

theorem index2_0 : ∀ t : Fin cfg2.N, cc2_transform_0 (grid2.coords t) = ![t.val % 11, t.val / 11] :=
  (by decide +kernel : ∀ t : Fin grid2.N, cc2_transform_0 (grid2.coords t) = ![t.val % 11, t.val / 11])

theorem index2_1 : ∀ t : Fin cfg2.N, cc2_transform_1 (grid2.coords t) = ![t.val % 11, 0] :=
  (by decide +kernel : ∀ t : Fin grid2.N, cc2_transform_1 (grid2.coords t) = ![t.val % 11, 0])

theorem index2_2 : ∀ t : Fin cfg2.N, cc2_transform_2 (grid2.coords t) = ![t.val / 11, 0] :=
  (by decide +kernel : ∀ t : Fin grid2.N, cc2_transform_2 (grid2.coords t) = ![t.val / 11, 0])

theorem index5 : ∀ t : Fin cfg5.N, cc5_transform_0 (grid5.coords t) = ![t.val, 0] :=
  (by decide +kernel : ∀ t : Fin grid5.N, cc5_transform_0 (grid5.coords t) = ![t.val, 0])

theorem index6 : ∀ t : Fin cfg6.N, cc6_transform_0 (grid6.coords t) = ![t.val, 0] :=
  (by decide +kernel : ∀ t : Fin grid6.N, cc6_transform_0 (grid6.coords t) = ![t.val, 0])

theorem emb_model (t : Fin cfg0.N) (r : Fin 256) (d : Fin 1024) : (win0_0.rect t).emb (ix2 r d) = (ix2 (row t r) d : S8448x1024.Idx) :=
  emb_two _ _ _
    (by show _ = cc0_transform_0 (grid0.coords t) 0 * 256 + 1 * r.val; rw [index0]; show 256 * t.val + r.val = t.val * 256 + 1 * r.val; omega)
    (by show _ = cc0_transform_0 (grid0.coords t) 1 * 1024 + 1 * d.val; rw [index0]; show d.val = 0 * 1024 + 1 * d.val; omega)

theorem emb_hidden (t : Fin cfg0.N) (r : Fin 256) (f : Fin 2816) : (win0_3.rect t).emb (ix2 r f) = (ix2 (row t r) f : S8448x2816.Idx) :=
  emb_two _ _ _
    (by show _ = cc0_transform_0 (grid0.coords t) 0 * 256 + 1 * r.val; rw [index0]; show 256 * t.val + r.val = t.val * 256 + 1 * r.val; omega)
    (by show _ = cc0_transform_0 (grid0.coords t) 1 * 2816 + 1 * f.val; rw [index0]; show f.val = 0 * 2816 + 1 * f.val; omega)

theorem emb_weight (t : Fin cfg0.N) (f : Fin 2816) (d : Fin 1024) : (win0_1.rect t).emb (ix2 f d) = (ix2 f d : S2816x1024.Idx) :=
  emb_two _ _ _ (by show f.val = 0 * 2816 + 1 * f.val; omega) (by show d.val = 0 * 1024 + 1 * d.val; omega)

theorem emb_left (t : Fin cfg2.N) (k : Fin 768) (x : Fin 1408) : (win2_0.rect t).emb (ix2 k x) = (ix2 (tok t k) (feat t x) : S8448x2816.Idx) :=
  emb_two _ _ _
    (by show _ = cc2_transform_0 (grid2.coords t) 0 * 768 + 1 * k.val; rw [index2_0]; show 768 * (t.val % 11) + k.val = (t.val % 11) * 768 + 1 * k.val; omega)
    (by show _ = cc2_transform_0 (grid2.coords t) 1 * 1408 + 1 * x.val; rw [index2_0]; show 1408 * (t.val / 11) + x.val = (t.val / 11) * 1408 + 1 * x.val; omega)

theorem emb_right (t : Fin cfg2.N) (k : Fin 768) (y : Fin 1024) : (win2_1.rect t).emb (ix2 k y) = (ix2 (tok t k) y : S8448x1024.Idx) :=
  emb_two _ _ _
    (by show _ = cc2_transform_1 (grid2.coords t) 0 * 768 + 1 * k.val; rw [index2_1]; show 768 * (t.val % 11) + k.val = (t.val % 11) * 768 + 1 * k.val; omega)
    (by show _ = cc2_transform_1 (grid2.coords t) 1 * 1024 + 1 * y.val; rw [index2_1]; show y.val = 0 * 1024 + 1 * y.val; omega)

theorem emb_product (t : Fin cfg2.N) (x : Fin 1408) (y : Fin 1024) : (win2_2.rect t).emb (ix2 x y) = (ix2 (feat t x) y : S2816x1024.Idx) :=
  emb_two _ _ _
    (by show _ = cc2_transform_2 (grid2.coords t) 0 * 1408 + 1 * x.val; rw [index2_2]; show 1408 * (t.val / 11) + x.val = (t.val / 11) * 1408 + 1 * x.val; omega)
    (by show _ = cc2_transform_2 (grid2.coords t) 1 * 1024 + 1 * y.val; rw [index2_2]; show y.val = 0 * 1024 + 1 * y.val; omega)

theorem emb_hidden5 (t : Fin cfg5.N) (r : Fin 384) (f : Fin 2816) : (win5_0.rect t).emb (ix2 r f) = (ix2 (row5 t r) f : S8448x2816.Idx) :=
  emb_two _ _ _
    (by show _ = cc5_transform_0 (grid5.coords t) 0 * 384 + 1 * r.val; rw [index5]; show 384 * t.val + r.val = t.val * 384 + 1 * r.val; omega)
    (by show _ = cc5_transform_0 (grid5.coords t) 1 * 2816 + 1 * f.val; rw [index5]; show f.val = 0 * 2816 + 1 * f.val; omega)

theorem emb_weight5 (t : Fin cfg5.N) (f : Fin 2816) (d : Fin 1024) : (win5_1.rect t).emb (ix2 f d) = (ix2 f d : S2816x1024.Idx) :=
  emb_two _ _ _ (by show f.val = 0 * 2816 + 1 * f.val; omega) (by show d.val = 0 * 1024 + 1 * d.val; omega)

theorem emb_model5 (t : Fin cfg5.N) (r : Fin 384) (d : Fin 1024) : (win5_4.rect t).emb (ix2 r d) = (ix2 (row5 t r) d : S8448x1024.Idx) :=
  emb_two _ _ _
    (by show _ = cc5_transform_0 (grid5.coords t) 0 * 384 + 1 * r.val; rw [index5]; show 384 * t.val + r.val = t.val * 384 + 1 * r.val; omega)
    (by show _ = cc5_transform_0 (grid5.coords t) 1 * 1024 + 1 * d.val; rw [index5]; show d.val = 0 * 1024 + 1 * d.val; omega)

theorem emb_hidden6 (t : Fin cfg6.N) (r : Fin 768) (f : Fin 2816) : (win6_0.rect t).emb (ix2 r f) = (ix2 (row6 t r) f : S8448x2816.Idx) :=
  emb_two _ _ _
    (by show _ = cc6_transform_0 (grid6.coords t) 0 * 768 + 1 * r.val; rw [index6]; show 768 * t.val + r.val = t.val * 768 + 1 * r.val; omega)
    (by show _ = cc6_transform_0 (grid6.coords t) 1 * 2816 + 1 * f.val; rw [index6]; show f.val = 0 * 2816 + 1 * f.val; omega)

theorem emb_weight6 (t : Fin cfg6.N) (f : Fin 2816) (d : Fin 1024) : (win6_1.rect t).emb (ix2 f d) = (ix2 f d : S2816x1024.Idx) :=
  emb_two _ _ _ (by show f.val = 0 * 2816 + 1 * f.val; omega) (by show d.val = 0 * 1024 + 1 * d.val; omega)

theorem emb_model6 (t : Fin cfg6.N) (r : Fin 768) (d : Fin 1024) : (win6_2.rect t).emb (ix2 r d) = (ix2 (row6 t r) d : S8448x1024.Idx) :=
  emb_two _ _ _
    (by show _ = cc6_transform_0 (grid6.coords t) 0 * 768 + 1 * r.val; rw [index6]; show 768 * t.val + r.val = t.val * 768 + 1 * r.val; omega)
    (by show _ = cc6_transform_0 (grid6.coords t) 1 * 1024 + 1 * d.val; rw [index6]; show d.val = 0 * 1024 + 1 * d.val; omega)

theorem emb_vector6 (t : Fin cfg6.N) (z : Fin 1) (d : Fin 1024) : (win6_3.rect t).emb (ix2 z d) = (ix2 z d : S1x1024.Idx) :=
  emb_two _ _ _ (by show z.val = 0 * 1 + 1 * z.val; omega) (by show d.val = 0 * 1024 + 1 * d.val; omega)

variable (V : (c : Dev nD) → (b : Ref sig .tc) → Buf (Elt Ideal) ((c : Thread nD τ).loc b)) (c : Dev nD)

theorem block0_0 (t : Fin cfg0.N) (r : Fin 256) (d : Fin 1024) : iblk0 V c 0 t (ix2 r d) = V c main_v0 (ix2 (row t r) d) :=
  congrArg (V c main_v0) (emb_model t r d)
theorem block0_1 (t : Fin cfg0.N) (f : Fin 2816) (d : Fin 1024) : iblk0 V c 1 t (ix2 f d) = V c main_v3 (ix2 f d) :=
  congrArg (V c main_v3) (emb_weight t f d)
theorem block0_2 (t : Fin cfg0.N) (f : Fin 2816) (d : Fin 1024) : iblk0 V c 2 t (ix2 f d) = V c main_v5 (ix2 f d) :=
  congrArg (V c main_v5) (emb_weight t f d)
theorem block1_0 (t : Fin cfg1.N) (r : Fin 256) (d : Fin 1024) : iblk1 V c 0 t (ix2 r d) = V c main_v1 (ix2 (row t r) d) :=
  congrArg (V c main_v1) (emb_model t r d)
theorem block1_1 (t : Fin cfg1.N) (f : Fin 2816) (d : Fin 1024) : iblk1 V c 1 t (ix2 f d) = V c main_v6 (ix2 f d) :=
  congrArg (V c main_v6) (emb_weight t f d)
theorem block1_2 (t : Fin cfg1.N) (r : Fin 256) (f : Fin 2816) : iblk1 V c 2 t (ix2 r f) = V c main_v7_0 (ix2 (row t r) f) :=
  congrArg (V c main_v7_0) (emb_hidden t r f)
theorem block1_3 (t : Fin cfg1.N) (r : Fin 256) (f : Fin 2816) : iblk1 V c 3 t (ix2 r f) = V c main_v7_1 (ix2 (row t r) f) :=
  congrArg (V c main_v7_1) (emb_hidden t r f)
theorem block2_0 (t : Fin cfg2.N) (k : Fin 768) (x : Fin 1408) : iblk2 V c 0 t (ix2 k x) = V c main_v7_2 (ix2 (tok t k) (feat t x)) :=
  congrArg (V c main_v7_2) (emb_left t k x)
theorem block2_1 (t : Fin cfg2.N) (k : Fin 768) (y : Fin 1024) : iblk2 V c 1 t (ix2 k y) = V c main_v1 (ix2 (tok t k) y) :=
  congrArg (V c main_v1) (emb_right t k y)
theorem block3_0 (t : Fin cfg3.N) (k : Fin 768) (x : Fin 1408) : iblk3 V c 0 t (ix2 k x) = V c main_v8_0 (ix2 (tok t k) (feat t x)) :=
  congrArg (V c main_v8_0) (emb_left t k x)
theorem block3_1 (t : Fin cfg3.N) (k : Fin 768) (y : Fin 1024) : iblk3 V c 1 t (ix2 k y) = V c main_v0 (ix2 (tok t k) y) :=
  congrArg (V c main_v0) (emb_right t k y)
theorem block4_0 (t : Fin cfg4.N) (k : Fin 768) (x : Fin 1408) : iblk4 V c 0 t (ix2 k x) = V c main_v8_1 (ix2 (tok t k) (feat t x)) :=
  congrArg (V c main_v8_1) (emb_left t k x)
theorem block4_1 (t : Fin cfg4.N) (k : Fin 768) (y : Fin 1024) : iblk4 V c 1 t (ix2 k y) = V c main_v0 (ix2 (tok t k) y) :=
  congrArg (V c main_v0) (emb_right t k y)
theorem block5_0 (t : Fin cfg5.N) (r : Fin 384) (f : Fin 2816) : iblk5 V c 0 t (ix2 r f) = V c main_v8_0 (ix2 (row5 t r) f) :=
  congrArg (V c main_v8_0) (emb_hidden5 t r f)
theorem block5_1 (t : Fin cfg5.N) (f : Fin 2816) (d : Fin 1024) : iblk5 V c 1 t (ix2 f d) = V c main_v3 (ix2 f d) :=
  congrArg (V c main_v3) (emb_weight5 t f d)
theorem block5_2 (t : Fin cfg5.N) (r : Fin 384) (f : Fin 2816) : iblk5 V c 2 t (ix2 r f) = V c main_v8_1 (ix2 (row5 t r) f) :=
  congrArg (V c main_v8_1) (emb_hidden5 t r f)
theorem block5_3 (t : Fin cfg5.N) (f : Fin 2816) (d : Fin 1024) : iblk5 V c 3 t (ix2 f d) = V c main_v5 (ix2 f d) :=
  congrArg (V c main_v5) (emb_weight5 t f d)
theorem block6_0 (t : Fin cfg6.N) (r : Fin 768) (f : Fin 2816) : iblk6 V c 0 t (ix2 r f) = V c main_v7_2 (ix2 (row6 t r) f) :=
  congrArg (V c main_v7_2) (emb_hidden6 t r f)
theorem block6_1 (t : Fin cfg6.N) (f : Fin 2816) (d : Fin 1024) : iblk6 V c 1 t (ix2 f d) = V c main_v6 (ix2 f d) :=
  congrArg (V c main_v6) (emb_weight6 t f d)
theorem block6_2 (t : Fin cfg6.N) (r : Fin 768) (d : Fin 1024) : iblk6 V c 2 t (ix2 r d) = V c main_arg0 (ix2 (row6 t r) d) :=
  congrArg (V c main_arg0) (emb_model6 t r d)
theorem block6_3 (t : Fin cfg6.N) (z : Fin 1) (d : Fin 1024) : iblk6 V c 3 t (ix2 z d) = V c main_v13 (ix2 z d) :=
  congrArg (V c main_v13) (emb_vector6 t z d)
theorem block6_4 (t : Fin cfg6.N) (z : Fin 1) (d : Fin 1024) : iblk6 V c 4 t (ix2 z d) = V c main_v14 (ix2 z d) :=
  congrArg (V c main_v14) (emb_vector6 t z d)

end Cert.Kernel2Ideal.Ffn

end
-- ==== Proof.FfnNorm.lean ====
/-
  The layer norm over a row of 1024 features, over the extended reals.
-/
module

public import Idealize.ShloMosaic.PureOps.Ideal

@[expose] public section

noncomputable section

namespace Cert.Norm

open Idealize.ShloMosaic

/-- The mean of a row. -/
def mean (r : Fin 1024 → EReal) : EReal := Ideal.div (∑ d, r d) (Ideal.ofBits .f32 0x44800000#32)

/-- The reciprocal of the row's standard deviation, of the row with its mean taken away. -/
def scale (x : Fin 1024 → EReal) : EReal := Ideal.rsqrt (mean (fun d => x d * x d) + Ideal.ofBits .f32 0x3727C5AC#32)

/-- The norm's entry `d`. -/
def norm (r : Fin 1024 → EReal) (d : Fin 1024) (gain bias : EReal) : EReal :=
  (r d - mean r) * scale (fun e => r e - mean r) * gain + bias

end Cert.Norm

end
-- ==== Proof.FfnTiles.lean ====
/-
  What the bodies of the SwiGLU's seven calls compute of their blocks, entry by entry.
-/
module

public import proofs.«01_k».proof.Proof.Gen.Kernel2Ideal.Skeleton
public import proofs.«01_k».proof.Proof.SoftReal
public import proofs.«01_k».proof.Proof.FfnNorm
public import Idealize.ShloMosaic.Lib.Pointwise

@[expose] public section

noncomputable section

namespace Cert.Kernel2Ideal.Ffn

open Idealize.ShloMosaic Idealize.ShloMosaic.Pointwise Cert.Kernel2Ideal Cert.Kernel2Ideal.Gen

/-- The sigmoid as the bodies compute it. -/
def sigm (x : EReal) : EReal :=
  Ideal.div (Ideal.ofBits .f32 0x3F800000#32) (Ideal.ofBits .f32 0x3F800000#32 + Ideal.exp (Ideal.ofBits .f32 0x00000000#32 - x))

theorem gate_at (h : Vec Ideal S256x1024 .bf16) (w : Vec Ideal S2816x1024 .bf16) (r : Fin 256) (f : Fin 2816) :
    k0_pay2 h w (ix2 r f) = ∑ d : Fin 1024, h (ix2 r d) * w (ix2 f d) := by
  pointwise [k0_pay2, k0_pay1]

theorem up_at (h : Vec Ideal S256x1024 .bf16) (w : Vec Ideal S2816x1024 .bf16) (r : Fin 256) (f : Fin 2816) :
    k0_pay3 h w (ix2 r f) = ∑ d : Fin 1024, h (ix2 r d) * w (ix2 f d) := by
  pointwise [k0_pay3, k0_pay1]

theorem act_at (h : Vec Ideal S256x1024 .bf16) (w v : Vec Ideal S2816x1024 .bf16) (r : Fin 256) (f : Fin 2816) :
    k0_pay4 h w v (ix2 r f) = k0_pay2 h w (ix2 r f) * sigm (k0_pay2 h w (ix2 r f)) * k0_pay3 h v (ix2 r f) := by
  pointwise [k0_pay4, sigm]

theorem dact_at (ct : Vec Ideal S256x1024 .bf16) (w : Vec Ideal S2816x1024 .bf16) (r : Fin 256) (f : Fin 2816) :
    k1_pay1 ct w (ix2 r f) = ∑ d : Fin 1024, ct (ix2 r d) * w (ix2 f d) := by
  pointwise [k1_pay1]

theorem dgate_at (ct : Vec Ideal S256x1024 .bf16) (w : Vec Ideal S2816x1024 .bf16) (g u : Vec Ideal S256x2816 .bf16) (r : Fin 256) (f : Fin 2816) :
    k1_pay4 ct w g u (ix2 r f) = k1_pay1 ct w (ix2 r f) * u (ix2 r f) * sigm (g (ix2 r f))
      * (Ideal.ofBits .f32 0x3F800000#32 + g (ix2 r f) * (Ideal.ofBits .f32 0x3F800000#32 - sigm (g (ix2 r f)))) := by
  pointwise [k1_pay4, k1_pay3, k1_pay2, sigm]

theorem dup_at (ct : Vec Ideal S256x1024 .bf16) (w : Vec Ideal S2816x1024 .bf16) (g : Vec Ideal S256x2816 .bf16) (r : Fin 256) (f : Fin 2816) :
    k1_pay5 ct w g (ix2 r f) = k1_pay1 ct w (ix2 r f) * g (ix2 r f) * sigm (g (ix2 r f)) := by
  pointwise [k1_pay5, k1_pay3, k1_pay2, sigm]

theorem dw_zero (x : Fin 1408) (y : Fin 1024) : k2_pay1 (F := Ideal) (ix2 x y) = Ideal.ofBits .f32 0x00000000#32 := by
  pointwise [k2_pay1]

theorem dw_at (acc : Vec Ideal S1408x1024 .f32) (a : Vec Ideal S768x1408 .bf16) (b : Vec Ideal S768x1024 .bf16) (x : Fin 1408) (y : Fin 1024) :
    k2_pay2 acc a b (ix2 x y) = acc (ix2 x y) + ∑ k : Fin 768, a (ix2 k x) * b (ix2 k y) := by
  pointwise [k2_pay2]

theorem dh_at (a : Vec Ideal S384x2816 .bf16) (w : Vec Ideal S2816x1024 .bf16) (b : Vec Ideal S384x2816 .bf16) (v : Vec Ideal S2816x1024 .bf16) (r : Fin 384) (d : Fin 1024) :
    k5_pay1 a w b v (ix2 r d) = (∑ f : Fin 2816, a (ix2 r f) * w (ix2 f d)) + ∑ f : Fin 2816, b (ix2 r f) * v (ix2 f d) := by
  pointwise [k5_pay1]

theorem res_at (h : Vec Ideal S768x1024 .f32) (a : Vec Ideal S768x2816 .bf16) (w : Vec Ideal S2816x1024 .bf16) (r : Fin 768) (d : Fin 1024) :
    k6_pay1 h a w (ix2 r d) = Ideal.ofBits .f32 0x3FD744FD#32 * h (ix2 r d) + ∑ f : Fin 2816, a (ix2 r f) * w (ix2 f d) := by
  pointwise [k6_pay1]

theorem norm_at (h : Vec Ideal S768x1024 .f32) (a : Vec Ideal S768x2816 .bf16) (w : Vec Ideal S2816x1024 .bf16) (g b : Vec Ideal S1x1024 .f32) (r : Fin 768) (d : Fin 1024) :
    k6_pay2 h a w g b (ix2 r d) = Cert.Norm.norm (fun e => k6_pay1 h a w (ix2 r e)) d (g (ix2 0 d)) (b (ix2 0 d)) := by
  pointwise [k6_pay2, Cert.Norm.norm, Cert.Norm.scale, Cert.Norm.mean]

theorem cast_at (h : Vec Ideal S768x1024 .f32) (a : Vec Ideal S768x2816 .bf16) (w : Vec Ideal S2816x1024 .bf16) (g b : Vec Ideal S1x1024 .f32) (r : Fin 768) (d : Fin 1024) :
    k6_pay3 h a w g b (ix2 r d) = k6_pay2 h a w g b (ix2 r d) := by
  pointwise [k6_pay3]

end Cert.Kernel2Ideal.Ffn

end
-- ==== Proof.FfnOuts.lean ====
/-
  What a point of each of the SwiGLU's calls leaves in its results' buffers.
-/
module

public import proofs.«01_k».proof.Proof.Gen.Kernel2Ideal.Frame
public import Idealize.ShloMosaic.Lib.Pipeline.Value

@[expose] public section

noncomputable section

namespace Cert.Kernel2Ideal.Ffn

open Idealize.ShloMosaic Idealize.ShloMosaic.TcCoe Idealize.ShloMosaic.Tactic Cert.Kernel2Ideal Cert.Kernel2Ideal.Gen
open Idealize.SL Idealize.SL.Sem

variable {F : FTy → Type} [FloatOps F]

theorem hz2 : (![0, 0] : Fin 2 → ℕ) = fun _ => 0 := by
  funext a
  fin_cases a <;> rfl

theorem gate_eq (x0 : Vec F S256x1024 .bf16) (x1 x2 : Vec F S2816x1024 .bf16) : out0_3 x0 x1 x2 = k0_pay2 x0 x1 := by
  unfold out0_3
  rw [View.canon_unit_zero hz2, View.ld_unit_zero (S := S256x1024) hz2, View.ld_unit_zero (S := S2816x1024) hz2]

theorem up_eq (x0 : Vec F S256x1024 .bf16) (x1 x2 : Vec F S2816x1024 .bf16) : out0_4 x0 x1 x2 = k0_pay3 x0 x2 := by
  unfold out0_4
  rw [View.canon_unit_zero hz2, View.ld_unit_zero (S := S256x1024) hz2, View.ld_unit_zero (S := S2816x1024) hz2]

theorem act_eq (x0 : Vec F S256x1024 .bf16) (x1 x2 : Vec F S2816x1024 .bf16) : out0_5 x0 x1 x2 = k0_pay4 x0 x1 x2 := by
  unfold out0_5
  rw [View.canon_unit_zero hz2]
  simp only [View.ld_unit_zero (S := S256x1024) hz2, View.ld_unit_zero (S := S2816x1024) hz2]

theorem dgate_eq (x0 : Vec F S256x1024 .bf16) (x1 : Vec F S2816x1024 .bf16) (x2 x3 : Vec F S256x2816 .bf16) : out1_4 x0 x1 x2 x3 = k1_pay4 x0 x1 x2 x3 := by
  unfold out1_4
  rw [View.canon_unit_zero hz2]
  simp only [View.ld_unit_zero (S := S256x1024) hz2, View.ld_unit_zero (S := S2816x1024) hz2, View.ld_unit_zero (S := S256x2816) hz2]

theorem dup_eq (x0 : Vec F S256x1024 .bf16) (x1 : Vec F S2816x1024 .bf16) (x2 x3 : Vec F S256x2816 .bf16) : out1_5 x0 x1 x2 x3 = k1_pay5 x0 x1 x2 := by
  unfold out1_5
  rw [View.canon_unit_zero hz2]
  simp only [View.ld_unit_zero (S := S256x1024) hz2, View.ld_unit_zero (S := S2816x1024) hz2, View.ld_unit_zero (S := S256x2816) hz2]

theorem dh_eq (x0 : Vec F S384x2816 .bf16) (x1 : Vec F S2816x1024 .bf16) (x2 : Vec F S384x2816 .bf16) (x3 : Vec F S2816x1024 .bf16) : out5_4 x0 x1 x2 x3 = k5_pay1 x0 x1 x2 x3 := by
  unfold out5_4
  rw [View.canon_unit_zero hz2]
  simp only [View.ld_unit_zero (S := S384x2816) hz2, View.ld_unit_zero (S := S2816x1024) hz2]

theorem res_eq (x0 : Vec F S768x2816 .bf16) (x1 : Vec F S2816x1024 .bf16) (x2 : Vec F S768x1024 .f32) (x3 x4 : Vec F S1x1024 .f32) : out6_5 x0 x1 x2 x3 x4 = k6_pay1 x2 x0 x1 := by
  unfold out6_5
  rw [View.canon_unit_zero hz2]
  simp only [View.ld_unit_zero (S := S768x2816) hz2, View.ld_unit_zero (S := S2816x1024) hz2, View.ld_unit_zero (S := S768x1024) hz2,
    View.ld_unit_zero (S := S1x1024) hz2]

theorem norm_eq (x0 : Vec F S768x2816 .bf16) (x1 : Vec F S2816x1024 .bf16) (x2 : Vec F S768x1024 .f32) (x3 x4 : Vec F S1x1024 .f32) : out6_6 x0 x1 x2 x3 x4 = k6_pay2 x2 x0 x1 x3 x4 := by
  unfold out6_6
  rw [View.canon_unit_zero hz2]
  simp only [View.ld_unit_zero (S := S768x2816) hz2, View.ld_unit_zero (S := S2816x1024) hz2, View.ld_unit_zero (S := S768x1024) hz2,
    View.ld_unit_zero (S := S1x1024) hz2]

theorem cast_eq (x0 : Vec F S768x2816 .bf16) (x1 : Vec F S2816x1024 .bf16) (x2 : Vec F S768x1024 .f32) (x3 x4 : Vec F S1x1024 .f32) : out6_7 x0 x1 x2 x3 x4 = k6_pay3 x2 x0 x1 x3 x4 := by
  unfold out6_7
  rw [View.canon_unit_zero hz2]
  simp only [View.ld_unit_zero (S := S768x2816) hz2, View.ld_unit_zero (S := S2816x1024) hz2, View.ld_unit_zero (S := S768x1024) hz2,
    View.ld_unit_zero (S := S1x1024) hz2]

theorem first2_eq (c : Dev nD) (i : grid2.Coords) (arg2 : Memref sig .tc .vmem S768x1408 .bf16) (harg2 : arg2.IsWhole) (arg3 : Memref sig .tc .vmem S768x1024 .bf16) (harg3 : arg3.IsWhole) (arg4 : Memref sig .tc .vmem S1408x1024 .f32) (harg4 : arg4.IsWhole) (hc0 : cond2_0 i)
    (x0 : Vec F S768x1408 .bf16) (x1 : Vec F S768x1024 .bf16) : out2_A_2 c i arg2 harg2 arg3 harg3 arg4 harg4 hc0 x0 x1 = k2_pay2 k2_pay1 x0 x1 := by
  unfold out2_A_2
  rw [View.read_writes_eq_canon _ _ _ (cover2_A_2 c i arg2 harg2 arg3 harg3 arg4 harg4 hc0 x0 x1)]
  unfold kernelRun2_A
  dsimp only
  try sl_unfold_words
  rw [View.canon_cons_unit_zero (S := S1408x1024) hz2, View.readCov_unit_zero (S := S1408x1024) _ hz2]
  simp only [View.readAt_eq_ld, harg2.read_unread, harg3.read_unread, View.ld_unit_zero (S := S768x1408) hz2, View.ld_unit_zero (S := S768x1024) hz2]
  try rfl

theorem later2_eq (c : Dev nD) (i : grid2.Coords) (arg2 : Memref sig .tc .vmem S768x1408 .bf16) (harg2 : arg2.IsWhole) (arg3 : Memref sig .tc .vmem S768x1024 .bf16) (harg3 : arg3.IsWhole) (arg4 : Memref sig .tc .vmem S1408x1024 .f32) (harg4 : arg4.IsWhole) (hc0 : ¬cond2_0 i)
    (x0 : Vec F S768x1408 .bf16) (x1 : Vec F S768x1024 .bf16) (xo : Vec F S1408x1024 .f32) : out2_B_2 c i arg2 harg2 arg3 harg3 arg4 harg4 hc0 x0 x1 xo = k2_pay2 xo x0 x1 := by
  unfold out2_B_2
  rw [View.read_writes_eq_canon _ _ _ (cover2_B_2 c i arg2 harg2 arg3 harg3 arg4 harg4 hc0 x0 x1 xo)]
  unfold kernelRun2_B
  dsimp only
  try sl_unfold_words
  rw [View.canon_unit_zero (S := S1408x1024) hz2]
  simp only [View.readAt_eq_ld, harg2.read_unread, harg3.read_unread, harg4.read_unread, View.ld_unit_zero (S := S768x1408) hz2, View.ld_unit_zero (S := S768x1024) hz2, View.ld_unit_zero (S := S1408x1024) hz2]
  try rfl

theorem first3_eq (c : Dev nD) (i : grid3.Coords) (arg2 : Memref sig .tc .vmem S768x1408 .bf16) (harg2 : arg2.IsWhole) (arg3 : Memref sig .tc .vmem S768x1024 .bf16) (harg3 : arg3.IsWhole) (arg4 : Memref sig .tc .vmem S1408x1024 .f32) (harg4 : arg4.IsWhole) (hc0 : cond3_0 i)
    (x0 : Vec F S768x1408 .bf16) (x1 : Vec F S768x1024 .bf16) : out3_A_2 c i arg2 harg2 arg3 harg3 arg4 harg4 hc0 x0 x1 = k2_pay2 k2_pay1 x0 x1 := by
  unfold out3_A_2
  rw [View.read_writes_eq_canon _ _ _ (cover3_A_2 c i arg2 harg2 arg3 harg3 arg4 harg4 hc0 x0 x1)]
  unfold kernelRun3_A
  dsimp only
  try sl_unfold_words
  rw [View.canon_cons_unit_zero (S := S1408x1024) hz2, View.readCov_unit_zero (S := S1408x1024) _ hz2]
  simp only [View.readAt_eq_ld, harg2.read_unread, harg3.read_unread, View.ld_unit_zero (S := S768x1408) hz2, View.ld_unit_zero (S := S768x1024) hz2]
  try rfl

theorem later3_eq (c : Dev nD) (i : grid3.Coords) (arg2 : Memref sig .tc .vmem S768x1408 .bf16) (harg2 : arg2.IsWhole) (arg3 : Memref sig .tc .vmem S768x1024 .bf16) (harg3 : arg3.IsWhole) (arg4 : Memref sig .tc .vmem S1408x1024 .f32) (harg4 : arg4.IsWhole) (hc0 : ¬cond3_0 i)
    (x0 : Vec F S768x1408 .bf16) (x1 : Vec F S768x1024 .bf16) (xo : Vec F S1408x1024 .f32) : out3_B_2 c i arg2 harg2 arg3 harg3 arg4 harg4 hc0 x0 x1 xo = k2_pay2 xo x0 x1 := by
  unfold out3_B_2
  rw [View.read_writes_eq_canon _ _ _ (cover3_B_2 c i arg2 harg2 arg3 harg3 arg4 harg4 hc0 x0 x1 xo)]
  unfold kernelRun3_B
  dsimp only
  try sl_unfold_words
  rw [View.canon_unit_zero (S := S1408x1024) hz2]
  simp only [View.readAt_eq_ld, harg2.read_unread, harg3.read_unread, harg4.read_unread, View.ld_unit_zero (S := S768x1408) hz2, View.ld_unit_zero (S := S768x1024) hz2, View.ld_unit_zero (S := S1408x1024) hz2]
  try rfl

theorem first4_eq (c : Dev nD) (i : grid4.Coords) (arg2 : Memref sig .tc .vmem S768x1408 .bf16) (harg2 : arg2.IsWhole) (arg3 : Memref sig .tc .vmem S768x1024 .bf16) (harg3 : arg3.IsWhole) (arg4 : Memref sig .tc .vmem S1408x1024 .f32) (harg4 : arg4.IsWhole) (hc0 : cond4_0 i)
    (x0 : Vec F S768x1408 .bf16) (x1 : Vec F S768x1024 .bf16) : out4_A_2 c i arg2 harg2 arg3 harg3 arg4 harg4 hc0 x0 x1 = k2_pay2 k2_pay1 x0 x1 := by
  unfold out4_A_2
  rw [View.read_writes_eq_canon _ _ _ (cover4_A_2 c i arg2 harg2 arg3 harg3 arg4 harg4 hc0 x0 x1)]
  unfold kernelRun4_A
  dsimp only
  try sl_unfold_words
  rw [View.canon_cons_unit_zero (S := S1408x1024) hz2, View.readCov_unit_zero (S := S1408x1024) _ hz2]
  simp only [View.readAt_eq_ld, harg2.read_unread, harg3.read_unread, View.ld_unit_zero (S := S768x1408) hz2, View.ld_unit_zero (S := S768x1024) hz2]
  try rfl

theorem later4_eq (c : Dev nD) (i : grid4.Coords) (arg2 : Memref sig .tc .vmem S768x1408 .bf16) (harg2 : arg2.IsWhole) (arg3 : Memref sig .tc .vmem S768x1024 .bf16) (harg3 : arg3.IsWhole) (arg4 : Memref sig .tc .vmem S1408x1024 .f32) (harg4 : arg4.IsWhole) (hc0 : ¬cond4_0 i)
    (x0 : Vec F S768x1408 .bf16) (x1 : Vec F S768x1024 .bf16) (xo : Vec F S1408x1024 .f32) : out4_B_2 c i arg2 harg2 arg3 harg3 arg4 harg4 hc0 x0 x1 xo = k2_pay2 xo x0 x1 := by
  unfold out4_B_2
  rw [View.read_writes_eq_canon _ _ _ (cover4_B_2 c i arg2 harg2 arg3 harg3 arg4 harg4 hc0 x0 x1 xo)]
  unfold kernelRun4_B
  dsimp only
  try sl_unfold_words
  rw [View.canon_unit_zero (S := S1408x1024) hz2]
  simp only [View.readAt_eq_ld, harg2.read_unread, harg3.read_unread, harg4.read_unread, View.ld_unit_zero (S := S768x1408) hz2, View.ld_unit_zero (S := S768x1024) hz2, View.ld_unit_zero (S := S1408x1024) hz2]
  try rfl

end Cert.Kernel2Ideal.Ffn

end
-- ==== Proof.FfnChain.lean ====
/-
  The three products with the tokens summed over: what the result's buffer holds after each point, in which the rows of
  one more block are added.
-/
module

public import proofs.«01_k».proof.Proof.FfnBlocks
public import proofs.«01_k».proof.Proof.FfnTiles
public import proofs.«01_k».proof.Proof.FfnOuts
public import proofs.«01_k».proof.Proof.LoopValue

@[expose] public section

noncomputable section

namespace Cert.Kernel2Ideal.Ffn

open Idealize.ShloMosaic Idealize.ShloMosaic.TcCoe Idealize.ShloMosaic.Pointwise Cert.Kernel2Ideal Cert.Kernel2Ideal.Gen
open Idealize.SL Idealize.SL.Sem
open Pipeline (RDat Dat)
open Cert.KernelIdeal.Flash (ext ext_of_lt sum_ext)

variable (A : Vec Ideal S8448x2816 .bf16) (B : Vec Ideal S8448x1024 .bf16)

/-- The product's entry, of the rows of the first `n` blocks. -/
def part (x : Fin 2816) (y : Fin 1024) (n : ℕ) : EReal :=
  ∑ s ∈ Finset.range (768 * n), ext (fun s => A (ix2 s x) * B (ix2 s y)) s

theorem part_zero (x : Fin 2816) (y : Fin 1024) : part A B x y 0 = 0 := rfl

theorem part_all (x : Fin 2816) (y : Fin 1024) : part A B x y 11 = ∑ s : Fin 8448, A (ix2 s x) * B (ix2 s y) :=
  sum_ext fun s => A (ix2 s x) * B (ix2 s y)

theorem part_succ (t : Fin cfg2.N) (x : Fin 2816) (y : Fin 1024) :
    part A B x y (t.val % 11 + 1) = part A B x y (t.val % 11) + ∑ k : Fin 768, A (ix2 (tok t k) x) * B (ix2 (tok t k) y) := by
  unfold part
  rw [Nat.mul_add, Nat.mul_one, Finset.sum_range_add, Finset.sum_range (n := 768)]
  exact congrArg _ (Finset.sum_congr rfl fun k _ => ext_of_lt _ (tok t k))

/-- One step of the accumulation. -/
theorem step_at (acc : Vec Ideal S1408x1024 .f32) (a : Vec Ideal S768x1408 .bf16) (b : Vec Ideal S768x1024 .bf16) (t : Fin cfg2.N)
    (ha : ∀ k x, a (ix2 k x) = A (ix2 (tok t k) (feat t x))) (hb : ∀ k y, b (ix2 k y) = B (ix2 (tok t k) y)) (x : Fin 1408) (y : Fin 1024)
    (hacc : acc (ix2 x y) = part A B (feat t x) y (t.val % 11)) : k2_pay2 acc a b (ix2 x y) = part A B (feat t x) y (t.val % 11 + 1) := by
  rw [dw_at, part_succ, hacc]
  simp only [ha, hb]

/-- What the buffer holds after each point, from what it is after the first of a round and after the others. -/
theorem chain (f : (n : ℕ) → n < cfg2.N → Vec Ideal S1408x1024 .f32) (a : Fin cfg2.N → Vec Ideal S768x1408 .bf16) (b : Fin cfg2.N → Vec Ideal S768x1024 .bf16)
    (ha : ∀ t k x, a t (ix2 k x) = A (ix2 (tok t k) (feat t x))) (hb : ∀ t k y, b t (ix2 k y) = B (ix2 (tok t k) y))
    (h0 : ∀ t : Fin cfg2.N, t.val % 11 = 0 → f t.val t.isLt = k2_pay2 k2_pay1 (a t) (b t))
    (h1 : ∀ t : Fin cfg2.N, ¬t.val % 11 = 0 → f t.val t.isLt = k2_pay2 (f (t.val - 1) (Nat.lt_of_le_of_lt (Nat.sub_le _ _) t.isLt)) (a t) (b t)) :
    ∀ (n : ℕ) (hn : n < cfg2.N) (x : Fin 1408) (y : Fin 1024), f n hn (ix2 x y) = part A B (feat ⟨n, hn⟩ x) y (n % 11 + 1) := by
  intro n
  induction n with
  | zero =>
    intro hn x y
    rw [h0 ⟨0, hn⟩ (Nat.zero_mod _)]
    refine step_at A B _ _ _ ⟨0, hn⟩ (ha _) (hb _) x y ?_
    rw [dw_zero, Ideal.ofBits_zero_f32]
    rfl
  | succ n ih =>
    intro hn x y
    by_cases h : (n + 1) % 11 = 0
    · rw [h0 ⟨n + 1, hn⟩ h]
      refine step_at A B _ _ _ ⟨n + 1, hn⟩ (ha _) (hb _) x y ?_
      rw [dw_zero, Ideal.ofBits_zero_f32, h]
      rfl
    · rw [h1 ⟨n + 1, hn⟩ h]
      refine step_at A B _ _ _ ⟨n + 1, hn⟩ (ha _) (hb _) x y ?_
      refine (ih (Nat.lt_of_succ_lt hn) x y).trans ?_
      have e : n / 11 = (n + 1) / 11 := by omega
      have e' : n % 11 + 1 = (n + 1) % 11 := by omega
      have ef : feat ⟨n, Nat.lt_of_succ_lt hn⟩ x = feat ⟨n + 1, hn⟩ x := Fin.ext (by show 1408 * (n / 11) + x.val = 1408 * ((n + 1) / 11) + x.val; rw [e])
      rw [ef, e']

end Cert.Kernel2Ideal.Ffn

end
-- ==== Proof.FfnArrays.lean ====
/-
  What each of the SwiGLU's calls leaves in its result arrays, of the arrays it takes.
-/
module

public import proofs.«01_k».proof.Proof.FfnChain
public import Idealize.ShloMosaic.Lib.Pipeline.ArrRel
public import Idealize.ShloMosaic.Lib.Pipeline.ValueKit.Geometry

@[expose] public section

noncomputable section

namespace Cert.Kernel2Ideal.Ffn

open Idealize.ShloMosaic Idealize.ShloMosaic.TcCoe Idealize.ShloMosaic.Pointwise Cert.Kernel2Ideal Cert.Kernel2Ideal.Gen
open Idealize.SL Idealize.SL.Sem
open Pipeline (RDat Dat)
open Cert.KernelIdeal.Flash (ext ext_of_lt sum_ext)

/-! ## The results as functions of the arrays taken -/

/-- Rows times rows: the product with the second array transposed. -/
def hiddenOf (X : Vec Ideal S8448x1024 .bf16) (W : Vec Ideal S2816x1024 .bf16) : Vec Ideal S8448x2816 .bf16 :=
  fun i => ∑ d : Fin 1024, X (ix2 (i 0) d) * W (ix2 (i 1) d)

/-- The activation, of gate and up. -/
def actOf (G U : Vec Ideal S8448x2816 .bf16) : Vec Ideal S8448x2816 .bf16 := fun i => G i * sigm (G i) * U i

/-- The gate's gradient, of the activation's gradient, gate and up. -/
def dgateOf (D G U : Vec Ideal S8448x2816 .bf16) : Vec Ideal S8448x2816 .bf16 := fun i =>
  D i * U i * sigm (G i) * (Ideal.ofBits .f32 0x3F800000#32 + G i * (Ideal.ofBits .f32 0x3F800000#32 - sigm (G i)))

/-- The up's gradient, of the activation's gradient and gate. -/
def dupOf (D G : Vec Ideal S8448x2816 .bf16) : Vec Ideal S8448x2816 .bf16 := fun i => D i * G i * sigm (G i)

/-- The product with the tokens summed over. -/
def tokensOut (A : Vec Ideal S8448x2816 .bf16) (B : Vec Ideal S8448x1024 .bf16) : Vec Ideal S2816x1024 .f32 :=
  fun i => ∑ s : Fin 8448, A (ix2 s (i 0)) * B (ix2 s (i 1))

/-- Two products with the hidden features summed over, added. -/
def modelOf (A : Vec Ideal S8448x2816 .bf16) (W : Vec Ideal S2816x1024 .bf16) (B : Vec Ideal S8448x2816 .bf16) (X : Vec Ideal S2816x1024 .bf16) : Vec Ideal S8448x1024 .f32 :=
  fun i => (∑ f : Fin 2816, A (ix2 (i 0) f) * W (ix2 f (i 1))) + ∑ f : Fin 2816, B (ix2 (i 0) f) * X (ix2 f (i 1))

/-- The residual input and the mixer's output, added. -/
def resOf (H : Vec Ideal S8448x1024 .f32) (A : Vec Ideal S8448x2816 .bf16) (W : Vec Ideal S2816x1024 .bf16) : Vec Ideal S8448x1024 .f32 :=
  fun i => Ideal.ofBits .f32 0x3FD744FD#32 * H i + ∑ f : Fin 2816, A (ix2 (i 0) f) * W (ix2 f (i 1))

/-- Each row normed. -/
def normedOf (R : Vec Ideal S8448x1024 .f32) (g b : Vec Ideal S1x1024 .f32) : Vec Ideal S8448x1024 .f32 :=
  fun i => Cert.Norm.norm (fun e => R (ix2 (i 0) e)) (i 1) (g (ix2 0 (i 1))) (b (ix2 0 (i 1)))

variable (V : (c : Dev nD) → (b : Ref sig .tc) → Buf (Elt Ideal) ((c : Thread nD τ).loc b)) (c : Dev nD)

/-! ## Gate, up and activation -/

theorem gate_tile (t : Fin cfg0.N) (r : Fin 256) (f : Fin 2816) :
    k0_pay2 (iblk0 V c 0 t) (iblk0 V c 1 t) (ix2 r f) = hiddenOf (V c main_v0) (V c main_v3) (ix2 (row t r) f) := by
  rw [gate_at]
  exact Finset.sum_congr rfl fun d _ => congrArg₂ (fun a b : EReal => a * b) (block0_0 V c t r d) (block0_1 V c t f d)

theorem up_tile (t : Fin cfg0.N) (r : Fin 256) (f : Fin 2816) :
    k0_pay3 (iblk0 V c 0 t) (iblk0 V c 2 t) (ix2 r f) = hiddenOf (V c main_v0) (V c main_v5) (ix2 (row t r) f) := by
  rw [up_at]
  exact Finset.sum_congr rfl fun d _ => congrArg₂ (fun a b : EReal => a * b) (block0_0 V c t r d) (block0_2 V c t f d)

theorem gate_array : (dat0 V c).arrAt 3 cfg0.N = hiddenOf (V c main_v0) (V c main_v3) :=
  Dat.arrAt_eq_of_covers (dat0 V c) 3 (hiddenOf (V c main_v0) (V c main_v3)) (show (cfg0.win 3).Covers by decide +kernel) fun t _ y => by
    have key : ∀ (r : Fin 256) (f : Fin 2816), ((dat0 V c).after 3 t : Vec Ideal S256x2816 .bf16) (ix2 r f) = hiddenOf (V c main_v0) (V c main_v3) ((win0_3.rect t).emb (ix2 r f)) := fun r f => by
      rw [emb_hidden, after0_3, gate_eq]
      exact gate_tile V c t _ _
    have key' : ∀ y' : S256x2816.Idx, ((dat0 V c).after 3 t : Vec Ideal S256x2816 .bf16) y' = hiddenOf (V c main_v0) (V c main_v3) ((win0_3.rect t).emb y') := fun y' => by
      rw [eq_ix2 y']
      exact key _ _
    exact key' y

theorem up_array : (dat0 V c).arrAt 4 cfg0.N = hiddenOf (V c main_v0) (V c main_v5) :=
  Dat.arrAt_eq_of_covers (dat0 V c) 4 (hiddenOf (V c main_v0) (V c main_v5)) (show (cfg0.win 4).Covers by decide +kernel) fun t _ y => by
    have key : ∀ (r : Fin 256) (f : Fin 2816), ((dat0 V c).after 4 t : Vec Ideal S256x2816 .bf16) (ix2 r f) = hiddenOf (V c main_v0) (V c main_v5) ((win0_3.rect t).emb (ix2 r f)) := fun r f => by
      rw [emb_hidden, after0_4, up_eq]
      exact up_tile V c t _ _
    have key' : ∀ y' : S256x2816.Idx, ((dat0 V c).after 4 t : Vec Ideal S256x2816 .bf16) y' = hiddenOf (V c main_v0) (V c main_v5) ((win0_3.rect t).emb y') := fun y' => by
      rw [eq_ix2 y']
      exact key _ _
    exact key' y

theorem act_array : (dat0 V c).arrAt 5 cfg0.N = actOf (hiddenOf (V c main_v0) (V c main_v3)) (hiddenOf (V c main_v0) (V c main_v5)) :=
  Dat.arrAt_eq_of_covers (dat0 V c) 5 (actOf (hiddenOf (V c main_v0) (V c main_v3)) (hiddenOf (V c main_v0) (V c main_v5))) (show (cfg0.win 5).Covers by decide +kernel) fun t _ y => by
    have key : ∀ (r : Fin 256) (f : Fin 2816), ((dat0 V c).after 5 t : Vec Ideal S256x2816 .bf16) (ix2 r f)
        = actOf (hiddenOf (V c main_v0) (V c main_v3)) (hiddenOf (V c main_v0) (V c main_v5)) ((win0_3.rect t).emb (ix2 r f)) := fun r f => by
      rw [emb_hidden, after0_5, act_eq, act_at, gate_tile V c t, up_tile V c t]
      rfl
    have key' : ∀ y' : S256x2816.Idx, ((dat0 V c).after 5 t : Vec Ideal S256x2816 .bf16) y'
        = actOf (hiddenOf (V c main_v0) (V c main_v3)) (hiddenOf (V c main_v0) (V c main_v5)) ((win0_3.rect t).emb y') := fun y' => by
      rw [eq_ix2 y']
      exact key _ _
    exact key' y

/-! ## The gradients of gate and up -/

theorem dact_tile (t : Fin cfg1.N) (r : Fin 256) (f : Fin 2816) :
    k1_pay1 (iblk1 V c 0 t) (iblk1 V c 1 t) (ix2 r f) = hiddenOf (V c main_v1) (V c main_v6) (ix2 (row t r) f) := by
  rw [dact_at]
  exact Finset.sum_congr rfl fun d _ => congrArg₂ (fun a b : EReal => a * b) (block1_0 V c t r d) (block1_1 V c t f d)

theorem dgate_array : (dat1 V c).arrAt 4 cfg1.N = dgateOf (hiddenOf (V c main_v1) (V c main_v6)) (V c main_v7_0) (V c main_v7_1) :=
  Dat.arrAt_eq_of_covers (dat1 V c) 4 (dgateOf (hiddenOf (V c main_v1) (V c main_v6)) (V c main_v7_0) (V c main_v7_1)) (show (cfg1.win 4).Covers by decide +kernel) fun t _ y => by
    have key : ∀ (r : Fin 256) (f : Fin 2816), ((dat1 V c).after 4 t : Vec Ideal S256x2816 .bf16) (ix2 r f)
        = dgateOf (hiddenOf (V c main_v1) (V c main_v6)) (V c main_v7_0) (V c main_v7_1) ((win0_3.rect t).emb (ix2 r f)) := fun r f => by
      rw [emb_hidden, after1_4, dgate_eq, dgate_at, dact_tile V c t, block1_2 V c t, block1_3 V c t]
      rfl
    have key' : ∀ y' : S256x2816.Idx, ((dat1 V c).after 4 t : Vec Ideal S256x2816 .bf16) y'
        = dgateOf (hiddenOf (V c main_v1) (V c main_v6)) (V c main_v7_0) (V c main_v7_1) ((win0_3.rect t).emb y') := fun y' => by
      rw [eq_ix2 y']
      exact key _ _
    exact key' y

theorem dup_array : (dat1 V c).arrAt 5 cfg1.N = dupOf (hiddenOf (V c main_v1) (V c main_v6)) (V c main_v7_0) :=
  Dat.arrAt_eq_of_covers (dat1 V c) 5 (dupOf (hiddenOf (V c main_v1) (V c main_v6)) (V c main_v7_0)) (show (cfg1.win 5).Covers by decide +kernel) fun t _ y => by
    have key : ∀ (r : Fin 256) (f : Fin 2816), ((dat1 V c).after 5 t : Vec Ideal S256x2816 .bf16) (ix2 r f)
        = dupOf (hiddenOf (V c main_v1) (V c main_v6)) (V c main_v7_0) ((win0_3.rect t).emb (ix2 r f)) := fun r f => by
      rw [emb_hidden, after1_5, dup_eq, dup_at, dact_tile V c t, block1_2 V c t]
      rfl
    have key' : ∀ y' : S256x2816.Idx, ((dat1 V c).after 5 t : Vec Ideal S256x2816 .bf16) y'
        = dupOf (hiddenOf (V c main_v1) (V c main_v6)) (V c main_v7_0) ((win0_3.rect t).emb y') := fun y' => by
      rw [eq_ix2 y']
      exact key _ _
    exact key' y

/-! ## The gradients of the weights -/

theorem flushed (A : Vec Ideal S8448x2816 .bf16) (B : Vec Ideal S8448x1024 .bf16)
    (f : (n : ℕ) → n < cfg2.N → Vec Ideal S1408x1024 .f32) (a : Fin cfg2.N → Vec Ideal S768x1408 .bf16) (b : Fin cfg2.N → Vec Ideal S768x1024 .bf16)
    (ha : ∀ t k x, a t (ix2 k x) = A (ix2 (tok t k) (feat t x))) (hb : ∀ t k y, b t (ix2 k y) = B (ix2 (tok t k) y))
    (h0 : ∀ t : Fin cfg2.N, t.val % 11 = 0 → f t.val t.isLt = k2_pay2 k2_pay1 (a t) (b t))
    (h1 : ∀ t : Fin cfg2.N, ¬t.val % 11 = 0 → f t.val t.isLt = k2_pay2 (f (t.val - 1) (Nat.lt_of_le_of_lt (Nat.sub_le _ _) t.isLt)) (a t) (b t))
    (t : Fin cfg2.N) (ht : t.val % 11 = 10) (y : S1408x1024.Idx) : f t.val t.isLt y = tokensOut A B ((win2_2.rect t).emb y) := by
  have key : ∀ (x : Fin 1408) (z : Fin 1024), f t.val t.isLt (ix2 x z) = tokensOut A B ((win2_2.rect t).emb (ix2 x z)) := fun x z => by
    rw [emb_product, chain A B f a b ha hb h0 h1 t.val t.isLt, ht, part_all]
    rfl
  rw [eq_ix2 y]
  exact key _ _

theorem product2 : (dat2 V c).arrAt 2 cfg2.N = tokensOut (V c main_v7_2) (V c main_v1) :=
  Dat.arrAt_eq_of_covers (dat2 V c) 2 (tokensOut (V c main_v7_2) (V c main_v1)) (show (cfg2.win 2).Covers by decide +kernel) fun t hf y => by
    have ht : t.val % 11 = 10 := (flush2_2 t).mp hf
    refine (congrFun (after2_2 V c t) y).trans ?_
    exact flushed (V c main_v7_2) (V c main_v1) (outsAt2 V c) (iblk2 V c 0) (iblk2 V c 1) (block2_0 V c) (block2_1 V c)
      (fun t h => (outsAt2_A V c t h).trans (first2_eq c _ _ _ _ _ _ _ _ _ _))
      (fun t h => (outsAt2_B V c t h).trans (later2_eq c _ _ _ _ _ _ _ _ _ _ _)) t ht y

theorem product3 : (dat3 V c).arrAt 2 cfg3.N = tokensOut (V c main_v8_0) (V c main_v0) :=
  Dat.arrAt_eq_of_covers (dat3 V c) 2 (tokensOut (V c main_v8_0) (V c main_v0)) (show (cfg3.win 2).Covers by decide +kernel) fun t hf y => by
    have ht : t.val % 11 = 10 := (flush3_2 t).mp hf
    refine (congrFun (after3_2 V c t) y).trans ?_
    exact flushed (V c main_v8_0) (V c main_v0) (outsAt3 V c) (iblk3 V c 0) (iblk3 V c 1) (block3_0 V c) (block3_1 V c)
      (fun t h => (outsAt3_A V c t h).trans (first3_eq c _ _ _ _ _ _ _ _ _ _))
      (fun t h => (outsAt3_B V c t h).trans (later3_eq c _ _ _ _ _ _ _ _ _ _ _)) t ht y

theorem product4 : (dat4 V c).arrAt 2 cfg4.N = tokensOut (V c main_v8_1) (V c main_v0) :=
  Dat.arrAt_eq_of_covers (dat4 V c) 2 (tokensOut (V c main_v8_1) (V c main_v0)) (show (cfg4.win 2).Covers by decide +kernel) fun t hf y => by
    have ht : t.val % 11 = 10 := (flush4_2 t).mp hf
    refine (congrFun (after4_2 V c t) y).trans ?_
    exact flushed (V c main_v8_1) (V c main_v0) (outsAt4 V c) (iblk4 V c 0) (iblk4 V c 1) (block4_0 V c) (block4_1 V c)
      (fun t h => (outsAt4_A V c t h).trans (first4_eq c _ _ _ _ _ _ _ _ _ _))
      (fun t h => (outsAt4_B V c t h).trans (later4_eq c _ _ _ _ _ _ _ _ _ _ _)) t ht y

/-! ## The gradient of the mixer's input -/

theorem dh_array : (dat5 V c).arrAt 4 cfg5.N = modelOf (V c main_v8_0) (V c main_v3) (V c main_v8_1) (V c main_v5) :=
  Dat.arrAt_eq_of_covers (dat5 V c) 4 (modelOf (V c main_v8_0) (V c main_v3) (V c main_v8_1) (V c main_v5)) (show (cfg5.win 4).Covers by decide +kernel) fun t _ y => by
    have key : ∀ (r : Fin 384) (f : Fin 1024), ((dat5 V c).after 4 t : Vec Ideal S384x1024 .f32) (ix2 r f)
        = modelOf (V c main_v8_0) (V c main_v3) (V c main_v8_1) (V c main_v5) ((win5_4.rect t).emb (ix2 r f)) := fun r f => by
      rw [emb_model5, after5_4, dh_eq, dh_at]
      exact congrArg₂ (fun a b : EReal => a + b)
        (Finset.sum_congr rfl fun f _ => congrArg₂ (fun a b : EReal => a * b) (block5_0 V c t _ f) (block5_1 V c t f _))
        (Finset.sum_congr rfl fun f _ => congrArg₂ (fun a b : EReal => a * b) (block5_2 V c t _ f) (block5_3 V c t f _))
    have key' : ∀ y' : S384x1024.Idx, ((dat5 V c).after 4 t : Vec Ideal S384x1024 .f32) y'
        = modelOf (V c main_v8_0) (V c main_v3) (V c main_v8_1) (V c main_v5) ((win5_4.rect t).emb y') := fun y' => by
      rw [eq_ix2 y']
      exact key _ _
    exact key' y

/-! ## The layer's output -/

theorem res_tile (t : Fin cfg6.N) (r : Fin 768) (d : Fin 1024) :
    k6_pay1 (iblk6 V c 2 t) (iblk6 V c 0 t) (iblk6 V c 1 t) (ix2 r d) = resOf (V c main_arg0) (V c main_v7_2) (V c main_v6) (ix2 (row6 t r) d) := by
  rw [res_at]
  exact congrArg₂ (fun a b : EReal => Ideal.ofBits .f32 0x3FD744FD#32 * a + b) (block6_2 V c t r d)
    (Finset.sum_congr rfl fun f _ => congrArg₂ (fun a b : EReal => a * b) (block6_0 V c t r f) (block6_1 V c t f d))

theorem norm_tile (t : Fin cfg6.N) (r : Fin 768) (d : Fin 1024) :
    k6_pay2 (iblk6 V c 2 t) (iblk6 V c 0 t) (iblk6 V c 1 t) (iblk6 V c 3 t) (iblk6 V c 4 t) (ix2 r d)
      = normedOf (resOf (V c main_arg0) (V c main_v7_2) (V c main_v6)) (V c main_v13) (V c main_v14) (ix2 (row6 t r) d) := by
  refine (norm_at _ _ _ _ _ r d).trans ?_
  rw [show (fun e => k6_pay1 (iblk6 V c 2 t) (iblk6 V c 0 t) (iblk6 V c 1 t) (ix2 r e))
      = fun e => resOf (V c main_arg0) (V c main_v7_2) (V c main_v6) (ix2 (row6 t r) e) from funext fun e => res_tile V c t r e]
  exact congrArg₂ (Cert.Norm.norm _ d) (block6_3 V c t 0 d) (block6_4 V c t 0 d)

theorem res_array : (dat6 V c).arrAt 5 cfg6.N = resOf (V c main_arg0) (V c main_v7_2) (V c main_v6) :=
  Dat.arrAt_eq_of_covers (dat6 V c) 5 (resOf (V c main_arg0) (V c main_v7_2) (V c main_v6)) (show (cfg6.win 5).Covers by decide +kernel) fun t _ y => by
    have key : ∀ (r : Fin 768) (f : Fin 1024), ((dat6 V c).after 5 t : Vec Ideal S768x1024 .f32) (ix2 r f)
        = resOf (V c main_arg0) (V c main_v7_2) (V c main_v6) ((win6_2.rect t).emb (ix2 r f)) := fun r f => by
      rw [emb_model6, after6_5, res_eq]
      exact res_tile V c t _ _
    have key' : ∀ y' : S768x1024.Idx, ((dat6 V c).after 5 t : Vec Ideal S768x1024 .f32) y'
        = resOf (V c main_arg0) (V c main_v7_2) (V c main_v6) ((win6_2.rect t).emb y') := fun y' => by
      rw [eq_ix2 y']
      exact key _ _
    exact key' y

theorem norm_array : (dat6 V c).arrAt 6 cfg6.N = normedOf (resOf (V c main_arg0) (V c main_v7_2) (V c main_v6)) (V c main_v13) (V c main_v14) :=
  Dat.arrAt_eq_of_covers (dat6 V c) 6 (normedOf (resOf (V c main_arg0) (V c main_v7_2) (V c main_v6)) (V c main_v13) (V c main_v14)) (show (cfg6.win 6).Covers by decide +kernel) fun t _ y => by
    have key : ∀ (r : Fin 768) (f : Fin 1024), ((dat6 V c).after 6 t : Vec Ideal S768x1024 .f32) (ix2 r f)
        = normedOf (resOf (V c main_arg0) (V c main_v7_2) (V c main_v6)) (V c main_v13) (V c main_v14) ((win6_2.rect t).emb (ix2 r f)) := fun r f => by
      rw [emb_model6, after6_6, norm_eq]
      exact norm_tile V c t _ _
    have key' : ∀ y' : S768x1024.Idx, ((dat6 V c).after 6 t : Vec Ideal S768x1024 .f32) y'
        = normedOf (resOf (V c main_arg0) (V c main_v7_2) (V c main_v6)) (V c main_v13) (V c main_v14) ((win6_2.rect t).emb y') := fun y' => by
      rw [eq_ix2 y']
      exact key _ _
    exact key' y

theorem cast_array : (dat6 V c).arrAt 7 cfg6.N = normedOf (resOf (V c main_arg0) (V c main_v7_2) (V c main_v6)) (V c main_v13) (V c main_v14) :=
  Dat.arrAt_eq_of_covers (dat6 V c) 7 (normedOf (resOf (V c main_arg0) (V c main_v7_2) (V c main_v6)) (V c main_v13) (V c main_v14)) (show (cfg6.win 7).Covers by decide +kernel) fun t _ y => by
    have key : ∀ (r : Fin 768) (f : Fin 1024), ((dat6 V c).after 7 t : Vec Ideal S768x1024 .bf16) (ix2 r f)
        = normedOf (resOf (V c main_arg0) (V c main_v7_2) (V c main_v6)) (V c main_v13) (V c main_v14) ((win6_2.rect t).emb (ix2 r f)) := fun r f => by
      rw [emb_model6, after6_7, cast_eq, cast_at]
      exact norm_tile V c t _ _
    have key' : ∀ y' : S768x1024.Idx, ((dat6 V c).after 7 t : Vec Ideal S768x1024 .bf16) y'
        = normedOf (resOf (V c main_arg0) (V c main_v7_2) (V c main_v6)) (V c main_v13) (V c main_v14) ((win6_2.rect t).emb y') := fun y' => by
      rw [eq_ix2 y']
      exact key _ _
    exact key' y

end Cert.Kernel2Ideal.Ffn

end
-- ==== Proof.FfnRun.lean ====
/-
  The run of the SwiGLU's seven calls: every buffer ends at the contents that the calls, one after the other, leave in it.
-/
module

public import proofs.«01_k».proof.Proof.Gen.Kernel2Ideal.Frame

@[expose] public section

set_option maxRecDepth 16384

noncomputable section

namespace Cert.Kernel2Ideal.Ffn

open Idealize.ShloMosaic Idealize.ShloMosaic.TcCoe Idealize.ShloMosaic.Tactic Cert.Kernel2Ideal Cert.Kernel2Ideal.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every run ends with every buffer of every device at the contents after the last call. -/
theorem run_main : θ_run defs (onTc (τ := τ) (main (F := F))) ⟨m, fun _ => 0, ρ⟩ (fun r =>
      ∀ c : Dev nD, ∀ b ∈ Pipeline.ucRefs τ sig, r.2.mem (((c : Thread nD τ)).1, b) = W9 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h hz => h)

end Cert.Kernel2Ideal.Ffn

end
-- ==== Proof.FfnResults.lean ====
/-
  The SwiGLU's seven calls composed: the seven results of the program, of its arguments.
-/
module

public import proofs.«01_k».proof.Proof.FfnArrays
public import proofs.«01_k».proof.Proof.FfnRun
public import Idealize.ShloMosaic.Lib.StableHlo.RunRead

@[expose] public section

noncomputable section

namespace Cert.Kernel2Ideal.Ffn

open Idealize.ShloMosaic Idealize.ShloMosaic.TcCoe Idealize.ShloMosaic.Pointwise Cert.Kernel2Ideal Cert.Kernel2Ideal.Gen
open Idealize.SL Idealize.SL.Sem

variable (m : (ℓ : Loc nD τ sig) → Buf (Elt Ideal) ℓ) (ρ : Dev nD → PrngReg) (c : Dev nD)

/-- The arguments: input, gate, up and down weights, the output's gradient, the norm's gain and bias. -/
def arg0 : FVec Ideal S8448x1024 .f32 := m ((c.tc : Thread nD τ).loc main_arg0)
def arg1 : FVec Ideal S1024x2816 .f32 := m ((c.tc : Thread nD τ).loc main_arg1)
def arg2 : FVec Ideal S1024x2816 .f32 := m ((c.tc : Thread nD τ).loc main_arg2)
def arg3 : FVec Ideal S2816x1024 .f32 := m ((c.tc : Thread nD τ).loc main_arg3)
def arg4 : FVec Ideal S8448x1024 .f32 := m ((c.tc : Thread nD τ).loc main_arg4)
def arg5 : FVec Ideal S1024 .f32 := m ((c.tc : Thread nD τ).loc main_arg5)
def arg6 : FVec Ideal S1024 .f32 := m ((c.tc : Thread nD τ).loc main_arg6)

/-- The rows as the calls take them. -/
def rowsIn (x : FVec Ideal S8448x1024 .f32) : FVec Ideal S8448x1024 .bf16 := truncf .bf16 x bitsLt_bf16_f32
/-- A weight as the calls take it, transposed. -/
def wideIn (x : FVec Ideal S1024x2816 .f32) : FVec Ideal S2816x1024 .bf16 :=
  truncf .bf16 (transpose S2816x1024 [1, 0] x transposes_S1024x2816_S2816x1024_1_0) bitsLt_bf16_f32
/-- The down weight as the calls take it. -/
def tallIn (x : FVec Ideal S2816x1024 .f32) : FVec Ideal S2816x1024 .bf16 := truncf .bf16 x bitsLt_bf16_f32
/-- The gain or the bias as the call takes it. -/
def vecIn (x : FVec Ideal S1024 .f32) : FVec Ideal S1x1024 .f32 := broadcastInDim S1x1024 ![1] bcast_S1024_S1x1024_1 x

theorem rowsIn_at (x : FVec Ideal S8448x1024 .f32) (r : Fin 8448) (d : Fin 1024) : rowsIn x (ix2 r d) = x (ix2 r d) := by
  pointwise [rowsIn]
theorem wideIn_at (x : FVec Ideal S1024x2816 .f32) (f : Fin 2816) (d : Fin 1024) : wideIn x (ix2 f d) = x (ix2 d f) := by
  pointwise [wideIn]
theorem tallIn_at (x : FVec Ideal S2816x1024 .f32) (f : Fin 2816) (d : Fin 1024) : tallIn x (ix2 f d) = x (ix2 f d) := by
  pointwise [tallIn]
theorem vecIn_at (x : FVec Ideal S1024 .f32) (d : Fin 1024) : vecIn x (ix2 (0 : Fin 1) d) = x (ix1 d) := by
  pointwise [vecIn]

/-! ## Before the first call -/

theorem start_v0 : V1 m ρ c main_v0 = rowsIn (arg0 m c) := by
  show StableHlo.after hostOps0 (W0 m ρ c) _ = _
  dsimp only [hostOps0]
  after_reads_simp
  rfl
theorem start_v1 : V1 m ρ c main_v1 = rowsIn (arg4 m c) := by
  show StableHlo.after hostOps0 (W0 m ρ c) _ = _
  dsimp only [hostOps0]
  after_reads_simp
  rfl
theorem start_v3 : V1 m ρ c main_v3 = wideIn (arg1 m c) := by
  show StableHlo.after hostOps0 (W0 m ρ c) _ = _
  dsimp only [hostOps0]
  after_reads_simp
  rfl
theorem start_v5 : V1 m ρ c main_v5 = wideIn (arg2 m c) := by
  show StableHlo.after hostOps0 (W0 m ρ c) _ = _
  dsimp only [hostOps0]
  after_reads_simp
  rfl
theorem start_v6 : V1 m ρ c main_v6 = tallIn (arg3 m c) := by
  show StableHlo.after hostOps0 (W0 m ρ c) _ = _
  dsimp only [hostOps0]
  after_reads_simp
  rfl

/-! ## The hidden arrays -/

/-- Gate, up and activation, and the gradients of the activation, gate and up. -/
def gateA : Vec Ideal S8448x2816 .bf16 := hiddenOf (rowsIn (arg0 m c)) (wideIn (arg1 m c))
def upA : Vec Ideal S8448x2816 .bf16 := hiddenOf (rowsIn (arg0 m c)) (wideIn (arg2 m c))
def actA : Vec Ideal S8448x2816 .bf16 := actOf (gateA m c) (upA m c)
def dactA : Vec Ideal S8448x2816 .bf16 := hiddenOf (rowsIn (arg4 m c)) (tallIn (arg3 m c))
def dgateA : Vec Ideal S8448x2816 .bf16 := dgateOf (dactA m c) (gateA m c) (upA m c)
def dupA : Vec Ideal S8448x2816 .bf16 := dupOf (dactA m c) (gateA m c)

theorem first_gate : V2 m ρ c main_v7_0 = gateA m c :=
  (W2_arr m ρ c 3).trans ((gate_array (V1 m ρ) c).trans (congrArg₂ hiddenOf (start_v0 m ρ c) (start_v3 m ρ c)))
theorem first_up : V2 m ρ c main_v7_1 = upA m c :=
  (W2_arr m ρ c 4).trans ((up_array (V1 m ρ) c).trans (congrArg₂ hiddenOf (start_v0 m ρ c) (start_v5 m ρ c)))
theorem first_act : V2 m ρ c main_v7_2 = actA m c :=
  (W2_arr m ρ c 5).trans ((act_array (V1 m ρ) c).trans (congrArg₂ actOf
    (congrArg₂ hiddenOf (start_v0 m ρ c) (start_v3 m ρ c)) (congrArg₂ hiddenOf (start_v0 m ρ c) (start_v5 m ρ c))))

theorem dact_second : hiddenOf (V2 m ρ c main_v1) (V2 m ρ c main_v6) = dactA m c :=
  congrArg₂ hiddenOf ((W2_of m ρ c main_v1 (by decide)).trans (start_v1 m ρ c)) ((W2_of m ρ c main_v6 (by decide)).trans (start_v6 m ρ c))
theorem second_dgate : V3 m ρ c main_v8_0 = dgateA m c :=
  (W3_arr m ρ c 4).trans ((dgate_array (V2 m ρ) c).trans (by
    rw [dact_second, first_gate, first_up]
    rfl))
theorem second_dup : V3 m ρ c main_v8_1 = dupA m c :=
  (W3_arr m ρ c 5).trans ((dup_array (V2 m ρ) c).trans (by
    rw [dact_second, first_gate]
    rfl))

/-! ## The results, when all calls are done -/

theorem end_dwdown : V9 m ρ c main_v9 = tokensOut (actA m c) (rowsIn (arg4 m c)) :=
  ((W9_of m ρ c main_v9 (by decide)).trans ((W8_of m ρ c main_v9 (by decide)).trans ((W7_of m ρ c main_v9 (by decide)).trans ((W6_of m ρ c main_v9 (by decide)).trans (W5_of m ρ c main_v9 (by decide)))))).trans ((W4_arr m ρ c 2).trans ((product2 (V3 m ρ) c).trans (congrArg₂ tokensOut
    ((W3_of m ρ c main_v7_2 (by decide)).trans (first_act m ρ c)) (((W3_of m ρ c main_v1 (by decide)).trans (W2_of m ρ c main_v1 (by decide))).trans (start_v1 m ρ c)))))
theorem end_dwgate : V9 m ρ c main_v10 = tokensOut (dgateA m c) (rowsIn (arg0 m c)) :=
  ((W9_of m ρ c main_v10 (by decide)).trans ((W8_of m ρ c main_v10 (by decide)).trans ((W7_of m ρ c main_v10 (by decide)).trans (W6_of m ρ c main_v10 (by decide))))).trans ((W5_arr m ρ c 2).trans ((product3 (V4 m ρ) c).trans (congrArg₂ tokensOut
    ((W4_of m ρ c main_v8_0 (by decide)).trans (second_dgate m ρ c)) (((W4_of m ρ c main_v0 (by decide)).trans ((W3_of m ρ c main_v0 (by decide)).trans (W2_of m ρ c main_v0 (by decide)))).trans (start_v0 m ρ c)))))
theorem end_dwup : V9 m ρ c main_v11 = tokensOut (dupA m c) (rowsIn (arg0 m c)) :=
  ((W9_of m ρ c main_v11 (by decide)).trans ((W8_of m ρ c main_v11 (by decide)).trans (W7_of m ρ c main_v11 (by decide)))).trans ((W6_arr m ρ c 2).trans ((product4 (V5 m ρ) c).trans (congrArg₂ tokensOut
    (((W5_of m ρ c main_v8_1 (by decide)).trans (W4_of m ρ c main_v8_1 (by decide))).trans (second_dup m ρ c)) (((W5_of m ρ c main_v0 (by decide)).trans ((W4_of m ρ c main_v0 (by decide)).trans ((W3_of m ρ c main_v0 (by decide)).trans (W2_of m ρ c main_v0 (by decide))))).trans (start_v0 m ρ c)))))
theorem end_dh : V9 m ρ c main_v12 = modelOf (dgateA m c) (wideIn (arg1 m c)) (dupA m c) (wideIn (arg2 m c)) :=
  ((W9_of m ρ c main_v12 (by decide)).trans (W8_of m ρ c main_v12 (by decide))).trans ((W7_arr m ρ c 4).trans ((dh_array (V6 m ρ) c).trans (by
    rw [show V6 m ρ c main_v8_0 = dgateA m c from ((W6_of m ρ c main_v8_0 (by decide)).trans ((W5_of m ρ c main_v8_0 (by decide)).trans (W4_of m ρ c main_v8_0 (by decide)))).trans (second_dgate m ρ c),
      show V6 m ρ c main_v8_1 = dupA m c from ((W6_of m ρ c main_v8_1 (by decide)).trans ((W5_of m ρ c main_v8_1 (by decide)).trans (W4_of m ρ c main_v8_1 (by decide)))).trans (second_dup m ρ c),
      show V6 m ρ c main_v3 = wideIn (arg1 m c) from ((W6_of m ρ c main_v3 (by decide)).trans ((W5_of m ρ c main_v3 (by decide)).trans ((W4_of m ρ c main_v3 (by decide)).trans ((W3_of m ρ c main_v3 (by decide)).trans (W2_of m ρ c main_v3 (by decide)))))).trans (start_v3 m ρ c),
      show V6 m ρ c main_v5 = wideIn (arg2 m c) from ((W6_of m ρ c main_v5 (by decide)).trans ((W5_of m ρ c main_v5 (by decide)).trans ((W4_of m ρ c main_v5 (by decide)).trans ((W3_of m ρ c main_v5 (by decide)).trans (W2_of m ρ c main_v5 (by decide)))))).trans (start_v5 m ρ c)])))

/-! ## The layer's output -/

/-- The sum of residual and mixer's output, and the same normed. -/
def resA : Vec Ideal S8448x1024 .f32 := resOf (arg0 m c) (actA m c) (tallIn (arg3 m c))
def normedA : Vec Ideal S8448x1024 .f32 := normedOf (resA m c) (vecIn (arg5 m c)) (vecIn (arg6 m c))

theorem last_gain : V8 m ρ c main_v13 = vecIn (arg5 m c) := by
  have e : V8 m ρ c main_v13 = vecIn (V7 m ρ c main_arg5) := by
    show StableHlo.after hostOps6 (W7 m ρ c) _ = _
    dsimp only [hostOps6]
    after_reads_simp
    rfl
  exact e.trans (congrArg vecIn (W7_args m ρ c main_arg5 (by decide)))
theorem last_bias : V8 m ρ c main_v14 = vecIn (arg6 m c) := by
  have e : V8 m ρ c main_v14 = vecIn (V7 m ρ c main_arg6) := by
    show StableHlo.after hostOps6 (W7 m ρ c) _ = _
    dsimp only [hostOps6]
    after_reads_simp
    rfl
  exact e.trans (congrArg vecIn (W7_args m ρ c main_arg6 (by decide)))
theorem last_act : V8 m ρ c main_v7_2 = actA m c :=
  ((W8_of m ρ c main_v7_2 (by decide)).trans ((W7_of m ρ c main_v7_2 (by decide)).trans ((W6_of m ρ c main_v7_2 (by decide)).trans ((W5_of m ρ c main_v7_2 (by decide)).trans ((W4_of m ρ c main_v7_2 (by decide)).trans (W3_of m ρ c main_v7_2 (by decide))))))).trans (first_act m ρ c)
theorem last_down : V8 m ρ c main_v6 = tallIn (arg3 m c) :=
  ((W8_of m ρ c main_v6 (by decide)).trans ((W7_of m ρ c main_v6 (by decide)).trans ((W6_of m ρ c main_v6 (by decide)).trans ((W5_of m ρ c main_v6 (by decide)).trans ((W4_of m ρ c main_v6 (by decide)).trans ((W3_of m ρ c main_v6 (by decide)).trans (W2_of m ρ c main_v6 (by decide)))))))).trans (start_v6 m ρ c)
theorem last_res : resOf (V8 m ρ c main_arg0) (V8 m ρ c main_v7_2) (V8 m ρ c main_v6) = resA m c := by
  rw [last_act, last_down, show V8 m ρ c main_arg0 = arg0 m c from W8_args m ρ c main_arg0 (by decide)]
  rfl
theorem last_normed : normedOf (resOf (V8 m ρ c main_arg0) (V8 m ρ c main_v7_2) (V8 m ρ c main_v6)) (V8 m ρ c main_v13) (V8 m ρ c main_v14)
    = normedA m c := by
  rw [last_res, last_gain, last_bias]
  rfl

theorem end_res : V9 m ρ c main_v15_0 = resA m c := (W9_arr m ρ c 5).trans ((res_array (V8 m ρ) c).trans (last_res m ρ c))
theorem end_normed : V9 m ρ c main_v15_1 = normedA m c := (W9_arr m ρ c 6).trans ((norm_array (V8 m ρ) c).trans (last_normed m ρ c))
theorem end_cast : V9 m ρ c main_v15_2 = normedA m c := (W9_arr m ρ c 7).trans ((cast_array (V8 m ρ) c).trans (last_normed m ρ c))

/-- Every run ends with the seven results at these values and the arguments unchanged. -/
theorem run_values : θ_run defs (onTc (τ := τ) (main (F := Ideal))) ⟨m, fun _ => 0, ρ⟩ (fun r => ∀ c : Dev nD,
      r.2.mem ((c.tc : Thread nD τ).loc main_v12) = modelOf (dgateA m c) (wideIn (arg1 m c)) (dupA m c) (wideIn (arg2 m c))
      ∧ r.2.mem ((c.tc : Thread nD τ).loc main_v10) = tokensOut (dgateA m c) (rowsIn (arg0 m c))
      ∧ r.2.mem ((c.tc : Thread nD τ).loc main_v11) = tokensOut (dupA m c) (rowsIn (arg0 m c))
      ∧ r.2.mem ((c.tc : Thread nD τ).loc main_v9) = tokensOut (actA m c) (rowsIn (arg4 m c))
      ∧ r.2.mem ((c.tc : Thread nD τ).loc main_v15_0) = resA m c
      ∧ r.2.mem ((c.tc : Thread nD τ).loc main_v15_1) = normedA m c
      ∧ r.2.mem ((c.tc : Thread nD τ).loc main_v15_2) = normedA m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
    ⟨(h c _ (mem_uc main_v12 (by decide))).trans (end_dh m ρ c),
      (h c _ (mem_uc main_v10 (by decide))).trans (end_dwgate m ρ c),
      (h c _ (mem_uc main_v11 (by decide))).trans (end_dwup m ρ c),
      (h c _ (mem_uc main_v9 (by decide))).trans (end_dwdown m ρ c),
      (h c _ (mem_uc main_v15_0 (by decide))).trans (end_res m ρ c),
      (h c _ (mem_uc main_v15_1 (by decide))).trans (end_normed m ρ c),
      (h c _ (mem_uc main_v15_2 (by decide))).trans (end_cast m ρ c),
      (h c _ (mem_uc main_arg0 (by decide))).trans (W9_main_arg0 m ρ c),
      (h c _ (mem_uc main_arg1 (by decide))).trans (W9_main_arg1 m ρ c),
      (h c _ (mem_uc main_arg2 (by decide))).trans (W9_main_arg2 m ρ c),
      (h c _ (mem_uc main_arg3 (by decide))).trans (W9_main_arg3 m ρ c),
      (h c _ (mem_uc main_arg4 (by decide))).trans (W9_main_arg4 m ρ c),
      (h c _ (mem_uc main_arg5 (by decide))).trans (W9_main_arg5 m ρ c),
      (h c _ (mem_uc main_arg6 (by decide))).trans (W9_main_arg6 m ρ c)⟩)
    (run_main m ρ)

end Cert.Kernel2Ideal.Ffn

end
-- ==== Proof.FfnRef.lean ====
/-
  The values of the SwiGLU's reference, entry by entry.
-/
module

public import proofs.«01_k».proof.Proof.Gen.Reference2Ideal.Read
public import Idealize.ShloMosaic.Lib.Pointwise
public import proofs.«01_k».proof.Proof.FfnNorm

@[expose] public section

noncomputable section

namespace Cert.Reference2Ideal.Value

open Idealize.ShloMosaic Idealize.ShloMosaic.Pointwise Cert.Reference2Ideal Cert.Reference2Ideal.Gen Cert.Reference2Ideal.Read

variable (x0 : FVec Ideal S8448x1024 .f32) (x1 x2 : FVec Ideal S1024x2816 .f32) (x3 : FVec Ideal S2816x1024 .f32) (x4 : FVec Ideal S8448x1024 .f32)

theorem gate_at (r : Fin 8448) (f : Fin 2816) : val_main_v0 (F := Ideal) x0 x1 (ix2 r f) = ∑ d : Fin 1024, x0 (ix2 r d) * x1 (ix2 d f) := by
  pointwise [val_main_v0]

theorem up_at (r : Fin 8448) (f : Fin 2816) : val_main_v2 (F := Ideal) x0 x2 (ix2 r f) = ∑ d : Fin 1024, x0 (ix2 r d) * x2 (ix2 d f) := by
  pointwise [val_main_v2]

theorem dact_at (r : Fin 8448) (f : Fin 2816) : val_main_v7 (F := Ideal) x3 x4 (ix2 r f) = ∑ d : Fin 1024, x4 (ix2 r d) * x3 (ix2 f d) := by
  pointwise [val_main_v7]

theorem sigmoid_at (r : Fin 8448) (f : Fin 2816) : val_main_v1_2 (F := Ideal) x0 x1 (ix2 r f)
    = Ideal.div (Ideal.ofBits .f32 0x3F800000#32) (Ideal.ofBits .f32 0x3F800000#32 + Ideal.exp (-val_main_v0 (F := Ideal) x0 x1 (ix2 r f))) := by
  pointwise [val_main_v1_2, val_main_call0_v4, val_main_call0_cst_0, val_main_call0_v3, val_main_call0_v2, val_main_call0_cst, val_main_call0_v1, val_main_call0_v0]

theorem silu_at (r : Fin 8448) (f : Fin 2816) : val_main_v1_0 (F := Ideal) x0 x1 (ix2 r f)
    = val_main_v0 (F := Ideal) x0 x1 (ix2 r f) * val_main_v1_2 (F := Ideal) x0 x1 (ix2 r f) := by
  pointwise [val_main_v1_0]

theorem slope_at (r : Fin 8448) (f : Fin 2816) : val_main_v1_1 (F := Ideal) x0 x1 (ix2 r f)
    = val_main_v1_2 (F := Ideal) x0 x1 (ix2 r f) * (Ideal.ofBits .f32 0x3F800000#32 - val_main_v1_2 (F := Ideal) x0 x1 (ix2 r f)) := by
  pointwise [val_main_v1_1, val_main_call0_v7, val_main_call0_v6, val_main_call0_cst_1]

theorem act_at (r : Fin 8448) (f : Fin 2816) : val_main_v3 (F := Ideal) x0 x1 x2 (ix2 r f)
    = val_main_v1_0 (F := Ideal) x0 x1 (ix2 r f) * val_main_v2 (F := Ideal) x0 x2 (ix2 r f) := by
  pointwise [val_main_v3]

theorem dup_at (r : Fin 8448) (f : Fin 2816) : val_main_v8 (F := Ideal) x0 x1 x3 x4 (ix2 r f)
    = val_main_v1_0 (F := Ideal) x0 x1 (ix2 r f) * val_main_v7 (F := Ideal) x3 x4 (ix2 r f) := by
  pointwise [val_main_v8]

theorem dsilu_at (r : Fin 8448) (f : Fin 2816) : val_main_v9 (F := Ideal) x0 x2 x3 x4 (ix2 r f)
    = val_main_v7 (F := Ideal) x3 x4 (ix2 r f) * val_main_v2 (F := Ideal) x0 x2 (ix2 r f) := by
  pointwise [val_main_v9]

theorem dgate_at (r : Fin 8448) (f : Fin 2816) : val_main_v13 (F := Ideal) x0 x1 x2 x3 x4 (ix2 r f)
    = val_main_v9 (F := Ideal) x0 x2 x3 x4 (ix2 r f) * val_main_v1_2 (F := Ideal) x0 x1 (ix2 r f)
      + val_main_v0 (F := Ideal) x0 x1 (ix2 r f) * val_main_v9 (F := Ideal) x0 x2 x3 x4 (ix2 r f) * val_main_v1_1 (F := Ideal) x0 x1 (ix2 r f) := by
  pointwise [val_main_v13, val_main_call1_v1, val_main_call1_v2, val_main_call1_v0]

theorem dwdown_at (f : Fin 2816) (d : Fin 1024) : val_main_v6 (F := Ideal) x0 x1 x2 x4 (ix2 f d)
    = ∑ s : Fin 8448, x4 (ix2 s d) * val_main_v3 (F := Ideal) x0 x1 x2 (ix2 s f) := by
  pointwise [val_main_v6, val_main_v5]

theorem dwgate_at (f : Fin 2816) (d : Fin 1024) : val_main_v45 (F := Ideal) x0 x1 x2 x3 x4 (ix2 f d)
    = ∑ s : Fin 8448, val_main_v13 (F := Ideal) x0 x1 x2 x3 x4 (ix2 s f) * x0 (ix2 s d) := by
  pointwise [val_main_v45, val_main_v15, val_main_v14]

theorem dwup_at (f : Fin 2816) (d : Fin 1024) : val_main_v46 (F := Ideal) x0 x1 x3 x4 (ix2 f d)
    = ∑ s : Fin 8448, val_main_v8 (F := Ideal) x0 x1 x3 x4 (ix2 s f) * x0 (ix2 s d) := by
  pointwise [val_main_v46, val_main_v11, val_main_v10]

theorem dh_at (r : Fin 8448) (d : Fin 1024) : val_main_v17 (F := Ideal) x0 x1 x2 x3 x4 (ix2 r d)
    = (∑ f : Fin 2816, val_main_v8 (F := Ideal) x0 x1 x3 x4 (ix2 r f) * x2 (ix2 d f))
      + ∑ f : Fin 2816, val_main_v13 (F := Ideal) x0 x1 x2 x3 x4 (ix2 r f) * x1 (ix2 d f) := by
  pointwise [val_main_v17, val_main_v12, val_main_v16]

theorem res_at (r : Fin 8448) (d : Fin 1024) : val_main_v20 (F := Ideal) x0 x1 x2 x3 (ix2 r d)
    = Ideal.ofBits .f32 0x3FD744FD#32 * x0 (ix2 r d) + ∑ f : Fin 2816, val_main_v3 (F := Ideal) x0 x1 x2 (ix2 r f) * x3 (ix2 f d) := by
  pointwise [val_main_v20, val_main_v19, val_main_v18, val_main_cst, val_main_v4]

theorem mean_at (r : Fin 8448) : val_main_v24 (F := Ideal) x0 x1 x2 x3 (ix2 r (0 : Fin 1))
    = Cert.Norm.mean (fun e => val_main_v20 (F := Ideal) x0 x1 x2 x3 (ix2 r e)) := by
  pointwise [val_main_v24, val_main_v22, val_main_v21, val_main_cst_0, val_main_v23, val_main_cst_1, Cert.Norm.mean]

theorem centred_at (r : Fin 8448) (d : Fin 1024) : val_main_v26 (F := Ideal) x0 x1 x2 x3 (ix2 r d)
    = val_main_v20 (F := Ideal) x0 x1 x2 x3 (ix2 r d) - val_main_v24 (F := Ideal) x0 x1 x2 x3 (ix2 r (0 : Fin 1)) := by
  pointwise [val_main_v26, val_main_v25]

theorem scale_at (r : Fin 8448) : val_main_v36 (F := Ideal) x0 x1 x2 x3 (ix2 r (0 : Fin 1))
    = Cert.Norm.scale (fun e => val_main_v26 (F := Ideal) x0 x1 x2 x3 (ix2 r e)) := by
  pointwise [val_main_v36, val_main_v35, val_main_v34, val_main_cst_4, val_main_v31, val_main_v30, val_main_cst_3, val_main_v29, val_main_v28, val_main_cst_2,
    val_main_v27, Cert.Norm.mean, Cert.Norm.scale]

variable (x5 x6 : FVec Ideal S1024 .f32)

theorem norm_at (r : Fin 8448) (d : Fin 1024) : val_main_v44 (F := Ideal) x0 x1 x2 x3 x5 x6 (ix2 r d)
    = Cert.Norm.norm (fun e => val_main_v20 (F := Ideal) x0 x1 x2 x3 (ix2 r e)) d (x5 (ix1 d)) (x6 (ix1 d)) := by
  have e : val_main_v44 (F := Ideal) x0 x1 x2 x3 x5 x6 (ix2 r d)
      = (val_main_v20 (F := Ideal) x0 x1 x2 x3 (ix2 r d) - val_main_v24 (F := Ideal) x0 x1 x2 x3 (ix2 r (0 : Fin 1)))
        * val_main_v36 (F := Ideal) x0 x1 x2 x3 (ix2 r (0 : Fin 1)) * x5 (ix1 d) + x6 (ix1 d) := by
    pointwise [val_main_v44, val_main_v41, val_main_v38, val_main_v33, val_main_v32, val_main_v37, val_main_v40, val_main_v39, val_main_v43, val_main_v42]
  rw [e, scale_at]
  simp only [centred_at, mean_at]
  rfl

theorem cast_at (r : Fin 8448) (d : Fin 1024) : val_main_v47 (F := Ideal) x0 x1 x2 x3 x5 x6 (ix2 r d)
    = val_main_v44 (F := Ideal) x0 x1 x2 x3 x5 x6 (ix2 r d) := by
  pointwise [val_main_v47]

end Cert.Reference2Ideal.Value

end
-- ==== Proof.FfnEquation.lean ====
/-
  The SwiGLU's results of the kernel are those of the reference.
-/
module

public import proofs.«01_k».proof.Proof.FfnResults
public import proofs.«01_k».proof.Proof.FfnRef
public import proofs.«01_k».proof.Proof.SoftReal

@[expose] public section

noncomputable section

namespace Cert.FfnEquation

open Idealize.ShloMosaic Idealize.ShloMosaic.TcCoe Idealize.ShloMosaic.Pointwise Cert.Kernel2Ideal Cert.Kernel2Ideal.Gen
open Cert.Kernel2Ideal.Ffn (sigm gateA upA dactA actA dgateA dupA arg0 arg1 arg2 arg3 arg4 arg5 arg6 rowsIn wideIn tallIn vecIn rowsIn_at wideIn_at tallIn_at vecIn_at
  modelOf tokensOut resA normedA)
open Cert.Reference2Ideal.Read

/-- The extended real is a real number. -/
def IsReal (x : EReal) : Prop := x = ((x.toReal : ℝ) : EReal)

theorem isReal_coe (x : ℝ) : IsReal (x : EReal) := by
  unfold IsReal
  rw [EReal.toReal_coe]

theorem isReal_dot {n : ℕ} (a b : Fin n → EReal) (ha : ∀ d, IsReal (a d)) (hb : ∀ d, IsReal (b d)) : IsReal (∑ d, a d * b d) := by
  have e : ∑ d, a d * b d = ((∑ d, (a d).toReal * (b d).toReal : ℝ) : EReal) := by
    rw [← Cert.Soft.coe_sum]
    exact Finset.sum_congr rfl fun d _ => by rw [EReal.coe_mul, ← ha d, ← hb d]
  rw [e]
  exact isReal_coe _

theorem sigm_eq (x : EReal) : sigm x = Ideal.div (Ideal.ofBits .f32 0x3F800000#32) (Ideal.ofBits .f32 0x3F800000#32 + Ideal.exp (-x)) := by
  unfold sigm
  rw [Ideal.ofBits_zero_f32, zero_sub]

theorem isReal_sigm (x : EReal) (hx : IsReal x) : IsReal (sigm x) := by
  rw [sigm_eq, hx, Cert.Soft.neg_real, Ideal.exp_coe, Cert.Soft.bits_one, ← EReal.coe_add, Cert.Soft.div_real (by positivity)]
  exact isReal_coe _

/-- The derivative of x · σ(x), factored and not. -/
theorem slope_eq (d g u s : EReal) (hd : IsReal d) (hg : IsReal g) (hu : IsReal u) (hs : IsReal s) :
    d * u * s * (Ideal.ofBits .f32 0x3F800000#32 + g * (Ideal.ofBits .f32 0x3F800000#32 - s))
      = d * u * s + g * (d * u) * (s * (Ideal.ofBits .f32 0x3F800000#32 - s)) := by
  rw [hd, hg, hu, hs, Cert.Soft.bits_one]
  simp only [Cert.Soft.sub_real, ← EReal.coe_mul, ← EReal.coe_add]
  exact congrArg _ (by ring)

variable (m : (ℓ : Loc nD τ sig) → Buf (Elt Ideal) ℓ) (c : Dev nD)

theorem gate_same (r : Fin 8448) (f : Fin 2816) : gateA m c (ix2 r f) = val_main_v0 (F := Ideal) (arg0 m c) (arg1 m c) (ix2 r f) := by
  rw [Cert.Reference2Ideal.Value.gate_at]
  show (∑ d : Fin 1024, rowsIn (arg0 m c) (ix2 r d) * wideIn (arg1 m c) (ix2 f d)) = _
  exact Finset.sum_congr rfl fun d _ => congrArg₂ (· * ·) (rowsIn_at _ _ _) (wideIn_at _ _ _)

theorem up_same (r : Fin 8448) (f : Fin 2816) : upA m c (ix2 r f) = val_main_v2 (F := Ideal) (arg0 m c) (arg2 m c) (ix2 r f) := by
  rw [Cert.Reference2Ideal.Value.up_at]
  show (∑ d : Fin 1024, rowsIn (arg0 m c) (ix2 r d) * wideIn (arg2 m c) (ix2 f d)) = _
  exact Finset.sum_congr rfl fun d _ => congrArg₂ (· * ·) (rowsIn_at _ _ _) (wideIn_at _ _ _)

theorem dact_same (r : Fin 8448) (f : Fin 2816) : dactA m c (ix2 r f) = val_main_v7 (F := Ideal) (arg3 m c) (arg4 m c) (ix2 r f) := by
  rw [Cert.Reference2Ideal.Value.dact_at]
  show (∑ d : Fin 1024, rowsIn (arg4 m c) (ix2 r d) * tallIn (arg3 m c) (ix2 f d)) = _
  exact Finset.sum_congr rfl fun d _ => congrArg₂ (· * ·) (rowsIn_at _ _ _) (tallIn_at _ _ _)

theorem sigm_same (r : Fin 8448) (f : Fin 2816) : sigm (gateA m c (ix2 r f)) = val_main_v1_2 (F := Ideal) (arg0 m c) (arg1 m c) (ix2 r f) := by
  rw [Cert.Reference2Ideal.Value.sigmoid_at, sigm_eq, gate_same]

theorem act_same (r : Fin 8448) (f : Fin 2816) : actA m c (ix2 r f) = val_main_v3 (F := Ideal) (arg0 m c) (arg1 m c) (arg2 m c) (ix2 r f) := by
  rw [Cert.Reference2Ideal.Value.act_at, Cert.Reference2Ideal.Value.silu_at, ← gate_same, ← sigm_same, ← up_same]
  rfl

theorem dup_same (r : Fin 8448) (f : Fin 2816) : dupA m c (ix2 r f)
    = val_main_v8 (F := Ideal) (arg0 m c) (arg1 m c) (arg3 m c) (arg4 m c) (ix2 r f) := by
  rw [Cert.Reference2Ideal.Value.dup_at, Cert.Reference2Ideal.Value.silu_at, ← gate_same, ← sigm_same, ← dact_same]
  refine Eq.trans (?_ : _ = dactA m c (ix2 r f) * gateA m c (ix2 r f) * sigm (gateA m c (ix2 r f))) ?_
  · rfl
  · rw [mul_assoc, mul_comm]

variable (f0 : ∀ i, IsReal (arg0 m c i)) (f1 : ∀ i, IsReal (arg1 m c i)) (f2 : ∀ i, IsReal (arg2 m c i))
  (f3 : ∀ i, IsReal (arg3 m c i)) (f4 : ∀ i, IsReal (arg4 m c i))

/-- The product of the down weight and the output's gradient is `act`'s gradient: every entry of these arrays is real. -/
theorem gate_real (r : Fin 8448) (f : Fin 2816) (f0 : ∀ i, IsReal (arg0 m c i)) (f1 : ∀ i, IsReal (arg1 m c i)) : IsReal (gateA m c (ix2 r f)) := by
  rw [gate_same, Cert.Reference2Ideal.Value.gate_at]
  exact isReal_dot _ _ (fun _ => f0 _) (fun _ => f1 _)

theorem up_real (r : Fin 8448) (f : Fin 2816) (f0 : ∀ i, IsReal (arg0 m c i)) (f2 : ∀ i, IsReal (arg2 m c i)) : IsReal (upA m c (ix2 r f)) := by
  rw [up_same, Cert.Reference2Ideal.Value.up_at]
  exact isReal_dot _ _ (fun _ => f0 _) (fun _ => f2 _)

theorem dact_real (r : Fin 8448) (f : Fin 2816) (f3 : ∀ i, IsReal (arg3 m c i)) (f4 : ∀ i, IsReal (arg4 m c i)) : IsReal (dactA m c (ix2 r f)) := by
  rw [dact_same, Cert.Reference2Ideal.Value.dact_at]
  exact isReal_dot _ _ (fun _ => f4 _) (fun _ => f3 _)

include f0 f1 f2 f3 f4

theorem dgate_same (r : Fin 8448) (f : Fin 2816) : dgateA m c (ix2 r f)
    = val_main_v13 (F := Ideal) (arg0 m c) (arg1 m c) (arg2 m c) (arg3 m c) (arg4 m c) (ix2 r f) := by
  rw [Cert.Reference2Ideal.Value.dgate_at, Cert.Reference2Ideal.Value.dsilu_at, Cert.Reference2Ideal.Value.slope_at, ← gate_same, ← sigm_same, ← dact_same,
    ← up_same]
  exact slope_eq _ _ _ _ (dact_real m c r f f3 f4) (gate_real m c r f f0 f1) (up_real m c r f f0 f2) (isReal_sigm _ (gate_real m c r f f0 f1))

/-- The gradient of the input. -/
theorem dh_eq : modelOf (dgateA m c) (wideIn (arg1 m c)) (dupA m c) (wideIn (arg2 m c))
    = val_main_v17 (F := Ideal) (arg0 m c) (arg1 m c) (arg2 m c) (arg3 m c) (arg4 m c) := by
  have key (r : Fin 8448) (d : Fin 1024) : modelOf (dgateA m c) (wideIn (arg1 m c)) (dupA m c) (wideIn (arg2 m c)) (ix2 r d)
      = val_main_v17 (F := Ideal) (arg0 m c) (arg1 m c) (arg2 m c) (arg3 m c) (arg4 m c) (ix2 r d) := by
    refine Eq.trans ?_ ((add_comm _ _).trans (Cert.Reference2Ideal.Value.dh_at (arg0 m c) (arg1 m c) (arg2 m c) (arg3 m c) (arg4 m c) r d).symm)
    show ((∑ f : Fin 2816, dgateA m c (ix2 r f) * wideIn (arg1 m c) (ix2 f d)) + ∑ f : Fin 2816, dupA m c (ix2 r f) * wideIn (arg2 m c) (ix2 f d)) = _
    exact congrArg₂ (· + ·)
      (Finset.sum_congr rfl fun f _ => congrArg₂ (· * ·) (dgate_same m c f0 f1 f2 f3 f4 r f) (wideIn_at _ _ _))
      (Finset.sum_congr rfl fun f _ => congrArg₂ (· * ·) (dup_same m c r f) (wideIn_at _ _ _))
  funext i
  rw [eq_ix2 i]
  exact key _ _

/-- The gradient of the gate weight, transposed. -/
theorem dwgate_eq : tokensOut (dgateA m c) (rowsIn (arg0 m c))
    = val_main_v45 (F := Ideal) (arg0 m c) (arg1 m c) (arg2 m c) (arg3 m c) (arg4 m c) := by
  have key (f : Fin 2816) (d : Fin 1024) : tokensOut (dgateA m c) (rowsIn (arg0 m c)) (ix2 f d)
      = val_main_v45 (F := Ideal) (arg0 m c) (arg1 m c) (arg2 m c) (arg3 m c) (arg4 m c) (ix2 f d) := by
    rw [Cert.Reference2Ideal.Value.dwgate_at]
    show (∑ s : Fin 8448, dgateA m c (ix2 s f) * rowsIn (arg0 m c) (ix2 s d)) = _
    exact Finset.sum_congr rfl fun s _ => congrArg₂ (· * ·) (dgate_same m c f0 f1 f2 f3 f4 s f) (rowsIn_at _ _ _)
  funext i
  rw [eq_ix2 i]
  exact key _ _

omit f0 f1 f2 f3 f4

/-- The gradient of the up weight, transposed. -/
theorem dwup_eq : tokensOut (dupA m c) (rowsIn (arg0 m c)) = val_main_v46 (F := Ideal) (arg0 m c) (arg1 m c) (arg3 m c) (arg4 m c) := by
  have key (f : Fin 2816) (d : Fin 1024) : tokensOut (dupA m c) (rowsIn (arg0 m c)) (ix2 f d)
      = val_main_v46 (F := Ideal) (arg0 m c) (arg1 m c) (arg3 m c) (arg4 m c) (ix2 f d) := by
    rw [Cert.Reference2Ideal.Value.dwup_at]
    show (∑ s : Fin 8448, dupA m c (ix2 s f) * rowsIn (arg0 m c) (ix2 s d)) = _
    exact Finset.sum_congr rfl fun s _ => congrArg₂ (· * ·) (dup_same m c s f) (rowsIn_at _ _ _)
  funext i
  rw [eq_ix2 i]
  exact key _ _

/-- The gradient of the down weight. -/
theorem dwdown_eq : tokensOut (actA m c) (rowsIn (arg4 m c)) = val_main_v6 (F := Ideal) (arg0 m c) (arg1 m c) (arg2 m c) (arg4 m c) := by
  have key (f : Fin 2816) (d : Fin 1024) : tokensOut (actA m c) (rowsIn (arg4 m c)) (ix2 f d)
      = val_main_v6 (F := Ideal) (arg0 m c) (arg1 m c) (arg2 m c) (arg4 m c) (ix2 f d) := by
    rw [Cert.Reference2Ideal.Value.dwdown_at]
    show (∑ s : Fin 8448, actA m c (ix2 s f) * rowsIn (arg4 m c) (ix2 s d)) = _
    exact Finset.sum_congr rfl fun s _ => (congrArg₂ (· * ·) (act_same m c s f) (rowsIn_at _ _ _)).trans (mul_comm _ _)
  funext i
  rw [eq_ix2 i]
  exact key _ _

theorem res_same (r : Fin 8448) (d : Fin 1024) : resA m c (ix2 r d) = val_main_v20 (F := Ideal) (arg0 m c) (arg1 m c) (arg2 m c) (arg3 m c) (ix2 r d) := by
  rw [Cert.Reference2Ideal.Value.res_at]
  show Ideal.ofBits .f32 0x3FD744FD#32 * arg0 m c (ix2 r d) + (∑ f : Fin 2816, actA m c (ix2 r f) * tallIn (arg3 m c) (ix2 f d)) = _
  exact congrArg (_ + ·) (Finset.sum_congr rfl fun f _ => congrArg₂ (· * ·) (act_same m c r f) (tallIn_at _ _ _))

theorem normed_same (r : Fin 8448) (d : Fin 1024) : normedA m c (ix2 r d)
    = val_main_v44 (F := Ideal) (arg0 m c) (arg1 m c) (arg2 m c) (arg3 m c) (arg5 m c) (arg6 m c) (ix2 r d) := by
  rw [Cert.Reference2Ideal.Value.norm_at, ← vecIn_at (arg5 m c), ← vecIn_at (arg6 m c)]
  simp only [← res_same]
  rfl

/-- The sum of residual and mixer's output. -/
theorem res_eq : resA m c = val_main_v20 (F := Ideal) (arg0 m c) (arg1 m c) (arg2 m c) (arg3 m c) := by
  funext i
  rw [eq_ix2 i]
  exact res_same m c _ _

/-- The layer's output. -/
theorem normed_eq : normedA m c = val_main_v44 (F := Ideal) (arg0 m c) (arg1 m c) (arg2 m c) (arg3 m c) (arg5 m c) (arg6 m c) := by
  funext i
  rw [eq_ix2 i]
  exact normed_same m c _ _

/-- The layer's output in the other format. -/
theorem cast_eq : normedA m c = val_main_v47 (F := Ideal) (arg0 m c) (arg1 m c) (arg2 m c) (arg3 m c) (arg5 m c) (arg6 m c) := by
  funext i
  rw [eq_ix2 i]
  exact (normed_same m c _ _).trans (Cert.Reference2Ideal.Value.cast_at _ _ _ _ _ _ _ _).symm

end Cert.FfnEquation

end
-- ==== Proof.ProjFrames.lean ====
/-
  The frames of the projections' kernel as printed and of its reference.
-/
module

public import proofs.«01_k».proof.Defs
public import proofs.«01_k».proof.Proof.FrameKernel
public import proofs.«01_k».proof.Proof.Gen.Kernel3
public import proofs.«01_k».proof.Proof.Gen.Kernel3Ideal.Frame
public import proofs.«01_k».proof.Proof.Gen.Reference3Ideal.Run
public import Idealize.ShloMosaic.Lib.Quiescent

@[expose] public section

noncomputable section

namespace Cert.SameText

open Idealize.ShloMosaic Idealize.SL.Sem

section

variable {F : FTy → Type} [FloatOps F]

set_option maxRecDepth 100000 in
set_option maxHeartbeats 0 in
/-- The two programs of the projections have the same bodies. -/
theorem table3_same : Cert.Kernel3.defs₀ (F := F) = Cert.Kernel3Ideal.defs₀ (F := F) := by
  unfold Cert.Kernel3.defs₀ Cert.Kernel3Ideal.defs₀
  refine congrArg Defs.onTc ?_
  funext l a
  match l, a with
  | ⟨0, _⟩, (t, s) => exact rfl
  | ⟨1, _⟩, (t, s) => exact rfl
  | ⟨2, _⟩, (t, s) => exact rfl
  | ⟨3, _⟩, (t, s) => exact rfl
  | ⟨4, _⟩, (t, s) => exact rfl
  | ⟨5, _⟩, (t, s) => exact rfl

set_option maxRecDepth 100000 in
set_option maxHeartbeats 0 in
/-- So they have the same tables. -/
theorem defs3_same : Cert.Kernel3.defs (F := F) = Cert.Kernel3Ideal.defs (F := F) :=
  congrArg (Idealize.ShloMosaic.Pipeline.defs (Cert.Kernel3Ideal.pcfgs (F := F))) table3_same

set_option maxRecDepth 100000 in
set_option maxHeartbeats 0 in
/-- And the same main program. -/
theorem main3_same : Cert.Kernel3.main (F := F) = Cert.Kernel3Ideal.main (F := F) := rfl

end

/-- The projections' kernel ends, with its arguments unchanged and all counters at zero. -/
theorem frame_kernel3 [hKernel3 : Cert.Kernel3.Facts] : Cert.quiescent_Kernel3 := fun m ρ _ =>
  run_of_eq (defs3_same (F := Bits)) (main3_same (F := Bits)) _ _ (Cert.Kernel3Ideal.Gen.frame (F := Bits) m ρ)

/-- So does its reference. -/
theorem frame_reference3 : Cert.quiescent_Reference3Ideal := fun m ρ _ =>
  (θ_run Cert.Reference3Ideal.defs _ _).mono
    (fun r h => ⟨fun c => (h c).2.2.2.2.2.2.2.2, Idealize.ShloMosaic.sem_eq_zero_of_no_sems (by decide) r.2⟩)
    (Cert.Reference3Ideal.Value.run (F := Ideal) m ρ)

end Cert.SameText

end
-- ==== Proof.ProjBlocks.lean ====
/-
  Where the blocks of the projections' calls lie in their arrays.
-/
module

public import proofs.«01_k».proof.Proof.Gen.Kernel3Ideal.Frame
public import proofs.«01_k».proof.Proof.FfnBlocks
public import Idealize.ShloMosaic.Lib.Pointwise

@[expose] public section

noncomputable section

namespace Cert.Kernel3Ideal.Proj

open Idealize.ShloMosaic Idealize.ShloMosaic.TcCoe Idealize.ShloMosaic.Pointwise Cert.Kernel3Ideal Cert.Kernel3Ideal.Gen
open Idealize.SL Idealize.SL.Sem
open Cert.Kernel2Ideal.Ffn (emb_two)

/-- Row `r` of the point's 768 rows. -/
def row (t : Fin cfg0.N) (r : Fin 768) : Fin 8448 := ⟨768 * t.val + r.val, by have : t.val < 11 := t.isLt; have := r.isLt; omega⟩

/-- Row `k` of the 768 rows of point number `n`, the grid's inner axis. -/
def tok (n : ℕ) (k : Fin 768) : Fin 8448 := ⟨768 * (n % 11) + k.val, by have := k.isLt; omega⟩

/-- Column `x` of the point's 512 columns, the grid's outer axis. -/
def feat3 (t : Fin cfg3.N) (x : Fin 512) : Fin 1024 := ⟨512 * (t.val / 11) + x.val, by have : t.val < 22 := t.isLt; have := x.isLt; omega⟩

/-- The same of the wider array. -/
def feat4 (t : Fin cfg4.N) (x : Fin 512) : Fin 1536 := ⟨512 * (t.val / 11) + x.val, by have : t.val < 33 := t.isLt; have := x.isLt; omega⟩

theorem index0 : ∀ t : Fin cfg0.N, cc0_transform_0 (grid0.coords t) = ![t.val, 0] :=
  (by decide +kernel : ∀ t : Fin grid0.N, cc0_transform_0 (grid0.coords t) = ![t.val, 0])

theorem index3_0 : ∀ t : Fin cfg3.N, cc3_transform_0 (grid3.coords t) = ![t.val % 11, t.val / 11] :=
  (by decide +kernel : ∀ t : Fin grid3.N, cc3_transform_0 (grid3.coords t) = ![t.val % 11, t.val / 11])
theorem index3_1 : ∀ t : Fin cfg3.N, cc3_transform_1 (grid3.coords t) = ![t.val % 11, 0] :=
  (by decide +kernel : ∀ t : Fin grid3.N, cc3_transform_1 (grid3.coords t) = ![t.val % 11, 0])
theorem index3_2 : ∀ t : Fin cfg3.N, cc3_transform_2 (grid3.coords t) = ![t.val / 11, 0] :=
  (by decide +kernel : ∀ t : Fin grid3.N, cc3_transform_2 (grid3.coords t) = ![t.val / 11, 0])
theorem index4_0 : ∀ t : Fin cfg4.N, cc4_transform_0 (grid4.coords t) = ![t.val % 11, t.val / 11] :=
  (by decide +kernel : ∀ t : Fin grid4.N, cc4_transform_0 (grid4.coords t) = ![t.val % 11, t.val / 11])
theorem index4_1 : ∀ t : Fin cfg4.N, cc4_transform_1 (grid4.coords t) = ![t.val % 11, 0] :=
  (by decide +kernel : ∀ t : Fin grid4.N, cc4_transform_1 (grid4.coords t) = ![t.val % 11, 0])
theorem index4_2 : ∀ t : Fin cfg4.N, cc4_transform_2 (grid4.coords t) = ![t.val / 11, 0] :=
  (by decide +kernel : ∀ t : Fin grid4.N, cc4_transform_2 (grid4.coords t) = ![t.val / 11, 0])

theorem emb_model (t : Fin cfg0.N) (r : Fin 768) (d : Fin 1024) : (win0_0.rect t).emb (ix2 r d) = (ix2 (row t r) d : S8448x1024.Idx) :=
  emb_two _ _ _
    (by show _ = cc0_transform_0 (grid0.coords t) 0 * 768 + 1 * r.val; rw [index0]; show 768 * t.val + r.val = t.val * 768 + 1 * r.val; omega)
    (by show _ = cc0_transform_0 (grid0.coords t) 1 * 1024 + 1 * d.val; rw [index0]; show d.val = 0 * 1024 + 1 * d.val; omega)

theorem emb_heads (t : Fin cfg0.N) (r : Fin 768) (f : Fin 1536) : (win0_2.rect t).emb (ix2 r f) = (ix2 (row t r) f : S8448x1536.Idx) :=
  emb_two _ _ _
    (by show _ = cc0_transform_0 (grid0.coords t) 0 * 768 + 1 * r.val; rw [index0]; show 768 * t.val + r.val = t.val * 768 + 1 * r.val; omega)
    (by show _ = cc0_transform_0 (grid0.coords t) 1 * 1536 + 1 * f.val; rw [index0]; show f.val = 0 * 1536 + 1 * f.val; omega)

theorem emb_wide (t : Fin cfg0.N) (f : Fin 1536) (d : Fin 1024) : (win0_1.rect t).emb (ix2 f d) = (ix2 f d : S1536x1024.Idx) :=
  emb_two _ _ _ (by show f.val = 0 * 1536 + 1 * f.val; omega) (by show d.val = 0 * 1024 + 1 * d.val; omega)

theorem emb_square (t : Fin cfg1.N) (e : Fin 1024) (d : Fin 1024) : (win1_1.rect t).emb (ix2 e d) = (ix2 e d : S1024x1024.Idx) :=
  emb_two _ _ _ (by show e.val = 0 * 1024 + 1 * e.val; omega) (by show d.val = 0 * 1024 + 1 * d.val; omega)

theorem emb_vector (t : Fin cfg1.N) (z : Fin 1) (d : Fin 1024) : (win1_3.rect t).emb (ix2 z d) = (ix2 z d : S1x1024.Idx) :=
  emb_two _ _ _ (by show z.val = 0 * 1 + 1 * z.val; omega) (by show d.val = 0 * 1024 + 1 * d.val; omega)

theorem emb_left3 (t : Fin cfg3.N) (k : Fin 768) (x : Fin 512) : (win3_0.rect t).emb (ix2 k x) = (ix2 (tok t.val k) (feat3 t x) : S8448x1024.Idx) :=
  emb_two _ _ _
    (by show _ = cc3_transform_0 (grid3.coords t) 0 * 768 + 1 * k.val; rw [index3_0]; show 768 * (t.val % 11) + k.val = (t.val % 11) * 768 + 1 * k.val; omega)
    (by show _ = cc3_transform_0 (grid3.coords t) 1 * 512 + 1 * x.val; rw [index3_0]; show 512 * (t.val / 11) + x.val = (t.val / 11) * 512 + 1 * x.val; omega)

theorem emb_right3 (t : Fin cfg3.N) (k : Fin 768) (y : Fin 1024) : (win3_1.rect t).emb (ix2 k y) = (ix2 (tok t.val k) y : S8448x1024.Idx) :=
  emb_two _ _ _
    (by show _ = cc3_transform_1 (grid3.coords t) 0 * 768 + 1 * k.val; rw [index3_1]; show 768 * (t.val % 11) + k.val = (t.val % 11) * 768 + 1 * k.val; omega)
    (by show _ = cc3_transform_1 (grid3.coords t) 1 * 1024 + 1 * y.val; rw [index3_1]; show y.val = 0 * 1024 + 1 * y.val; omega)

theorem emb_product3 (t : Fin cfg3.N) (x : Fin 512) (y : Fin 1024) : (win3_2.rect t).emb (ix2 x y) = (ix2 (feat3 t x) y : S1024x1024.Idx) :=
  emb_two _ _ _
    (by show _ = cc3_transform_2 (grid3.coords t) 0 * 512 + 1 * x.val; rw [index3_2]; show 512 * (t.val / 11) + x.val = (t.val / 11) * 512 + 1 * x.val; omega)
    (by show _ = cc3_transform_2 (grid3.coords t) 1 * 1024 + 1 * y.val; rw [index3_2]; show y.val = 0 * 1024 + 1 * y.val; omega)

theorem emb_left4 (t : Fin cfg4.N) (k : Fin 768) (x : Fin 512) : (win4_0.rect t).emb (ix2 k x) = (ix2 (tok t.val k) (feat4 t x) : S8448x1536.Idx) :=
  emb_two _ _ _
    (by show _ = cc4_transform_0 (grid4.coords t) 0 * 768 + 1 * k.val; rw [index4_0]; show 768 * (t.val % 11) + k.val = (t.val % 11) * 768 + 1 * k.val; omega)
    (by show _ = cc4_transform_0 (grid4.coords t) 1 * 512 + 1 * x.val; rw [index4_0]; show 512 * (t.val / 11) + x.val = (t.val / 11) * 512 + 1 * x.val; omega)

theorem emb_right4 (t : Fin cfg4.N) (k : Fin 768) (y : Fin 1024) : (win4_1.rect t).emb (ix2 k y) = (ix2 (tok t.val k) y : S8448x1024.Idx) :=
  emb_two _ _ _
    (by show _ = cc4_transform_1 (grid4.coords t) 0 * 768 + 1 * k.val; rw [index4_1]; show 768 * (t.val % 11) + k.val = (t.val % 11) * 768 + 1 * k.val; omega)
    (by show _ = cc4_transform_1 (grid4.coords t) 1 * 1024 + 1 * y.val; rw [index4_1]; show y.val = 0 * 1024 + 1 * y.val; omega)

theorem emb_product4 (t : Fin cfg4.N) (x : Fin 512) (y : Fin 1024) : (win4_2.rect t).emb (ix2 x y) = (ix2 (feat4 t x) y : S1536x1024.Idx) :=
  emb_two _ _ _
    (by show _ = cc4_transform_2 (grid4.coords t) 0 * 512 + 1 * x.val; rw [index4_2]; show 512 * (t.val / 11) + x.val = (t.val / 11) * 512 + 1 * x.val; omega)
    (by show _ = cc4_transform_2 (grid4.coords t) 1 * 1024 + 1 * y.val; rw [index4_2]; show y.val = 0 * 1024 + 1 * y.val; omega)

variable (V : (c : Dev nD) → (b : Ref sig .tc) → Buf (Elt Ideal) ((c : Thread nD τ).loc b)) (c : Dev nD)

theorem block0_0 (t : Fin cfg0.N) (r : Fin 768) (d : Fin 1024) : iblk0 V c 0 t (ix2 r d) = V c main_v0 (ix2 (row t r) d) :=
  congrArg (V c main_v0) (emb_model t r d)
theorem block0_1 (t : Fin cfg0.N) (f : Fin 1536) (d : Fin 1024) : iblk0 V c 1 t (ix2 f d) = V c main_v5 (ix2 f d) :=
  congrArg (V c main_v5) (emb_wide t f d)
theorem block1_0 (t : Fin cfg1.N) (r : Fin 768) (e : Fin 1024) : iblk1 V c 0 t (ix2 r e) = V c main_v1 (ix2 (row t r) e) :=
  congrArg (V c main_v1) (emb_model t r e)
theorem block1_1 (t : Fin cfg1.N) (e : Fin 1024) (d : Fin 1024) : iblk1 V c 1 t (ix2 e d) = V c main_v6 (ix2 e d) :=
  congrArg (V c main_v6) (emb_square t e d)
theorem block1_2 (t : Fin cfg1.N) (r : Fin 768) (d : Fin 1024) : iblk1 V c 2 t (ix2 r d) = V c main_arg0 (ix2 (row t r) d) :=
  congrArg (V c main_arg0) (emb_model t r d)
theorem block1_3 (t : Fin cfg1.N) (z : Fin 1) (d : Fin 1024) : iblk1 V c 3 t (ix2 z d) = V c main_v7 (ix2 z d) :=
  congrArg (V c main_v7) (emb_vector t z d)
theorem block1_4 (t : Fin cfg1.N) (z : Fin 1) (d : Fin 1024) : iblk1 V c 4 t (ix2 z d) = V c main_v8 (ix2 z d) :=
  congrArg (V c main_v8) (emb_vector t z d)
theorem block2_0 (t : Fin cfg2.N) (r : Fin 768) (d : Fin 1024) : iblk2 V c 0 t (ix2 r d) = V c main_v3 (ix2 (row t r) d) :=
  congrArg (V c main_v3) (emb_model t r d)
theorem block2_1 (t : Fin cfg2.N) (e : Fin 1024) (d : Fin 1024) : iblk2 V c 1 t (ix2 e d) = V c main_v6 (ix2 e d) :=
  congrArg (V c main_v6) (emb_square t e d)
theorem block3_0 (t : Fin cfg3.N) (k : Fin 768) (x : Fin 512) : iblk3 V c 0 t (ix2 k x) = V c main_v1 (ix2 (tok t.val k) (feat3 t x)) :=
  congrArg (V c main_v1) (emb_left3 t k x)
theorem block3_1 (t : Fin cfg3.N) (k : Fin 768) (y : Fin 1024) : iblk3 V c 1 t (ix2 k y) = V c main_v3 (ix2 (tok t.val k) y) :=
  congrArg (V c main_v3) (emb_right3 t k y)
theorem block4_0 (t : Fin cfg4.N) (k : Fin 768) (x : Fin 512) : iblk4 V c 0 t (ix2 k x) = V c main_v2 (ix2 (tok t.val k) (feat4 t x)) :=
  congrArg (V c main_v2) (emb_left4 t k x)
theorem block4_1 (t : Fin cfg4.N) (k : Fin 768) (y : Fin 1024) : iblk4 V c 1 t (ix2 k y) = V c main_v0 (ix2 (tok t.val k) y) :=
  congrArg (V c main_v0) (emb_right4 t k y)
theorem block5_0 (t : Fin cfg5.N) (r : Fin 768) (f : Fin 1536) : iblk5 V c 0 t (ix2 r f) = V c main_v2 (ix2 (row t r) f) :=
  congrArg (V c main_v2) (emb_heads t r f)
theorem block5_1 (t : Fin cfg5.N) (f : Fin 1536) (d : Fin 1024) : iblk5 V c 1 t (ix2 f d) = V c main_v5 (ix2 f d) :=
  congrArg (V c main_v5) (emb_wide t f d)

end Cert.Kernel3Ideal.Proj

end
-- ==== Proof.ProjTiles.lean ====
/-
  What the bodies of the projections' six calls compute of their blocks, entry by entry.
-/
module

public import proofs.«01_k».proof.Proof.Gen.Kernel3Ideal.Skeleton
public import proofs.«01_k».proof.Proof.FfnNorm
public import Idealize.ShloMosaic.Lib.Pointwise

@[expose] public section

noncomputable section

namespace Cert.Kernel3Ideal.Proj

open Idealize.ShloMosaic Idealize.ShloMosaic.Pointwise Cert.Kernel3Ideal Cert.Kernel3Ideal.Gen

theorem qkv_at (h : Vec Ideal S768x1024 .bf16) (w : Vec Ideal S1536x1024 .bf16) (r : Fin 768) (f : Fin 1536) :
    k0_pay1 h w (ix2 r f) = ∑ d : Fin 1024, h (ix2 r d) * w (ix2 f d) := by
  pointwise [k0_pay1]

theorem res_at (h : Vec Ideal S768x1024 .f32) (a : Vec Ideal S768x1024 .bf16) (w : Vec Ideal S1024x1024 .bf16) (r : Fin 768) (d : Fin 1024) :
    k1_pay1 h a w (ix2 r d) = Ideal.ofBits .f32 0x3FD744FD#32 * h (ix2 r d) + ∑ e : Fin 1024, a (ix2 r e) * w (ix2 e d) := by
  pointwise [k1_pay1]

theorem norm_at (h : Vec Ideal S768x1024 .f32) (a : Vec Ideal S768x1024 .bf16) (w : Vec Ideal S1024x1024 .bf16) (g b : Vec Ideal S1x1024 .f32) (r : Fin 768) (d : Fin 1024) :
    k1_pay2 h a w g b (ix2 r d) = Cert.Norm.norm (fun e => k1_pay1 h a w (ix2 r e)) d (g (ix2 0 d)) (b (ix2 0 d)) := by
  pointwise [k1_pay2, Cert.Norm.norm, Cert.Norm.scale, Cert.Norm.mean]

theorem cast_at (h : Vec Ideal S768x1024 .f32) (a : Vec Ideal S768x1024 .bf16) (w : Vec Ideal S1024x1024 .bf16) (g b : Vec Ideal S1x1024 .f32) (r : Fin 768) (d : Fin 1024) :
    k1_pay3 h a w g b (ix2 r d) = k1_pay2 h a w g b (ix2 r d) := by
  pointwise [k1_pay3]

theorem do_at (x : Vec Ideal S768x1024 .bf16) (w : Vec Ideal S1024x1024 .bf16) (r : Fin 768) (e : Fin 1024) :
    k2_pay1 x w (ix2 r e) = ∑ d : Fin 1024, x (ix2 r d) * w (ix2 e d) := by
  pointwise [k2_pay1]

theorem dw_zero (x : Fin 512) (y : Fin 1024) : k3_pay1 (F := Ideal) (ix2 x y) = Ideal.ofBits .f32 0x00000000#32 := by
  pointwise [k3_pay1]

theorem dw_at (acc : Vec Ideal S512x1024 .f32) (a : Vec Ideal S768x512 .bf16) (b : Vec Ideal S768x1024 .bf16) (x : Fin 512) (y : Fin 1024) :
    k3_pay2 acc a b (ix2 x y) = acc (ix2 x y) + ∑ k : Fin 768, a (ix2 k x) * b (ix2 k y) := by
  pointwise [k3_pay2]

theorem dh_at (x : Vec Ideal S768x1536 .bf16) (w : Vec Ideal S1536x1024 .bf16) (r : Fin 768) (d : Fin 1024) :
    k5_pay1 x w (ix2 r d) = ∑ f : Fin 1536, x (ix2 r f) * w (ix2 f d) := by
  pointwise [k5_pay1]

end Cert.Kernel3Ideal.Proj

end
-- ==== Proof.ProjChain.lean ====
/-
  The two products with the tokens summed over: what the result's buffer holds after each point, in which the rows of
  one more block are added.
-/
module

public import proofs.«01_k».proof.Proof.ProjBlocks
public import proofs.«01_k».proof.Proof.ProjTiles
public import proofs.«01_k».proof.Proof.LoopValue

@[expose] public section

noncomputable section

namespace Cert.Kernel3Ideal.Proj

open Idealize.ShloMosaic Idealize.ShloMosaic.Pointwise Cert.Kernel3Ideal Cert.Kernel3Ideal.Gen
open Cert.KernelIdeal.Flash (ext ext_of_lt sum_ext)

/-- The sum over the rows of the first `n` blocks. -/
def part (p : Fin 8448 → EReal) (n : ℕ) : EReal := ∑ s ∈ Finset.range (768 * n), ext p s

theorem part_all (p : Fin 8448 → EReal) : part p 11 = ∑ s : Fin 8448, p s := sum_ext p

theorem part_succ (p : Fin 8448 → EReal) (n : ℕ) : part p (n % 11 + 1) = part p (n % 11) + ∑ k : Fin 768, p (tok n k) := by
  unfold part
  rw [Nat.mul_add, Nat.mul_one, Finset.sum_range_add, Finset.sum_range (n := 768)]
  exact congrArg _ (Finset.sum_congr rfl fun k _ => ext_of_lt _ (tok n k))

/-- One step of the accumulation, of a column of each array. -/
theorem step_at (p q : Fin 8448 → EReal) (acc : Vec Ideal S512x1024 .f32) (a : Vec Ideal S768x512 .bf16) (b : Vec Ideal S768x1024 .bf16) (n : ℕ)
    (x : Fin 512) (y : Fin 1024) (ha : ∀ k, a (ix2 k x) = p (tok n k)) (hb : ∀ k, b (ix2 k y) = q (tok n k))
    (hacc : acc (ix2 x y) = part (fun s => p s * q s) (n % 11)) : k3_pay2 acc a b (ix2 x y) = part (fun s => p s * q s) (n % 11 + 1) := by
  rw [dw_at, part_succ, hacc]
  simp only [ha, hb]

/-- What the buffer holds after each point, from what it is after the first of a round and after the others: `A t x` is
the first array's column number `x` at the point `t`, the same for all points of a round. -/
theorem chain (N : ℕ) (A : Fin N → Fin 512 → Fin 8448 → EReal) (B : Fin 1024 → Fin 8448 → EReal)
    (hA : ∀ t t' : Fin N, t.val / 11 = t'.val / 11 → A t = A t')
    (f : (n : ℕ) → n < N → Vec Ideal S512x1024 .f32) (a : Fin N → Vec Ideal S768x512 .bf16) (b : Fin N → Vec Ideal S768x1024 .bf16)
    (ha : ∀ t k x, a t (ix2 k x) = A t x (tok t.val k)) (hb : ∀ t k y, b t (ix2 k y) = B y (tok t.val k))
    (h0 : ∀ t : Fin N, t.val % 11 = 0 → f t.val t.isLt = k3_pay2 k3_pay1 (a t) (b t))
    (h1 : ∀ t : Fin N, ¬t.val % 11 = 0 → f t.val t.isLt = k3_pay2 (f (t.val - 1) (Nat.lt_of_le_of_lt (Nat.sub_le _ _) t.isLt)) (a t) (b t)) :
    ∀ (n : ℕ) (hn : n < N) (x : Fin 512) (y : Fin 1024), f n hn (ix2 x y) = part (fun s => A ⟨n, hn⟩ x s * B y s) (n % 11 + 1) := by
  intro n
  induction n with
  | zero =>
    intro hn x y
    rw [h0 ⟨0, hn⟩ (Nat.zero_mod _)]
    refine step_at (A ⟨0, hn⟩ x) (B y) _ _ _ 0 x y (fun k => ha _ k x) (fun k => hb _ k y) ?_
    rw [dw_zero, Ideal.ofBits_zero_f32]
    rfl
  | succ n ih =>
    intro hn x y
    by_cases h : (n + 1) % 11 = 0
    · rw [h0 ⟨n + 1, hn⟩ h]
      refine step_at (A ⟨n + 1, hn⟩ x) (B y) _ _ _ (n + 1) x y (fun k => ha _ k x) (fun k => hb _ k y) ?_
      rw [dw_zero, Ideal.ofBits_zero_f32, h]
      rfl
    · rw [h1 ⟨n + 1, hn⟩ h]
      refine step_at (A ⟨n + 1, hn⟩ x) (B y) _ _ _ (n + 1) x y (fun k => ha _ k x) (fun k => hb _ k y) ?_
      refine (ih (Nat.lt_of_succ_lt hn) x y).trans ?_
      have e : n / 11 = (n + 1) / 11 := by omega
      have e' : n % 11 + 1 = (n + 1) % 11 := by omega
      rw [hA ⟨n, Nat.lt_of_succ_lt hn⟩ ⟨n + 1, hn⟩ e, e']

/-- What the buffer holds when it is written back, after the last point of a round. -/
theorem flushed (N : ℕ) (A : Fin N → Fin 512 → Fin 8448 → EReal) (B : Fin 1024 → Fin 8448 → EReal)
    (hA : ∀ t t' : Fin N, t.val / 11 = t'.val / 11 → A t = A t')
    (f : (n : ℕ) → n < N → Vec Ideal S512x1024 .f32) (a : Fin N → Vec Ideal S768x512 .bf16) (b : Fin N → Vec Ideal S768x1024 .bf16)
    (ha : ∀ t k x, a t (ix2 k x) = A t x (tok t.val k)) (hb : ∀ t k y, b t (ix2 k y) = B y (tok t.val k))
    (h0 : ∀ t : Fin N, t.val % 11 = 0 → f t.val t.isLt = k3_pay2 k3_pay1 (a t) (b t))
    (h1 : ∀ t : Fin N, ¬t.val % 11 = 0 → f t.val t.isLt = k3_pay2 (f (t.val - 1) (Nat.lt_of_le_of_lt (Nat.sub_le _ _) t.isLt)) (a t) (b t))
    (t : Fin N) (ht : t.val % 11 = 10) (x : Fin 512) (y : Fin 1024) : f t.val t.isLt (ix2 x y) = ∑ s : Fin 8448, A t x s * B y s := by
  rw [chain N A B hA f a b ha hb h0 h1 t.val t.isLt, ht, part_all]

end Cert.Kernel3Ideal.Proj

end
-- ==== Proof.ProjOuts.lean ====
/-
  What a point of each of the projections' calls leaves in its results' buffers.
-/
module

public import proofs.«01_k».proof.Proof.Gen.Kernel3Ideal.Frame
public import proofs.«01_k».proof.Proof.FfnOuts
public import Idealize.ShloMosaic.Lib.Pipeline.Value

@[expose] public section

noncomputable section

namespace Cert.Kernel3Ideal.Proj

open Idealize.ShloMosaic Idealize.ShloMosaic.TcCoe Idealize.ShloMosaic.Tactic Cert.Kernel3Ideal Cert.Kernel3Ideal.Gen
open Idealize.SL Idealize.SL.Sem
open Cert.Kernel2Ideal.Ffn (hz2)

variable {F : FTy → Type} [FloatOps F]

theorem qkv_eq (x0 : Vec F S768x1024 .bf16) (x1 : Vec F S1536x1024 .bf16) : out0_2 x0 x1 = k0_pay1 x0 x1 := by
  unfold out0_2
  rw [View.canon_unit_zero hz2, View.ld_unit_zero (S := S768x1024) hz2, View.ld_unit_zero (S := S1536x1024) hz2]

theorem res_eq (x0 : Vec F S768x1024 .bf16) (x1 : Vec F S1024x1024 .bf16) (x2 : Vec F S768x1024 .f32) (x3 x4 : Vec F S1x1024 .f32) : out1_5 x0 x1 x2 x3 x4 = k1_pay1 x2 x0 x1 := by
  unfold out1_5
  rw [View.canon_unit_zero hz2]
  simp only [View.ld_unit_zero (S := S768x1024) hz2, View.ld_unit_zero (S := S1024x1024) hz2, View.ld_unit_zero (S := S1x1024) hz2]

theorem norm_eq (x0 : Vec F S768x1024 .bf16) (x1 : Vec F S1024x1024 .bf16) (x2 : Vec F S768x1024 .f32) (x3 x4 : Vec F S1x1024 .f32) : out1_6 x0 x1 x2 x3 x4 = k1_pay2 x2 x0 x1 x3 x4 := by
  unfold out1_6
  rw [View.canon_unit_zero hz2]
  simp only [View.ld_unit_zero (S := S768x1024) hz2, View.ld_unit_zero (S := S1024x1024) hz2, View.ld_unit_zero (S := S1x1024) hz2]

theorem cast_eq (x0 : Vec F S768x1024 .bf16) (x1 : Vec F S1024x1024 .bf16) (x2 : Vec F S768x1024 .f32) (x3 x4 : Vec F S1x1024 .f32) : out1_7 x0 x1 x2 x3 x4 = k1_pay3 x2 x0 x1 x3 x4 := by
  unfold out1_7
  rw [View.canon_unit_zero hz2]
  simp only [View.ld_unit_zero (S := S768x1024) hz2, View.ld_unit_zero (S := S1024x1024) hz2, View.ld_unit_zero (S := S1x1024) hz2]

theorem do_eq (x0 : Vec F S768x1024 .bf16) (x1 : Vec F S1024x1024 .bf16) : out2_2 x0 x1 = k2_pay1 x0 x1 := by
  unfold out2_2
  rw [View.canon_unit_zero hz2, View.ld_unit_zero (S := S768x1024) hz2, View.ld_unit_zero (S := S1024x1024) hz2]

theorem dh_eq (x0 : Vec F S768x1536 .bf16) (x1 : Vec F S1536x1024 .bf16) : out5_2 x0 x1 = k5_pay1 x0 x1 := by
  unfold out5_2
  rw [View.canon_unit_zero hz2, View.ld_unit_zero (S := S768x1536) hz2, View.ld_unit_zero (S := S1536x1024) hz2]

theorem first3_eq (c : Dev nD) (i : grid3.Coords) (arg2 : Memref sig .tc .vmem S768x512 .bf16) (harg2 : arg2.IsWhole) (arg3 : Memref sig .tc .vmem S768x1024 .bf16) (harg3 : arg3.IsWhole) (arg4 : Memref sig .tc .vmem S512x1024 .f32) (harg4 : arg4.IsWhole) (hc0 : cond3_0 i)
    (x0 : Vec F S768x512 .bf16) (x1 : Vec F S768x1024 .bf16) : out3_A_2 c i arg2 harg2 arg3 harg3 arg4 harg4 hc0 x0 x1 = k3_pay2 k3_pay1 x0 x1 := by
  unfold out3_A_2
  rw [View.read_writes_eq_canon _ _ _ (cover3_A_2 c i arg2 harg2 arg3 harg3 arg4 harg4 hc0 x0 x1)]
  unfold kernelRun3_A
  dsimp only
  try sl_unfold_words
  rw [View.canon_cons_unit_zero (S := S512x1024) hz2, View.readCov_unit_zero (S := S512x1024) _ hz2]
  simp only [View.readAt_eq_ld, harg2.read_unread, harg3.read_unread, View.ld_unit_zero (S := S768x512) hz2, View.ld_unit_zero (S := S768x1024) hz2]
  try rfl

theorem later3_eq (c : Dev nD) (i : grid3.Coords) (arg2 : Memref sig .tc .vmem S768x512 .bf16) (harg2 : arg2.IsWhole) (arg3 : Memref sig .tc .vmem S768x1024 .bf16) (harg3 : arg3.IsWhole) (arg4 : Memref sig .tc .vmem S512x1024 .f32) (harg4 : arg4.IsWhole) (hc0 : ¬cond3_0 i)
    (x0 : Vec F S768x512 .bf16) (x1 : Vec F S768x1024 .bf16) (xo : Vec F S512x1024 .f32) : out3_B_2 c i arg2 harg2 arg3 harg3 arg4 harg4 hc0 x0 x1 xo = k3_pay2 xo x0 x1 := by
  unfold out3_B_2
  rw [View.read_writes_eq_canon _ _ _ (cover3_B_2 c i arg2 harg2 arg3 harg3 arg4 harg4 hc0 x0 x1 xo)]
  unfold kernelRun3_B
  dsimp only
  try sl_unfold_words
  rw [View.canon_unit_zero (S := S512x1024) hz2]
  simp only [View.readAt_eq_ld, harg2.read_unread, harg3.read_unread, harg4.read_unread, View.ld_unit_zero (S := S768x512) hz2, View.ld_unit_zero (S := S768x1024) hz2, View.ld_unit_zero (S := S512x1024) hz2]
  try rfl

theorem first4_eq (c : Dev nD) (i : grid4.Coords) (arg2 : Memref sig .tc .vmem S768x512 .bf16) (harg2 : arg2.IsWhole) (arg3 : Memref sig .tc .vmem S768x1024 .bf16) (harg3 : arg3.IsWhole) (arg4 : Memref sig .tc .vmem S512x1024 .f32) (harg4 : arg4.IsWhole) (hc0 : cond4_0 i)
    (x0 : Vec F S768x512 .bf16) (x1 : Vec F S768x1024 .bf16) : out4_A_2 c i arg2 harg2 arg3 harg3 arg4 harg4 hc0 x0 x1 = k3_pay2 k3_pay1 x0 x1 := by
  unfold out4_A_2
  rw [View.read_writes_eq_canon _ _ _ (cover4_A_2 c i arg2 harg2 arg3 harg3 arg4 harg4 hc0 x0 x1)]
  unfold kernelRun4_A
  dsimp only
  try sl_unfold_words
  rw [View.canon_cons_unit_zero (S := S512x1024) hz2, View.readCov_unit_zero (S := S512x1024) _ hz2]
  simp only [View.readAt_eq_ld, harg2.read_unread, harg3.read_unread, View.ld_unit_zero (S := S768x512) hz2, View.ld_unit_zero (S := S768x1024) hz2]
  try rfl

theorem later4_eq (c : Dev nD) (i : grid4.Coords) (arg2 : Memref sig .tc .vmem S768x512 .bf16) (harg2 : arg2.IsWhole) (arg3 : Memref sig .tc .vmem S768x1024 .bf16) (harg3 : arg3.IsWhole) (arg4 : Memref sig .tc .vmem S512x1024 .f32) (harg4 : arg4.IsWhole) (hc0 : ¬cond4_0 i)
    (x0 : Vec F S768x512 .bf16) (x1 : Vec F S768x1024 .bf16) (xo : Vec F S512x1024 .f32) : out4_B_2 c i arg2 harg2 arg3 harg3 arg4 harg4 hc0 x0 x1 xo = k3_pay2 xo x0 x1 := by
  unfold out4_B_2
  rw [View.read_writes_eq_canon _ _ _ (cover4_B_2 c i arg2 harg2 arg3 harg3 arg4 harg4 hc0 x0 x1 xo)]
  unfold kernelRun4_B
  dsimp only
  try sl_unfold_words
  rw [View.canon_unit_zero (S := S512x1024) hz2]
  simp only [View.readAt_eq_ld, harg2.read_unread, harg3.read_unread, harg4.read_unread, View.ld_unit_zero (S := S768x512) hz2, View.ld_unit_zero (S := S768x1024) hz2, View.ld_unit_zero (S := S512x1024) hz2]
  try rfl

end Cert.Kernel3Ideal.Proj

end
-- ==== Proof.ProjArrays.lean ====
/-
  The arrays that the projections' calls leave, each of the arrays it takes.
-/
module

public import proofs.«01_k».proof.Proof.ProjChain
public import proofs.«01_k».proof.Proof.ProjOuts
public import Idealize.ShloMosaic.Lib.Pipeline.ArrRel
public import Idealize.ShloMosaic.Lib.Pipeline.ValueKit.Geometry

@[expose] public section

noncomputable section

namespace Cert.Kernel3Ideal.Proj

open Idealize.ShloMosaic Idealize.ShloMosaic.TcCoe Idealize.ShloMosaic.Pointwise Cert.Kernel3Ideal Cert.Kernel3Ideal.Gen
open Idealize.SL Idealize.SL.Sem
open Pipeline (RDat Dat)

/-! ## The results as functions of the arrays taken -/

/-- Rows times rows: the product with the transposed weight transposed back. -/
def qkvOf (X : Vec Ideal S8448x1024 .bf16) (W : Vec Ideal S1536x1024 .bf16) : Vec Ideal S8448x1536 .f32 :=
  fun i => ∑ d : Fin 1024, X (ix2 (i 0) d) * W (ix2 (i 1) d)

/-- The same of the square weight. -/
def doOf (X : Vec Ideal S8448x1024 .bf16) (W : Vec Ideal S1024x1024 .bf16) : Vec Ideal S8448x1024 .bf16 :=
  fun i => ∑ d : Fin 1024, X (ix2 (i 0) d) * W (ix2 (i 1) d)

/-- Rows times columns. -/
def dhOf (X : Vec Ideal S8448x1536 .bf16) (W : Vec Ideal S1536x1024 .bf16) : Vec Ideal S8448x1024 .f32 :=
  fun i => ∑ f : Fin 1536, X (ix2 (i 0) f) * W (ix2 f (i 1))

/-- The product with the tokens summed over. -/
def outOf (A B : Vec Ideal S8448x1024 .bf16) : Vec Ideal S1024x1024 .f32 :=
  fun i => ∑ s : Fin 8448, A (ix2 s (i 0)) * B (ix2 s (i 1))

/-- The same of the wider array. -/
def inOf (A : Vec Ideal S8448x1536 .bf16) (B : Vec Ideal S8448x1024 .bf16) : Vec Ideal S1536x1024 .f32 :=
  fun i => ∑ s : Fin 8448, A (ix2 s (i 0)) * B (ix2 s (i 1))

/-- The residual input and the mixer's output, added. -/
def resOf (H : Vec Ideal S8448x1024 .f32) (A : Vec Ideal S8448x1024 .bf16) (W : Vec Ideal S1024x1024 .bf16) : Vec Ideal S8448x1024 .f32 :=
  fun i => Ideal.ofBits .f32 0x3FD744FD#32 * H i + ∑ e : Fin 1024, A (ix2 (i 0) e) * W (ix2 e (i 1))

/-- Each row normed. -/
def normedOf (R : Vec Ideal S8448x1024 .f32) (g b : Vec Ideal S1x1024 .f32) : Vec Ideal S8448x1024 .f32 :=
  fun i => Cert.Norm.norm (fun e => R (ix2 (i 0) e)) (i 1) (g (ix2 0 (i 1))) (b (ix2 0 (i 1)))

variable (V : (c : Dev nD) → (b : Ref sig .tc) → Buf (Elt Ideal) ((c : Thread nD τ).loc b)) (c : Dev nD)

/-! ## The projections of rows -/

theorem qkv_array : (dat0 V c).arrAt 2 cfg0.N = qkvOf (V c main_v0) (V c main_v5) :=
  Dat.arrAt_eq_of_covers (dat0 V c) 2 (qkvOf (V c main_v0) (V c main_v5)) (show (cfg0.win 2).Covers by decide +kernel) fun t _ y => by
    have key : ∀ (r : Fin 768) (f : Fin 1536), ((dat0 V c).after 2 t : Vec Ideal S768x1536 .f32) (ix2 r f)
        = qkvOf (V c main_v0) (V c main_v5) ((win0_2.rect t).emb (ix2 r f)) := fun r f => by
      rw [emb_heads, after0_2, qkv_eq, qkv_at]
      show @Eq EReal _ _
      exact Finset.sum_congr rfl fun d _ => congrArg₂ (fun a b : EReal => a * b) (block0_0 V c t _ d) (block0_1 V c t _ _)
    have key' : ∀ y' : S768x1536.Idx, ((dat0 V c).after 2 t : Vec Ideal S768x1536 .f32) y'
        = qkvOf (V c main_v0) (V c main_v5) ((win0_2.rect t).emb y') := fun y' => by
      rw [eq_ix2 y']
      exact key _ _
    exact key' y

theorem do_array : (dat2 V c).arrAt 2 cfg2.N = doOf (V c main_v3) (V c main_v6) :=
  Dat.arrAt_eq_of_covers (dat2 V c) 2 (doOf (V c main_v3) (V c main_v6)) (show (cfg2.win 2).Covers by decide +kernel) fun t _ y => by
    have key : ∀ (r : Fin 768) (f : Fin 1024), ((dat2 V c).after 2 t : Vec Ideal S768x1024 .bf16) (ix2 r f)
        = doOf (V c main_v3) (V c main_v6) ((win0_0.rect t).emb (ix2 r f)) := fun r f => by
      rw [emb_model, after2_2, do_eq, do_at]
      show @Eq EReal _ _
      exact Finset.sum_congr rfl fun d _ => congrArg₂ (fun a b : EReal => a * b) (block2_0 V c t _ d) (block2_1 V c t _ _)
    have key' : ∀ y' : S768x1024.Idx, ((dat2 V c).after 2 t : Vec Ideal S768x1024 .bf16) y'
        = doOf (V c main_v3) (V c main_v6) ((win0_0.rect t).emb y') := fun y' => by
      rw [eq_ix2 y']
      exact key _ _
    exact key' y

theorem dh_array : (dat5 V c).arrAt 2 cfg5.N = dhOf (V c main_v2) (V c main_v5) :=
  Dat.arrAt_eq_of_covers (dat5 V c) 2 (dhOf (V c main_v2) (V c main_v5)) (show (cfg5.win 2).Covers by decide +kernel) fun t _ y => by
    have key : ∀ (r : Fin 768) (f : Fin 1024), ((dat5 V c).after 2 t : Vec Ideal S768x1024 .f32) (ix2 r f)
        = dhOf (V c main_v2) (V c main_v5) ((win0_0.rect t).emb (ix2 r f)) := fun r f => by
      rw [emb_model, after5_2, dh_eq, dh_at]
      show @Eq EReal _ _
      exact Finset.sum_congr rfl fun d _ => congrArg₂ (fun a b : EReal => a * b) (block5_0 V c t _ d) (block5_1 V c t _ _)
    have key' : ∀ y' : S768x1024.Idx, ((dat5 V c).after 2 t : Vec Ideal S768x1024 .f32) y'
        = dhOf (V c main_v2) (V c main_v5) ((win0_0.rect t).emb y') := fun y' => by
      rw [eq_ix2 y']
      exact key _ _
    exact key' y

/-! ## The gradients of the weights -/

theorem dwout_array : (dat3 V c).arrAt 2 cfg3.N = outOf (V c main_v1) (V c main_v3) :=
  Dat.arrAt_eq_of_covers (dat3 V c) 2 (outOf (V c main_v1) (V c main_v3)) (show (cfg3.win 2).Covers by decide +kernel) fun t hf y => by
    have ht : t.val % 11 = 10 := (flush3_2 t).mp hf
    have key : ∀ (x : Fin 512) (z : Fin 1024), outsAt3 V c t.val t.isLt (ix2 x z) = outOf (V c main_v1) (V c main_v3) ((win3_2.rect t).emb (ix2 x z)) := fun x z => by
      rw [emb_product3]
      exact flushed cfg3.N (fun t x s => V c main_v1 (ix2 s (feat3 t x))) (fun y s => V c main_v3 (ix2 s y))
        (fun t t' e => funext fun x => by
          have ef : feat3 t x = feat3 t' x := Fin.ext (by show 512 * (t.val / 11) + x.val = 512 * (t'.val / 11) + x.val; rw [e])
          rw [ef])
        (outsAt3 V c) (iblk3 V c 0) (iblk3 V c 1) (block3_0 V c) (block3_1 V c)
        (fun t h => (outsAt3_A V c t h).trans (first3_eq c _ _ _ _ _ _ _ _ _ _))
        (fun t h => (outsAt3_B V c t h).trans (later3_eq c _ _ _ _ _ _ _ _ _ _ _)) t ht x z
    have key' : ∀ y' : S512x1024.Idx, outsAt3 V c t.val t.isLt y' = outOf (V c main_v1) (V c main_v3) ((win3_2.rect t).emb y') := fun y' => by
      rw [eq_ix2 y']
      exact key _ _
    exact (congrFun (after3_2 V c t) y).trans (key' y)

theorem dwqkv_array : (dat4 V c).arrAt 2 cfg4.N = inOf (V c main_v2) (V c main_v0) :=
  Dat.arrAt_eq_of_covers (dat4 V c) 2 (inOf (V c main_v2) (V c main_v0)) (show (cfg4.win 2).Covers by decide +kernel) fun t hf y => by
    have ht : t.val % 11 = 10 := (flush4_2 t).mp hf
    have key : ∀ (x : Fin 512) (z : Fin 1024), outsAt4 V c t.val t.isLt (ix2 x z) = inOf (V c main_v2) (V c main_v0) ((win4_2.rect t).emb (ix2 x z)) := fun x z => by
      rw [emb_product4]
      exact flushed cfg4.N (fun t x s => V c main_v2 (ix2 s (feat4 t x))) (fun y s => V c main_v0 (ix2 s y))
        (fun t t' e => funext fun x => by
          have ef : feat4 t x = feat4 t' x := Fin.ext (by show 512 * (t.val / 11) + x.val = 512 * (t'.val / 11) + x.val; rw [e])
          rw [ef])
        (outsAt4 V c) (iblk4 V c 0) (iblk4 V c 1) (block4_0 V c) (block4_1 V c)
        (fun t h => (outsAt4_A V c t h).trans (first4_eq c _ _ _ _ _ _ _ _ _ _))
        (fun t h => (outsAt4_B V c t h).trans (later4_eq c _ _ _ _ _ _ _ _ _ _ _)) t ht x z
    have key' : ∀ y' : S512x1024.Idx, outsAt4 V c t.val t.isLt y' = inOf (V c main_v2) (V c main_v0) ((win4_2.rect t).emb y') := fun y' => by
      rw [eq_ix2 y']
      exact key _ _
    exact (congrFun (after4_2 V c t) y).trans (key' y)

/-! ## The norm after the mixer -/

theorem res_tile (t : Fin cfg1.N) (r : Fin 768) (d : Fin 1024) :
    k1_pay1 (iblk1 V c 2 t) (iblk1 V c 0 t) (iblk1 V c 1 t) (ix2 r d) = resOf (V c main_arg0) (V c main_v1) (V c main_v6) (ix2 (row t r) d) := by
  rw [res_at]
  exact congrArg₂ (fun a b : EReal => Ideal.ofBits .f32 0x3FD744FD#32 * a + b) (block1_2 V c t r d)
    (Finset.sum_congr rfl fun e _ => congrArg₂ (fun a b : EReal => a * b) (block1_0 V c t r e) (block1_1 V c t e d))

theorem norm_tile (t : Fin cfg1.N) (r : Fin 768) (d : Fin 1024) :
    k1_pay2 (iblk1 V c 2 t) (iblk1 V c 0 t) (iblk1 V c 1 t) (iblk1 V c 3 t) (iblk1 V c 4 t) (ix2 r d)
      = normedOf (resOf (V c main_arg0) (V c main_v1) (V c main_v6)) (V c main_v7) (V c main_v8) (ix2 (row t r) d) := by
  refine (norm_at _ _ _ _ _ r d).trans ?_
  rw [show (fun e => k1_pay1 (iblk1 V c 2 t) (iblk1 V c 0 t) (iblk1 V c 1 t) (ix2 r e))
      = fun e => resOf (V c main_arg0) (V c main_v1) (V c main_v6) (ix2 (row t r) e) from funext fun e => res_tile V c t r e]
  exact congrArg₂ (Cert.Norm.norm _ d) (block1_3 V c t 0 d) (block1_4 V c t 0 d)

theorem res_array : (dat1 V c).arrAt 5 cfg1.N = resOf (V c main_arg0) (V c main_v1) (V c main_v6) :=
  Dat.arrAt_eq_of_covers (dat1 V c) 5 (resOf (V c main_arg0) (V c main_v1) (V c main_v6)) (show (cfg1.win 5).Covers by decide +kernel) fun t _ y => by
    have key : ∀ (r : Fin 768) (f : Fin 1024), ((dat1 V c).after 5 t : Vec Ideal S768x1024 .f32) (ix2 r f)
        = resOf (V c main_arg0) (V c main_v1) (V c main_v6) ((win0_0.rect t).emb (ix2 r f)) := fun r f => by
      rw [emb_model, after1_5, res_eq]
      exact res_tile V c t _ _
    have key' : ∀ y' : S768x1024.Idx, ((dat1 V c).after 5 t : Vec Ideal S768x1024 .f32) y'
        = resOf (V c main_arg0) (V c main_v1) (V c main_v6) ((win0_0.rect t).emb y') := fun y' => by
      rw [eq_ix2 y']
      exact key _ _
    exact key' y

theorem norm_array : (dat1 V c).arrAt 6 cfg1.N = normedOf (resOf (V c main_arg0) (V c main_v1) (V c main_v6)) (V c main_v7) (V c main_v8) :=
  Dat.arrAt_eq_of_covers (dat1 V c) 6 (normedOf (resOf (V c main_arg0) (V c main_v1) (V c main_v6)) (V c main_v7) (V c main_v8)) (show (cfg1.win 6).Covers by decide +kernel) fun t _ y => by
    have key : ∀ (r : Fin 768) (f : Fin 1024), ((dat1 V c).after 6 t : Vec Ideal S768x1024 .f32) (ix2 r f)
        = normedOf (resOf (V c main_arg0) (V c main_v1) (V c main_v6)) (V c main_v7) (V c main_v8) ((win0_0.rect t).emb (ix2 r f)) := fun r f => by
      rw [emb_model, after1_6, norm_eq]
      exact norm_tile V c t _ _
    have key' : ∀ y' : S768x1024.Idx, ((dat1 V c).after 6 t : Vec Ideal S768x1024 .f32) y'
        = normedOf (resOf (V c main_arg0) (V c main_v1) (V c main_v6)) (V c main_v7) (V c main_v8) ((win0_0.rect t).emb y') := fun y' => by
      rw [eq_ix2 y']
      exact key _ _
    exact key' y

theorem cast_array : (dat1 V c).arrAt 7 cfg1.N = normedOf (resOf (V c main_arg0) (V c main_v1) (V c main_v6)) (V c main_v7) (V c main_v8) :=
  Dat.arrAt_eq_of_covers (dat1 V c) 7 (normedOf (resOf (V c main_arg0) (V c main_v1) (V c main_v6)) (V c main_v7) (V c main_v8)) (show (cfg1.win 7).Covers by decide +kernel) fun t _ y => by
    have key : ∀ (r : Fin 768) (f : Fin 1024), ((dat1 V c).after 7 t : Vec Ideal S768x1024 .bf16) (ix2 r f)
        = normedOf (resOf (V c main_arg0) (V c main_v1) (V c main_v6)) (V c main_v7) (V c main_v8) ((win0_0.rect t).emb (ix2 r f)) := fun r f => by
      rw [emb_model, after1_7, cast_eq, cast_at]
      exact norm_tile V c t _ _
    have key' : ∀ y' : S768x1024.Idx, ((dat1 V c).after 7 t : Vec Ideal S768x1024 .bf16) y'
        = normedOf (resOf (V c main_arg0) (V c main_v1) (V c main_v6)) (V c main_v7) (V c main_v8) ((win0_0.rect t).emb y') := fun y' => by
      rw [eq_ix2 y']
      exact key _ _
    exact key' y

end Cert.Kernel3Ideal.Proj

end
-- ==== Proof.ProjRun.lean ====
/-
  The run of the six calls of the projections: every buffer ends at the contents that the calls, one after the other, leave in it.
-/
module

public import proofs.«01_k».proof.Proof.Gen.Kernel3Ideal.Frame

@[expose] public section

set_option maxRecDepth 16384

noncomputable section

namespace Cert.Kernel3Ideal.Proj

open Idealize.ShloMosaic Idealize.ShloMosaic.TcCoe Idealize.ShloMosaic.Tactic Cert.Kernel3Ideal Cert.Kernel3Ideal.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every run ends with every buffer of every device at the contents after the last call. -/
theorem run_main : θ_run defs (onTc (τ := τ) (main (F := F))) ⟨m, fun _ => 0, ρ⟩ (fun r =>
      ∀ c : Dev nD, ∀ b ∈ Pipeline.ucRefs τ sig, r.2.mem (((c : Thread nD τ)).1, b) = W7 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h hz => h)

end Cert.Kernel3Ideal.Proj

end
-- ==== Proof.ProjResults.lean ====
/-
  The projections' six calls composed: the eight results of the program, of its arguments.
-/
module

public import proofs.«01_k».proof.Proof.ProjArrays
public import proofs.«01_k».proof.Proof.ProjRun
public import Idealize.ShloMosaic.Lib.StableHlo.RunRead

@[expose] public section

noncomputable section

namespace Cert.Kernel3Ideal.Proj

open Idealize.ShloMosaic Idealize.ShloMosaic.TcCoe Idealize.ShloMosaic.Pointwise Cert.Kernel3Ideal Cert.Kernel3Ideal.Gen
open Idealize.SL Idealize.SL.Sem

variable (m : (ℓ : Loc nD τ sig) → Buf (Elt Ideal) ℓ) (ρ : Dev nD → PrngReg) (c : Dev nD)

/-- The arguments: input, input weight, attention's output, output weight, the gradients of query, key and value and of
the mixer's output, the norm's gain and bias. -/
def arg0 : FVec Ideal S8448x1024 .f32 := m ((c.tc : Thread nD τ).loc main_arg0)
def arg1 : FVec Ideal S1024x1536 .f32 := m ((c.tc : Thread nD τ).loc main_arg1)
def arg2 : FVec Ideal S8448x1024 .f32 := m ((c.tc : Thread nD τ).loc main_arg2)
def arg3 : FVec Ideal S1024x1024 .f32 := m ((c.tc : Thread nD τ).loc main_arg3)
def arg4 : FVec Ideal S8448x1536 .f32 := m ((c.tc : Thread nD τ).loc main_arg4)
def arg5 : FVec Ideal S8448x1024 .f32 := m ((c.tc : Thread nD τ).loc main_arg5)
def arg6 : FVec Ideal S1024 .f32 := m ((c.tc : Thread nD τ).loc main_arg6)
def arg7 : FVec Ideal S1024 .f32 := m ((c.tc : Thread nD τ).loc main_arg7)

/-- The rows as the calls take them. -/
def rowsIn (x : FVec Ideal S8448x1024 .f32) : FVec Ideal S8448x1024 .bf16 := truncf .bf16 x bitsLt_bf16_f32
/-- The gradients of query, key and value as the calls take them. -/
def headsIn (x : FVec Ideal S8448x1536 .f32) : FVec Ideal S8448x1536 .bf16 := truncf .bf16 x bitsLt_bf16_f32
/-- The input weight as the calls take it, transposed. -/
def wideIn (x : FVec Ideal S1024x1536 .f32) : FVec Ideal S1536x1024 .bf16 :=
  truncf .bf16 (transpose S1536x1024 [1, 0] x transposes_S1024x1536_S1536x1024_1_0) bitsLt_bf16_f32
/-- The output weight as the calls take it. -/
def squareIn (x : FVec Ideal S1024x1024 .f32) : FVec Ideal S1024x1024 .bf16 := truncf .bf16 x bitsLt_bf16_f32
/-- The gain or the bias as the call takes it. -/
def vecIn (x : FVec Ideal S1024 .f32) : FVec Ideal S1x1024 .f32 := broadcastInDim S1x1024 ![1] bcast_S1024_S1x1024_1 x

theorem rowsIn_at (x : FVec Ideal S8448x1024 .f32) (r : Fin 8448) (d : Fin 1024) : rowsIn x (ix2 r d) = x (ix2 r d) := by
  pointwise [rowsIn]
theorem headsIn_at (x : FVec Ideal S8448x1536 .f32) (r : Fin 8448) (f : Fin 1536) : headsIn x (ix2 r f) = x (ix2 r f) := by
  pointwise [headsIn]
theorem wideIn_at (x : FVec Ideal S1024x1536 .f32) (f : Fin 1536) (d : Fin 1024) : wideIn x (ix2 f d) = x (ix2 d f) := by
  pointwise [wideIn]
theorem squareIn_at (x : FVec Ideal S1024x1024 .f32) (e d : Fin 1024) : squareIn x (ix2 e d) = x (ix2 e d) := by
  pointwise [squareIn]
theorem vecIn_at (x : FVec Ideal S1024 .f32) (d : Fin 1024) : vecIn x (ix2 (0 : Fin 1) d) = x (ix1 d) := by
  pointwise [vecIn]

/-! ## Before the first call -/

theorem start_v0 : V1 m ρ c main_v0 = rowsIn (arg0 m c) := by
  show StableHlo.after hostOps0 (W0 m ρ c) _ = _
  dsimp only [hostOps0]
  after_reads_simp
  rfl
theorem start_v1 : V1 m ρ c main_v1 = rowsIn (arg2 m c) := by
  show StableHlo.after hostOps0 (W0 m ρ c) _ = _
  dsimp only [hostOps0]
  after_reads_simp
  rfl
theorem start_v2 : V1 m ρ c main_v2 = headsIn (arg4 m c) := by
  show StableHlo.after hostOps0 (W0 m ρ c) _ = _
  dsimp only [hostOps0]
  after_reads_simp
  rfl
theorem start_v3 : V1 m ρ c main_v3 = rowsIn (arg5 m c) := by
  show StableHlo.after hostOps0 (W0 m ρ c) _ = _
  dsimp only [hostOps0]
  after_reads_simp
  rfl
theorem start_v5 : V1 m ρ c main_v5 = wideIn (arg1 m c) := by
  show StableHlo.after hostOps0 (W0 m ρ c) _ = _
  dsimp only [hostOps0]
  after_reads_simp
  rfl
theorem start_v6 : V1 m ρ c main_v6 = squareIn (arg3 m c) := by
  show StableHlo.after hostOps0 (W0 m ρ c) _ = _
  dsimp only [hostOps0]
  after_reads_simp
  rfl
theorem start_v7 : V1 m ρ c main_v7 = vecIn (arg6 m c) := by
  show StableHlo.after hostOps0 (W0 m ρ c) _ = _
  dsimp only [hostOps0]
  after_reads_simp
  rfl
theorem start_v8 : V1 m ρ c main_v8 = vecIn (arg7 m c) := by
  show StableHlo.after hostOps0 (W0 m ρ c) _ = _
  dsimp only [hostOps0]
  after_reads_simp
  rfl

/-! ## The results, when all calls are done -/

/-- The sum of residual and mixer's output, and the same normed. -/
def resA : Vec Ideal S8448x1024 .f32 := resOf (arg0 m c) (rowsIn (arg2 m c)) (squareIn (arg3 m c))
def normedA : Vec Ideal S8448x1024 .f32 := normedOf (resA m c) (vecIn (arg6 m c)) (vecIn (arg7 m c))

theorem end_qkv : V7 m ρ c main_v9 = qkvOf (rowsIn (arg0 m c)) (wideIn (arg1 m c)) :=
  ((W7_of m ρ c main_v9 (by decide)).trans ((W6_of m ρ c main_v9 (by decide)).trans ((W5_of m ρ c main_v9 (by decide)).trans ((W4_of m ρ c main_v9 (by decide)).trans (W3_of m ρ c main_v9 (by decide)))))).trans ((W2_arr m ρ c 2).trans ((qkv_array (V1 m ρ) c).trans (congrArg₂ qkvOf
    (start_v0 m ρ c) (start_v5 m ρ c))))
theorem end_do : V7 m ρ c main_v11 = doOf (rowsIn (arg5 m c)) (squareIn (arg3 m c)) :=
  ((W7_of m ρ c main_v11 (by decide)).trans ((W6_of m ρ c main_v11 (by decide)).trans (W5_of m ρ c main_v11 (by decide)))).trans ((W4_arr m ρ c 2).trans ((do_array (V3 m ρ) c).trans (congrArg₂ doOf
    (((W3_of m ρ c main_v3 (by decide)).trans (W2_of m ρ c main_v3 (by decide))).trans (start_v3 m ρ c)) (((W3_of m ρ c main_v6 (by decide)).trans (W2_of m ρ c main_v6 (by decide))).trans (start_v6 m ρ c)))))
theorem end_dwout : V7 m ρ c main_v12 = outOf (rowsIn (arg2 m c)) (rowsIn (arg5 m c)) :=
  ((W7_of m ρ c main_v12 (by decide)).trans (W6_of m ρ c main_v12 (by decide))).trans ((W5_arr m ρ c 2).trans ((dwout_array (V4 m ρ) c).trans (congrArg₂ outOf
    (((W4_of m ρ c main_v1 (by decide)).trans ((W3_of m ρ c main_v1 (by decide)).trans (W2_of m ρ c main_v1 (by decide)))).trans (start_v1 m ρ c)) (((W4_of m ρ c main_v3 (by decide)).trans ((W3_of m ρ c main_v3 (by decide)).trans (W2_of m ρ c main_v3 (by decide)))).trans (start_v3 m ρ c)))))
theorem end_dwqkv : V7 m ρ c main_v13 = inOf (headsIn (arg4 m c)) (rowsIn (arg0 m c)) :=
  (W7_of m ρ c main_v13 (by decide)).trans ((W6_arr m ρ c 2).trans ((dwqkv_array (V5 m ρ) c).trans (congrArg₂ inOf
    (((W5_of m ρ c main_v2 (by decide)).trans ((W4_of m ρ c main_v2 (by decide)).trans ((W3_of m ρ c main_v2 (by decide)).trans (W2_of m ρ c main_v2 (by decide))))).trans (start_v2 m ρ c)) (((W5_of m ρ c main_v0 (by decide)).trans ((W4_of m ρ c main_v0 (by decide)).trans ((W3_of m ρ c main_v0 (by decide)).trans (W2_of m ρ c main_v0 (by decide))))).trans (start_v0 m ρ c)))))
theorem end_dh : V7 m ρ c main_v14 = dhOf (headsIn (arg4 m c)) (wideIn (arg1 m c)) :=
  (W7_arr m ρ c 2).trans ((dh_array (V6 m ρ) c).trans (congrArg₂ dhOf
    (((W6_of m ρ c main_v2 (by decide)).trans ((W5_of m ρ c main_v2 (by decide)).trans ((W4_of m ρ c main_v2 (by decide)).trans ((W3_of m ρ c main_v2 (by decide)).trans (W2_of m ρ c main_v2 (by decide)))))).trans (start_v2 m ρ c)) (((W6_of m ρ c main_v5 (by decide)).trans ((W5_of m ρ c main_v5 (by decide)).trans ((W4_of m ρ c main_v5 (by decide)).trans ((W3_of m ρ c main_v5 (by decide)).trans (W2_of m ρ c main_v5 (by decide)))))).trans (start_v5 m ρ c))))

theorem mid_res : resOf (V2 m ρ c main_arg0) (V2 m ρ c main_v1) (V2 m ρ c main_v6) = resA m c := by
  rw [show V2 m ρ c main_v1 = rowsIn (arg2 m c) from (W2_of m ρ c main_v1 (by decide)).trans (start_v1 m ρ c),
    show V2 m ρ c main_v6 = squareIn (arg3 m c) from (W2_of m ρ c main_v6 (by decide)).trans (start_v6 m ρ c),
    show V2 m ρ c main_arg0 = arg0 m c from W2_args m ρ c main_arg0 (by decide)]
  rfl
theorem mid_normed : normedOf (resOf (V2 m ρ c main_arg0) (V2 m ρ c main_v1) (V2 m ρ c main_v6)) (V2 m ρ c main_v7) (V2 m ρ c main_v8)
    = normedA m c := by
  rw [mid_res, show V2 m ρ c main_v7 = vecIn (arg6 m c) from (W2_of m ρ c main_v7 (by decide)).trans (start_v7 m ρ c),
    show V2 m ρ c main_v8 = vecIn (arg7 m c) from (W2_of m ρ c main_v8 (by decide)).trans (start_v8 m ρ c)]
  rfl

theorem end_res : V7 m ρ c main_v10_0 = resA m c :=
  ((W7_of m ρ c main_v10_0 (by decide)).trans ((W6_of m ρ c main_v10_0 (by decide)).trans ((W5_of m ρ c main_v10_0 (by decide)).trans (W4_of m ρ c main_v10_0 (by decide))))).trans ((W3_arr m ρ c 5).trans ((res_array (V2 m ρ) c).trans (mid_res m ρ c)))
theorem end_normed : V7 m ρ c main_v10_1 = normedA m c :=
  ((W7_of m ρ c main_v10_1 (by decide)).trans ((W6_of m ρ c main_v10_1 (by decide)).trans ((W5_of m ρ c main_v10_1 (by decide)).trans (W4_of m ρ c main_v10_1 (by decide))))).trans ((W3_arr m ρ c 6).trans ((norm_array (V2 m ρ) c).trans (mid_normed m ρ c)))
theorem end_cast : V7 m ρ c main_v10_2 = normedA m c :=
  ((W7_of m ρ c main_v10_2 (by decide)).trans ((W6_of m ρ c main_v10_2 (by decide)).trans ((W5_of m ρ c main_v10_2 (by decide)).trans (W4_of m ρ c main_v10_2 (by decide))))).trans ((W3_arr m ρ c 7).trans ((cast_array (V2 m ρ) c).trans (mid_normed m ρ c)))

/-- Every run ends with the eight results at these values and the arguments unchanged. -/
theorem run_values : θ_run defs (onTc (τ := τ) (main (F := Ideal))) ⟨m, fun _ => 0, ρ⟩ (fun r => ∀ c : Dev nD,
      r.2.mem ((c.tc : Thread nD τ).loc main_v9) = qkvOf (rowsIn (arg0 m c)) (wideIn (arg1 m c))
      ∧ r.2.mem ((c.tc : Thread nD τ).loc main_v10_0) = resA m c
      ∧ r.2.mem ((c.tc : Thread nD τ).loc main_v10_1) = normedA m c
      ∧ r.2.mem ((c.tc : Thread nD τ).loc main_v10_2) = normedA m c
      ∧ r.2.mem ((c.tc : Thread nD τ).loc main_v11) = doOf (rowsIn (arg5 m c)) (squareIn (arg3 m c))
      ∧ r.2.mem ((c.tc : Thread nD τ).loc main_v12) = outOf (rowsIn (arg2 m c)) (rowsIn (arg5 m c))
      ∧ r.2.mem ((c.tc : Thread nD τ).loc main_v13) = inOf (headsIn (arg4 m c)) (rowsIn (arg0 m c))
      ∧ r.2.mem ((c.tc : Thread nD τ).loc main_v14) = dhOf (headsIn (arg4 m c)) (wideIn (arg1 m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c =>
    ⟨(h c _ (mem_uc main_v9 (by decide))).trans (end_qkv m ρ c),
      (h c _ (mem_uc main_v10_0 (by decide))).trans (end_res m ρ c),
      (h c _ (mem_uc main_v10_1 (by decide))).trans (end_normed m ρ c),
      (h c _ (mem_uc main_v10_2 (by decide))).trans (end_cast m ρ c),
      (h c _ (mem_uc main_v11 (by decide))).trans (end_do m ρ c),
      (h c _ (mem_uc main_v12 (by decide))).trans (end_dwout m ρ c),
      (h c _ (mem_uc main_v13 (by decide))).trans (end_dwqkv m ρ c),
      (h c _ (mem_uc main_v14 (by decide))).trans (end_dh m ρ c),
      (h c _ (mem_uc main_arg0 (by decide))).trans (W7_main_arg0 m ρ c),
      (h c _ (mem_uc main_arg1 (by decide))).trans (W7_main_arg1 m ρ c),
      (h c _ (mem_uc main_arg2 (by decide))).trans (W7_main_arg2 m ρ c),
      (h c _ (mem_uc main_arg3 (by decide))).trans (W7_main_arg3 m ρ c),
      (h c _ (mem_uc main_arg4 (by decide))).trans (W7_main_arg4 m ρ c),
      (h c _ (mem_uc main_arg5 (by decide))).trans (W7_main_arg5 m ρ c),
      (h c _ (mem_uc main_arg6 (by decide))).trans (W7_main_arg6 m ρ c),
      (h c _ (mem_uc main_arg7 (by decide))).trans (W7_main_arg7 m ρ c)⟩)
    (run_main m ρ)

end Cert.Kernel3Ideal.Proj

end
-- ==== Proof.ProjRef.lean ====
/-
  The values of the projections' reference, entry by entry.
-/
module

public import proofs.«01_k».proof.Proof.Gen.Reference3Ideal.Read
public import Idealize.ShloMosaic.Lib.Pointwise
public import proofs.«01_k».proof.Proof.FfnNorm

@[expose] public section

noncomputable section

namespace Cert.Reference3Ideal.Value

open Idealize.ShloMosaic Idealize.ShloMosaic.Pointwise Cert.Reference3Ideal Cert.Reference3Ideal.Gen Cert.Reference3Ideal.Read

variable (x0 : FVec Ideal S8448x1024 .f32) (x1 : FVec Ideal S1024x1536 .f32) (x2 : FVec Ideal S8448x1024 .f32) (x3 : FVec Ideal S1024x1024 .f32)
  (x4 : FVec Ideal S8448x1536 .f32) (x5 : FVec Ideal S8448x1024 .f32)

theorem qkv_at (r : Fin 8448) (f : Fin 1536) : val_main_v0 (F := Ideal) x0 x1 (ix2 r f) = ∑ d : Fin 1024, x0 (ix2 r d) * x1 (ix2 d f) := by
  pointwise [val_main_v0]

theorem do_at (r : Fin 8448) (e : Fin 1024) : val_main_v36 (F := Ideal) x3 x5 (ix2 r e) = ∑ d : Fin 1024, x5 (ix2 r d) * x3 (ix2 e d) := by
  pointwise [val_main_v36, val_main_v7]

theorem dwout_at (e d : Fin 1024) : val_main_v6 (F := Ideal) x2 x5 (ix2 e d) = ∑ s : Fin 8448, x5 (ix2 s d) * x2 (ix2 s e) := by
  pointwise [val_main_v6, val_main_v5]

theorem dwqkv_at (f : Fin 1536) (d : Fin 1024) : val_main_v37 (F := Ideal) x0 x4 (ix2 f d) = ∑ s : Fin 8448, x4 (ix2 s f) * x0 (ix2 s d) := by
  pointwise [val_main_v37, val_main_v2, val_main_v1]

theorem dh_at (r : Fin 8448) (d : Fin 1024) : val_main_v3 (F := Ideal) x1 x4 (ix2 r d) = ∑ f : Fin 1536, x4 (ix2 r f) * x1 (ix2 d f) := by
  pointwise [val_main_v3]

theorem res_at (r : Fin 8448) (d : Fin 1024) : val_main_v10 (F := Ideal) x0 x2 x3 (ix2 r d)
    = Ideal.ofBits .f32 0x3FD744FD#32 * x0 (ix2 r d) + ∑ e : Fin 1024, x2 (ix2 r e) * x3 (ix2 e d) := by
  pointwise [val_main_v10, val_main_v9, val_main_v8, val_main_cst, val_main_v4]

theorem mean_at (r : Fin 8448) : val_main_v14 (F := Ideal) x0 x2 x3 (ix2 r (0 : Fin 1))
    = Cert.Norm.mean (fun e => val_main_v10 (F := Ideal) x0 x2 x3 (ix2 r e)) := by
  pointwise [val_main_v14, val_main_v12, val_main_v11, val_main_cst_0, val_main_v13, val_main_cst_1, Cert.Norm.mean]

theorem centred_at (r : Fin 8448) (d : Fin 1024) : val_main_v16 (F := Ideal) x0 x2 x3 (ix2 r d)
    = val_main_v10 (F := Ideal) x0 x2 x3 (ix2 r d) - val_main_v14 (F := Ideal) x0 x2 x3 (ix2 r (0 : Fin 1)) := by
  pointwise [val_main_v16, val_main_v15]

theorem scale_at (r : Fin 8448) : val_main_v26 (F := Ideal) x0 x2 x3 (ix2 r (0 : Fin 1))
    = Cert.Norm.scale (fun e => val_main_v16 (F := Ideal) x0 x2 x3 (ix2 r e)) := by
  pointwise [val_main_v26, val_main_v25, val_main_v24, val_main_cst_4, val_main_v21, val_main_v20, val_main_cst_3, val_main_v19, val_main_v18, val_main_cst_2,
    val_main_v17, Cert.Norm.mean, Cert.Norm.scale]

variable (x6 x7 : FVec Ideal S1024 .f32)

theorem norm_at (r : Fin 8448) (d : Fin 1024) : val_main_v34 (F := Ideal) x0 x2 x3 x6 x7 (ix2 r d)
    = Cert.Norm.norm (fun e => val_main_v10 (F := Ideal) x0 x2 x3 (ix2 r e)) d (x6 (ix1 d)) (x7 (ix1 d)) := by
  have e : val_main_v34 (F := Ideal) x0 x2 x3 x6 x7 (ix2 r d)
      = (val_main_v10 (F := Ideal) x0 x2 x3 (ix2 r d) - val_main_v14 (F := Ideal) x0 x2 x3 (ix2 r (0 : Fin 1)))
        * val_main_v26 (F := Ideal) x0 x2 x3 (ix2 r (0 : Fin 1)) * x6 (ix1 d) + x7 (ix1 d) := by
    pointwise [val_main_v34, val_main_v31, val_main_v28, val_main_v23, val_main_v22, val_main_v27, val_main_v30, val_main_v29, val_main_v33, val_main_v32]
  rw [e, scale_at]
  simp only [centred_at, mean_at]
  rfl

theorem cast_at (r : Fin 8448) (d : Fin 1024) : val_main_v35 (F := Ideal) x0 x2 x3 x6 x7 (ix2 r d)
    = val_main_v34 (F := Ideal) x0 x2 x3 x6 x7 (ix2 r d) := by
  pointwise [val_main_v35]

end Cert.Reference3Ideal.Value

end
-- ==== Proof.ProjEquation.lean ====
/-
  The projections' results of the kernel are those of the reference.
-/
module

public import proofs.«01_k».proof.Proof.ProjResults
public import proofs.«01_k».proof.Proof.ProjRef

@[expose] public section

noncomputable section

namespace Cert.ProjEquation

open Idealize.ShloMosaic Idealize.ShloMosaic.TcCoe Idealize.ShloMosaic.Pointwise Cert.Kernel3Ideal Cert.Kernel3Ideal.Gen
open Cert.Kernel3Ideal.Proj (arg0 arg1 arg2 arg3 arg4 arg5 arg6 arg7 rowsIn headsIn wideIn squareIn vecIn rowsIn_at headsIn_at wideIn_at squareIn_at vecIn_at
  qkvOf doOf dhOf outOf inOf resA normedA)
open Cert.Reference3Ideal.Read

variable (m : (ℓ : Loc nD τ sig) → Buf (Elt Ideal) ℓ) (c : Dev nD)

/-- The projection of the input. -/
theorem qkv_eq : qkvOf (rowsIn (arg0 m c)) (wideIn (arg1 m c)) = val_main_v0 (F := Ideal) (arg0 m c) (arg1 m c) := by
  have key (r : Fin 8448) (f : Fin 1536) : qkvOf (rowsIn (arg0 m c)) (wideIn (arg1 m c)) (ix2 r f) = val_main_v0 (F := Ideal) (arg0 m c) (arg1 m c) (ix2 r f) := by
    rw [Cert.Reference3Ideal.Value.qkv_at]
    show (∑ d : Fin 1024, rowsIn (arg0 m c) (ix2 r d) * wideIn (arg1 m c) (ix2 f d)) = _
    exact Finset.sum_congr rfl fun _ _ => congrArg₂ (· * ·) (rowsIn_at _ _ _) (wideIn_at _ _ _)
  funext i
  rw [eq_ix2 i]
  exact key _ _

/-- The gradient of attention's output. -/
theorem do_eq : doOf (rowsIn (arg5 m c)) (squareIn (arg3 m c)) = val_main_v36 (F := Ideal) (arg3 m c) (arg5 m c) := by
  have key (r : Fin 8448) (e : Fin 1024) : doOf (rowsIn (arg5 m c)) (squareIn (arg3 m c)) (ix2 r e) = val_main_v36 (F := Ideal) (arg3 m c) (arg5 m c) (ix2 r e) := by
    rw [Cert.Reference3Ideal.Value.do_at]
    show (∑ d : Fin 1024, rowsIn (arg5 m c) (ix2 r d) * squareIn (arg3 m c) (ix2 e d)) = _
    exact Finset.sum_congr rfl fun _ _ => congrArg₂ (· * ·) (rowsIn_at _ _ _) (squareIn_at _ _ _)
  funext i
  rw [eq_ix2 i]
  exact key _ _

/-- The gradient of the output weight. -/
theorem dwout_eq : outOf (rowsIn (arg2 m c)) (rowsIn (arg5 m c)) = val_main_v6 (F := Ideal) (arg2 m c) (arg5 m c) := by
  have key (e : Fin 1024) (d : Fin 1024) : outOf (rowsIn (arg2 m c)) (rowsIn (arg5 m c)) (ix2 e d) = val_main_v6 (F := Ideal) (arg2 m c) (arg5 m c) (ix2 e d) := by
    rw [Cert.Reference3Ideal.Value.dwout_at]
    show (∑ s : Fin 8448, rowsIn (arg2 m c) (ix2 s e) * rowsIn (arg5 m c) (ix2 s d)) = _
    exact Finset.sum_congr rfl fun _ _ => (congrArg₂ (· * ·) (rowsIn_at _ _ _) (rowsIn_at _ _ _)).trans (mul_comm _ _)
  funext i
  rw [eq_ix2 i]
  exact key _ _

/-- The gradient of the input weight, transposed. -/
theorem dwqkv_eq : inOf (headsIn (arg4 m c)) (rowsIn (arg0 m c)) = val_main_v37 (F := Ideal) (arg0 m c) (arg4 m c) := by
  have key (f : Fin 1536) (d : Fin 1024) : inOf (headsIn (arg4 m c)) (rowsIn (arg0 m c)) (ix2 f d) = val_main_v37 (F := Ideal) (arg0 m c) (arg4 m c) (ix2 f d) := by
    rw [Cert.Reference3Ideal.Value.dwqkv_at]
    show (∑ s : Fin 8448, headsIn (arg4 m c) (ix2 s f) * rowsIn (arg0 m c) (ix2 s d)) = _
    exact Finset.sum_congr rfl fun _ _ => congrArg₂ (· * ·) (headsIn_at _ _ _) (rowsIn_at _ _ _)
  funext i
  rw [eq_ix2 i]
  exact key _ _

/-- The gradient of the input. -/
theorem dh_eq : dhOf (headsIn (arg4 m c)) (wideIn (arg1 m c)) = val_main_v3 (F := Ideal) (arg1 m c) (arg4 m c) := by
  have key (r : Fin 8448) (d : Fin 1024) : dhOf (headsIn (arg4 m c)) (wideIn (arg1 m c)) (ix2 r d) = val_main_v3 (F := Ideal) (arg1 m c) (arg4 m c) (ix2 r d) := by
    rw [Cert.Reference3Ideal.Value.dh_at]
    show (∑ f : Fin 1536, headsIn (arg4 m c) (ix2 r f) * wideIn (arg1 m c) (ix2 f d)) = _
    exact Finset.sum_congr rfl fun _ _ => congrArg₂ (· * ·) (headsIn_at _ _ _) (wideIn_at _ _ _)
  funext i
  rw [eq_ix2 i]
  exact key _ _

theorem res_same (r : Fin 8448) (d : Fin 1024) : resA m c (ix2 r d) = val_main_v10 (F := Ideal) (arg0 m c) (arg2 m c) (arg3 m c) (ix2 r d) := by
  rw [Cert.Reference3Ideal.Value.res_at]
  show Ideal.ofBits .f32 0x3FD744FD#32 * arg0 m c (ix2 r d) + (∑ e : Fin 1024, rowsIn (arg2 m c) (ix2 r e) * squareIn (arg3 m c) (ix2 e d)) = _
  exact congrArg (_ + ·) (Finset.sum_congr rfl fun _ _ => congrArg₂ (· * ·) (rowsIn_at _ _ _) (squareIn_at _ _ _))

theorem normed_same (r : Fin 8448) (d : Fin 1024) : normedA m c (ix2 r d) = val_main_v34 (F := Ideal) (arg0 m c) (arg2 m c) (arg3 m c) (arg6 m c) (arg7 m c) (ix2 r d) := by
  rw [Cert.Reference3Ideal.Value.norm_at, ← vecIn_at (arg6 m c), ← vecIn_at (arg7 m c)]
  simp only [← res_same]
  rfl

/-- The sum of residual and mixer's output. -/
theorem res_eq : resA m c = val_main_v10 (F := Ideal) (arg0 m c) (arg2 m c) (arg3 m c) := by
  funext i
  rw [eq_ix2 i]
  exact res_same m c _ _

/-- The same normed. -/
theorem normed_eq : normedA m c = val_main_v34 (F := Ideal) (arg0 m c) (arg2 m c) (arg3 m c) (arg6 m c) (arg7 m c) := by
  funext i
  rw [eq_ix2 i]
  exact normed_same m c _ _

/-- The same in the other format. -/
theorem cast_eq : normedA m c = val_main_v35 (F := Ideal) (arg0 m c) (arg2 m c) (arg3 m c) (arg6 m c) (arg7 m c) := by
  funext i
  rw [eq_ix2 i]
  exact (normed_same m c _ _).trans (Cert.Reference3Ideal.Value.cast_at _ _ _ _ _ _ _).symm

end Cert.ProjEquation

end
-- ==== Proof.GateFrames.lean ====
/-
  The frames of the S5 gate's kernel as printed and of its reference.
-/
module

public import proofs.«01_k».proof.Defs
public import proofs.«01_k».proof.Proof.FrameKernel
public import proofs.«01_k».proof.Proof.Gen.Kernel4
public import proofs.«01_k».proof.Proof.Gen.Kernel4Ideal.Frame
public import proofs.«01_k».proof.Proof.Gen.Reference4Ideal.Run
public import Idealize.ShloMosaic.Lib.Quiescent

@[expose] public section

noncomputable section

namespace Cert.SameText

open Idealize.ShloMosaic Idealize.SL.Sem

section

variable {F : FTy → Type} [FloatOps F]

set_option maxRecDepth 100000 in
set_option maxHeartbeats 0 in
/-- The two programs of the S5 gate have the same bodies. -/
theorem table4_same : Cert.Kernel4.defs₀ (F := F) = Cert.Kernel4Ideal.defs₀ (F := F) := by
  unfold Cert.Kernel4.defs₀ Cert.Kernel4Ideal.defs₀
  refine congrArg Defs.onTc ?_
  funext l a
  match l, a with
  | ⟨0, _⟩, (t, s) => exact rfl
  | ⟨1, _⟩, (t, s) => exact rfl
  | ⟨2, _⟩, (t, s) => exact rfl
  | ⟨3, _⟩, (t, s) => exact rfl
  | ⟨4, _⟩, (t, s) => exact rfl
  | ⟨5, _⟩, (t, s) => exact rfl
  | ⟨6, _⟩, (t, s) => exact rfl
  | ⟨7, _⟩, (t, s) => exact rfl

set_option maxRecDepth 100000 in
set_option maxHeartbeats 0 in
/-- So they have the same tables. -/
theorem defs4_same : Cert.Kernel4.defs (F := F) = Cert.Kernel4Ideal.defs (F := F) :=
  congrArg (Idealize.ShloMosaic.Pipeline.defs (Cert.Kernel4Ideal.pcfgs (F := F))) table4_same

set_option maxRecDepth 100000 in
set_option maxHeartbeats 0 in
/-- And the same main program. -/
theorem main4_same : Cert.Kernel4.main (F := F) = Cert.Kernel4Ideal.main (F := F) := rfl

end

/-- The S5 gate's kernel ends, with its arguments unchanged and all counters at zero. -/
theorem frame_kernel4 [hKernel4 : Cert.Kernel4.Facts] : Cert.quiescent_Kernel4 := fun m ρ _ =>
  run_of_eq (defs4_same (F := Bits)) (main4_same (F := Bits)) _ _ (Cert.Kernel4Ideal.Gen.frame (F := Bits) m ρ)

/-- So does its reference. -/
theorem frame_reference4 : Cert.quiescent_Reference4Ideal := fun m ρ _ =>
  (θ_run Cert.Reference4Ideal.defs _ _).mono
    (fun r h => ⟨fun c => (h c).2.2.2.2.2.2, Idealize.ShloMosaic.sem_eq_zero_of_no_sems (by decide) r.2⟩)
    (Cert.Reference4Ideal.Value.run (F := Ideal) m ρ)

end Cert.SameText

end
-- ==== Proof.GateOuts.lean ====
/-
  What a point of each of the S5 gate's calls leaves in its results' buffers.
-/
module

public import proofs.«01_k».proof.Proof.Gen.Kernel4Ideal.Frame
public import proofs.«01_k».proof.Proof.FfnOuts
public import Idealize.ShloMosaic.Lib.Pipeline.Value

@[expose] public section

noncomputable section

namespace Cert.Kernel4Ideal.Gate

open Idealize.ShloMosaic Idealize.ShloMosaic.TcCoe Idealize.ShloMosaic.Tactic Cert.Kernel4Ideal Cert.Kernel4Ideal.Gen
open Idealize.SL Idealize.SL.Sem
open Cert.Kernel2Ideal.Ffn (hz2)

variable {F : FTy → Type} [FloatOps F]

theorem y_eq (x0 x1 : Vec F S768x1024 .f32) (x2 : Vec F S1x1024 .f32) : out0_3 x0 x1 x2 = k0_pay1 x0 x1 x2 := by
  unfold out0_3
  rw [View.canon_unit_zero hz2]
  simp only [View.ld_unit_zero (S := S768x1024) hz2, View.ld_unit_zero (S := S1x1024) hz2]

theorem g_eq (x0 x1 : Vec F S768x1024 .f32) (x2 : Vec F S1x1024 .f32) : out0_4 x0 x1 x2 = k0_pay2 x0 x1 x2 := by
  unfold out0_4
  rw [View.canon_unit_zero hz2]
  simp only [View.ld_unit_zero (S := S768x1024) hz2, View.ld_unit_zero (S := S1x1024) hz2]

theorem gw_eq (x0 : Vec F S768x1024 .bf16) (x1 : Vec F S1024x1024 .bf16) : out1_2 x0 x1 = k1_pay1 x0 x1 := by
  unfold out1_2
  rw [View.canon_unit_zero hz2]
  simp only [View.ld_unit_zero (S := S768x1024) hz2, View.ld_unit_zero (S := S1024x1024) hz2]

theorem z_eq (x0 x1 : Vec F S768x1024 .f32) : out2_2 x0 x1 = k2_pay1 x0 x1 := by
  unfold out2_2
  rw [View.canon_unit_zero hz2]
  simp only [View.ld_unit_zero (S := S768x1024) hz2]

theorem dz_eq (x0 : Vec F S768x1024 .bf16) (x1 : Vec F S1024x1024 .bf16) : out3_2 x0 x1 = k3_pay1 x0 x1 := by
  unfold out3_2
  rw [View.canon_unit_zero hz2]
  simp only [View.ld_unit_zero (S := S768x1024) hz2, View.ld_unit_zero (S := S1024x1024) hz2]

theorem dgw_eq (x0 x1 x2 : Vec F S768x1024 .f32) : out5_3 x0 x1 x2 = k5_pay4 x0 x1 x2 := by
  unfold out5_3
  rw [View.canon_unit_zero hz2]
  simp only [View.ld_unit_zero (S := S768x1024) hz2]

theorem dg_eq (x0 x1 x2 : Vec F S768x1024 .f32) : out5_4 x0 x1 x2 = k5_pay3 x0 x2 := by
  unfold out5_4
  rw [View.canon_unit_zero hz2]
  simp only [View.ld_unit_zero (S := S768x1024) hz2]

theorem dg2_eq (x0 : Vec F S768x1024 .bf16) (x1 : Vec F S1024x1024 .bf16) : out7_2 x0 x1 = k3_pay1 x0 x1 := by
  unfold out7_2
  rw [View.canon_unit_zero hz2]
  simp only [View.ld_unit_zero (S := S768x1024) hz2, View.ld_unit_zero (S := S1024x1024) hz2]
  rfl

theorem first4_eq (c : Dev nD) (i : grid4.Coords) (arg2 : Memref sig .tc .vmem S768x512 .bf16) (harg2 : arg2.IsWhole) (arg3 : Memref sig .tc .vmem S768x1024 .bf16) (harg3 : arg3.IsWhole) (arg4 : Memref sig .tc .vmem S512x1024 .f32) (harg4 : arg4.IsWhole) (hc0 : cond4_0 i)
    (x0 : Vec F S768x512 .bf16) (x1 : Vec F S768x1024 .bf16) : out4_A_2 c i arg2 harg2 arg3 harg3 arg4 harg4 hc0 x0 x1 = k4_pay2 k4_pay1 x0 x1 := by
  unfold out4_A_2
  rw [View.read_writes_eq_canon _ _ _ (cover4_A_2 c i arg2 harg2 arg3 harg3 arg4 harg4 hc0 x0 x1)]
  unfold kernelRun4_A
  dsimp only
  try sl_unfold_words
  rw [View.canon_cons_unit_zero (S := S512x1024) hz2, View.readCov_unit_zero (S := S512x1024) _ hz2]
  simp only [View.readAt_eq_ld, harg2.read_unread, harg3.read_unread, View.ld_unit_zero (S := S768x512) hz2, View.ld_unit_zero (S := S768x1024) hz2]
  try rfl

theorem later4_eq (c : Dev nD) (i : grid4.Coords) (arg2 : Memref sig .tc .vmem S768x512 .bf16) (harg2 : arg2.IsWhole) (arg3 : Memref sig .tc .vmem S768x1024 .bf16) (harg3 : arg3.IsWhole) (arg4 : Memref sig .tc .vmem S512x1024 .f32) (harg4 : arg4.IsWhole) (hc0 : ¬cond4_0 i)
    (x0 : Vec F S768x512 .bf16) (x1 : Vec F S768x1024 .bf16) (xo : Vec F S512x1024 .f32) : out4_B_2 c i arg2 harg2 arg3 harg3 arg4 harg4 hc0 x0 x1 xo = k4_pay2 xo x0 x1 := by
  unfold out4_B_2
  rw [View.read_writes_eq_canon _ _ _ (cover4_B_2 c i arg2 harg2 arg3 harg3 arg4 harg4 hc0 x0 x1 xo)]
  unfold kernelRun4_B
  dsimp only
  try sl_unfold_words
  rw [View.canon_unit_zero (S := S512x1024) hz2]
  simp only [View.readAt_eq_ld, harg2.read_unread, harg3.read_unread, harg4.read_unread, View.ld_unit_zero (S := S768x512) hz2, View.ld_unit_zero (S := S768x1024) hz2, View.ld_unit_zero (S := S512x1024) hz2]
  try rfl

theorem first6_eq (c : Dev nD) (i : grid6.Coords) (arg2 : Memref sig .tc .vmem S768x512 .bf16) (harg2 : arg2.IsWhole) (arg3 : Memref sig .tc .vmem S768x1024 .bf16) (harg3 : arg3.IsWhole) (arg4 : Memref sig .tc .vmem S512x1024 .f32) (harg4 : arg4.IsWhole) (hc0 : cond6_0 i)
    (x0 : Vec F S768x512 .bf16) (x1 : Vec F S768x1024 .bf16) : out6_A_2 c i arg2 harg2 arg3 harg3 arg4 harg4 hc0 x0 x1 = k4_pay2 k4_pay1 x0 x1 := by
  unfold out6_A_2
  rw [View.read_writes_eq_canon _ _ _ (cover6_A_2 c i arg2 harg2 arg3 harg3 arg4 harg4 hc0 x0 x1)]
  unfold kernelRun6_A
  dsimp only
  try sl_unfold_words
  rw [View.canon_cons_unit_zero (S := S512x1024) hz2, View.readCov_unit_zero (S := S512x1024) _ hz2]
  simp only [View.readAt_eq_ld, harg2.read_unread, harg3.read_unread, View.ld_unit_zero (S := S768x512) hz2, View.ld_unit_zero (S := S768x1024) hz2]
  try rfl

theorem later6_eq (c : Dev nD) (i : grid6.Coords) (arg2 : Memref sig .tc .vmem S768x512 .bf16) (harg2 : arg2.IsWhole) (arg3 : Memref sig .tc .vmem S768x1024 .bf16) (harg3 : arg3.IsWhole) (arg4 : Memref sig .tc .vmem S512x1024 .f32) (harg4 : arg4.IsWhole) (hc0 : ¬cond6_0 i)
    (x0 : Vec F S768x512 .bf16) (x1 : Vec F S768x1024 .bf16) (xo : Vec F S512x1024 .f32) : out6_B_2 c i arg2 harg2 arg3 harg3 arg4 harg4 hc0 x0 x1 xo = k4_pay2 xo x0 x1 := by
  unfold out6_B_2
  rw [View.read_writes_eq_canon _ _ _ (cover6_B_2 c i arg2 harg2 arg3 harg3 arg4 harg4 hc0 x0 x1 xo)]
  unfold kernelRun6_B
  dsimp only
  try sl_unfold_words
  rw [View.canon_unit_zero (S := S512x1024) hz2]
  simp only [View.readAt_eq_ld, harg2.read_unread, harg3.read_unread, harg4.read_unread, View.ld_unit_zero (S := S768x512) hz2, View.ld_unit_zero (S := S768x1024) hz2, View.ld_unit_zero (S := S512x1024) hz2]
  try rfl

end Cert.Kernel4Ideal.Gate

end
-- ==== Proof.GateBlocks.lean ====
/-
  Where the blocks of the S5 gate's calls lie in their arrays.
-/
module

public import proofs.«01_k».proof.Proof.Gen.Kernel4Ideal.Frame
public import proofs.«01_k».proof.Proof.ProjBlocks
public import Idealize.ShloMosaic.Lib.Pointwise

@[expose] public section

noncomputable section

namespace Cert.Kernel4Ideal.Gate

open Idealize.ShloMosaic Idealize.ShloMosaic.TcCoe Idealize.ShloMosaic.Pointwise Cert.Kernel4Ideal Cert.Kernel4Ideal.Gen
open Idealize.SL Idealize.SL.Sem
open Cert.Kernel2Ideal.Ffn (emb_two)
open Cert.Kernel3Ideal.Proj (tok)

/-- Row `r` of the point's 768 rows. -/
def row (t : Fin cfg0.N) (r : Fin 768) : Fin 8448 := ⟨768 * t.val + r.val, by have : t.val < 11 := t.isLt; have := r.isLt; omega⟩

/-- Column `x` of the point's 512 columns, the grid's outer axis. -/
def feat (t : Fin cfg4.N) (x : Fin 512) : Fin 1024 := ⟨512 * (t.val / 11) + x.val, by have : t.val < 22 := t.isLt; have := x.isLt; omega⟩

theorem index0 : ∀ t : Fin cfg0.N, cc0_transform_0 (grid0.coords t) = ![t.val, 0] :=
  (by decide +kernel : ∀ t : Fin grid0.N, cc0_transform_0 (grid0.coords t) = ![t.val, 0])
theorem index4_0 : ∀ t : Fin cfg4.N, cc4_transform_0 (grid4.coords t) = ![t.val % 11, t.val / 11] :=
  (by decide +kernel : ∀ t : Fin grid4.N, cc4_transform_0 (grid4.coords t) = ![t.val % 11, t.val / 11])
theorem index4_1 : ∀ t : Fin cfg4.N, cc4_transform_1 (grid4.coords t) = ![t.val % 11, 0] :=
  (by decide +kernel : ∀ t : Fin grid4.N, cc4_transform_1 (grid4.coords t) = ![t.val % 11, 0])
theorem index4_2 : ∀ t : Fin cfg4.N, cc4_transform_2 (grid4.coords t) = ![t.val / 11, 0] :=
  (by decide +kernel : ∀ t : Fin grid4.N, cc4_transform_2 (grid4.coords t) = ![t.val / 11, 0])

theorem emb_model (t : Fin cfg0.N) (r : Fin 768) (d : Fin 1024) : (win0_0.rect t).emb (ix2 r d) = (ix2 (row t r) d : S8448x1024.Idx) :=
  emb_two _ _ _
    (by show _ = cc0_transform_0 (grid0.coords t) 0 * 768 + 1 * r.val; rw [index0]; show 768 * t.val + r.val = t.val * 768 + 1 * r.val; omega)
    (by show _ = cc0_transform_0 (grid0.coords t) 1 * 1024 + 1 * d.val; rw [index0]; show d.val = 0 * 1024 + 1 * d.val; omega)

theorem emb_vector (t : Fin cfg0.N) (z : Fin 1) (d : Fin 1024) : (win0_2.rect t).emb (ix2 z d) = (ix2 z d : S1x1024.Idx) :=
  emb_two _ _ _ (by show z.val = 0 * 1 + 1 * z.val; omega) (by show d.val = 0 * 1024 + 1 * d.val; omega)

theorem emb_square (t : Fin cfg1.N) (e : Fin 1024) (d : Fin 1024) : (win1_1.rect t).emb (ix2 e d) = (ix2 e d : S1024x1024.Idx) :=
  emb_two _ _ _ (by show e.val = 0 * 1024 + 1 * e.val; omega) (by show d.val = 0 * 1024 + 1 * d.val; omega)

theorem emb_left (t : Fin cfg4.N) (k : Fin 768) (x : Fin 512) : (win4_0.rect t).emb (ix2 k x) = (ix2 (tok t.val k) (feat t x) : S8448x1024.Idx) :=
  emb_two _ _ _
    (by show _ = cc4_transform_0 (grid4.coords t) 0 * 768 + 1 * k.val; rw [index4_0]; show 768 * (t.val % 11) + k.val = (t.val % 11) * 768 + 1 * k.val; omega)
    (by show _ = cc4_transform_0 (grid4.coords t) 1 * 512 + 1 * x.val; rw [index4_0]; show 512 * (t.val / 11) + x.val = (t.val / 11) * 512 + 1 * x.val; omega)

theorem emb_right (t : Fin cfg4.N) (k : Fin 768) (y : Fin 1024) : (win4_1.rect t).emb (ix2 k y) = (ix2 (tok t.val k) y : S8448x1024.Idx) :=
  emb_two _ _ _
    (by show _ = cc4_transform_1 (grid4.coords t) 0 * 768 + 1 * k.val; rw [index4_1]; show 768 * (t.val % 11) + k.val = (t.val % 11) * 768 + 1 * k.val; omega)
    (by show _ = cc4_transform_1 (grid4.coords t) 1 * 1024 + 1 * y.val; rw [index4_1]; show y.val = 0 * 1024 + 1 * y.val; omega)

theorem emb_product (t : Fin cfg4.N) (x : Fin 512) (y : Fin 1024) : (win4_2.rect t).emb (ix2 x y) = (ix2 (feat t x) y : S1024x1024.Idx) :=
  emb_two _ _ _
    (by show _ = cc4_transform_2 (grid4.coords t) 0 * 512 + 1 * x.val; rw [index4_2]; show 512 * (t.val / 11) + x.val = (t.val / 11) * 512 + 1 * x.val; omega)
    (by show _ = cc4_transform_2 (grid4.coords t) 1 * 1024 + 1 * y.val; rw [index4_2]; show y.val = 0 * 1024 + 1 * y.val; omega)

variable (V : (c : Dev nD) → (b : Ref sig .tc) → Buf (Elt Ideal) ((c : Thread nD τ).loc b)) (c : Dev nD)

theorem block0_0 (t : Fin cfg0.N) (r : Fin 768) (d : Fin 1024) : iblk0 V c 0 t (ix2 r d) = V c main_arg0 (ix2 (row t r) d) :=
  congrArg (V c main_arg0) (emb_model t r d)
theorem block0_1 (t : Fin cfg0.N) (r : Fin 768) (d : Fin 1024) : iblk0 V c 1 t (ix2 r d) = V c main_arg1 (ix2 (row t r) d) :=
  congrArg (V c main_arg1) (emb_model t r d)
theorem block0_2 (t : Fin cfg0.N) (z : Fin 1) (d : Fin 1024) : iblk0 V c 2 t (ix2 z d) = V c main_v3 (ix2 z d) :=
  congrArg (V c main_v3) (emb_vector t z d)
theorem block1_0 (t : Fin cfg1.N) (r : Fin 768) (d : Fin 1024) : iblk1 V c 0 t (ix2 r d) = V c main_v4_1 (ix2 (row t r) d) :=
  congrArg (V c main_v4_1) (emb_model t r d)
theorem block1_1 (t : Fin cfg1.N) (e : Fin 1024) (d : Fin 1024) : iblk1 V c 1 t (ix2 e d) = V c main_v0 (ix2 e d) :=
  congrArg (V c main_v0) (emb_square t e d)
theorem block2_0 (t : Fin cfg2.N) (r : Fin 768) (d : Fin 1024) : iblk2 V c 0 t (ix2 r d) = V c main_v4_0 (ix2 (row t r) d) :=
  congrArg (V c main_v4_0) (emb_model t r d)
theorem block2_1 (t : Fin cfg2.N) (r : Fin 768) (d : Fin 1024) : iblk2 V c 1 t (ix2 r d) = V c main_v5 (ix2 (row t r) d) :=
  congrArg (V c main_v5) (emb_model t r d)
theorem block3_0 (t : Fin cfg3.N) (r : Fin 768) (d : Fin 1024) : iblk3 V c 0 t (ix2 r d) = V c main_v2 (ix2 (row t r) d) :=
  congrArg (V c main_v2) (emb_model t r d)
theorem block3_1 (t : Fin cfg3.N) (e : Fin 1024) (d : Fin 1024) : iblk3 V c 1 t (ix2 e d) = V c main_v1 (ix2 e d) :=
  congrArg (V c main_v1) (emb_square t e d)
theorem block4_0 (t : Fin cfg4.N) (k : Fin 768) (x : Fin 512) : iblk4 V c 0 t (ix2 k x) = V c main_v6 (ix2 (tok t.val k) (feat t x)) :=
  congrArg (V c main_v6) (emb_left t k x)
theorem block4_1 (t : Fin cfg4.N) (k : Fin 768) (y : Fin 1024) : iblk4 V c 1 t (ix2 k y) = V c main_v2 (ix2 (tok t.val k) y) :=
  congrArg (V c main_v2) (emb_right t k y)
theorem block5_0 (t : Fin cfg5.N) (r : Fin 768) (d : Fin 1024) : iblk5 V c 0 t (ix2 r d) = V c main_v7 (ix2 (row t r) d) :=
  congrArg (V c main_v7) (emb_model t r d)
theorem block5_1 (t : Fin cfg5.N) (r : Fin 768) (d : Fin 1024) : iblk5 V c 1 t (ix2 r d) = V c main_v4_0 (ix2 (row t r) d) :=
  congrArg (V c main_v4_0) (emb_model t r d)
theorem block5_2 (t : Fin cfg5.N) (r : Fin 768) (d : Fin 1024) : iblk5 V c 2 t (ix2 r d) = V c main_v5 (ix2 (row t r) d) :=
  congrArg (V c main_v5) (emb_model t r d)
theorem block6_0 (t : Fin cfg6.N) (k : Fin 768) (x : Fin 512) : iblk6 V c 0 t (ix2 k x) = V c main_v4_1 (ix2 (tok t.val k) (feat t x)) :=
  congrArg (V c main_v4_1) (emb_left t k x)
theorem block6_1 (t : Fin cfg6.N) (k : Fin 768) (y : Fin 1024) : iblk6 V c 1 t (ix2 k y) = V c main_v9_0 (ix2 (tok t.val k) y) :=
  congrArg (V c main_v9_0) (emb_right t k y)
theorem block7_0 (t : Fin cfg7.N) (r : Fin 768) (d : Fin 1024) : iblk7 V c 0 t (ix2 r d) = V c main_v9_0 (ix2 (row t r) d) :=
  congrArg (V c main_v9_0) (emb_model t r d)
theorem block7_1 (t : Fin cfg7.N) (e : Fin 1024) (d : Fin 1024) : iblk7 V c 1 t (ix2 e d) = V c main_v0 (ix2 e d) :=
  congrArg (V c main_v0) (emb_square t e d)

end Cert.Kernel4Ideal.Gate

end
-- ==== Proof.GateTiles.lean ====
/-
  What the bodies of the S5 gate's eight calls compute of their blocks, entry by entry.
-/
module

public import proofs.«01_k».proof.Proof.Gen.Kernel4Ideal.Skeleton
public import proofs.«01_k».proof.Proof.FfnTiles
public import Idealize.ShloMosaic.Lib.Pointwise

@[expose] public section

noncomputable section

namespace Cert.Kernel4Ideal.Gate

open Idealize.ShloMosaic Idealize.ShloMosaic.Pointwise Cert.Kernel4Ideal Cert.Kernel4Ideal.Gen
open Cert.Kernel2Ideal.Ffn (sigm)

/-- The exact gelu as the bodies compute it. -/
def gelu (x : EReal) : EReal :=
  Ideal.ofBits .f32 0x3F000000#32 * x * (Ideal.ofBits .f32 0x3F800000#32 + Ideal.erf (x * Ideal.ofBits .f32 0x3F3504F3#32))

theorem y_at (a h : Vec Ideal S768x1024 .f32) (v : Vec Ideal S1x1024 .f32) (r : Fin 768) (d : Fin 1024) :
    k0_pay1 a h v (ix2 r d) = a (ix2 r d) + v (ix2 0 d) * h (ix2 r d) := by
  pointwise [k0_pay1]

theorem g_at (a h : Vec Ideal S768x1024 .f32) (v : Vec Ideal S1x1024 .f32) (r : Fin 768) (d : Fin 1024) :
    k0_pay2 a h v (ix2 r d) = gelu (k0_pay1 a h v (ix2 r d)) := by
  pointwise [k0_pay2, gelu]
  rfl

theorem mul_at (x : Vec Ideal S768x1024 .bf16) (w : Vec Ideal S1024x1024 .bf16) (r : Fin 768) (f : Fin 1024) :
    k1_pay1 x w (ix2 r f) = ∑ d : Fin 1024, x (ix2 r d) * w (ix2 d f) := by
  pointwise [k1_pay1]

theorem z_at (y g : Vec Ideal S768x1024 .f32) (r : Fin 768) (d : Fin 1024) :
    k2_pay1 y g (ix2 r d) = gelu (y (ix2 r d)) * sigm (g (ix2 r d)) := by
  pointwise [k2_pay1, gelu, sigm]
  rfl

theorem mulT_at (x : Vec Ideal S768x1024 .bf16) (w : Vec Ideal S1024x1024 .bf16) (r : Fin 768) (e : Fin 1024) :
    k3_pay1 x w (ix2 r e) = ∑ d : Fin 1024, x (ix2 r d) * w (ix2 e d) := by
  pointwise [k3_pay1]

theorem dg_at (z g : Vec Ideal S768x1024 .f32) (r : Fin 768) (d : Fin 1024) :
    k5_pay3 z g (ix2 r d) = z (ix2 r d) * sigm (g (ix2 r d)) := by
  pointwise [k5_pay3, k5_pay1, k5_pay2, sigm]

theorem dgw_at (z y g : Vec Ideal S768x1024 .f32) (r : Fin 768) (d : Fin 1024) :
    k5_pay4 z y g (ix2 r d)
      = z (ix2 r d) * gelu (y (ix2 r d)) * sigm (g (ix2 r d)) * (Ideal.ofBits .f32 0x3F800000#32 - sigm (g (ix2 r d))) := by
  pointwise [k5_pay4, k5_pay1, k5_pay2, gelu, sigm]
  rfl

end Cert.Kernel4Ideal.Gate

end
-- ==== Proof.GateArrays.lean ====
/-
  The arrays that the S5 gate's calls leave, each of the arrays it takes.
-/
module

public import proofs.«01_k».proof.Proof.ProjChain
public import proofs.«01_k».proof.Proof.GateOuts
public import proofs.«01_k».proof.Proof.GateBlocks
public import proofs.«01_k».proof.Proof.GateTiles
public import Idealize.ShloMosaic.Lib.Pipeline.ArrRel
public import Idealize.ShloMosaic.Lib.Pipeline.ValueKit.Geometry

@[expose] public section

noncomputable section

namespace Cert.Kernel4Ideal.Gate

open Idealize.ShloMosaic Idealize.ShloMosaic.TcCoe Idealize.ShloMosaic.Pointwise Cert.Kernel4Ideal Cert.Kernel4Ideal.Gen
open Idealize.SL Idealize.SL.Sem
open Pipeline (RDat Dat)
open Cert.Kernel2Ideal.Ffn (sigm)
open Cert.Kernel3Ideal.Proj (tok flushed)

/-! ## The results as functions of the arrays taken -/

/-- The scan's output and the input scaled by its features' factors, added. -/
def yOf (A H : Vec Ideal S8448x1024 .f32) (D : Vec Ideal S1x1024 .f32) : Vec Ideal S8448x1024 .f32 := fun i => A i + D (ix2 0 (i 1)) * H i

/-- The gelu of each entry. -/
def geluOf (Y : Vec Ideal S8448x1024 .f32) : Vec Ideal S8448x1024 .bf16 := fun i => gelu (Y i)

/-- Rows times columns. -/
def mulOf (X : Vec Ideal S8448x1024 .bf16) (W : Vec Ideal S1024x1024 .bf16) : Vec Ideal S8448x1024 .f32 :=
  fun i => ∑ d : Fin 1024, X (ix2 (i 0) d) * W (ix2 d (i 1))

/-- Rows times rows. -/
def mulTOf (X : Vec Ideal S8448x1024 .bf16) (W : Vec Ideal S1024x1024 .bf16) : Vec Ideal S8448x1024 .f32 :=
  fun i => ∑ d : Fin 1024, X (ix2 (i 0) d) * W (ix2 (i 1) d)

/-- The product with the tokens summed over. -/
def outOf (A B : Vec Ideal S8448x1024 .bf16) : Vec Ideal S1024x1024 .f32 :=
  fun i => ∑ s : Fin 8448, A (ix2 s (i 0)) * B (ix2 s (i 1))

/-- The gated entries. -/
def zOf (Y G : Vec Ideal S8448x1024 .f32) : Vec Ideal S8448x1024 .bf16 := fun i => gelu (Y i) * sigm (G i)

/-- The gradient of the gate's argument. -/
def dgwOf (Z Y G : Vec Ideal S8448x1024 .f32) : Vec Ideal S8448x1024 .bf16 :=
  fun i => Z i * gelu (Y i) * sigm (G i) * (Ideal.ofBits .f32 0x3F800000#32 - sigm (G i))

/-- The gradient of the gated entries' first factor. -/
def dgOf (Z G : Vec Ideal S8448x1024 .f32) : Vec Ideal S8448x1024 .f32 := fun i => Z i * sigm (G i)

variable (V : (c : Dev nD) → (b : Ref sig .tc) → Buf (Elt Ideal) ((c : Thread nD τ).loc b)) (c : Dev nD)

/-! ## The calls by tiles of rows -/

theorem y_array : (dat0 V c).arrAt 3 cfg0.N = yOf (V c main_arg0) (V c main_arg1) (V c main_v3) :=
  Dat.arrAt_eq_of_covers (dat0 V c) 3 (yOf (V c main_arg0) (V c main_arg1) (V c main_v3)) (show (cfg0.win 3).Covers by decide +kernel) fun t _ y => by
    have key : ∀ (r : Fin 768) (d : Fin 1024), ((dat0 V c).after 3 t : Vec Ideal S768x1024 .f32) (ix2 r d)
        = yOf (V c main_arg0) (V c main_arg1) (V c main_v3) ((win0_0.rect t).emb (ix2 r d)) := fun r d => by
      rw [emb_model, after0_3, y_eq, y_at]
      show @Eq EReal _ _
      exact (congrArg₂ (fun a b : EReal => a + b) (block0_0 V c t r d) (congrArg₂ (fun a b : EReal => a * b) (block0_2 V c t 0 d) (block0_1 V c t r d)))
    have key' : ∀ y' : S768x1024.Idx, ((dat0 V c).after 3 t : Vec Ideal S768x1024 .f32) y'
        = yOf (V c main_arg0) (V c main_arg1) (V c main_v3) ((win0_0.rect t).emb y') := fun y' => by
      rw [eq_ix2 y']
      exact key _ _
    exact key' y

theorem g_array : (dat0 V c).arrAt 4 cfg0.N = geluOf (yOf (V c main_arg0) (V c main_arg1) (V c main_v3)) :=
  Dat.arrAt_eq_of_covers (dat0 V c) 4 (geluOf (yOf (V c main_arg0) (V c main_arg1) (V c main_v3))) (show (cfg0.win 4).Covers by decide +kernel) fun t _ y => by
    have key : ∀ (r : Fin 768) (d : Fin 1024), ((dat0 V c).after 4 t : Vec Ideal S768x1024 .bf16) (ix2 r d)
        = geluOf (yOf (V c main_arg0) (V c main_arg1) (V c main_v3)) ((win0_0.rect t).emb (ix2 r d)) := fun r d => by
      rw [emb_model, after0_4, g_eq, g_at, y_at]
      show @Eq EReal _ _
      exact congrArg gelu (congrArg₂ (fun a b : EReal => a + b) (block0_0 V c t r d) (congrArg₂ (fun a b : EReal => a * b) (block0_2 V c t 0 d) (block0_1 V c t r d)))
    have key' : ∀ y' : S768x1024.Idx, ((dat0 V c).after 4 t : Vec Ideal S768x1024 .bf16) y'
        = geluOf (yOf (V c main_arg0) (V c main_arg1) (V c main_v3)) ((win0_0.rect t).emb y') := fun y' => by
      rw [eq_ix2 y']
      exact key _ _
    exact key' y

theorem gw_array : (dat1 V c).arrAt 2 cfg1.N = mulOf (V c main_v4_1) (V c main_v0) :=
  Dat.arrAt_eq_of_covers (dat1 V c) 2 (mulOf (V c main_v4_1) (V c main_v0)) (show (cfg1.win 2).Covers by decide +kernel) fun t _ y => by
    have key : ∀ (r : Fin 768) (d : Fin 1024), ((dat1 V c).after 2 t : Vec Ideal S768x1024 .f32) (ix2 r d)
        = mulOf (V c main_v4_1) (V c main_v0) ((win0_0.rect t).emb (ix2 r d)) := fun r d => by
      rw [emb_model, after1_2, gw_eq, mul_at]
      show @Eq EReal _ _
      exact Finset.sum_congr rfl fun e _ => congrArg₂ (fun a b : EReal => a * b) (block1_0 V c t r e) (block1_1 V c t _ _)
    have key' : ∀ y' : S768x1024.Idx, ((dat1 V c).after 2 t : Vec Ideal S768x1024 .f32) y'
        = mulOf (V c main_v4_1) (V c main_v0) ((win0_0.rect t).emb y') := fun y' => by
      rw [eq_ix2 y']
      exact key _ _
    exact key' y

theorem z_array : (dat2 V c).arrAt 2 cfg2.N = zOf (V c main_v4_0) (V c main_v5) :=
  Dat.arrAt_eq_of_covers (dat2 V c) 2 (zOf (V c main_v4_0) (V c main_v5)) (show (cfg2.win 2).Covers by decide +kernel) fun t _ y => by
    have key : ∀ (r : Fin 768) (d : Fin 1024), ((dat2 V c).after 2 t : Vec Ideal S768x1024 .bf16) (ix2 r d)
        = zOf (V c main_v4_0) (V c main_v5) ((win0_0.rect t).emb (ix2 r d)) := fun r d => by
      rw [emb_model, after2_2, z_eq, z_at]
      show @Eq EReal _ _
      exact congrArg₂ (fun a b : EReal => gelu a * sigm b) (block2_0 V c t r d) (block2_1 V c t r d)
    have key' : ∀ y' : S768x1024.Idx, ((dat2 V c).after 2 t : Vec Ideal S768x1024 .bf16) y'
        = zOf (V c main_v4_0) (V c main_v5) ((win0_0.rect t).emb y') := fun y' => by
      rw [eq_ix2 y']
      exact key _ _
    exact key' y

theorem dz_array : (dat3 V c).arrAt 2 cfg3.N = mulTOf (V c main_v2) (V c main_v1) :=
  Dat.arrAt_eq_of_covers (dat3 V c) 2 (mulTOf (V c main_v2) (V c main_v1)) (show (cfg3.win 2).Covers by decide +kernel) fun t _ y => by
    have key : ∀ (r : Fin 768) (d : Fin 1024), ((dat3 V c).after 2 t : Vec Ideal S768x1024 .f32) (ix2 r d)
        = mulTOf (V c main_v2) (V c main_v1) ((win0_0.rect t).emb (ix2 r d)) := fun r d => by
      rw [emb_model, after3_2, dz_eq, mulT_at]
      show @Eq EReal _ _
      exact Finset.sum_congr rfl fun e _ => congrArg₂ (fun a b : EReal => a * b) (block3_0 V c t r e) (block3_1 V c t _ _)
    have key' : ∀ y' : S768x1024.Idx, ((dat3 V c).after 2 t : Vec Ideal S768x1024 .f32) y'
        = mulTOf (V c main_v2) (V c main_v1) ((win0_0.rect t).emb y') := fun y' => by
      rw [eq_ix2 y']
      exact key _ _
    exact key' y

theorem dgw_array : (dat5 V c).arrAt 3 cfg5.N = dgwOf (V c main_v7) (V c main_v4_0) (V c main_v5) :=
  Dat.arrAt_eq_of_covers (dat5 V c) 3 (dgwOf (V c main_v7) (V c main_v4_0) (V c main_v5)) (show (cfg5.win 3).Covers by decide +kernel) fun t _ y => by
    have key : ∀ (r : Fin 768) (d : Fin 1024), ((dat5 V c).after 3 t : Vec Ideal S768x1024 .bf16) (ix2 r d)
        = dgwOf (V c main_v7) (V c main_v4_0) (V c main_v5) ((win0_0.rect t).emb (ix2 r d)) := fun r d => by
      rw [emb_model, after5_3, dgw_eq, dgw_at]
      show @Eq EReal _ _
      have e := congr (congrArg₂ (fun a b g : EReal => a * gelu b * sigm g * (Ideal.ofBits .f32 0x3F800000#32 - sigm g)) (block5_0 V c t r d)
        (block5_1 V c t r d)) (block5_2 V c t r d)
      exact e
    have key' : ∀ y' : S768x1024.Idx, ((dat5 V c).after 3 t : Vec Ideal S768x1024 .bf16) y'
        = dgwOf (V c main_v7) (V c main_v4_0) (V c main_v5) ((win0_0.rect t).emb y') := fun y' => by
      rw [eq_ix2 y']
      exact key _ _
    exact key' y

theorem dg_array : (dat5 V c).arrAt 4 cfg5.N = dgOf (V c main_v7) (V c main_v5) :=
  Dat.arrAt_eq_of_covers (dat5 V c) 4 (dgOf (V c main_v7) (V c main_v5)) (show (cfg5.win 4).Covers by decide +kernel) fun t _ y => by
    have key : ∀ (r : Fin 768) (d : Fin 1024), ((dat5 V c).after 4 t : Vec Ideal S768x1024 .f32) (ix2 r d)
        = dgOf (V c main_v7) (V c main_v5) ((win0_0.rect t).emb (ix2 r d)) := fun r d => by
      rw [emb_model, after5_4, dg_eq, dg_at]
      show @Eq EReal _ _
      exact congrArg₂ (fun a b : EReal => a * sigm b) (block5_0 V c t r d) (block5_2 V c t r d)
    have key' : ∀ y' : S768x1024.Idx, ((dat5 V c).after 4 t : Vec Ideal S768x1024 .f32) y'
        = dgOf (V c main_v7) (V c main_v5) ((win0_0.rect t).emb y') := fun y' => by
      rw [eq_ix2 y']
      exact key _ _
    exact key' y

theorem dg2_array : (dat7 V c).arrAt 2 cfg7.N = mulTOf (V c main_v9_0) (V c main_v0) :=
  Dat.arrAt_eq_of_covers (dat7 V c) 2 (mulTOf (V c main_v9_0) (V c main_v0)) (show (cfg7.win 2).Covers by decide +kernel) fun t _ y => by
    have key : ∀ (r : Fin 768) (d : Fin 1024), ((dat7 V c).after 2 t : Vec Ideal S768x1024 .f32) (ix2 r d)
        = mulTOf (V c main_v9_0) (V c main_v0) ((win0_0.rect t).emb (ix2 r d)) := fun r d => by
      rw [emb_model, after7_2, dg2_eq, mulT_at]
      show @Eq EReal _ _
      exact Finset.sum_congr rfl fun e _ => congrArg₂ (fun a b : EReal => a * b) (block7_0 V c t r e) (block7_1 V c t _ _)
    have key' : ∀ y' : S768x1024.Idx, ((dat7 V c).after 2 t : Vec Ideal S768x1024 .f32) y'
        = mulTOf (V c main_v9_0) (V c main_v0) ((win0_0.rect t).emb y') := fun y' => by
      rw [eq_ix2 y']
      exact key _ _
    exact key' y

/-! ## The gradients of the weights -/

theorem dwout_array : (dat4 V c).arrAt 2 cfg4.N = outOf (V c main_v6) (V c main_v2) :=
  Dat.arrAt_eq_of_covers (dat4 V c) 2 (outOf (V c main_v6) (V c main_v2)) (show (cfg4.win 2).Covers by decide +kernel) fun t hf y => by
    have ht : t.val % 11 = 10 := (flush4_2 t).mp hf
    have key : ∀ (x : Fin 512) (z : Fin 1024), outsAt4 V c t.val t.isLt (ix2 x z) = outOf (V c main_v6) (V c main_v2) ((win4_2.rect t).emb (ix2 x z)) := fun x z => by
      rw [emb_product]
      exact flushed cfg4.N (fun t x s => V c main_v6 (ix2 s (feat t x))) (fun y s => V c main_v2 (ix2 s y))
        (fun t t' e => funext fun x => by
          have ef : feat t x = feat t' x := Fin.ext (by show 512 * (t.val / 11) + x.val = 512 * (t'.val / 11) + x.val; rw [e])
          rw [ef])
        (outsAt4 V c) (iblk4 V c 0) (iblk4 V c 1) (block4_0 V c) (block4_1 V c)
        (fun t h => (outsAt4_A V c t h).trans (first4_eq c _ _ _ _ _ _ _ _ _ _))
        (fun t h => (outsAt4_B V c t h).trans (later4_eq c _ _ _ _ _ _ _ _ _ _ _)) t ht x z
    have key' : ∀ y' : S512x1024.Idx, outsAt4 V c t.val t.isLt y' = outOf (V c main_v6) (V c main_v2) ((win4_2.rect t).emb y') := fun y' => by
      rw [eq_ix2 y']
      exact key _ _
    exact (congrFun (after4_2 V c t) y).trans (key' y)

theorem dwglu_array : (dat6 V c).arrAt 2 cfg6.N = outOf (V c main_v4_1) (V c main_v9_0) :=
  Dat.arrAt_eq_of_covers (dat6 V c) 2 (outOf (V c main_v4_1) (V c main_v9_0)) (show (cfg6.win 2).Covers by decide +kernel) fun t hf y => by
    have ht : t.val % 11 = 10 := (flush6_2 t).mp hf
    have key : ∀ (x : Fin 512) (z : Fin 1024), outsAt6 V c t.val t.isLt (ix2 x z) = outOf (V c main_v4_1) (V c main_v9_0) ((win4_2.rect t).emb (ix2 x z)) := fun x z => by
      rw [emb_product]
      exact flushed cfg6.N (fun t x s => V c main_v4_1 (ix2 s (feat t x))) (fun y s => V c main_v9_0 (ix2 s y))
        (fun t t' e => funext fun x => by
          have ef : feat t x = feat t' x := Fin.ext (by show 512 * (t.val / 11) + x.val = 512 * (t'.val / 11) + x.val; rw [e])
          rw [ef])
        (outsAt6 V c) (iblk6 V c 0) (iblk6 V c 1) (block6_0 V c) (block6_1 V c)
        (fun t h => (outsAt6_A V c t h).trans (first6_eq c _ _ _ _ _ _ _ _ _ _))
        (fun t h => (outsAt6_B V c t h).trans (later6_eq c _ _ _ _ _ _ _ _ _ _ _)) t ht x z
    have key' : ∀ y' : S512x1024.Idx, outsAt6 V c t.val t.isLt y' = outOf (V c main_v4_1) (V c main_v9_0) ((win4_2.rect t).emb y') := fun y' => by
      rw [eq_ix2 y']
      exact key _ _
    exact (congrFun (after6_2 V c t) y).trans (key' y)

end Cert.Kernel4Ideal.Gate

end
-- ==== Proof.GateRun.lean ====
/-
  The run of the eight calls of the S5 mixer's gate: every buffer ends at the contents that the calls, one after the other, leave in it.
-/
module

public import proofs.«01_k».proof.Proof.Gen.Kernel4Ideal.Frame

@[expose] public section

set_option maxRecDepth 16384

noncomputable section

namespace Cert.Kernel4Ideal.Gate

open Idealize.ShloMosaic Idealize.ShloMosaic.TcCoe Idealize.ShloMosaic.Tactic Cert.Kernel4Ideal Cert.Kernel4Ideal.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every run ends with every buffer of every device at the contents after the last call. -/
theorem run_main : θ_run defs (onTc (τ := τ) (main (F := F))) ⟨m, fun _ => 0, ρ⟩ (fun r =>
      ∀ c : Dev nD, ∀ b ∈ Pipeline.ucRefs τ sig, r.2.mem (((c : Thread nD τ)).1, b) = W9 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h hz => h)

end Cert.Kernel4Ideal.Gate

end
-- ==== Proof.GateResults.lean ====
/-
  The S5 gate's eight calls composed: the six results of the program, of its arguments.
-/
module

public import proofs.«01_k».proof.Proof.GateArrays
public import proofs.«01_k».proof.Proof.GateRun
public import Idealize.ShloMosaic.Lib.StableHlo.RunRead

@[expose] public section

noncomputable section

namespace Cert.Kernel4Ideal.Gate

open Idealize.ShloMosaic Idealize.ShloMosaic.TcCoe Idealize.ShloMosaic.Pointwise Cert.Kernel4Ideal Cert.Kernel4Ideal.Gen
open Idealize.SL Idealize.SL.Sem

variable (m : (ℓ : Loc nD τ sig) → Buf (Elt Ideal) ℓ) (ρ : Dev nD → PrngReg) (c : Dev nD)

/-- The arguments: the scan's output, the mixer's input, its features' factors, the gate's weight, the output weight and
the gradient of the mixer's output. -/
def arg0 : FVec Ideal S8448x1024 .f32 := m ((c.tc : Thread nD τ).loc main_arg0)
def arg1 : FVec Ideal S8448x1024 .f32 := m ((c.tc : Thread nD τ).loc main_arg1)
def arg2 : FVec Ideal S1024 .f32 := m ((c.tc : Thread nD τ).loc main_arg2)
def arg3 : FVec Ideal S1024x1024 .f32 := m ((c.tc : Thread nD τ).loc main_arg3)
def arg4 : FVec Ideal S1024x1024 .f32 := m ((c.tc : Thread nD τ).loc main_arg4)
def arg5 : FVec Ideal S8448x1024 .f32 := m ((c.tc : Thread nD τ).loc main_arg5)

/-- The rows as the calls take them. -/
def rowsIn (x : FVec Ideal S8448x1024 .f32) : FVec Ideal S8448x1024 .bf16 := truncf .bf16 x bitsLt_bf16_f32
/-- A weight as the calls take it. -/
def squareIn (x : FVec Ideal S1024x1024 .f32) : FVec Ideal S1024x1024 .bf16 := truncf .bf16 x bitsLt_bf16_f32
/-- The factors as the call takes them. -/
def vecIn (x : FVec Ideal S1024 .f32) : FVec Ideal S1x1024 .f32 := broadcastInDim S1x1024 ![1] bcast_S1024_S1x1024_1 x

theorem rowsIn_at (x : FVec Ideal S8448x1024 .f32) (r : Fin 8448) (d : Fin 1024) : rowsIn x (ix2 r d) = x (ix2 r d) := by
  pointwise [rowsIn]
theorem squareIn_at (x : FVec Ideal S1024x1024 .f32) (e d : Fin 1024) : squareIn x (ix2 e d) = x (ix2 e d) := by
  pointwise [squareIn]
theorem vecIn_at (x : FVec Ideal S1024 .f32) (d : Fin 1024) : vecIn x (ix2 (0 : Fin 1) d) = x (ix1 d) := by
  pointwise [vecIn]

/-! ## Before the first call -/

theorem start_v0 : V1 m ρ c main_v0 = squareIn (arg3 m c) := by
  show StableHlo.after hostOps0 (W0 m ρ c) _ = _
  dsimp only [hostOps0]
  after_reads_simp
  rfl
theorem start_v1 : V1 m ρ c main_v1 = squareIn (arg4 m c) := by
  show StableHlo.after hostOps0 (W0 m ρ c) _ = _
  dsimp only [hostOps0]
  after_reads_simp
  rfl
theorem start_v2 : V1 m ρ c main_v2 = rowsIn (arg5 m c) := by
  show StableHlo.after hostOps0 (W0 m ρ c) _ = _
  dsimp only [hostOps0]
  after_reads_simp
  rfl
theorem start_v3 : V1 m ρ c main_v3 = vecIn (arg2 m c) := by
  show StableHlo.after hostOps0 (W0 m ρ c) _ = _
  dsimp only [hostOps0]
  after_reads_simp
  rfl

/-! ## What the calls leave, of the arguments -/

def yA : Vec Ideal S8448x1024 .f32 := yOf (arg0 m c) (arg1 m c) (vecIn (arg2 m c))
def gA : Vec Ideal S8448x1024 .bf16 := geluOf (yA m c)
def gwA : Vec Ideal S8448x1024 .f32 := mulOf (gA m c) (squareIn (arg3 m c))
def zA : Vec Ideal S8448x1024 .bf16 := zOf (yA m c) (gwA m c)
def dzA : Vec Ideal S8448x1024 .f32 := mulTOf (rowsIn (arg5 m c)) (squareIn (arg4 m c))
def dwoutA : Vec Ideal S1024x1024 .f32 := outOf (zA m c) (rowsIn (arg5 m c))
def dgwA : Vec Ideal S8448x1024 .bf16 := dgwOf (dzA m c) (yA m c) (gwA m c)
def dgA : Vec Ideal S8448x1024 .f32 := dgOf (dzA m c) (gwA m c)
def dwgluA : Vec Ideal S1024x1024 .f32 := outOf (gA m c) (dgwA m c)
def dg2A : Vec Ideal S8448x1024 .f32 := mulTOf (dgwA m c) (squareIn (arg3 m c))

theorem start_y : yOf (V1 m ρ c main_arg0) (V1 m ρ c main_arg1) (V1 m ρ c main_v3) = yA m c := by
  rw [show V1 m ρ c main_arg0 = arg0 m c from W1_args m ρ c main_arg0 (by decide), show V1 m ρ c main_arg1 = arg1 m c from W1_args m ρ c main_arg1 (by decide),
    start_v3]
  rfl
theorem at_y : V2 m ρ c main_v4_0 = yA m c := (W2_arr m ρ c 3).trans ((y_array (V1 m ρ) c).trans (start_y m ρ c))
theorem at_g : V2 m ρ c main_v4_1 = gA m c := (W2_arr m ρ c 4).trans ((g_array (V1 m ρ) c).trans (congrArg geluOf (start_y m ρ c)))
theorem at_gw : V3 m ρ c main_v5 = gwA m c :=
  (W3_arr m ρ c 2).trans ((gw_array (V2 m ρ) c).trans (congrArg₂ mulOf
    (at_g m ρ c)
    ((W2_of m ρ c main_v0 (by decide)).trans (start_v0 m ρ c))))
theorem at_z : V4 m ρ c main_v6 = zA m c :=
  (W4_arr m ρ c 2).trans ((z_array (V3 m ρ) c).trans (congrArg₂ zOf
    ((W3_of m ρ c main_v4_0 (by decide)).trans (at_y m ρ c))
    (at_gw m ρ c)))
theorem at_dz : V5 m ρ c main_v7 = dzA m c :=
  (W5_arr m ρ c 2).trans ((dz_array (V4 m ρ) c).trans (congrArg₂ mulTOf
    ((W4_of m ρ c main_v2 (by decide)).trans ((W3_of m ρ c main_v2 (by decide)).trans ((W2_of m ρ c main_v2 (by decide)).trans (start_v2 m ρ c))))
    ((W4_of m ρ c main_v1 (by decide)).trans ((W3_of m ρ c main_v1 (by decide)).trans ((W2_of m ρ c main_v1 (by decide)).trans (start_v1 m ρ c))))))
theorem at_dwout : V6 m ρ c main_v8 = dwoutA m c :=
  (W6_arr m ρ c 2).trans ((dwout_array (V5 m ρ) c).trans (congrArg₂ outOf
    ((W5_of m ρ c main_v6 (by decide)).trans (at_z m ρ c))
    ((W5_of m ρ c main_v2 (by decide)).trans ((W4_of m ρ c main_v2 (by decide)).trans ((W3_of m ρ c main_v2 (by decide)).trans ((W2_of m ρ c main_v2 (by decide)).trans (start_v2 m ρ c)))))))
theorem at_dg : V7 m ρ c main_v9_1 = dgA m c :=
  (W7_arr m ρ c 4).trans ((dg_array (V6 m ρ) c).trans (congrArg₂ dgOf
    ((W6_of m ρ c main_v7 (by decide)).trans (at_dz m ρ c))
    ((W6_of m ρ c main_v5 (by decide)).trans ((W5_of m ρ c main_v5 (by decide)).trans ((W4_of m ρ c main_v5 (by decide)).trans (at_gw m ρ c))))))
theorem at_dgw : V7 m ρ c main_v9_0 = dgwA m c := by
  refine (W7_arr m ρ c 3).trans ((dgw_array (V6 m ρ) c).trans ?_)
  rw [show V6 m ρ c main_v7 = dzA m c from (W6_of m ρ c main_v7 (by decide)).trans (at_dz m ρ c),
    show V6 m ρ c main_v4_0 = yA m c from (W6_of m ρ c main_v4_0 (by decide)).trans ((W5_of m ρ c main_v4_0 (by decide)).trans ((W4_of m ρ c main_v4_0 (by decide)).trans ((W3_of m ρ c main_v4_0 (by decide)).trans (at_y m ρ c)))),
    show V6 m ρ c main_v5 = gwA m c from (W6_of m ρ c main_v5 (by decide)).trans ((W5_of m ρ c main_v5 (by decide)).trans ((W4_of m ρ c main_v5 (by decide)).trans (at_gw m ρ c)))]
  rfl
theorem at_dwglu : V8 m ρ c main_v10 = dwgluA m c :=
  (W8_arr m ρ c 2).trans ((dwglu_array (V7 m ρ) c).trans (congrArg₂ outOf
    ((W7_of m ρ c main_v4_1 (by decide)).trans ((W6_of m ρ c main_v4_1 (by decide)).trans ((W5_of m ρ c main_v4_1 (by decide)).trans ((W4_of m ρ c main_v4_1 (by decide)).trans ((W3_of m ρ c main_v4_1 (by decide)).trans (at_g m ρ c))))))
    (at_dgw m ρ c)))
theorem at_dg2 : V9 m ρ c main_v11 = dg2A m c :=
  (W9_arr m ρ c 2).trans ((dg2_array (V8 m ρ) c).trans (congrArg₂ mulTOf
    ((W8_of m ρ c main_v9_0 (by decide)).trans (at_dgw m ρ c))
    ((W8_of m ρ c main_v0 (by decide)).trans ((W7_of m ρ c main_v0 (by decide)).trans ((W6_of m ρ c main_v0 (by decide)).trans ((W5_of m ρ c main_v0 (by decide)).trans ((W4_of m ρ c main_v0 (by decide)).trans ((W3_of m ρ c main_v0 (by decide)).trans ((W2_of m ρ c main_v0 (by decide)).trans (start_v0 m ρ c))))))))))

/-! ## The results, when all calls are done -/

theorem end_y : V9 m ρ c main_v4_0 = yA m c :=
  (W9_of m ρ c main_v4_0 (by decide)).trans ((W8_of m ρ c main_v4_0 (by decide)).trans ((W7_of m ρ c main_v4_0 (by decide)).trans ((W6_of m ρ c main_v4_0 (by decide)).trans ((W5_of m ρ c main_v4_0 (by decide)).trans ((W4_of m ρ c main_v4_0 (by decide)).trans ((W3_of m ρ c main_v4_0 (by decide)).trans (at_y m ρ c)))))))
theorem end_z : V9 m ρ c main_v6 = zA m c :=
  (W9_of m ρ c main_v6 (by decide)).trans ((W8_of m ρ c main_v6 (by decide)).trans ((W7_of m ρ c main_v6 (by decide)).trans ((W6_of m ρ c main_v6 (by decide)).trans ((W5_of m ρ c main_v6 (by decide)).trans (at_z m ρ c)))))
theorem end_dwout : V9 m ρ c main_v8 = dwoutA m c :=
  (W9_of m ρ c main_v8 (by decide)).trans ((W8_of m ρ c main_v8 (by decide)).trans ((W7_of m ρ c main_v8 (by decide)).trans (at_dwout m ρ c)))
theorem end_dwglu : V9 m ρ c main_v10 = dwgluA m c :=
  (W9_of m ρ c main_v10 (by decide)).trans (at_dwglu m ρ c)
theorem end_dg : V9 m ρ c main_v9_1 = dgA m c :=
  (W9_of m ρ c main_v9_1 (by decide)).trans ((W8_of m ρ c main_v9_1 (by decide)).trans (at_dg m ρ c))
theorem end_dg2 : V9 m ρ c main_v11 = dg2A m c :=
  at_dg2 m ρ c

/-- Every run ends with the six results at these values and the arguments unchanged. -/
theorem run_values : θ_run defs (onTc (τ := τ) (main (F := Ideal))) ⟨m, fun _ => 0, ρ⟩ (fun r => ∀ c : Dev nD,
      r.2.mem ((c.tc : Thread nD τ).loc main_v4_0) = yA m c
      ∧ r.2.mem ((c.tc : Thread nD τ).loc main_v6) = zA m c
      ∧ r.2.mem ((c.tc : Thread nD τ).loc main_v8) = dwoutA m c
      ∧ r.2.mem ((c.tc : Thread nD τ).loc main_v10) = dwgluA m c
      ∧ r.2.mem ((c.tc : Thread nD τ).loc main_v9_1) = dgA m c
      ∧ r.2.mem ((c.tc : Thread nD τ).loc main_v11) = dg2A m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨(h c _ (mem_uc main_v4_0 (by decide))).trans (end_y m ρ c),
      (h c _ (mem_uc main_v6 (by decide))).trans (end_z m ρ c),
      (h c _ (mem_uc main_v8 (by decide))).trans (end_dwout m ρ c),
      (h c _ (mem_uc main_v10 (by decide))).trans (end_dwglu m ρ c),
      (h c _ (mem_uc main_v9_1 (by decide))).trans (end_dg m ρ c),
      (h c _ (mem_uc main_v11 (by decide))).trans (end_dg2 m ρ c),
      (h c _ (mem_uc main_arg0 (by decide))).trans (W9_main_arg0 m ρ c),
      (h c _ (mem_uc main_arg1 (by decide))).trans (W9_main_arg1 m ρ c),
      (h c _ (mem_uc main_arg2 (by decide))).trans (W9_main_arg2 m ρ c),
      (h c _ (mem_uc main_arg3 (by decide))).trans (W9_main_arg3 m ρ c),
      (h c _ (mem_uc main_arg4 (by decide))).trans (W9_main_arg4 m ρ c),
      (h c _ (mem_uc main_arg5 (by decide))).trans (W9_main_arg5 m ρ c)⟩)
    (run_main m ρ)

end Cert.Kernel4Ideal.Gate

end
-- ==== Proof.GateRef.lean ====
/-
  The values of the S5 gate's reference, entry by entry.
-/
module

public import proofs.«01_k».proof.Proof.Gen.Reference4Ideal.Read
public import proofs.«01_k».proof.Proof.GateTiles
public import Idealize.ShloMosaic.Lib.Pointwise

@[expose] public section

noncomputable section

namespace Cert.Reference4Ideal.Value

open Idealize.ShloMosaic Idealize.ShloMosaic.Pointwise Cert.Reference4Ideal Cert.Reference4Ideal.Gen Cert.Reference4Ideal.Read
open Cert.Kernel4Ideal.Gate (gelu)

variable (x0 x1 : FVec Ideal S8448x1024 .f32) (x2 : FVec Ideal S1024 .f32) (x3 x4 : FVec Ideal S1024x1024 .f32) (x5 : FVec Ideal S8448x1024 .f32)

theorem y_at (r : Fin 8448) (d : Fin 1024) : val_main_v3 (F := Ideal) x0 x1 x2 (ix2 r d) = x0 (ix2 r d) + x2 (ix1 d) * x1 (ix2 r d) := by
  pointwise [val_main_v3, val_main_v2, val_main_v1, val_main_v0]

/-- The complement of the error function of the negated argument is one and the error function. -/
theorem g_at (r : Fin 8448) (d : Fin 1024) : val_main_v10 (F := Ideal) x0 x1 x2 (ix2 r d) = gelu (val_main_v3 (F := Ideal) x0 x1 x2 (ix2 r d)) := by
  have e : val_main_v10 (F := Ideal) x0 x1 x2 (ix2 r d) = Ideal.ofBits .f32 0x3F000000#32 * val_main_v3 (F := Ideal) x0 x1 x2 (ix2 r d)
      * Ideal.erfc (-val_main_v3 (F := Ideal) x0 x1 x2 (ix2 r d) * Ideal.ofBits .f32 0x3F3504F3#32) := by
    pointwise [val_main_v10, val_main_v5, val_main_v4, val_main_cst, val_main_v9, val_main_v8, val_main_v6, val_main_v7, val_main_cst_0]
  rw [e, neg_mul, Ideal.erfc_neg]
  unfold gelu
  rw [Ideal.ofBits_one_f32]

theorem gw_at (r : Fin 8448) (f : Fin 1024) : val_main_v11 (F := Ideal) x0 x1 x2 x3 (ix2 r f)
    = ∑ d : Fin 1024, val_main_v10 (F := Ideal) x0 x1 x2 (ix2 r d) * x3 (ix2 d f) := by
  pointwise [val_main_v11]

theorem s_at (r : Fin 8448) (f : Fin 1024) : val_main_v17 (F := Ideal) x0 x1 x2 x3 (ix2 r f)
    = Ideal.div (Ideal.ofBits .f32 0x3F800000#32) (Ideal.ofBits .f32 0x3F800000#32 + Ideal.exp (-val_main_v11 (F := Ideal) x0 x1 x2 x3 (ix2 r f))) := by
  pointwise [val_main_v17, val_main_v16, val_main_cst_2, val_main_v15, val_main_v14, val_main_cst_1, val_main_v13, val_main_v12]

theorem z_at (r : Fin 8448) (f : Fin 1024) : val_main_v21 (F := Ideal) x0 x1 x2 x3 (ix2 r f)
    = val_main_v10 (F := Ideal) x0 x1 x2 (ix2 r f) * val_main_v17 (F := Ideal) x0 x1 x2 x3 (ix2 r f) := by
  pointwise [val_main_v21]

theorem cast_at (r : Fin 8448) (f : Fin 1024) : val_main_v32 (F := Ideal) x0 x1 x2 x3 (ix2 r f) = val_main_v21 (F := Ideal) x0 x1 x2 x3 (ix2 r f) := by
  pointwise [val_main_v32]

theorem dz_at (r : Fin 8448) (e : Fin 1024) : val_main_v25 (F := Ideal) x4 x5 (ix2 r e) = ∑ d : Fin 1024, x5 (ix2 r d) * x4 (ix2 e d) := by
  pointwise [val_main_v25]

theorem dwout_at (e d : Fin 1024) : val_main_v24 (F := Ideal) x0 x1 x2 x3 x5 (ix2 e d)
    = ∑ s : Fin 8448, x5 (ix2 s d) * val_main_v21 (F := Ideal) x0 x1 x2 x3 (ix2 s e) := by
  pointwise [val_main_v24, val_main_v23]

theorem dg_at (r : Fin 8448) (f : Fin 1024) : val_main_v27 (F := Ideal) x0 x1 x2 x3 x4 x5 (ix2 r f)
    = val_main_v25 (F := Ideal) x4 x5 (ix2 r f) * val_main_v17 (F := Ideal) x0 x1 x2 x3 (ix2 r f) := by
  pointwise [val_main_v27]

theorem dgw_at (r : Fin 8448) (f : Fin 1024) : val_main_v28 (F := Ideal) x0 x1 x2 x3 x4 x5 (ix2 r f)
    = val_main_v10 (F := Ideal) x0 x1 x2 (ix2 r f) * val_main_v25 (F := Ideal) x4 x5 (ix2 r f)
      * (val_main_v17 (F := Ideal) x0 x1 x2 x3 (ix2 r f) * (Ideal.ofBits .f32 0x3F800000#32 - val_main_v17 (F := Ideal) x0 x1 x2 x3 (ix2 r f))) := by
  pointwise [val_main_v28, val_main_v26, val_main_v20, val_main_v19, val_main_v18, val_main_cst_3]

theorem dwglu_at (e d : Fin 1024) : val_main_v30 (F := Ideal) x0 x1 x2 x3 x4 x5 (ix2 e d)
    = ∑ s : Fin 8448, val_main_v28 (F := Ideal) x0 x1 x2 x3 x4 x5 (ix2 s d) * val_main_v10 (F := Ideal) x0 x1 x2 (ix2 s e) := by
  pointwise [val_main_v30, val_main_v29]

theorem dg2_at (r : Fin 8448) (e : Fin 1024) : val_main_v31 (F := Ideal) x0 x1 x2 x3 x4 x5 (ix2 r e)
    = ∑ d : Fin 1024, val_main_v28 (F := Ideal) x0 x1 x2 x3 x4 x5 (ix2 r d) * x3 (ix2 e d) := by
  pointwise [val_main_v31]

end Cert.Reference4Ideal.Value

end
-- ==== Proof.GateEquation.lean ====
/-
  The S5 gate's results of the kernel are those of the reference.
-/
module

public import proofs.«01_k».proof.Proof.GateResults
public import proofs.«01_k».proof.Proof.GateRef
public import proofs.«01_k».proof.Proof.FfnEquation

@[expose] public section

noncomputable section

namespace Cert.GateEquation

open Idealize.ShloMosaic Idealize.ShloMosaic.TcCoe Idealize.ShloMosaic.Pointwise Cert.Kernel4Ideal Cert.Kernel4Ideal.Gen
open Cert.Kernel2Ideal.Ffn (sigm)
open Cert.Kernel4Ideal.Gate (arg0 arg1 arg2 arg3 arg4 arg5 rowsIn squareIn vecIn rowsIn_at squareIn_at vecIn_at gelu yA gA gwA zA dzA dwoutA dgwA dgA dwgluA dg2A)
open Cert.Reference4Ideal.Read

variable (m : (ℓ : Loc nD τ sig) → Buf (Elt Ideal) ℓ) (c : Dev nD)

theorem y_same (r : Fin 8448) (d : Fin 1024) : yA m c (ix2 r d) = val_main_v3 (F := Ideal) (arg0 m c) (arg1 m c) (arg2 m c) (ix2 r d) := by
  rw [Cert.Reference4Ideal.Value.y_at, ← vecIn_at (arg2 m c)]
  rfl

theorem g_same (r : Fin 8448) (d : Fin 1024) : gA m c (ix2 r d) = val_main_v10 (F := Ideal) (arg0 m c) (arg1 m c) (arg2 m c) (ix2 r d) := by
  rw [Cert.Reference4Ideal.Value.g_at, ← y_same]
  rfl

theorem gw_same (r : Fin 8448) (f : Fin 1024) : gwA m c (ix2 r f) = val_main_v11 (F := Ideal) (arg0 m c) (arg1 m c) (arg2 m c) (arg3 m c) (ix2 r f) := by
  rw [Cert.Reference4Ideal.Value.gw_at]
  show (∑ d : Fin 1024, gA m c (ix2 r d) * squareIn (arg3 m c) (ix2 d f)) = _
  exact Finset.sum_congr rfl fun _ _ => congrArg₂ (· * ·) (g_same _ _ _ _) (squareIn_at _ _ _)

theorem s_same (r : Fin 8448) (f : Fin 1024) : sigm (gwA m c (ix2 r f)) = val_main_v17 (F := Ideal) (arg0 m c) (arg1 m c) (arg2 m c) (arg3 m c) (ix2 r f) := by
  rw [Cert.Reference4Ideal.Value.s_at, Cert.FfnEquation.sigm_eq, gw_same]

theorem z_same (r : Fin 8448) (f : Fin 1024) : zA m c (ix2 r f) = val_main_v21 (F := Ideal) (arg0 m c) (arg1 m c) (arg2 m c) (arg3 m c) (ix2 r f) := by
  rw [Cert.Reference4Ideal.Value.z_at, ← g_same, ← s_same]
  rfl

theorem dz_same (r : Fin 8448) (f : Fin 1024) : dzA m c (ix2 r f) = val_main_v25 (F := Ideal) (arg4 m c) (arg5 m c) (ix2 r f) := by
  rw [Cert.Reference4Ideal.Value.dz_at]
  show (∑ d : Fin 1024, rowsIn (arg5 m c) (ix2 r d) * squareIn (arg4 m c) (ix2 f d)) = _
  exact Finset.sum_congr rfl fun _ _ => congrArg₂ (· * ·) (rowsIn_at _ _ _) (squareIn_at _ _ _)

theorem regroup (a b s t : EReal) : a * b * s * t = b * a * (s * t) := by rw [mul_comm a b, mul_assoc (b * a)]

theorem dgw_same (r : Fin 8448) (f : Fin 1024) : dgwA m c (ix2 r f) = val_main_v28 (F := Ideal) (arg0 m c) (arg1 m c) (arg2 m c) (arg3 m c) (arg4 m c) (arg5 m c) (ix2 r f) := by
  rw [Cert.Reference4Ideal.Value.dgw_at, ← g_same, ← s_same, ← dz_same]
  exact regroup (dzA m c (ix2 r f)) (gelu (yA m c (ix2 r f))) (sigm (gwA m c (ix2 r f))) (Ideal.ofBits .f32 0x3F800000#32 - sigm (gwA m c (ix2 r f)))

/-- The scan's output with the scaled input. -/
theorem y_eq : yA m c = val_main_v3 (F := Ideal) (arg0 m c) (arg1 m c) (arg2 m c) := by
  funext i
  rw [eq_ix2 i]
  exact y_same m c _ _

/-- The gated entries in the other format. -/
theorem z_eq : zA m c = val_main_v32 (F := Ideal) (arg0 m c) (arg1 m c) (arg2 m c) (arg3 m c) := by
  funext i
  rw [eq_ix2 i]
  exact (z_same m c _ _).trans (Cert.Reference4Ideal.Value.cast_at _ _ _ _ _ _).symm

/-- The gradient of the output weight. -/
theorem dwout_eq : dwoutA m c = val_main_v24 (F := Ideal) (arg0 m c) (arg1 m c) (arg2 m c) (arg3 m c) (arg5 m c) := by
  have key (e d : Fin 1024) : dwoutA m c (ix2 e d) = val_main_v24 (F := Ideal) (arg0 m c) (arg1 m c) (arg2 m c) (arg3 m c) (arg5 m c) (ix2 e d) := by
    rw [Cert.Reference4Ideal.Value.dwout_at]
    show (∑ s : Fin 8448, zA m c (ix2 s e) * rowsIn (arg5 m c) (ix2 s d)) = _
    exact Finset.sum_congr rfl fun _ _ => (congrArg₂ (· * ·) (z_same _ _ _ _) (rowsIn_at _ _ _)).trans (mul_comm _ _)
  funext i
  rw [eq_ix2 i]
  exact key _ _

/-- The gradient of the gate's weight. -/
theorem dwglu_eq : dwgluA m c = val_main_v30 (F := Ideal) (arg0 m c) (arg1 m c) (arg2 m c) (arg3 m c) (arg4 m c) (arg5 m c) := by
  have key (e d : Fin 1024) : dwgluA m c (ix2 e d) = val_main_v30 (F := Ideal) (arg0 m c) (arg1 m c) (arg2 m c) (arg3 m c) (arg4 m c) (arg5 m c) (ix2 e d) := by
    rw [Cert.Reference4Ideal.Value.dwglu_at]
    show (∑ s : Fin 8448, gA m c (ix2 s e) * dgwA m c (ix2 s d)) = _
    exact Finset.sum_congr rfl fun _ _ => (congrArg₂ (· * ·) (g_same _ _ _ _) (dgw_same _ _ _ _)).trans (mul_comm _ _)
  funext i
  rw [eq_ix2 i]
  exact key _ _

/-- The gradient of the gated entries' first factor. -/
theorem dg_eq : dgA m c = val_main_v27 (F := Ideal) (arg0 m c) (arg1 m c) (arg2 m c) (arg3 m c) (arg4 m c) (arg5 m c) := by
  have key (r : Fin 8448) (f : Fin 1024) : dgA m c (ix2 r f) = val_main_v27 (F := Ideal) (arg0 m c) (arg1 m c) (arg2 m c) (arg3 m c) (arg4 m c) (arg5 m c) (ix2 r f) := by
    rw [Cert.Reference4Ideal.Value.dg_at, ← s_same, ← dz_same]
    rfl
  funext i
  rw [eq_ix2 i]
  exact key _ _

/-- The gradient of the gate's own input. -/
theorem dg2_eq : dg2A m c = val_main_v31 (F := Ideal) (arg0 m c) (arg1 m c) (arg2 m c) (arg3 m c) (arg4 m c) (arg5 m c) := by
  have key (r : Fin 8448) (e : Fin 1024) : dg2A m c (ix2 r e) = val_main_v31 (F := Ideal) (arg0 m c) (arg1 m c) (arg2 m c) (arg3 m c) (arg4 m c) (arg5 m c) (ix2 r e) := by
    rw [Cert.Reference4Ideal.Value.dg2_at]
    show (∑ d : Fin 1024, dgwA m c (ix2 r d) * squareIn (arg3 m c) (ix2 e d)) = _
    exact Finset.sum_congr rfl fun _ _ => congrArg₂ (· * ·) (dgw_same _ _ _ _) (squareIn_at _ _ _)
  funext i
  rw [eq_ix2 i]
  exact key _ _

end Cert.GateEquation

end
-- ==== Proof.FwdFrames.lean ====
/-
  The frames of the forward attention's kernel as printed and of its reference.
-/
module

public import proofs.«01_k».proof.Defs
public import proofs.«01_k».proof.Proof.FrameKernel
public import proofs.«01_k».proof.Proof.Gen.Kernel5
public import proofs.«01_k».proof.Proof.Gen.Kernel5Ideal.Frame
public import proofs.«01_k».proof.Proof.Gen.Reference5Ideal.Run
public import Idealize.ShloMosaic.Lib.Quiescent

@[expose] public section

noncomputable section

namespace Cert.SameText

open Idealize.ShloMosaic Idealize.SL.Sem

section

variable {F : FTy → Type} [FloatOps F]

attribute [local instance] literal

set_option maxRecDepth 100000 in
set_option maxHeartbeats 0 in
/-- The two programs of the forward attention have the same body. -/
theorem table5_same : Cert.Kernel5.defs₀ (F := F) = Cert.Kernel5Ideal.defs₀ (F := F) := by
  unfold Cert.Kernel5.defs₀ Cert.Kernel5Ideal.defs₀
  refine congrArg Defs.onTc ?_
  funext l a
  match l, a with
  | ⟨0, _⟩, (t, s) => exact rfl

set_option maxRecDepth 100000 in
set_option maxHeartbeats 0 in
/-- So they have the same tables. -/
theorem defs5_same : Cert.Kernel5.defs (F := F) = Cert.Kernel5Ideal.defs (F := F) :=
  congrArg (Idealize.ShloMosaic.Pipeline.defs (Cert.Kernel5Ideal.pcfgs (F := F))) table5_same

set_option maxRecDepth 100000 in
set_option maxHeartbeats 0 in
/-- And the same main program. -/
theorem main5_same : Cert.Kernel5.main (F := F) = Cert.Kernel5Ideal.main (F := F) := rfl

/-- The forward attention's kernel ends, with its arguments unchanged and all counters at zero. -/
theorem frame_kernel5 [hKernel5 : Cert.Kernel5.Facts] : Cert.quiescent_Kernel5 := fun m ρ _ =>
  run_of_eq (defs5_same (F := Bits)) (main5_same (F := Bits)) _ _ (Cert.Kernel5Ideal.Gen.frame (F := Bits) m ρ)

end

/-- So does its reference. -/
theorem frame_reference5 : Cert.quiescent_Reference5Ideal := fun m ρ _ =>
  (θ_run Cert.Reference5Ideal.defs _ _).mono
    (fun r h => ⟨fun c => (h c).2.2.2, Idealize.ShloMosaic.sem_eq_zero_of_no_sems (by decide) r.2⟩)
    (Cert.Reference5Ideal.Value.run (F := Ideal) m ρ)

end Cert.SameText

end
-- ==== Proof.FwdFinite.lean ====
/-
  The forward attention's precondition read back: every entry of the three arguments is a real number.
-/
module

public import proofs.«01_k».proof.Proof.Gen.Pre_finite5
public import proofs.«01_k».proof.Proof.Finite

@[expose] public section

noncomputable section

namespace Cert.Pre_finite5

open Idealize.ShloMosaic Cert.Pre_finite5.Gen

instance : Subsingleton S_.Idx := ⟨fun a b => funext fun i => i.elim0⟩

variable (x0 : FVec Ideal S8448x4x4x64 .f32) (x1 x2 : FVec Ideal S8448x4x64 .f32)

/-- The precondition says that every entry of every argument is real. -/
theorem real_of_fn (h : fn (F := Ideal) x0 x1 x2 = fun _ => 1#1) :
    (∀ i, x0 i = (((x0 i : EReal).toReal : ℝ) : EReal)) ∧ (∀ i, x1 i = (((x1 i : EReal).toReal : ℝ) : EReal))
      ∧ ∀ i, x2 i = (((x2 i : EReal).toReal : ℝ) : EReal) := by
  have e := congrFun h (fun i : Fin 0 => i.elim0)
  unfold fn at e
  dsimp only at e
  obtain ⟨e, e2⟩ := IntOp.andi_eq_one.1 e
  obtain ⟨e0, e1⟩ := IntOp.andi_eq_one.1 e
  exact ⟨fun i => Cert.Pre_finite.real_of_abs_lt _ (Host.reduce_andi_all _ _ _ _ _ e0 i), fun i => Cert.Pre_finite.real_of_abs_lt _ (Host.reduce_andi_all _ _ _ _ _ e1 i),
    fun i => Cert.Pre_finite.real_of_abs_lt _ (Host.reduce_andi_all _ _ _ _ _ e2 i)⟩

end Cert.Pre_finite5
-- ==== Proof.FwdReal.lean ====
/-
  The online softmax over the reals: a step's rescaled sums, and what the sums over all chunks are.
-/
module

public import proofs.«01_k».proof.Proof.SoftReal

@[expose] public section

noncomputable section

namespace Cert.Soft

open Idealize.ShloMosaic

/-- The maximum of values that are real or the least element is so too. -/
theorem fold_mask {ι : Type} (s : Finset ι) (f : ι → EReal) (h : ∀ i, f i = ⊥ ∨ ∃ r : ℝ, f i = r) :
    Finset.fold max (⊥ : EReal) f s = ⊥ ∨ ∃ M : ℝ, Finset.fold max (⊥ : EReal) f s = M := by
  classical
  induction s using Finset.induction_on with
  | empty => exact .inl Finset.fold_empty
  | insert a s ha ih =>
    rw [Finset.fold_insert ha]
    rcases h a with e | ⟨r, e⟩ <;> rcases ih with e' | ⟨M, e'⟩ <;> rw [e, e']
    · exact .inl (max_self _)
    · exact .inr ⟨M, max_eq_right bot_le⟩
    · exact .inr ⟨r, max_eq_left bot_le⟩
    · exact .inr ⟨max r M, (EReal.coe_strictMono.monotone.map_max).symm⟩

/-- It is real if one of the values is. -/
theorem fold_mask_real {n : ℕ} (f : Fin n → EReal) (h : ∀ i, f i = ⊥ ∨ ∃ r : ℝ, f i = r) (i : Fin n) (r : ℝ) (hi : f i = r) :
    ∃ M : ℝ, Finset.fold max (⊥ : EReal) f Finset.univ = M := by
  refine (fold_mask Finset.univ f h).resolve_left fun e => ?_
  have l : f i ≤ Finset.fold max (⊥ : EReal) f Finset.univ := Finset.le_fold_max _ |>.mpr (.inr ⟨i, Finset.mem_univ i, le_refl _⟩)
  rw [e, hi] at l
  exact EReal.coe_ne_bot r (le_bot_iff.mp l)

theorem pow_mul (a b : ℝ) : Real.rpow 2 a * Real.rpow 2 b = Real.rpow 2 (a + b) := (Real.rpow_add (by norm_num) a b).symm

variable (x w : ℕ → ℝ)

/-- A sum over the keys from the first real one up to key `b`. -/
def part (M : ℝ) (b : ℕ) : ℝ := ∑ n ∈ Finset.Ico 240 b, Real.rpow 2 (x n - M) * w n

/-- The first chunk, of which 240 keys are padding. -/
theorem part_first (M : ℝ) (s : Fin 256 → EReal) (hs : ∀ t, s t = if 240 ≤ t.val then (x t.val : EReal) else ⊥) :
    Ideal.exp2 (⊥ - (M : EReal)) * 0 + ∑ t : Fin 256, Ideal.exp2 (s t - (M : EReal)) * (w t.val : EReal) = ((part x w M 256 : ℝ) : EReal) := by
  have e : ∀ t : Fin 256, Ideal.exp2 (s t - (M : EReal)) * (w t.val : EReal) = ((if 240 ≤ t.val then Real.rpow 2 (x t.val - M) * w t.val else 0 : ℝ) : EReal) := fun t => by
    rw [hs]
    by_cases h : 240 ≤ t.val
    · rw [if_pos h, if_pos h, sub_real, Ideal.exp2_coe, ← EReal.coe_mul]
    · rw [if_neg h, if_neg h, sub_eq_add_neg, EReal.bot_add, Ideal.exp2_bot, zero_mul, EReal.coe_zero]
  rw [mul_zero, zero_add, Finset.sum_congr rfl fun t _ => e t, coe_sum]
  congr 1
  rw [← Finset.sum_range (fun t => if 240 ≤ t then Real.rpow 2 (x t - M) * w t else 0), Finset.range_eq_Ico,
    ← Finset.sum_Ico_consecutive _ (show 0 ≤ 240 by omega) (show 240 ≤ 256 by omega), Finset.sum_eq_zero, zero_add]
  · exact Finset.sum_congr rfl fun n hn => if_pos (Finset.mem_Ico.mp hn).1
  · exact fun n hn => if_neg (by have := (Finset.mem_Ico.mp hn).2; omega)

/-- A later chunk: the sums so far, rescaled, and the chunk's own. -/
theorem part_next (M M' : ℝ) (b : ℕ) (hb : 240 ≤ b) :
    Ideal.exp2 ((M : EReal) - (M' : EReal)) * ((part x w M b : ℝ) : EReal) + ∑ t : Fin 256, Ideal.exp2 ((x (b + t.val) : EReal) - (M' : EReal)) * (w (b + t.val) : EReal)
      = ((part x w M' (b + 256) : ℝ) : EReal) := by
  simp only [sub_real, Ideal.exp2_coe, ← EReal.coe_mul, coe_sum, ← EReal.coe_add]
  congr 1
  unfold part
  rw [← Finset.sum_Ico_consecutive _ hb (show b ≤ b + 256 by omega), Finset.mul_sum]
  congr 1
  · exact Finset.sum_congr rfl fun n _ => by rw [← mul_assoc, pow_mul]; congr 2; ring
  · rw [Finset.sum_Ico_eq_sum_range, Nat.add_sub_cancel_left, Finset.sum_range]

/-! ## All chunks -/

variable (z : Fin 8208 → ℝ) (hx : ∀ t : Fin 8208, x (240 + t.val) = z t / Real.log 2)

include hx in
theorem part_all (M : ℝ) : part x w M 8448 = ∑ t : Fin 8208, Real.exp (z t - M * Real.log 2) * w (240 + t.val) := by
  unfold part
  rw [Finset.sum_Ico_eq_sum_range, show 8448 - 240 = 8208 from rfl, Finset.sum_range]
  refine Finset.sum_congr rfl fun t _ => ?_
  rw [hx]
  congr 1
  show (2 : ℝ) ^ (z t / Real.log 2 - M) = _
  rw [Real.rpow_def_of_pos (by norm_num)]
  congr 1
  have := ln2_ne
  field_simp

variable (w1 : ℕ → ℝ) (h1 : ∀ t : Fin 8208, w1 (240 + t.val) = 1)

include hx h1 in
theorem part_one (M : ℝ) : part x w1 M 8448 = ∑ t : Fin 8208, Real.exp (z t - M * Real.log 2) := by
  rw [part_all x w1 z hx]
  exact Finset.sum_congr rfl fun t _ => by rw [h1, mul_one]

include hx h1 in
theorem part_pos (M : ℝ) : 0 < part x w1 M 8448 := by
  rw [part_one x z hx w1 h1]
  exact sum_pos (n := 8207) z _

include hx h1 in
/-- The quotient of the sums is the softmax's mean of the values. -/
theorem part_soft (M : ℝ) : part x w M 8448 / part x w1 M 8448 = ∑ t : Fin 8208, soft (n := 8207) z t * w (240 + t.val) := by
  rw [part_one x z hx w1 h1, part_all x w z hx, Finset.sum_div]
  refine Finset.sum_congr rfl fun t _ => ?_
  rw [← soft_eq (n := 8207) z (M * Real.log 2)]
  ring

theorem log_shift (N : ℝ) : N + Real.log (∑ t : Fin 8208, Real.exp (z t - N)) = Real.log (∑ t : Fin 8208, Real.exp (z t)) := by
  have e : (∑ t : Fin 8208, Real.exp (z t - N)) = (∑ t : Fin 8208, Real.exp (z t)) / Real.exp N := by
    rw [Finset.sum_div]
    exact Finset.sum_congr rfl fun t _ => Real.exp_sub _ _
  have p : 0 < ∑ t : Fin 8208, Real.exp (z t) := Finset.sum_pos (fun _ _ => Real.exp_pos _) (Finset.univ_nonempty (α := Fin (8207 + 1)))
  rw [e, Real.log_div p.ne' (Real.exp_pos N).ne', Real.log_exp]
  ring

include hx h1 in
/-- And the last maximum and sum give the log-sum-exp. -/
theorem part_lse (M N : ℝ) : M + Real.log (part x w1 M 8448) / Real.log 2 = (N + Real.log (∑ t : Fin 8208, Real.exp (z t - N))) / Real.log 2 := by
  rw [part_one x z hx w1 h1, log_shift, ← log_shift z (M * Real.log 2)]
  have := ln2_ne
  field_simp

end Cert.Soft

end
-- ==== Proof.FwdRef.lean ====
/-
  The forward attention's reference: its values entry by entry, and over real arguments.
-/
module

public import proofs.«01_k».proof.Proof.Gen.Reference5Ideal.Read
public import Idealize.ShloMosaic.Lib.Pointwise
public import proofs.«01_k».proof.Proof.FwdReal

@[expose] public section

noncomputable section

namespace Cert.Reference5Ideal.Value

open Idealize.ShloMosaic Idealize.ShloMosaic.Pointwise Cert.Reference5Ideal Cert.Reference5Ideal.Gen Cert.Reference5Ideal.Read
open Cert.Soft

variable (x0 : FVec Ideal S8448x4x4x64 .f32) (x1 x2 : FVec Ideal S8448x4x64 .f32)

theorem v4_at (g j : Fin 4) (s : Fin 8448) (t : Fin 8208) : val_main_v4 (F := Ideal) x0 x1 (ix4 g j s t)
    = (∑ d : Fin 64, x1 (ix3 (up t) g d) * x0 (ix4 s g j d)) * Ideal.ofBits .f32 0x3E000000#32 := by
  pointwise [val_main_v4, val_main_v3, val_main_cst, val_main_v2, val_main_v1, val_main_v0, up]

theorem v5_at (g j : Fin 4) (s : Fin 8448) : val_main_v5 (F := Ideal) x0 x1 (ix3 g j s)
    = Finset.fold max (Ideal.ofBits .f32 0xFF800000#32) (fun t => val_main_v4 (F := Ideal) x0 x1 (ix4 g j s t)) Finset.univ := by
  pointwise [val_main_v5, val_main_cst_0]

theorem v18_at (g j : Fin 4) (s : Fin 8448) : val_main_v18 (F := Ideal) x0 x1 (ix3 g j s)
    = Finset.fold max (Ideal.ofBits .f32 0xFF800000#32) (fun t => val_main_v4 (F := Ideal) x0 x1 (ix4 g j s t)) Finset.univ := by
  pointwise [val_main_v18, val_main_cst_3]

theorem v9_at (g j : Fin 4) (s : Fin 8448) (t : Fin 8208) : val_main_v9 (F := Ideal) x0 x1 (ix4 g j s t)
    = Ideal.exp (val_main_v4 (F := Ideal) x0 x1 (ix4 g j s t) - val_main_v5 (F := Ideal) x0 x1 (ix3 g j s)) := by
  pointwise [val_main_v9, val_main_v8, val_main_v7, val_main_v6]

theorem v10_at (g j : Fin 4) (s : Fin 8448) : val_main_v10 (F := Ideal) x0 x1 (ix3 g j s) = ∑ t : Fin 8208, val_main_v9 (F := Ideal) x0 x1 (ix4 g j s t) := by
  pointwise [val_main_v10, val_main_cst_1]

theorem v6_at (g j : Fin 4) (s : Fin 8448) : val_main_v6 (F := Ideal) x0 x1 (ix4 g j s 0) = val_main_v5 (F := Ideal) x0 x1 (ix3 g j s) := by
  pointwise [val_main_v6]

theorem v11_at (g j : Fin 4) (s : Fin 8448) : val_main_v11 (F := Ideal) x0 x1 (ix4 g j s 0) = val_main_v10 (F := Ideal) x0 x1 (ix3 g j s) := by
  pointwise [val_main_v11]

theorem v16_at (g j : Fin 4) (s : Fin 8448) : val_main_v16 (F := Ideal) (ix4 g j s 0) = Ideal.log (Ideal.ofBits .f32 0x40000000#32) := by
  pointwise [val_main_v16, val_main_v15, val_main_v14, val_main_cst_2]
  try rfl

theorem lse_apply (a b e : FVec Ideal S4x4x8448x1 .f32) (i : S4x4x8448x1.Idx) : Host.divf (addf a (Host.log b)) e i = Ideal.div (a i + Ideal.log (b i)) (e i) := rfl

theorem v17_at (g j : Fin 4) (s : Fin 8448) : val_main_v17 (F := Ideal) x0 x1 (ix4 g j s 0)
    = Ideal.div (val_main_v5 (F := Ideal) x0 x1 (ix3 g j s) + Ideal.log (val_main_v10 (F := Ideal) x0 x1 (ix3 g j s))) (Ideal.log (Ideal.ofBits .f32 0x40000000#32)) := by
  unfold val_main_v17 val_main_v13 val_main_v12
  rw [lse_apply, v6_at, v11_at, v16_at]

theorem v19_at (g j : Fin 4) (s : Fin 8448) : val_main_v19 (F := Ideal) (ix3 g j s) = Ideal.ofBits .f32 0xFF800000#32 := by
  pointwise [val_main_v19, val_main_cst_4]

theorem max_apply (a b : FVec Ideal S4x4x8448 .f32) (i : S4x4x8448.Idx) : maximumf a b i = max (a i) (b i) := rfl

theorem v20_at (g j : Fin 4) (s : Fin 8448) : val_main_v20 (F := Ideal) x0 x1 (ix3 g j s)
    = max (val_main_v19 (F := Ideal) (ix3 g j s)) (val_main_v18 (F := Ideal) x0 x1 (ix3 g j s)) := by
  unfold val_main_v20
  exact max_apply _ _ _

theorem v24_at (g j : Fin 4) (s : Fin 8448) (t : Fin 8208) : val_main_v24 (F := Ideal) x0 x1 (ix4 g j s t)
    = Ideal.exp (val_main_v4 (F := Ideal) x0 x1 (ix4 g j s t) - val_main_v20 (F := Ideal) x0 x1 (ix3 g j s)) := by
  pointwise [val_main_v24, val_main_v23, val_main_v22, val_main_v21]

theorem v25_at (g j : Fin 4) (s : Fin 8448) : val_main_v25 (F := Ideal) x0 x1 (ix3 g j s) = ∑ t : Fin 8208, val_main_v24 (F := Ideal) x0 x1 (ix4 g j s t) := by
  pointwise [val_main_v25, val_main_cst_5]

theorem v28_at (g j : Fin 4) (s : Fin 8448) (t : Fin 8208) : val_main_v28 (F := Ideal) x0 x1 (ix4 g j s t)
    = Ideal.div (val_main_v24 (F := Ideal) x0 x1 (ix4 g j s t)) (val_main_v25 (F := Ideal) x0 x1 (ix3 g j s)) := by
  pointwise [val_main_v28, val_main_v27, val_main_v26]

theorem v31_at (g j : Fin 4) (s : Fin 8448) (d : Fin 64) : val_main_v31 (F := Ideal) x0 x1 x2 (ix4 s g j d)
    = ∑ t : Fin 8208, x2 (ix3 (up t) g d) * val_main_v28 (F := Ideal) x0 x1 (ix4 g j s t) := by
  pointwise [val_main_v31, val_main_v30, val_main_v29, up]

/-- Column `d` of head `p` of pair `2 g + a`. -/
def col (g : Fin 4) (a p : Fin 2) (d : Fin 64) : Fin 1024 := ⟨128 * (2 * g.val + a.val) + 64 * p.val + d.val, by omega⟩

/-- Query `2 a + p` of a group's four. -/
def jOf (a p : Fin 2) : Fin 4 := ⟨2 * a.val + p.val, by omega⟩

/-- Pair `2 g + a`. -/
def pairOf (g : Fin 4) (a : Fin 2) : Fin 8 := ⟨2 * g.val + a.val, by omega⟩

theorem v32_at (g : Fin 4) (a p : Fin 2) (s : Fin 8448) (d : Fin 64) : val_main_v32 (F := Ideal) x0 x1 x2 (ix2 s (col g a p d))
    = val_main_v31 (F := Ideal) x0 x1 x2 (ix4 s g (jOf a p) d) := by
  pointwise [val_main_v32, col, jOf]
  exact congrArg (fun j => val_main_v31 (F := Ideal) x0 x1 x2 (ix4 s g j d)) (Fin.ext (by dsimp only; omega))

theorem v33_at (i : S8448x1024.Idx) : val_main_v33 (F := Ideal) x0 x1 x2 i = val_main_v32 (F := Ideal) x0 x1 x2 i := rfl

theorem v35_at (g : Fin 4) (a p : Fin 2) (s : Fin 8448) : val_main_v35 (F := Ideal) x0 x1 (ix3 (pairOf g a) s p)
    = val_main_v17 (F := Ideal) x0 x1 (ix4 g (jOf a p) s 0) := by
  pointwise [val_main_v35, val_main_v34, pairOf, jOf]
  exact congrArg (fun j => val_main_v17 (F := Ideal) x0 x1 (ix4 g j s 0)) (Fin.ext (by dsimp only; omega))

variable (q : Fin 8448 → Fin 4 → Fin 4 → Fin 64 → ℝ) (k v : Fin 8448 → Fin 4 → Fin 64 → ℝ)
variable (h0 : ∀ s g j d, x0 (ix4 s g j d) = ((q s g j d : ℝ) : EReal)) (h1 : ∀ s g d, x1 (ix3 s g d) = ((k s g d : ℝ) : EReal))
  (h2 : ∀ s g d, x2 (ix3 s g d) = ((v s g d : ℝ) : EReal))

include h0 h1

theorem v4_real (g j : Fin 4) (s : Fin 8448) (t : Fin 8208) : val_main_v4 (F := Ideal) x0 x1 (ix4 g j s t) = ((score q k g j s t : ℝ) : EReal) := by
  rw [v4_at, bits_eighth]
  simp only [h0, h1, ← EReal.coe_mul, coe_sum]
  rfl

include h2 in
/-- The attention's output. -/
theorem v31_real (g j : Fin 4) (s : Fin 8448) (d : Fin 64) : val_main_v31 (F := Ideal) x0 x1 x2 (ix4 s g j d)
    = ((∑ t : Fin 8208, prob q k g j s t * v (up t) g d : ℝ) : EReal) := by
  obtain ⟨M, hM⟩ := fold_max_univ (n := 8207) fun t => score q k g j s t
  have e20 : val_main_v20 (F := Ideal) x0 x1 (ix3 g j s) = (M : EReal) := by
    rw [v20_at, v19_at, v18_at, bits_bot]
    simp only [v4_real x0 x1 q k h0 h1]
    exact (congrArg (max ⊥) hM).trans (max_eq_right bot_le)
  have e24 (t : Fin 8208) : val_main_v24 (F := Ideal) x0 x1 (ix4 g j s t) = ((Real.exp (score q k g j s t - M) : ℝ) : EReal) := by
    rw [v24_at, v4_real x0 x1 q k h0 h1, e20, sub_real, Ideal.exp_coe]
  have hp : 0 < ∑ t, Real.exp (score q k g j s t - M) := sum_pos (n := 8207) (score q k g j s) M
  have e28 (t : Fin 8208) : val_main_v28 (F := Ideal) x0 x1 (ix4 g j s t) = ((prob q k g j s t : ℝ) : EReal) := by
    rw [v28_at, v25_at]
    simp only [e24, coe_sum]
    rw [div_real hp.ne']
    exact congrArg _ (soft_eq (n := 8207) (score q k g j s) M t)
  rw [v31_at]
  simp only [e28, h2, ← EReal.coe_mul, coe_sum]
  exact congrArg _ (Finset.sum_congr rfl fun t _ => mul_comm _ _)

/-- The log-sum-exp, of base two. -/
theorem v17_real (g j : Fin 4) (s : Fin 8448) : val_main_v17 (F := Ideal) x0 x1 (ix4 g j s 0)
    = ((Real.log (∑ t : Fin 8208, Real.exp (score q k g j s t)) / Real.log 2 : ℝ) : EReal) := by
  obtain ⟨M, hM⟩ := fold_max_univ (n := 8207) fun t => score q k g j s t
  have e5 : val_main_v5 (F := Ideal) x0 x1 (ix3 g j s) = (M : EReal) := by
    rw [v5_at, bits_bot]
    simp only [v4_real x0 x1 q k h0 h1]
    exact hM
  have e9 (t : Fin 8208) : val_main_v9 (F := Ideal) x0 x1 (ix4 g j s t) = ((Real.exp (score q k g j s t - M) : ℝ) : EReal) := by
    rw [v9_at, v4_real x0 x1 q k h0 h1, e5, sub_real, Ideal.exp_coe]
  have hp : 0 < ∑ t, Real.exp (score q k g j s t - M) := sum_pos (n := 8207) (score q k g j s) M
  rw [v17_at, v10_at, e5, log_two]
  simp only [e9, coe_sum]
  rw [log_pos_coe hp, ← EReal.coe_add, div_real ln2_ne]
  exact congrArg (fun r : ℝ => ((r / Real.log 2 : ℝ) : EReal)) (log_shift (score q k g j s) M)

end Cert.Reference5Ideal.Value

end
-- ==== Proof.FwdBlocks.lean ====
/-
  The arrays that the forward attention's call takes, of the program's arguments, and the blocks of a grid point, by the
  places in those arrays.
-/
module

public import proofs.«01_k».proof.Proof.Gen.Kernel5Ideal.Frame
public import proofs.«01_k».proof.Proof.FwdRef
public import Idealize.ShloMosaic.Lib.StableHlo.RunRead
public import Idealize.ShloMosaic.Lib.Pipeline.Value

@[expose] public section

noncomputable section

namespace Cert.Kernel5Ideal.Fwd

open Idealize.ShloMosaic Idealize.ShloMosaic.TcCoe Idealize.ShloMosaic.Pointwise Cert.Kernel5Ideal Cert.Kernel5Ideal.Gen
open Idealize.SL Idealize.SL.Sem
open Cert.Reference5Ideal.Value (col jOf pairOf)

/-! ## The arrays taken -/

section

variable (x0 : FVec Ideal S8448x4x4x64 .f32) (x1 : FVec Ideal S8448x4x64 .f32)

/-- The scale of the queries. -/
def hostScale : FVec Ideal S_ .f32 := Host.divf (F := Ideal) (constant S_ .f32 0x3E000000#32) (Host.log (constant S_ .f32 0x40000000#32))

def hostQ : FVec Ideal S16x8448x64 .bf16 :=
  transpose S16x8448x64 [1, 0, 2] (shapeCast S8448x16x64 (truncf .bf16 (mulf x0 (broadcastInDim S8448x4x4x64 ![] bcast_S_S8448x4x4x64 hostScale)) bitsLt_bf16_f32)
    shapeCasts_S8448x4x4x64_S8448x16x64) transposes_S8448x16x64_S16x8448x64_1_0_2

def hostK : FVec Ideal S4x8448x64 .bf16 := transpose S4x8448x64 [1, 0, 2] (truncf .bf16 x1 bitsLt_bf16_f32) transposes_S8448x4x64_S4x8448x64_1_0_2

/-- The values, with a column of ones and columns of zeros. -/
def hostV : FVec Ideal S4x8448x128 .bf16 :=
  concatenate S4x8448x128 2 [⟨S4x8448x64, hostK x1⟩, ⟨S4x8448x1, broadcastInDim S4x8448x1 ![] bcast_S_S4x8448x1 (constant (F := Ideal) S_ .bf16 0x3F80#16)⟩,
    ⟨S4x8448x63, broadcastInDim S4x8448x63 ![] bcast_S_S4x8448x63 (constant (F := Ideal) S_ .bf16 0x0000#16)⟩] concatenates_S4x8448x64_S4x8448x1_S4x8448x63_S4x8448x128_d2

theorem hostScale_at : hostScale ix0 = Ideal.div (Ideal.ofBits .f32 0x3E000000#32) (Ideal.log (Ideal.ofBits .f32 0x40000000#32)) := by
  pointwise [hostScale]

theorem hostQ_at (g j : Fin 4) (s : Fin 8448) (d : Fin 64) : hostQ x0 (ix3 (⟨4 * g.val + j.val, by omega⟩ : Fin 16) s d) = x0 (ix4 s g j d) * hostScale ix0 := by
  pointwise [hostQ]

theorem hostK_at (g : Fin 4) (k : Fin 8448) (d : Fin 64) : hostK x1 (ix3 g k d) = x1 (ix3 k g d) := by
  pointwise [hostK]

theorem hostV_first (g : Fin 4) (k : Fin 8448) (d : Fin 64) : hostV x1 (ix3 g k (⟨d.val, by omega⟩ : Fin 128)) = x1 (ix3 k g d) := by
  have hd := d.isLt
  pointwise [hostV, hostK]

theorem hostV_ones (g : Fin 4) (k : Fin 8448) : hostV x1 (ix3 g k 64) = 1 := by
  pointwise [hostV]

theorem hostV_zeros (g : Fin 4) (k : Fin 8448) (e : Fin 63) : hostV x1 (ix3 g k (⟨65 + e.val, by omega⟩ : Fin 128)) = 0 := by
  pointwise [hostV]
  rw [dif_neg (by omega), dif_neg (by omega)]

end

variable (m : (ℓ : Loc nD τ sig) → Buf (Elt Ideal) ℓ) (c : Dev nD)

/-- The arguments. -/
def mem0 : FVec Ideal S8448x4x4x64 .f32 := m ((c.tc : Thread nD τ).loc main_arg0)
def mem1 : FVec Ideal S8448x4x64 .f32 := m ((c.tc : Thread nD τ).loc main_arg1)
def mem2 : FVec Ideal S8448x4x64 .f32 := m ((c.tc : Thread nD τ).loc main_arg2)

/-- The queries, keys and values that the call takes. -/
def arrQ : FVec Ideal S16x8448x64 .bf16 := V m c main_v7
def arrK : FVec Ideal S4x8448x64 .bf16 := V m c main_v9
def arrV : FVec Ideal S4x8448x128 .bf16 := V m c main_v14

theorem arrQ_eq : arrQ m c = hostQ (mem0 m c) := by
  unfold arrQ
  show StableHlo.after hostOps0 (fun b => m (c, b)) _ = _
  dsimp only [hostOps0]
  after_reads_simp
  rfl

theorem arrK_eq : arrK m c = hostK (mem1 m c) := by
  unfold arrK
  show StableHlo.after hostOps0 (fun b => m (c, b)) _ = _
  dsimp only [hostOps0]
  after_reads_simp
  rfl

theorem arrV_eq : arrV m c = hostV (mem2 m c) := by
  unfold arrV
  show StableHlo.after hostOps0 (fun b => m (c, b)) _ = _
  dsimp only [hostOps0]
  after_reads_simp
  rfl

/-! ## The blocks -/

theorem point_lt (t : Fin cfg0.N) : t.val < 88 := t.isLt

/-- The group of heads of a point, and which of its two pairs. -/
def gr (t : Fin cfg0.N) : Fin 4 := ⟨t.val / 22, by have := point_lt t; omega⟩
def ar (t : Fin cfg0.N) : Fin 2 := ⟨t.val / 11 % 2, by omega⟩

/-- Row `r` of a point's block of queries. -/
def row (t : Fin cfg0.N) (r : Fin 768) : Fin 8448 := ⟨768 * (t.val % 11) + r.val, by omega⟩

theorem index0 : ∀ t : Fin cfg0.N, cc0_transform_0 (grid0.coords t) = ![t.val / 11, t.val % 11, 0] :=
  (by decide +kernel : ∀ t : Fin grid0.N, cc0_transform_0 (grid0.coords t) = ![t.val / 11, t.val % 11, 0])

theorem index1 : ∀ t : Fin cfg0.N, cc0_transform_1 (grid0.coords t) = ![t.val / 22, 0, 0] :=
  (by decide +kernel : ∀ t : Fin grid0.N, cc0_transform_1 (grid0.coords t) = ![t.val / 22, 0, 0])

theorem index2 : ∀ t : Fin cfg0.N, cc0_transform_2 (grid0.coords t) = ![t.val / 22, 0, 0] :=
  (by decide +kernel : ∀ t : Fin grid0.N, cc0_transform_2 (grid0.coords t) = ![t.val / 22, 0, 0])

theorem index3 : ∀ t : Fin cfg0.N, cc0_transform_3 (grid0.coords t) = ![t.val % 11, t.val / 11] :=
  (by decide +kernel : ∀ t : Fin grid0.N, cc0_transform_3 (grid0.coords t) = ![t.val % 11, t.val / 11])

theorem index4 : ∀ t : Fin cfg0.N, cc0_transform_4 (grid0.coords t) = ![t.val % 11, t.val / 11] :=
  (by decide +kernel : ∀ t : Fin grid0.N, cc0_transform_4 (grid0.coords t) = ![t.val % 11, t.val / 11])

theorem index5 : ∀ t : Fin cfg0.N, cc0_transform_5 (grid0.coords t) = ![t.val / 11, t.val % 11, 0] :=
  (by decide +kernel : ∀ t : Fin grid0.N, cc0_transform_5 (grid0.coords t) = ![t.val / 11, t.val % 11, 0])

theorem blockQ (t : Fin cfg0.N) (p : Fin 2) (r : Fin 768) (d : Fin 64) : (iblk m c 0 t : Vec Ideal S2x768x64 .bf16) (ix3 p r d)
    = arrQ m c (ix3 (⟨4 * (gr t).val + (jOf (ar t) p).val, by omega⟩ : Fin 16) (row t r) d) :=
  congrArg (V m c main_v7) (Rect.emb_eq_of_coords (win0_0.rect t) _ _ fun a => match a with
    | ⟨0, _⟩ => by show _ = cc0_transform_0 (grid0.coords t) 0 * 2 + 1 * p.val; rw [index0]; show 4 * (t.val / 22) + (2 * (t.val / 11 % 2) + p.val) = (t.val / 11) * 2 + 1 * p.val; omega
    | ⟨1, _⟩ => by show _ = cc0_transform_0 (grid0.coords t) 1 * 768 + 1 * r.val; rw [index0]; show 768 * (t.val % 11) + r.val = (t.val % 11) * 768 + 1 * r.val; omega
    | ⟨2, _⟩ => by show _ = cc0_transform_0 (grid0.coords t) 2 * 64 + 1 * d.val; rw [index0]; show d.val = 0 * 64 + 1 * d.val; omega)

theorem blockK (t : Fin cfg0.N) (n : Fin 8448) (d : Fin 64) : (iblk m c 1 t : Vec Ideal S1x8448x64 .bf16) (ix3 0 n d) = arrK m c (ix3 (gr t) n d) :=
  congrArg (V m c main_v9) (Rect.emb_eq_of_coords (win0_1.rect t) _ _ fun a => match a with
    | ⟨0, _⟩ => by show _ = cc0_transform_1 (grid0.coords t) 0 * 1 + 1 * 0; rw [index1]; show t.val / 22 = (t.val / 22) * 1 + 1 * 0; omega
    | ⟨1, _⟩ => by show _ = cc0_transform_1 (grid0.coords t) 1 * 8448 + 1 * n.val; rw [index1]; show n.val = 0 * 8448 + 1 * n.val; omega
    | ⟨2, _⟩ => by show _ = cc0_transform_1 (grid0.coords t) 2 * 64 + 1 * d.val; rw [index1]; show d.val = 0 * 64 + 1 * d.val; omega)

theorem blockV (t : Fin cfg0.N) (n : Fin 8448) (j : Fin 128) : (iblk m c 2 t : Vec Ideal S1x8448x128 .bf16) (ix3 0 n j) = arrV m c (ix3 (gr t) n j) :=
  congrArg (V m c main_v14) (Rect.emb_eq_of_coords (win0_2.rect t) _ _ fun a => match a with
    | ⟨0, _⟩ => by show _ = cc0_transform_2 (grid0.coords t) 0 * 1 + 1 * 0; rw [index2]; show t.val / 22 = (t.val / 22) * 1 + 1 * 0; omega
    | ⟨1, _⟩ => by show _ = cc0_transform_2 (grid0.coords t) 1 * 8448 + 1 * n.val; rw [index2]; show n.val = 0 * 8448 + 1 * n.val; omega
    | ⟨2, _⟩ => by show _ = cc0_transform_2 (grid0.coords t) 2 * 128 + 1 * j.val; rw [index2]; show j.val = 0 * 128 + 1 * j.val; omega)

theorem emb3 (t : Fin cfg0.N) (p : Fin 2) (r : Fin 768) (d : Fin 64) : (win0_3.rect t).emb (ix2 r (⟨64 * p.val + d.val, by omega⟩ : Fin 128))
    = (ix2 (row t r) (col (gr t) (ar t) p d) : S8448x1024.Idx) :=
  Rect.emb_eq_of_coords _ _ _ fun b => match b with
    | ⟨0, _⟩ => by show _ = cc0_transform_3 (grid0.coords t) 0 * 768 + 1 * r.val; rw [index3]; show 768 * (t.val % 11) + r.val = (t.val % 11) * 768 + 1 * r.val; omega
    | ⟨1, _⟩ => by
      show _ = cc0_transform_3 (grid0.coords t) 1 * 128 + 1 * (64 * p.val + d.val)
      rw [index3]
      show 128 * (2 * (t.val / 22) + t.val / 11 % 2) + 64 * p.val + d.val = (t.val / 11) * 128 + 1 * (64 * p.val + d.val)
      omega

theorem emb4 (t : Fin cfg0.N) (p : Fin 2) (r : Fin 768) (d : Fin 64) : (win0_4.rect t).emb (ix2 r (⟨64 * p.val + d.val, by omega⟩ : Fin 128))
    = (ix2 (row t r) (col (gr t) (ar t) p d) : S8448x1024.Idx) :=
  Rect.emb_eq_of_coords _ _ _ fun b => match b with
    | ⟨0, _⟩ => by show _ = cc0_transform_4 (grid0.coords t) 0 * 768 + 1 * r.val; rw [index4]; show 768 * (t.val % 11) + r.val = (t.val % 11) * 768 + 1 * r.val; omega
    | ⟨1, _⟩ => by
      show _ = cc0_transform_4 (grid0.coords t) 1 * 128 + 1 * (64 * p.val + d.val)
      rw [index4]
      show 128 * (2 * (t.val / 22) + t.val / 11 % 2) + 64 * p.val + d.val = (t.val / 11) * 128 + 1 * (64 * p.val + d.val)
      omega

theorem emb5 (t : Fin cfg0.N) (p : Fin 2) (r : Fin 768) : (win0_5.rect t).emb (ix3 0 r p) = (ix3 (pairOf (gr t) (ar t)) (row t r) p : S8x8448x2.Idx) :=
  Rect.emb_eq_of_coords _ _ _ fun b => match b with
    | ⟨0, _⟩ => by show _ = cc0_transform_5 (grid0.coords t) 0 * 1 + 1 * 0; rw [index5]; show 2 * (t.val / 22) + t.val / 11 % 2 = (t.val / 11) * 1 + 1 * 0; omega
    | ⟨1, _⟩ => by show _ = cc0_transform_5 (grid0.coords t) 1 * 768 + 1 * r.val; rw [index5]; show 768 * (t.val % 11) + r.val = (t.val % 11) * 768 + 1 * r.val; omega
    | ⟨2, _⟩ => by show _ = cc0_transform_5 (grid0.coords t) 2 * 2 + 1 * p.val; rw [index5]; show p.val = 0 * 2 + 1 * p.val; omega

end Cert.Kernel5Ideal.Fwd

end
-- ==== Proof.FwdSteps.lean ====
/-
  The forward attention's body as a recursion over the chunks of keys, for one head: the scores of a chunk, the running
  maximum and the running sums. The values that the printed body computes are those of the recursion after 33 chunks.
-/
module

public import proofs.«01_k».proof.Proof.Gen.Kernel5Ideal.Frame

@[expose] public section

noncomputable section

namespace Cert.Kernel5Ideal.Fwd

open Idealize.ShloMosaic Cert.Kernel5Ideal Cert.Kernel5Ideal.Gen

variable {F : FTy → Type} [FloatOps F] [Named F]

theorem inK (c : ℕ) (h : c < 33) : ∀ a, (![0, 256 * c, 0] : Fin 3 → ℕ) a + S1x256x64.size a ≤ S1x8448x64.size a := fun a => match a with
  | ⟨0, _⟩ => by show 0 + 1 ≤ 1; omega
  | ⟨1, _⟩ => by show 256 * c + 256 ≤ 8448; omega
  | ⟨2, _⟩ => by show 0 + 64 ≤ 64; omega

theorem inV (c : ℕ) (h : c < 33) : ∀ a, (![0, 256 * c, 0] : Fin 3 → ℕ) a + S1x256x128.size a ≤ S1x8448x128.size a := fun a => match a with
  | ⟨0, _⟩ => by show 0 + 1 ≤ 1; omega
  | ⟨1, _⟩ => by show 256 * c + 256 ≤ 8448; omega
  | ⟨2, _⟩ => by show 0 + 128 ≤ 128; omega

/-- Chunk `c` of the keys. -/
def keys (x1 : Vec F S1x8448x64 .bf16) (c : ℕ) (h : c < 33) : Vec F S1x256x64 .bf16 :=
  View.ld x1 (Rect.unit (s := S1x8448x64) ![0, 256 * c, 0] S1x256x64.size (inK c h))

/-- Chunk `c` of the values. -/
def vals (x2 : Vec F S1x8448x128 .bf16) (c : ℕ) (h : c < 33) : Vec F S1x256x128 .bf16 :=
  View.ld x2 (Rect.unit (s := S1x8448x128) ![0, 256 * c, 0] S1x256x128.size (inV c h))

variable (qh : Vec F S1x768x64 .bf16) (x1 : Vec F S1x8448x64 .bf16) (x2 : Vec F S1x8448x128 .bf16)

/-- The scores of a chunk: in the first one the padding is masked. -/
def sAt : (c : ℕ) → c < 33 → FVec F S768x256 .f32
  | 0, h => k0_pay7 (keys x1 0 h) qh
  | c + 1, h => k0_pay12 (keys x1 (c + 1) h) qh

/-- The running maximum after `c` chunks. -/
def mAt : (c : ℕ) → c ≤ 33 → FVec F S768x1 .f32
  | 0, _ => k0_pay2
  | c + 1, h => k0_pay13 (mAt c (by omega)) (sAt qh x1 c (by omega))

/-- The running sums after `c` chunks. -/
def aAt : (c : ℕ) → c ≤ 33 → FVec F S768x128 .f32
  | 0, _ => k0_pay4
  | c + 1, h => k0_pay14 (mAt qh x1 c (by omega)) (aAt c (by omega)) (sAt qh x1 c (by omega)) (vals x2 c (by omega))

variable (x0 : Vec F S2x768x64 .bf16)

set_option maxRecDepth 100000 in
set_option maxHeartbeats 0 in
theorem max0 : k0_pay225 (k0_pay362 x0 x1 x2) (k0_pay363 x0 x1 x2) = mAt (View.ld x0 r0_1) x1 33 (by omega) := rfl

set_option maxRecDepth 100000 in
set_option maxHeartbeats 0 in
theorem max1 : k0_pay227 (k0_pay365 x0 x1 x2) (k0_pay366 x0 x1 x2) = mAt (View.ld x0 r0_2) x1 33 (by omega) := rfl

set_option maxRecDepth 100000 in
set_option maxHeartbeats 0 in
theorem sums0 : k0_pay226 (k0_pay362 x0 x1 x2) (k0_pay363 x0 x1 x2) (k0_pay364 x0 x1 x2) (View.ld x2 r0_67) = aAt (View.ld x0 r0_1) x1 x2 33 (by omega) := rfl

set_option maxRecDepth 100000 in
set_option maxHeartbeats 0 in
theorem sums1 : k0_pay228 (k0_pay365 x0 x1 x2) (k0_pay366 x0 x1 x2) (k0_pay367 x0 x1 x2) (View.ld x2 r0_67) = aAt (View.ld x0 r0_2) x1 x2 33 (by omega) := rfl

end Cert.Kernel5Ideal.Fwd

end
-- ==== Proof.FwdOuts.lean ====
/-
  What a grid point of the forward attention leaves in its three blocks, entry by entry, of the running maxima and sums
  of its two heads.
-/
module

public import proofs.«01_k».proof.Proof.FwdSteps
public import proofs.«01_k».proof.Proof.FfnOuts
public import Idealize.ShloMosaic.Lib.Pointwise

@[expose] public section

noncomputable section

namespace Cert.Kernel5Ideal.Fwd

open Idealize.ShloMosaic Idealize.ShloMosaic.Pointwise Cert.Kernel5Ideal Cert.Kernel5Ideal.Gen
open Cert.Kernel2Ideal.Ffn (hz2)

theorem hz3 : (![0, 0, 0] : Fin 3 → ℕ) = fun _ => 0 := by
  funext a
  match a with
  | ⟨0, _⟩ => rfl
  | ⟨1, _⟩ => rfl
  | ⟨2, _⟩ => rfl

/-- The sums' quotients, the two heads side by side. -/
def tileO (A B : FVec Ideal S768x128 .f32) : FVec Ideal S768x128 .f32 :=
  concatenate S768x128 1 [⟨S768x64, divf (extractStridedSlice S768x64 ![0, 0] A slices_S768x128_o0_0_S768x64)
      (broadcastTo S768x64 (extractStridedSlice S768x1 ![0, 64] A slices_S768x128_o0_64_S768x1) broadcasts_S768x1_S768x64)⟩,
    ⟨S768x64, divf (extractStridedSlice S768x64 ![0, 0] B slices_S768x128_o0_0_S768x64)
      (broadcastTo S768x64 (extractStridedSlice S768x1 ![0, 64] B slices_S768x128_o0_64_S768x1) broadcasts_S768x1_S768x64)⟩] concatenates_S768x64_S768x64_S768x128_d1

/-- The column of the sums of the weights. -/
def colL (A : FVec Ideal S768x128 .f32) : FVec Ideal S768x1 .f32 := extractStridedSlice S768x1 ![0, 64] A slices_S768x128_o0_64_S768x1

/-- The maxima and the sums' logarithms, the two heads side by side. -/
def tileL (M N : FVec Ideal S768x1 .f32) (A B : FVec Ideal S768x128 .f32) : FVec Ideal S1x768x2 .f32 :=
  k0_pay1 M N (colL B) (log (colL A)) (Scalar.ofBits .f32 0x40000000#32)

theorem tileO_first (A B : FVec Ideal S768x128 .f32) (r : Fin 768) (d : Fin 64) :
    tileO A B (ix2 r (⟨d.val, by omega⟩ : Fin 128)) = Ideal.div (A (ix2 r (⟨d.val, by omega⟩ : Fin 128))) (A (ix2 r 64)) := by
  have hd : d.val < 64 := d.isLt
  pointwise [tileO]

theorem tileO_second (A B : FVec Ideal S768x128 .f32) (r : Fin 768) (d : Fin 64) :
    tileO A B (ix2 r (⟨64 + d.val, by omega⟩ : Fin 128)) = Ideal.div (B (ix2 r (⟨d.val, by omega⟩ : Fin 128))) (B (ix2 r 64)) := by
  pointwise [tileO]

theorem colL_at (A : FVec Ideal S768x128 .f32) (r : Fin 768) : colL A (ix2 r 0) = A (ix2 r 64) := by
  pointwise [colL]

theorem lse_at (M L : FVec Ideal S768x1 .f32) (i : S768x1.Idx) :
    addf M (divf (log L) (log (broadcast S768x1 (Scalar.ofBits .f32 0x40000000#32)))) i = M i + Ideal.div (Ideal.log (L i)) (Ideal.log (Ideal.ofBits .f32 0x40000000#32)) := rfl

/-- The two columns of the log-sum-exps. -/
def pair (X Y : FVec Ideal S768x1 .f32) : FVec Ideal S1x768x2 .f32 :=
  shapeCast S1x768x2 (concatenate S768x2 1 [⟨S768x1, X⟩, ⟨S768x1, Y⟩] concatenates_S768x1_S768x1_S768x2_d1) shapeCasts_S768x2_S1x768x2

theorem pair_first (X Y : FVec Ideal S768x1 .f32) (r : Fin 768) : pair X Y (ix3 0 r 0) = X (ix2 r 0) := by
  pointwise [pair]

theorem pair_second (X Y : FVec Ideal S768x1 .f32) (r : Fin 768) : pair X Y (ix3 0 r 1) = Y (ix2 r 0) := by
  pointwise [pair]

theorem tileL_first (M N : FVec Ideal S768x1 .f32) (A B : FVec Ideal S768x128 .f32) (r : Fin 768) :
    tileL M N A B (ix3 0 r 0) = M (ix2 r 0) + Ideal.div (Ideal.log (A (ix2 r 64))) (Ideal.log (Ideal.ofBits .f32 0x40000000#32)) := by
  refine (pair_first _ _ r).trans ((lse_at M (colL A) _).trans ?_)
  rw [colL_at]

theorem tileL_second (M N : FVec Ideal S768x1 .f32) (A B : FVec Ideal S768x128 .f32) (r : Fin 768) :
    tileL M N A B (ix3 0 r 1) = N (ix2 r 0) + Ideal.div (Ideal.log (B (ix2 r 64))) (Ideal.log (Ideal.ofBits .f32 0x40000000#32)) := by
  refine (pair_second _ _ r).trans ((lse_at N (colL B) _).trans ?_)
  rw [colL_at]

variable (x0 : Vec Ideal S2x768x64 .bf16) (x1 : Vec Ideal S1x8448x64 .bf16) (x2 : Vec Ideal S1x8448x128 .bf16)

/-- The queries of head `p` of a block. -/
def head (p : Fin 2) : Vec Ideal S1x768x64 .bf16 := match p with
  | 0 => View.ld x0 r0_1
  | 1 => View.ld x0 r0_2

theorem head_at (p : Fin 2) (r : Fin 768) (d : Fin 64) : head x0 p (ix3 0 r d) = x0 (ix3 p r d) := match p with
  | 0 => congrArg x0 (Rect.emb_eq_of_coords _ _ _ fun a => match a with
    | ⟨0, _⟩ => by show 0 = 0 + 1 * 0; omega
    | ⟨1, _⟩ => by show r.val = 0 + 1 * r.val; omega
    | ⟨2, _⟩ => by show d.val = 0 + 1 * d.val; omega)
  | 1 => congrArg x0 (Rect.emb_eq_of_coords _ _ _ fun a => match a with
    | ⟨0, _⟩ => by show 1 = 1 + 1 * 0; omega
    | ⟨1, _⟩ => by show r.val = 0 + 1 * r.val; omega
    | ⟨2, _⟩ => by show d.val = 0 + 1 * d.val; omega)

/-- The last maxima and sums of head `p`. -/
def maxOf (p : Fin 2) : FVec Ideal S768x1 .f32 := mAt (head x0 p) x1 33 (by omega)
def sumOf (p : Fin 2) : FVec Ideal S768x128 .f32 := aAt (head x0 p) x1 x2 33 (by omega)

theorem o_eq : out0_3 x0 x1 x2 = tileO (sumOf x0 x1 x2 0) (sumOf x0 x1 x2 1) := by
  unfold out0_3
  rw [View.canon_unit_zero hz2]
  unfold k0_pay231 k0_pay229 k0_pay230
  rw [sums0, sums1]
  rfl

theorem b_eq (i : S768x128.Idx) : out0_4 x0 x1 x2 i = tileO (sumOf x0 x1 x2 0) (sumOf x0 x1 x2 1) i := by
  unfold out0_4
  rw [View.canon_unit_zero hz2]
  unfold k0_pay232 k0_pay231 k0_pay229 k0_pay230
  rw [sums0, sums1]
  rfl

theorem l_eq : out0_5 x0 x1 x2 = tileL (maxOf x0 x1 0) (maxOf x0 x1 1) (sumOf x0 x1 x2 0) (sumOf x0 x1 x2 1) := by
  unfold out0_5
  rw [View.canon_unit_zero hz3]
  unfold k0_pay233 k0_pay229 k0_pay230
  rw [sums0, sums1, max0, max1]
  rfl

theorem o_at (p : Fin 2) (r : Fin 768) (d : Fin 64) : out0_3 x0 x1 x2 (ix2 r (⟨64 * p.val + d.val, by omega⟩ : Fin 128))
    = Ideal.div (sumOf x0 x1 x2 p (ix2 r (⟨d.val, by omega⟩ : Fin 128))) (sumOf x0 x1 x2 p (ix2 r 64)) := by
  rw [o_eq]
  match p with
  | 0 => exact (congrArg (fun z : Fin 128 => tileO (sumOf x0 x1 x2 0) (sumOf x0 x1 x2 1) (ix2 r z)) (Fin.ext (by show 64 * 0 + d.val = d.val; omega))).trans (tileO_first _ _ r d)
  | 1 => exact (congrArg (fun z : Fin 128 => tileO (sumOf x0 x1 x2 0) (sumOf x0 x1 x2 1) (ix2 r z)) (Fin.ext (by show 64 * 1 + d.val = 64 + d.val; omega))).trans (tileO_second _ _ r d)

theorem b_at (i : S768x128.Idx) : (out0_4 x0 x1 x2 i : EReal) = out0_3 x0 x1 x2 i := by
  rw [o_eq]
  exact b_eq x0 x1 x2 i

theorem l_at (p : Fin 2) (r : Fin 768) : out0_5 x0 x1 x2 (ix3 0 r p)
    = maxOf x0 x1 p (ix2 r 0) + Ideal.div (Ideal.log (sumOf x0 x1 x2 p (ix2 r 64))) (Ideal.log (Ideal.ofBits .f32 0x40000000#32)) := by
  rw [l_eq]
  match p with
  | 0 => exact tileL_first _ _ _ _ r
  | 1 => exact tileL_second _ _ _ _ r

end Cert.Kernel5Ideal.Fwd

end
-- ==== Proof.FwdRow.lean ====
/-
  The forward attention's body over real arguments: after each chunk of keys, the running maximum of a row is real and
  the running sums are the sums of the weighted values over the real keys up to the chunk's end.
-/
module

public import proofs.«01_k».proof.Proof.FwdSteps
public import proofs.«01_k».proof.Proof.FwdReal
public import Idealize.ShloMosaic.Lib.Pointwise

@[expose] public section

noncomputable section

namespace Cert.Kernel5Ideal.Fwd

open Idealize.ShloMosaic Idealize.ShloMosaic.Pointwise Cert.Kernel5Ideal Cert.Kernel5Ideal.Gen
open Cert.Soft

theorem pay2_at (r : Fin 768) : k0_pay2 (F := Ideal) (ix2 r 0) = ⊥ := rfl

theorem pay4_at (r : Fin 768) (j : Fin 128) : k0_pay4 (F := Ideal) (ix2 r j) = 0 := by
  pointwise [k0_pay4]

theorem pay12_at (kc : Vec Ideal S1x256x64 .bf16) (qh : Vec Ideal S1x768x64 .bf16) (r : Fin 768) (t : Fin 256) :
    k0_pay12 kc qh (ix2 r t) = ∑ d : Fin 64, qh (ix3 0 r d) * kc (ix3 0 t d) := by
  pointwise [k0_pay12]

/-- The keys before 240 are padding. -/
theorem real_key (t : Fin 256) : IntOp.cmpi CmpIPredicate.sge (BitVec.ofNat 32 t.val) 240#32 = if 240 ≤ t.val then 1#1 else 0#1 := by
  revert t
  decide +kernel

theorem pay7_at (kc : Vec Ideal S1x256x64 .bf16) (qh : Vec Ideal S1x768x64 .bf16) (r : Fin 768) (t : Fin 256) :
    k0_pay7 kc qh (ix2 r t) = if 240 ≤ t.val then ∑ d : Fin 64, qh (ix3 0 r d) * kc (ix3 0 t d) else ⊥ := by
  pointwise [k0_pay7]
  rw [real_key]
  by_cases h : 240 ≤ t.val
  · rw [if_pos h, if_pos h]
    rfl
  · rw [if_neg h, if_neg h]
    rfl

theorem pay13_at (m : FVec Ideal S768x1 .f32) (s : FVec Ideal S768x256 .f32) (r : Fin 768) :
    k0_pay13 m s (ix2 r 0) = max (m (ix2 r 0)) (Finset.fold max (Ideal.ofBits .f32 0xFF800000#32) (fun t => s (ix2 r t)) Finset.univ) := by
  pointwise [k0_pay13]

theorem pay14_at (m : FVec Ideal S768x1 .f32) (a : FVec Ideal S768x128 .f32) (s : FVec Ideal S768x256 .f32) (vc : Vec Ideal S1x256x128 .bf16) (r : Fin 768) (j : Fin 128) :
    k0_pay14 m a s vc (ix2 r j) = Ideal.exp2 (m (ix2 r 0) - k0_pay13 m s (ix2 r 0)) * a (ix2 r j)
      + ∑ t : Fin 256, Ideal.exp2 (s (ix2 r t) - k0_pay13 m s (ix2 r 0)) * vc (ix3 0 t j) := by
  pointwise [k0_pay14]
  rfl

theorem keys_at (x1 : Vec Ideal S1x8448x64 .bf16) (c : ℕ) (h : c < 33) (t : Fin 256) (d : Fin 64) :
    keys x1 c h (ix3 0 t d) = x1 (ix3 0 (⟨256 * c + t.val, by omega⟩ : Fin 8448) d) :=
  congrArg x1 (Rect.emb_eq_of_coords _ _ _ fun a => match a with
    | ⟨0, _⟩ => by show 0 = 0 + 1 * 0; omega
    | ⟨1, _⟩ => by show 256 * c + t.val = 256 * c + 1 * t.val; omega
    | ⟨2, _⟩ => by show d.val = 0 + 1 * d.val; omega)

theorem vals_at (x2 : Vec Ideal S1x8448x128 .bf16) (c : ℕ) (h : c < 33) (t : Fin 256) (j : Fin 128) :
    vals x2 c h (ix3 0 t j) = x2 (ix3 0 (⟨256 * c + t.val, by omega⟩ : Fin 8448) j) :=
  congrArg x2 (Rect.emb_eq_of_coords _ _ _ fun a => match a with
    | ⟨0, _⟩ => by show 0 = 0 + 1 * 0; omega
    | ⟨1, _⟩ => by show 256 * c + t.val = 256 * c + 1 * t.val; omega
    | ⟨2, _⟩ => by show j.val = 0 + 1 * j.val; omega)

variable (qh : Vec Ideal S1x768x64 .bf16) (x1 : Vec Ideal S1x8448x64 .bf16) (x2 : Vec Ideal S1x8448x128 .bf16)
variable (r : Fin 768) (X : ℕ → ℝ) (W : ℕ → Fin 128 → ℝ)
variable (hX : ∀ n : Fin 8448, ∑ d : Fin 64, qh (ix3 0 r d) * x1 (ix3 0 n d) = ((X n.val : ℝ) : EReal))
  (hW : ∀ (n : Fin 8448) (j : Fin 128), x2 (ix3 0 n j) = ((W n.val j : ℝ) : EReal))

include hX in
theorem s_first (h : 0 < 33) (t : Fin 256) : sAt qh x1 0 h (ix2 r t) = if 240 ≤ t.val then ((X t.val : ℝ) : EReal) else ⊥ := by
  refine (pay7_at _ _ r t).trans ?_
  simp only [keys_at]
  rw [hX]
  simp only [Nat.mul_zero, Nat.zero_add]

include hX in
theorem s_next (c : ℕ) (h : c + 1 < 33) (t : Fin 256) : sAt qh x1 (c + 1) h (ix2 r t) = ((X (256 * (c + 1) + t.val) : ℝ) : EReal) := by
  refine (pay12_at _ _ r t).trans ?_
  simp only [keys_at]
  rw [hX]

include hX hW in
theorem chunks : ∀ (c : ℕ) (h : c + 1 ≤ 33), ∃ M : ℝ, mAt qh x1 (c + 1) h (ix2 r 0) = (M : EReal)
    ∧ ∀ j, aAt qh x1 x2 (c + 1) h (ix2 r j) = ((part X (W · j) M (256 * (c + 1)) : ℝ) : EReal)
  | 0, h => by
    obtain ⟨M, hM⟩ := fold_mask_real (n := 256) (fun t => sAt qh x1 0 (by omega) (ix2 r t))
      (fun t => by
        show sAt qh x1 0 _ (ix2 r t) = ⊥ ∨ ∃ y : ℝ, sAt qh x1 0 _ (ix2 r t) = y
        rw [s_first qh x1 r X hX]
        split_ifs
        · exact .inr ⟨_, rfl⟩
        · exact .inl rfl)
      ⟨240, by omega⟩ (X 240) ((s_first qh x1 r X hX _ _).trans (if_pos (le_refl _)))
    have em : mAt qh x1 1 h (ix2 r 0) = (M : EReal) := by
      refine (pay13_at _ _ r).trans ?_
      rw [bits_bot, hM]
      exact max_eq_right bot_le
    refine ⟨M, em, fun j => ?_⟩
    refine (pay14_at _ _ _ _ r j).trans ?_
    have e13 : k0_pay13 (mAt qh x1 0 (by omega)) (sAt qh x1 0 (by omega)) (ix2 r 0) = (M : EReal) := em
    have e0 : mAt qh x1 0 (by omega) (ix2 r 0) = (⊥ : EReal) := pay2_at r
    have ea : aAt qh x1 x2 0 (by omega) (ix2 r j) = (0 : EReal) := pay4_at r j
    rw [e13, e0, ea]
    simp only [vals_at, hW]
    refine Eq.trans ?_ (part_first X (W · j) M (fun t => sAt qh x1 0 (by omega) (ix2 r t)) (s_first qh x1 r X hX (by omega)))
    simp only [Nat.mul_zero, Nat.zero_add]
  | c + 1, h => by
    obtain ⟨M, hM, hA⟩ := chunks c (by omega)
    obtain ⟨N, hN⟩ := fold_max_univ (n := 255) fun t => X (256 * (c + 1) + t.val)
    have em : mAt qh x1 (c + 1 + 1) h (ix2 r 0) = ((max M N : ℝ) : EReal) := by
      refine (pay13_at _ _ r).trans ?_
      simp only [s_next qh x1 r X hX]
      rw [bits_bot, hM]
      exact (congrArg (max (M : EReal)) hN).trans (EReal.coe_strictMono.monotone.map_max).symm
    refine ⟨max M N, em, fun j => ?_⟩
    refine (pay14_at _ _ _ _ r j).trans ?_
    have e13 : k0_pay13 (mAt qh x1 (c + 1) (by omega)) (sAt qh x1 (c + 1) (by omega)) (ix2 r 0) = ((max M N : ℝ) : EReal) := em
    rw [e13, hM, hA]
    simp only [vals_at, hW, s_next qh x1 r X hX]
    exact (part_next X (W · j) M (max M N) (256 * (c + 1)) (by omega)).trans (by rw [show 256 * (c + 1) + 256 = 256 * (c + 1 + 1) by omega])

end Cert.Kernel5Ideal.Fwd

end
-- ==== Proof.FwdArrays.lean ====
/-
  The forward attention's three results over real arguments: the arrays that the call leaves are the reference's.
-/
module

public import proofs.«01_k».proof.Proof.FwdBlocks
public import proofs.«01_k».proof.Proof.FwdOuts
public import proofs.«01_k».proof.Proof.FwdRow
public import Idealize.ShloMosaic.Lib.Pipeline.ArrRel
public import Idealize.ShloMosaic.Lib.Pipeline.ValueKit.Geometry

@[expose] public section

noncomputable section

namespace Cert.Kernel5Ideal.Fwd

open Idealize.ShloMosaic Idealize.ShloMosaic.TcCoe Idealize.ShloMosaic.Pointwise Cert.Kernel5Ideal Cert.Kernel5Ideal.Gen
open Idealize.SL Idealize.SL.Sem
open Pipeline (RDat Dat)
open Cert.Soft
open Cert.Reference5Ideal.Value (col jOf pairOf v31_real v17_real v32_at v33_at v35_at)
open Cert.Reference5Ideal.Read

variable (m : (ℓ : Loc nD τ sig) → Buf (Elt Ideal) ℓ) (ρ : Dev nD → PrngReg) (c : Dev nD)

/-- The reference's results of the program's arguments. -/
def oRef : FVec Ideal S8448x1024 .f32 := val_main_v32 (F := Ideal) (mem0 m c) (mem1 m c) (mem2 m c)
def bRef : FVec Ideal S8448x1024 .bf16 := val_main_v33 (F := Ideal) (mem0 m c) (mem1 m c) (mem2 m c)
def lRef : FVec Ideal S8x8448x2 .f32 := val_main_v35 (F := Ideal) (mem0 m c) (mem1 m c)

section

variable (q : Fin 8448 → Fin 4 → Fin 4 → Fin 64 → ℝ) (k v : Fin 8448 → Fin 4 → Fin 64 → ℝ)

/-- The scaled scores of a query, by the keys' numbers. -/
def scaled (g j : Fin 4) (s : Fin 8448) (n : ℕ) : ℝ := if h : n < 8448 then ∑ d, q s g j d * (1 / 8 / Real.log 2) * k ⟨n, h⟩ g d else 0

/-- The columns of the values that the call takes, by the keys' numbers. -/
def wide (g : Fin 4) (n : ℕ) (j : Fin 128) : ℝ := if h : n < 8448 then (if e : j.val < 64 then v ⟨n, h⟩ g ⟨j.val, e⟩ else if j.val = 64 then 1 else 0) else 0

theorem scaled_up (g j : Fin 4) (s : Fin 8448) (t : Fin 8208) : scaled q k g j s (240 + t.val) = score q k g j s t / Real.log 2 := by
  unfold scaled score
  rw [dif_pos (by omega), Finset.sum_mul, Finset.sum_div]
  refine Finset.sum_congr rfl fun d _ => ?_
  show q s g j d * (1 / 8 / Real.log 2) * k (up t) g d = _
  ring

theorem wide_ones (g : Fin 4) (t : Fin 8208) : wide v g (240 + t.val) 64 = 1 := by
  unfold wide
  rw [dif_pos (by omega), dif_neg (by decide), if_pos (by decide)]

theorem wide_up (g : Fin 4) (t : Fin 8208) (d : Fin 64) : wide v g (240 + t.val) (⟨d.val, by omega⟩ : Fin 128) = v (up t) g d := by
  unfold wide
  rw [dif_pos (by omega), dif_pos d.isLt]
  rfl

variable (h0 : ∀ s g j d, mem0 m c (ix4 s g j d) = ((q s g j d : ℝ) : EReal)) (h1 : ∀ s g d, mem1 m c (ix3 s g d) = ((k s g d : ℝ) : EReal))
  (h2 : ∀ s g d, mem2 m c (ix3 s g d) = ((v s g d : ℝ) : EReal))

theorem scale_real : hostScale ix0 = ((1 / 8 / Real.log 2 : ℝ) : EReal) := by
  rw [hostScale_at, bits_eighth, log_two, div_real ln2_ne]

include h0 h1 in
theorem score_row (t : Fin cfg0.N) (p : Fin 2) (r : Fin 768) (n : Fin 8448) :
    ∑ d : Fin 64, head (iblk m c 0 t) p (ix3 0 r d) * (iblk m c 1 t : Vec Ideal S1x8448x64 .bf16) (ix3 0 n d)
      = ((scaled q k (gr t) (jOf (ar t) p) (row t r) n.val : ℝ) : EReal) := by
  unfold scaled
  rw [dif_pos n.isLt, ← coe_sum]
  refine Finset.sum_congr rfl fun d _ => ?_
  rw [head_at, blockQ, blockK, arrQ_eq, arrK_eq, hostQ_at, hostK_at, h0, h1, scale_real, ← EReal.coe_mul, ← EReal.coe_mul]

include h2 in
theorem value_col (t : Fin cfg0.N) (n : Fin 8448) (j : Fin 128) :
    (iblk m c 2 t : Vec Ideal S1x8448x128 .bf16) (ix3 0 n j) = ((wide v (gr t) n.val j : ℝ) : EReal) := by
  rw [blockV, arrV_eq]
  unfold wide
  rw [dif_pos n.isLt]
  by_cases e : j.val < 64
  · rw [dif_pos e]
    exact (hostV_first (mem2 m c) (gr t) n ⟨j.val, e⟩).trans (h2 _ _ _)
  · rw [dif_neg e]
    by_cases e' : j.val = 64
    · rw [if_pos e', show j = 64 from Fin.ext e', hostV_ones, EReal.coe_one]
    · rw [if_neg e', show j = (⟨65 + (j.val - 65), by omega⟩ : Fin 128) from Fin.ext (by show j.val = 65 + (j.val - 65); omega), EReal.coe_zero]
      exact hostV_zeros (mem2 m c) (gr t) n ⟨j.val - 65, by omega⟩

include h0 h1 h2

/-- A row's last maximum and sums. -/
theorem row_sums (t : Fin cfg0.N) (p : Fin 2) (r : Fin 768) : ∃ M : ℝ, maxOf (iblk m c 0 t) (iblk m c 1 t) p (ix2 r 0) = (M : EReal)
    ∧ ∀ j, sumOf (iblk m c 0 t) (iblk m c 1 t) (iblk m c 2 t) p (ix2 r j)
      = ((part (scaled q k (gr t) (jOf (ar t) p) (row t r)) (wide v (gr t) · j) M 8448 : ℝ) : EReal) :=
  chunks (head (iblk m c 0 t) p) (iblk m c 1 t) (iblk m c 2 t) r (scaled q k (gr t) (jOf (ar t) p) (row t r)) (wide v (gr t))
    (score_row m c q k h0 h1 t p r) (value_col m c v h2 t) 32 (by omega)

theorem o_tile (t : Fin cfg0.N) (p : Fin 2) (r : Fin 768) (d : Fin 64) :
    out0_3 (iblk m c 0 t) (iblk m c 1 t) (iblk m c 2 t) (ix2 r (⟨64 * p.val + d.val, by omega⟩ : Fin 128))
      = oRef m c (ix2 (row t r) (col (gr t) (ar t) p d)) := by
  obtain ⟨M, -, hA⟩ := row_sums m c q k v h0 h1 h2 t p r
  have hx := scaled_up q k (gr t) (jOf (ar t) p) (row t r)
  have hp := part_pos _ _ hx (wide v (gr t) · 64) (wide_ones v (gr t)) M
  rw [o_at, hA, hA, div_real hp.ne', part_soft _ _ _ hx (wide v (gr t) · 64) (wide_ones v (gr t)) M]
  unfold oRef
  refine Eq.trans ?_ ((v32_at _ _ _ _ _ _ _ _).trans (v31_real _ _ _ q k v h0 h1 h2 _ _ _ _)).symm
  exact congrArg _ (Finset.sum_congr rfl fun t' _ => congrArg (prob q k (gr t) (jOf (ar t) p) (row t r) t' * ·) (wide_up v (gr t) t' d))

theorem l_tile (t : Fin cfg0.N) (p : Fin 2) (r : Fin 768) :
    out0_5 (iblk m c 0 t) (iblk m c 1 t) (iblk m c 2 t) (ix3 0 r p) = lRef m c (ix3 (pairOf (gr t) (ar t)) (row t r) p) := by
  obtain ⟨M, hM, hA⟩ := row_sums m c q k v h0 h1 h2 t p r
  have hx := scaled_up q k (gr t) (jOf (ar t) p) (row t r)
  have hp := part_pos _ _ hx (wide v (gr t) · 64) (wide_ones v (gr t)) M
  rw [l_at, hM, hA, log_two, log_pos_coe hp, div_real ln2_ne, ← EReal.coe_add, part_lse _ _ hx (wide v (gr t) · 64) (wide_ones v (gr t)) M 0]
  unfold lRef
  refine Eq.trans ?_ ((v35_at _ _ _ _ _ _).trans (v17_real _ _ q k h0 h1 _ _ _)).symm
  simp only [sub_zero, zero_add]

theorem o_array : (dats m 0 c).arrAt 3 cfg0.N = oRef m c :=
  Dat.arrAt_eq_of_covers (dats m 0 c) 3 (oRef m c) (show (cfg0.win 3).Covers by decide +kernel) fun t _ y => by
    have key : ∀ (r : Fin 768) (z : Fin 128), ((dats m 0 c).after 3 t : Vec Ideal S768x128 .f32) (ix2 r z)
        = oRef m c ((win0_3.rect t).emb (ix2 r z)) := fun r z => by
      obtain ⟨p, d, rfl⟩ : ∃ (p : Fin 2) (d : Fin 64), z = (⟨64 * p.val + d.val, by omega⟩ : Fin 128) :=
        ⟨⟨z.val / 64, by omega⟩, ⟨z.val % 64, by omega⟩, Fin.ext (by show z.val = 64 * (z.val / 64) + z.val % 64; omega)⟩
      rw [after0_3, emb3]
      exact o_tile m c q k v h0 h1 h2 t p r d
    have key' : ∀ y' : S768x128.Idx, ((dats m 0 c).after 3 t : Vec Ideal S768x128 .f32) y' = oRef m c ((win0_3.rect t).emb y') := fun y' => by
      rw [eq_ix2 y']
      exact key _ _
    exact key' y

theorem b_array : (dats m 0 c).arrAt 4 cfg0.N = bRef m c :=
  Dat.arrAt_eq_of_covers (dats m 0 c) 4 (bRef m c) (show (cfg0.win 4).Covers by decide +kernel) fun t _ y => by
    have key : ∀ (r : Fin 768) (z : Fin 128), ((dats m 0 c).after 4 t : Vec Ideal S768x128 .bf16) (ix2 r z)
        = bRef m c ((win0_4.rect t).emb (ix2 r z)) := fun r z => by
      obtain ⟨p, d, rfl⟩ : ∃ (p : Fin 2) (d : Fin 64), z = (⟨64 * p.val + d.val, by omega⟩ : Fin 128) :=
        ⟨⟨z.val / 64, by omega⟩, ⟨z.val % 64, by omega⟩, Fin.ext (by show z.val = 64 * (z.val / 64) + z.val % 64; omega)⟩
      rw [after0_4, emb4]
      exact (b_at _ _ _ _).trans (o_tile m c q k v h0 h1 h2 t p r d)
    have key' : ∀ y' : S768x128.Idx, ((dats m 0 c).after 4 t : Vec Ideal S768x128 .bf16) y' = bRef m c ((win0_4.rect t).emb y') := fun y' => by
      rw [eq_ix2 y']
      exact key _ _
    exact key' y

theorem l_array : (dats m 0 c).arrAt 5 cfg0.N = lRef m c :=
  Dat.arrAt_eq_of_covers (dats m 0 c) 5 (lRef m c) (show (cfg0.win 5).Covers by decide +kernel) fun t _ y => by
    have key : ∀ (z : Fin 1) (r : Fin 768) (p : Fin 2), ((dats m 0 c).after 5 t : Vec Ideal S1x768x2 .f32) (ix3 z r p)
        = lRef m c ((win0_5.rect t).emb (ix3 z r p)) := fun z r p => by
      obtain rfl : z = 0 := Subsingleton.elim _ _
      rw [after0_5, emb5]
      exact l_tile m c q k v h0 h1 h2 t p r
    have key' : ∀ y' : S1x768x2.Idx, ((dats m 0 c).after 5 t : Vec Ideal S1x768x2 .f32) y' = lRef m c ((win0_5.rect t).emb y') := fun y' => by
      rw [eq_ix3 y']
      exact key _ _ _
    exact key' y

end

variable (f : ∀ c : Dev nD, (∀ i, mem0 m c i = (((mem0 m c i : EReal).toReal : ℝ) : EReal)) ∧ (∀ i, mem1 m c i = (((mem1 m c i : EReal).toReal : ℝ) : EReal))
  ∧ ∀ i, mem2 m c i = (((mem2 m c i : EReal).toReal : ℝ) : EReal))

include f in
/-- The run, of real arguments: the results are the reference's and the arguments are unchanged. -/
theorem run_values : θ_run defs (onTc (τ := τ) (main (F := Ideal))) ⟨m, fun _ => 0, ρ⟩ (fun r => ∀ c : Dev nD,
      r.2.mem ((c.tc : Thread nD τ).loc main_v15_0) = oRef m c
      ∧ r.2.mem ((c.tc : Thread nD τ).loc main_v15_1) = bRef m c
      ∧ r.2.mem ((c.tc : Thread nD τ).loc main_v15_2) = lRef m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => by
    obtain ⟨f0, f1, f2⟩ := f c
    have e0 : ∀ s g j d, mem0 m c (ix4 s g j d) = ((((mem0 m c (ix4 s g j d) : EReal).toReal) : ℝ) : EReal) := fun _ _ _ _ => f0 _
    have e1 : ∀ s g d, mem1 m c (ix3 s g d) = ((((mem1 m c (ix3 s g d) : EReal).toReal) : ℝ) : EReal) := fun _ _ _ => f1 _
    have e2 : ∀ s g d, mem2 m c (ix3 s g d) = ((((mem2 m c (ix3 s g d) : EReal).toReal) : ℝ) : EReal) := fun _ _ _ => f2 _
    exact ⟨((h c).1 3).trans (o_array m c _ _ _ e0 e1 e2), ((h c).1 4).trans (b_array m c _ _ _ e0 e1 e2), ((h c).1 5).trans (l_array m c _ _ _ e0 e1 e2),
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c)⟩)
    (run_main m ρ)

end Cert.Kernel5Ideal.Fwd

end
-- ==== Proof.lean ====
/-
  The claims of this directory, proved.
-/
module

public import proofs.«01_k».proof.Defs
public import proofs.«01_k».proof.Proof.FrameKernel
public import proofs.«01_k».proof.Proof.Run
public import proofs.«01_k».proof.Proof.FrameReference
public import proofs.«01_k».proof.Proof.Finite
public import proofs.«01_k».proof.Proof.Equation
public import proofs.«01_k».proof.Proof.FfnFrames
public import proofs.«01_k».proof.Proof.FfnFinite
public import proofs.«01_k».proof.Proof.FfnEquation
public import proofs.«01_k».proof.Proof.ProjFrames
public import proofs.«01_k».proof.Proof.ProjEquation
public import proofs.«01_k».proof.Proof.GateFrames
public import proofs.«01_k».proof.Proof.GateEquation
public import proofs.«01_k».proof.Proof.FwdFrames
public import proofs.«01_k».proof.Proof.FwdFinite
public import proofs.«01_k».proof.Proof.FwdArrays
public import proofs.«01_k».proof.Proof.Gen.Pre_finite
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Reference2Ideal.Run
public import proofs.«01_k».proof.Proof.Gen.Reference2Ideal.Read
public import proofs.«01_k».proof.Proof.Gen.Pre_finite2
public import proofs.«01_k».proof.Proof.Gen.Kernel3
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Reference5Ideal
public import proofs.«01_k».proof.Proof.Gen.Reference5Ideal.Run
public import proofs.«01_k».proof.Proof.Gen.Reference5Ideal.Read
public import proofs.«01_k».proof.Proof.Gen.Pre_finite5
public import Idealize.ShloMosaic.Adequacy
public import Idealize.ShloMosaic.Init

@[expose] public section

noncomputable section

namespace Cert.Proof

open Idealize.ShloMosaic Idealize.ShloMosaic.TcCoe Idealize.SL.Sem
open Cert.KernelIdeal.Flash Cert.ReferenceIdeal.Read Cert.Kernel2Ideal

/-- The named mask's printed constant and its ideal value. -/
theorem mask_named : Cert.preserves_Kernel_KernelIdeal :=
  IdealRules.named_const.statement Cert.KernelIdeal.κ "mask" .f32 0xF149F2CA#32 ⊥ rfl

/-- On finite arguments the kernel and the reference end with the same three gradients. -/
theorem same_gradients : Cert.algebraic_KernelIdeal_ReferenceIdeal_pre_finite := by
  intro m g m' g' hp hm
  refine ⟨fun c => dqAll m c, fun c => dkAll m c, fun c => dvAll m c, run_values m g, ?_⟩
  refine (θ_run _ _ _).mono (fun r h c => ?_) (Cert.ReferenceIdeal.Value.run m' g')
  obtain ⟨r0, r1, r2, a⟩ := h c
  obtain ⟨e0, e1, e2, e3⟩ := hm c
  obtain ⟨f0, f1, f2, f3⟩ := Cert.Pre_finite.real_of_fn (mem0 m c) (mem1 m c) (mem2 m c) (mem3 m c) (hp c)
  refine ⟨r0.trans ?_, r1.trans ?_, r2.trans ?_, a⟩
  · rw [val_main_v70_eq, e0, e1, e2, e3]
    exact (Cert.Equation.dq_eq m c f0 f1 f2 f3).symm
  · rw [val_main_v71_eq, e0, e1, e2, e3]
    exact (Cert.Equation.dk_eq m c f0 f1 f2 f3).symm
  · refine (val_main_v72_eq (F := Ideal) _ _ _).trans ?_
    rw [e0, e1, e3]
    exact (Cert.Equation.dv_eq m c f0 f1 f3).symm

/-- On finite arguments the SwiGLU's kernel and reference end with the same four gradients
and the same output of the layer. -/
theorem same_gradients2 : Cert.algebraic_Kernel2Ideal_Reference2Ideal_pre_finite2 := by
  intro m g m' g' hp hm
  refine ⟨_, _, _, _, _, _, _, Cert.Kernel2Ideal.Ffn.run_values m g, ?_⟩
  refine (θ_run _ _ _).mono (fun r h c => ?_) (Cert.Reference2Ideal.Value.run m' g')
  obtain ⟨r0, r1, r2, r3, r4, r5, r6, a⟩ := h c
  obtain ⟨e0, e1, e2, e3, e4, e5, e6⟩ := hm c
  obtain ⟨f0, f1, f2, f3, f4⟩ := Cert.Pre_finite2.real_of_fn (Ffn.arg0 m c) (Ffn.arg1 m c) (Ffn.arg2 m c) (Ffn.arg3 m c) (Ffn.arg4 m c)
    (Ffn.arg5 m c) (Ffn.arg6 m c) (hp c)
  refine ⟨r0.trans ?_, r1.trans ?_, r2.trans ?_, r3.trans ?_, r4.trans ?_, r5.trans ?_, r6.trans ?_, a⟩
  · refine (Cert.Reference2Ideal.Read.val_main_v17_eq (F := Ideal) _ _ _ _ _).trans ?_
    rw [e0, e1, e2, e3, e4]
    exact (Cert.FfnEquation.dh_eq m c f0 f1 f2 f3 f4).symm
  · refine (Cert.Reference2Ideal.Read.val_main_v45_eq (F := Ideal) _ _ _ _ _).trans ?_
    rw [e0, e1, e2, e3, e4]
    exact (Cert.FfnEquation.dwgate_eq m c f0 f1 f2 f3 f4).symm
  · refine (Cert.Reference2Ideal.Read.val_main_v46_eq (F := Ideal) _ _ _ _).trans ?_
    rw [e0, e1, e3, e4]
    exact (Cert.FfnEquation.dwup_eq m c).symm
  · refine (Cert.Reference2Ideal.Read.val_main_v6_eq (F := Ideal) _ _ _ _).trans ?_
    rw [e0, e1, e2, e4]
    exact (Cert.FfnEquation.dwdown_eq m c).symm
  · refine (Cert.Reference2Ideal.Read.val_main_v20_eq (F := Ideal) _ _ _ _).trans ?_
    rw [e0, e1, e2, e3]
    exact (Cert.FfnEquation.res_eq m c).symm
  · refine (Cert.Reference2Ideal.Read.val_main_v44_eq (F := Ideal) m' c).trans ?_
    rw [e0, e1, e2, e3, e5, e6]
    exact (Cert.FfnEquation.normed_eq m c).symm
  · refine (Cert.Reference2Ideal.Read.val_main_v47_eq (F := Ideal) m' c).trans ?_
    rw [e0, e1, e2, e3, e5, e6]
    exact (Cert.FfnEquation.cast_eq m c).symm

/-- The projections' kernel and reference end with the same eight results. -/
theorem same_projections : Cert.algebraic_Kernel3Ideal_Reference3Ideal := by
  intro m g m' g' _ hm
  refine ⟨_, _, _, _, _, _, _, _, Cert.Kernel3Ideal.Proj.run_values m g, ?_⟩
  refine (θ_run _ _ _).mono (fun r h c => ?_) (Cert.Reference3Ideal.Value.run m' g')
  obtain ⟨r0, r1, r2, r3, r4, r5, r6, r7, a⟩ := h c
  obtain ⟨e0, e1, e2, e3, e4, e5, e6, e7⟩ := hm c
  refine ⟨r0.trans ?_, r1.trans ?_, r2.trans ?_, r3.trans ?_, r4.trans ?_, r5.trans ?_, r6.trans ?_, r7.trans ?_, a⟩
  · refine (Cert.Reference3Ideal.Read.val_main_v0_eq (F := Ideal) _ _).trans ?_
    rw [e0, e1]
    exact (Cert.ProjEquation.qkv_eq m c).symm
  · refine (Cert.Reference3Ideal.Read.val_main_v10_eq (F := Ideal) _ _ _).trans ?_
    rw [e0, e2, e3]
    exact (Cert.ProjEquation.res_eq m c).symm
  · refine (Cert.Reference3Ideal.Read.val_main_v34_eq (F := Ideal) _ _ _ _ _).trans ?_
    rw [e0, e2, e3, e6, e7]
    exact (Cert.ProjEquation.normed_eq m c).symm
  · refine (Cert.Reference3Ideal.Read.val_main_v35_eq (F := Ideal) _ _ _ _ _).trans ?_
    rw [e0, e2, e3, e6, e7]
    exact (Cert.ProjEquation.cast_eq m c).symm
  · refine (Cert.Reference3Ideal.Read.val_main_v36_eq (F := Ideal) _ _).trans ?_
    rw [e3, e5]
    exact (Cert.ProjEquation.do_eq m c).symm
  · refine (Cert.Reference3Ideal.Read.val_main_v6_eq (F := Ideal) _ _).trans ?_
    rw [e2, e5]
    exact (Cert.ProjEquation.dwout_eq m c).symm
  · refine (Cert.Reference3Ideal.Read.val_main_v37_eq (F := Ideal) _ _).trans ?_
    rw [e0, e4]
    exact (Cert.ProjEquation.dwqkv_eq m c).symm
  · refine (Cert.Reference3Ideal.Read.val_main_v3_eq (F := Ideal) _ _).trans ?_
    rw [e1, e4]
    exact (Cert.ProjEquation.dh_eq m c).symm

/-- The S5 gate's six results are the reference's. -/
theorem same_gate : Cert.algebraic_Kernel4Ideal_Reference4Ideal := by
  intro m g m' g' _ hm
  refine ⟨_, _, _, _, _, _, Cert.Kernel4Ideal.Gate.run_values m g, ?_⟩
  refine (θ_run _ _ _).mono (fun r h c => ?_) (Cert.Reference4Ideal.Value.run m' g')
  obtain ⟨r0, r1, r2, r3, r4, r5, a⟩ := h c
  obtain ⟨e0, e1, e2, e3, e4, e5⟩ := hm c
  refine ⟨r0.trans ?_, r1.trans ?_, r2.trans ?_, r3.trans ?_, r4.trans ?_, r5.trans ?_, a⟩
  · refine (Cert.Reference4Ideal.Read.val_main_v3_eq (F := Ideal) _ _ _).trans ?_
    rw [e0, e1, e2]
    exact (Cert.GateEquation.y_eq m c).symm
  · refine (Cert.Reference4Ideal.Read.val_main_v32_eq (F := Ideal) _ _ _ _).trans ?_
    rw [e0, e1, e2, e3]
    exact (Cert.GateEquation.z_eq m c).symm
  · refine (Cert.Reference4Ideal.Read.val_main_v24_eq (F := Ideal) _ _ _ _ _).trans ?_
    rw [e0, e1, e2, e3, e5]
    exact (Cert.GateEquation.dwout_eq m c).symm
  · refine (Cert.Reference4Ideal.Read.val_main_v30_eq (F := Ideal) _ _ _ _ _ _).trans ?_
    rw [e0, e1, e2, e3, e4, e5]
    exact (Cert.GateEquation.dwglu_eq m c).symm
  · refine (Cert.Reference4Ideal.Read.val_main_v27_eq (F := Ideal) _ _ _ _ _ _).trans ?_
    rw [e0, e1, e2, e3, e4, e5]
    exact (Cert.GateEquation.dg_eq m c).symm
  · refine (Cert.Reference4Ideal.Read.val_main_v31_eq (F := Ideal) _ _ _ _ _ _).trans ?_
    rw [e0, e1, e2, e3, e4, e5]
    exact (Cert.GateEquation.dg2_eq m c).symm

/-- The forward attention's named mask. -/
theorem mask_named5 : Cert.preserves_Kernel5_Kernel5Ideal :=
  IdealRules.named_const.statement Cert.Kernel5Ideal.κ "mask" .f32 0xF149F2CA#32 ⊥ rfl

/-- On finite arguments the forward attention's three results are the reference's. -/
theorem same_attention : Cert.algebraic_Kernel5Ideal_Reference5Ideal_pre_finite5 := by
  intro m g m' g' hp hm
  refine ⟨_, _, _, Cert.Kernel5Ideal.Fwd.run_values m g fun c => Cert.Pre_finite5.real_of_fn (Cert.Kernel5Ideal.Fwd.mem0 m c)
    (Cert.Kernel5Ideal.Fwd.mem1 m c) (Cert.Kernel5Ideal.Fwd.mem2 m c) (hp c), ?_⟩
  refine (θ_run _ _ _).mono (fun r h c => ?_) (Cert.Reference5Ideal.Value.run m' g')
  obtain ⟨r0, r1, r2, a⟩ := h c
  obtain ⟨e0, e1, e2⟩ := hm c
  refine ⟨r0.trans ?_, r1.trans ?_, r2.trans ?_, a⟩
  · refine (Cert.Reference5Ideal.Read.val_main_v32_eq (F := Ideal) _ _ _).trans ?_
    rw [e0, e1, e2]
    rfl
  · refine (Cert.Reference5Ideal.Read.val_main_v33_eq (F := Ideal) _ _ _).trans ?_
    rw [e0, e1, e2]
    rfl
  · refine (Cert.Reference5Ideal.Read.val_main_v35_eq (F := Ideal) _ _).trans ?_
    rw [e0, e1]
    rfl

theorem claim : Cert.Claim :=
  ⟨Cert.Kernel.Gen.facts, Cert.KernelIdeal.Gen.facts, Cert.ReferenceIdeal.Gen.facts, Cert.Kernel2.Gen.facts, Cert.Kernel2Ideal.Gen.facts,
    Cert.Reference2Ideal.Gen.facts, Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Pre_finite.Gen.facts, Cert.Pre_finite2.Gen.facts, Cert.Pre_finite5.Gen.facts,
    Cert.SameText.frame_kernel, fun m ρ _ => Cert.KernelIdeal.Flash.frame m ρ, fun m ρ _ => Cert.KernelIdeal.Flash.frame m ρ,
    Cert.ReferenceIdeal.Value.frame_reference, fun m ρ _ => Cert.ReferenceIdeal.Value.frame_reference m ρ trivial,
    Cert.SameText.frame_kernel2, fun m ρ _ => Cert.Kernel2Ideal.Gen.frame m ρ, fun m ρ _ => Cert.Kernel2Ideal.Gen.frame m ρ,
    Cert.SameText.frame_reference2, fun m ρ _ => Cert.SameText.frame_reference2 m ρ trivial,
    Cert.SameText.frame_kernel3, fun m ρ _ => Cert.Kernel3Ideal.Gen.frame m ρ, Cert.SameText.frame_reference3,
    Cert.SameText.frame_kernel4, fun m ρ _ => Cert.Kernel4Ideal.Gen.frame m ρ, Cert.SameText.frame_reference4,
    Cert.SameText.frame_kernel5, fun m ρ _ => Cert.Kernel5Ideal.Gen.frame m ρ, fun m ρ _ => Cert.Kernel5Ideal.Gen.frame m ρ,
    Cert.SameText.frame_reference5, fun m ρ _ => Cert.SameText.frame_reference5 m ρ trivial,
    mask_named, same_gradients, trivial, same_gradients2, trivial, same_projections, trivial, same_gate, mask_named5, same_attention⟩

end Cert.Proof

end
